-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.2.2.2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9)) (m ((c.tc : Thread Cert.Kernel19Ideal.nD Cert.Kernel19Ideal.τ).loc Cert.Kernel19Ideal.main_arg10)) (m ((c.tc : Thread Cert.Kernel19Ideal.nD Cert.Kernel19Ideal.τ).loc Cert.Kernel19Ideal.main_arg11)) (m ((c.tc : Thread Cert.Kernel19Ideal.nD Cert.Kernel19Ideal.τ).loc Cert.Kernel19Ideal.main_arg12)) (m ((c.tc : Thread Cert.Kernel19Ideal.nD Cert.Kernel19Ideal.τ).loc Cert.Kernel19Ideal.main_arg13)) (m ((c.tc : Thread Cert.Kernel19Ideal.nD Cert.Kernel19Ideal.τ).loc Cert.Kernel19Ideal.main_arg14))).2.2.2.2.2.2.2.2.2.2.2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.2.2.2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9)) (m ((c.tc : Thread Cert.Reference19Ideal.nD Cert.Reference19Ideal.τ).loc Cert.Reference19Ideal.main_arg10)) (m ((c.tc : Thread Cert.Reference19Ideal.nD Cert.Reference19Ideal.τ).loc Cert.Reference19Ideal.main_arg11)) (m ((c.tc : Thread Cert.Reference19Ideal.nD Cert.Reference19Ideal.τ).loc Cert.Reference19Ideal.main_arg12)) (m ((c.tc : Thread Cert.Reference19Ideal.nD Cert.Reference19Ideal.τ).loc Cert.Reference19Ideal.main_arg13)) (m ((c.tc : Thread Cert.Reference19Ideal.nD Cert.Reference19Ideal.τ).loc Cert.Reference19Ideal.main_arg14))).2.2.2.2.2.2.2.2.2.2.2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)) (v5 : (c : Dev Cert.KernelIdeal.nD) → Buf (Elt Ideal) ((c.tc : Thread Cert.KernelIdeal.nD Cert.KernelIdeal.τ).loc Cert.KernelIdeal.main_v14_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_v14_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_v58) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v35) = v2 c
          ∧ r.2.mem ((c.tc : Thread Cert.Reference12Ideal.nD Cert.Reference12Ideal.τ).loc Cert.Reference12Ideal.main_v36) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_v12) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v21) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v28) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v45) = v0 c
          ∧ r.2.mem ((c.tc : Thread Cert.Reference18Ideal.nD Cert.Reference18Ideal.τ).loc Cert.Reference18Ideal.main_v46) = v1 c
          ∧ r.2.mem ((c.tc : Thread Cert.Reference18Ideal.nD Cert.Reference18Ideal.τ).loc Cert.Reference18Ideal.main_v28) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v46) = v0 c
          ∧ r.2.mem ((c.tc : Thread Cert.Reference19Ideal.nD Cert.Reference19Ideal.τ).loc Cert.Reference19Ideal.main_v47) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v6) = v2 c
          ∧ r.2.mem ((c.tc : Thread Cert.Reference30Ideal.nD Cert.Reference30Ideal.τ).loc Cert.Reference30Ideal.main_v12) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite9 : Cert.Pre_finite9.Facts) (hPre_finite18 : Cert.Pre_finite18.Facts) (hPre_finite19 : Cert.Pre_finite19.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S8x4224x256 : Shape := ⟨3, ![8, 4224, 256]⟩
abbrev S8x4224x128 : Shape := ⟨3, ![8, 4224, 128]⟩
abbrev S8x66 : Shape := ⟨2, ![8, 66]⟩
abbrev S8x66x128x256 : Shape := ⟨4, ![8, 66, 128, 256]⟩
abbrev S_ : Shape := ⟨0, ![]⟩

class Facts : Prop where
  bitsLt_bf16_f32 : FTy.bits .bf16 < FTy.bits .f32
  bcast_S_S8x4224x128 : S_.BroadcastsInDim S8x4224x128 (![] : Fin 0 → Fin S8x4224x128.rank)
  bcast_S_S8x66 : S_.BroadcastsInDim S8x66 (![] : Fin 0 → Fin S8x66.rank)
  bcast_S_S8x66x128x256 : S_.BroadcastsInDim S8x66x128x256 (![] : Fin 0 → Fin S8x66x128x256.rank)
  bcast_S_S8x4224x256 : S_.BroadcastsInDim S8x4224x256 (![] : Fin 0 → Fin S8x4224x256.rank)

variable [Facts]

def fn_part1 {F : FTy → Type} [FloatOps F] (main_arg6 : FVec F S8x66x128x256 .bf16) (main_arg7 : FVec F S8x4224x256 .f32) (main_v3 : IVec S8x4224x128 1) (main_v7 : IVec S8x4224x128 1) (main_v11 : IVec S8x4224x128 1) (main_v15 : IVec S8x4224x128 1) (main_v18 : IVec S8x66 1) : IVec S8x4224x128 1 × IVec S8x4224x128 1 × IVec S8x4224x128 1 × IVec S8x4224x128 1 × IVec S8x66 1 × IVec S8x66x128x256 1 × IVec S8x4224x256 1 :=
  let main_v19 : FVec F S8x66x128x256 .f32 := (extf .f32 · bitsLt_bf16_f32) main_arg6
  let main_v20 : FVec F S8x66x128x256 .f32 := Host.absf main_v19
  let main_cst_4 : FVec F S_ .f32 := constant S_ .f32 0x7F800000#32
  let main_v21 : FVec F S8x66x128x256 .f32 := broadcastInDim S8x66x128x256 ![] bcast_S_S8x66x128x256 main_cst_4
  let main_v22 : IVec S8x66x128x256 1 := cmpf .olt main_v20 main_v21
  let main_v23 : FVec F S8x4224x256 .f32 := Host.absf main_arg7
  let main_cst_5 : FVec F S_ .f32 := constant S_ .f32 0x7F800000#32
  let main_v24 : FVec F S8x4224x256 .f32 := broadcastInDim S8x4224x256 ![] bcast_S_S8x4224x256 main_cst_5
  let main_v25 : IVec S8x4224x256 1 := cmpf .olt main_v23 main_v24
  (main_v3, main_v7, main_v11, main_v15, main_v18, main_v22, main_v25)

def fn {F : FTy → Type} [FloatOps F] (main_arg0 : FVec F S8x4224x256 .f32) (main_arg1 : FVec F S8x4224x128 .bf16) (main_arg2 : FVec F S8x4224x128 .bf16) (main_arg3 : FVec F S8x4224x128 .bf16) (main_arg4 : FVec F S8x4224x128 .bf16) (main_arg5 : FVec F S8x66 .f32) (main_arg6 : FVec F S8x66x128x256 .bf16) (main_arg7 : FVec F S8x4224x256 .f32) : IVec S8x4224x128 1 × IVec S8x4224x128 1 × IVec S8x4224x128 1 × IVec S8x4224x128 1 × IVec S8x66 1 × IVec S8x66x128x256 1 × IVec S8x4224x256 1 :=
  let main_v0 : FVec F S8x4224x128 .f32 := (extf .f32 · bitsLt_bf16_f32) main_arg1
  let main_v1 : FVec F S8x4224x128 .f32 := Host.absf main_v0
  let main_cst : FVec F S_ .f32 := constant S_ .f32 0x7F800000#32
  let main_v2 : FVec F S8x4224x128 .f32 := broadcastInDim S8x4224x128 ![] bcast_S_S8x4224x128 main_cst
  let main_v3 : IVec S8x4224x128 1 := cmpf .olt main_v1 main_v2
  let main_v4 : FVec F S8x4224x128 .f32 := (extf .f32 · bitsLt_bf16_f32) main_arg2
  let main_v5 : FVec F S8x4224x128 .f32 := Host.absf main_v4
  let main_cst_0 : FVec F S_ .f32 := constant S_ .f32 0x7F800000#32
  let main_v6 : FVec F S8x4224x128 .f32 := broadcastInDim S8x4224x128 ![] bcast_S_S8x4224x128 main_cst_0
  let main_v7 : IVec S8x4224x128 1 := cmpf .olt main_v5 main_v6
  let main_v8 : FVec F S8x4224x128 .f32 := (extf .f32 · bitsLt_bf16_f32) main_arg3
  let main_v9 : FVec F S8x4224x128 .f32 := Host.absf main_v8
  let main_cst_1 : FVec F S_ .f32 := constant S_ .f32 0x7F800000#32
  let main_v10 : FVec F S8x4224x128 .f32 := broadcastInDim S8x4224x128 ![] bcast_S_S8x4224x128 main_cst_1
  let main_v11 : IVec S8x4224x128 1 := cmpf .olt main_v9 main_v10
  let main_v12 : FVec F S8x4224x128 .f32 := (extf .f32 · bitsLt_bf16_f32) main_arg4
  let main_v13 : FVec F S8x4224x128 .f32 := Host.absf main_v12
  let main_cst_2 : FVec F S_ .f32 := constant S_ .f32 0x7F800000#32
  let main_v14 : FVec F S8x4224x128 .f32 := broadcastInDim S8x4224x128 ![] bcast_S_S8x4224x128 main_cst_2
  let main_v15 : IVec S8x4224x128 1 := cmpf .olt main_v13 main_v14
  let main_v16 : FVec F S8x66 .f32 := Host.absf main_arg5
  let main_cst_3 : FVec F S_ .f32 := constant S_ .f32 0x7F800000#32
  let main_v17 : FVec F S8x66 .f32 := broadcastInDim S8x66 ![] bcast_S_S8x66 main_cst_3
  let main_v18 : IVec S8x66 1 := cmpf .olt main_v16 main_v17
  fn_part1 (F := F) main_arg6 main_arg7 main_v3 main_v7 main_v11 main_v15 main_v18
-- ==== Pre_finite18.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S_ : Shape := ⟨0, ![]⟩

class Facts : Prop where
  bitsLt_bf16_f32 : FTy.bits .bf16 < FTy.bits .f32
  bcast_S_S4224x2816 : S_.BroadcastsInDim S4224x2816 (![] : Fin 0 → Fin S4224x2816.rank)
  bcast_S_S2816x1024 : S_.BroadcastsInDim S2816x1024 (![] : Fin 0 → Fin S2816x1024.rank)
  bcast_S_S4224x1024 : S_.BroadcastsInDim S4224x1024 (![] : Fin 0 → Fin S4224x1024.rank)
  bcast_S_S1x1024 : S_.BroadcastsInDim S1x1024 (![] : Fin 0 → Fin S1x1024.rank)

variable [Facts]

def fn_part1 {F : FTy → Type} [FloatOps F] (main_arg5 : FVec F S1x1024 .f32) (main_v3 : IVec S4224x2816 1) (main_v7 : IVec S4224x2816 1) (main_v11 : IVec S2816x1024 1) (main_v15 : IVec S2816x1024 1) (main_v18 : IVec S4224x1024 1) : IVec S4224x2816 1 × IVec S4224x2816 1 × IVec S2816x1024 1 × IVec S2816x1024 1 × IVec S4224x1024 1 × IVec S1x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  (main_v3, main_v7, main_v11, main_v15, main_v18, main_v21)

def fn {F : FTy → Type} [FloatOps F] (main_arg0 : FVec F S4224x2816 .bf16) (main_arg1 : FVec F S4224x2816 .bf16) (main_arg2 : FVec F S2816x1024 .bf16) (main_arg3 : FVec F S2816x1024 .bf16) (main_arg4 : FVec F S4224x1024 .f32) (main_arg5 : FVec F S1x1024 .f32) (main_arg6 : FVec F S4224x1024 .f32) : IVec S4224x2816 1 × IVec S4224x2816 1 × IVec S2816x1024 1 × IVec S2816x1024 1 × IVec S4224x1024 1 × IVec S1x1024 1 :=
  let main_v0 : FVec F S4224x2816 .f32 := (extf .f32 · bitsLt_bf16_f32) main_arg0
  let main_v1 : FVec F S4224x2816 .f32 := Host.absf main_v0
  let main_cst : FVec F S_ .f32 := constant S_ .f32 0x7F800000#32
  let main_v2 : FVec F S4224x2816 .f32 := broadcastInDim S4224x2816 ![] bcast_S_S4224x2816 main_cst
  let main_v3 : IVec S4224x2816 1 := cmpf .olt main_v1 main_v2
  let main_v4 : FVec F S4224x2816 .f32 := (extf .f32 · bitsLt_bf16_f32) main_arg1
  let main_v5 : FVec F S4224x2816 .f32 := Host.absf main_v4
  let main_cst_0 : FVec F S_ .f32 := constant S_ .f32 0x7F800000#32
  let main_v6 : FVec F S4224x2816 .f32 := broadcastInDim S4224x2816 ![] bcast_S_S4224x2816 main_cst_0
  let main_v7 : IVec S4224x2816 1 := cmpf .olt main_v5 main_v6
  let main_v8 : FVec F S2816x1024 .f32 := (extf .f32 · bitsLt_bf16_f32) main_arg2
  let main_v9 : FVec F S2816x1024 .f32 := Host.absf main_v8
  let main_cst_1 : FVec F S_ .f32 := constant S_ .f32 0x7F800000#32
  let main_v10 : FVec F S2816x1024 .f32 := broadcastInDim S2816x1024 ![] bcast_S_S2816x1024 main_cst_1
  let main_v11 : IVec S2816x1024 1 := cmpf .olt main_v9 main_v10
  let main_v12 : FVec F S2816x1024 .f32 := (extf .f32 · bitsLt_bf16_f32) main_arg3
  let main_v13 : FVec F S2816x1024 .f32 := Host.absf main_v12
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_v16 : FVec F S4224x1024 .f32 := Host.absf main_arg4
  let main_cst_3 : FVec F S_ .f32 := constant S_ .f32 0x7F800000#32
  let main_v17 : FVec F S4224x1024 .f32 := broadcastInDim S4224x1024 ![] bcast_S_S4224x1024 main_cst_3
  let main_v18 : IVec S4224x1024 1 := cmpf .olt main_v16 main_v17
  fn_part1 (F := F) main_arg5 main_v3 main_v7 main_v11 main_v15 main_v18
-- ==== Pre_finite19.lean ====
abbrev S4224x1024 : Shape := ⟨2, ![4224, 1024]⟩
abbrev S4224x2048 : Shape := ⟨2, ![4224, 2048]⟩
abbrev S11264x1024 : Shape := ⟨2, ![11264, 1024]⟩
abbrev S4224x128 : Shape := ⟨2, ![4224, 128]⟩
abbrev S128x1024 : Shape := ⟨2, ![128, 1024]⟩
abbrev S1x1024 : Shape := ⟨2, ![1, 1024]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  bcast_S_S4224x2048 : S_.BroadcastsInDim S4224x2048 (![] : Fin 0 → Fin S4224x2048.rank)
  bcast_S_S11264x1024 : S_.BroadcastsInDim S11264x1024 (![] : Fin 0 → Fin S11264x1024.rank)
  bcast_S_S4224x128 : S_.BroadcastsInDim S4224x128 (![] : Fin 0 → Fin S4224x128.rank)
  bcast_S_S128x1024 : S_.BroadcastsInDim S128x1024 (![] : Fin 0 → Fin S128x1024.rank)
  bcast_S_S1x1024 : S_.BroadcastsInDim S1x1024 (![] : Fin 0 → Fin S1x1024.rank)

variable [Facts]

def fn_part2 {F : FTy → Type} [FloatOps F] (main_arg10 : FVec F S4224x128 .bf16) (main_arg11 : FVec F S128x1024 .bf16) (main_arg12 : FVec F S4224x1024 .f32) (main_arg13 : FVec F S1x1024 .f32) (main_v3 : IVec S4224x1024 1) (main_v7 : IVec S4224x1024 1) (main_v11 : IVec S4224x2048 1) (main_v15 : IVec S4224x2048 1) (main_v19 : IVec S4224x1024 1) (main_v23 : IVec S4224x1024 1) (main_v27 : IVec S4224x1024 1) (main_v31 : IVec S4224x1024 1) (main_v35 : IVec S4224x1024 1) (main_v37 : FVec F S11264x1024 .f32) (main_cst_8 : FVec F S_ .f32) : IVec S4224x1024 1 × IVec S4224x1024 1 × IVec S4224x2048 1 × IVec S4224x2048 1 × IVec S4224x1024 1 × IVec S4224x1024 1 × IVec S4224x1024 1 × IVec S4224x1024 1 × IVec S4224x1024 1 × IVec S11264x1024 1 × IVec S4224x128 1 × IVec S128x1024 1 × IVec S4224x1024 1 × IVec S1x1024 1 :=
  let main_v38 : FVec F S11264x1024 .f32 := broadcastInDim S11264x1024 ![] bcast_S_S11264x1024 main_cst_8
  let main_v39 : IVec S11264x1024 1 := cmpf .olt main_v37 main_v38
  let main_v40 : FVec F S4224x128 .f32 := (extf .f32 · bitsLt_bf16_f32) main_arg10
  let main_v41 : FVec F S4224x128 .f32 := Host.absf main_v40
  let main_cst_9 : FVec F S_ .f32 := constant S_ .f32 0x7F800000#32
  let main_v42 : FVec F S4224x128 .f32 := broadcastInDim S4224x128 ![] bcast_S_S4224x128 main_cst_9
  let main_v43 : IVec S4224x128 1 := cmpf .olt main_v41 main_v42
  let main_v44 : FVec F S128x1024 .f32 := (extf .f32 · bitsLt_bf16_f32) main_arg11
  let main_v45 : FVec F S128x1024 .f32 := Host.absf main_v44
  let main_cst_10 : FVec F S_ .f32 := constant S_ .f32 0x7F800000#32
  let main_v46 : FVec F S128x1024 .f32 := broadcastInDim S128x1024 ![] bcast_S_S128x1024 main_cst_10
  let main_v47 : IVec S128x1024 1 := cmpf .olt main_v45 main_v46
  let main_v48 : FVec F S4224x1024 .f32 := Host.absf main_arg12
  let main_cst_11 : FVec F S_ .f32 := constant S_ .f32 0x7F800000#32
  let main_v49 : FVec F S4224x1024 .f32 := broadcastInDim S4224x1024 ![] bcast_S_S4224x1024 main_cst_11
  let main_v50 : IVec S4224x1024 1 := cmpf .olt main_v48 main_v49
  let main_v51 : FVec F S1x1024 .f32 := Host.absf main_arg13
  let main_cst_12 : FVec F S_ .f32 := constant S_ .f32 0x7F800000#32
  let main_v52 : FVec F S1x1024 .f32 := broadcastInDim S1x1024 ![] bcast_S_S1x1024 main_cst_12
  let main_v53 : IVec S1x1024 1 := cmpf .olt main_v51 main_v52
  (main_v3, main_v7, main_v11, main_v15, main_v19, main_v23, main_v27, main_v31, main_v35, main_v39, main_v43, main_v47, main_v50, main_v53)

def fn_part1 {F : FTy → Type} [FloatOps F] (main_arg5 : FVec F S4224x1024 .bf16) (main_arg6 : FVec F S4224x1024 .bf16) (main_arg7 : FVec F S4224x1024 .bf16) (main_arg8 : FVec F S4224x1024 .bf16) (main_arg9 : FVec F S11264x1024 .bf16) (main_arg10 : FVec F S4224x128 .bf16) (main_arg11 : FVec F S128x1024 .bf16) (main_arg12 : FVec F S4224x1024 .f32) (main_arg13 : FVec F S1x1024 .f32) (main_v3 : IVec S4224x1024 1) (main_v7 : IVec S4224x1024 1) (main_v11 : IVec S4224x2048 1) (main_v15 : IVec S4224x2048 1) (main_v17 : FVec F S4224x1024 .f32) (main_v18 : FVec F S4224x1024 .f32) : IVec S4224x1024 1 × IVec S4224x1024 1 × IVec S4224x2048 1 × IVec S4224x2048 1 × IVec S4224x1024 1 × IVec S4224x1024 1 × IVec S4224x1024 1 × IVec S4224x1024 1 × IVec S4224x1024 1 × IVec S11264x1024 1 × IVec S4224x128 1 × IVec S128x1024 1 × IVec S4224x1024 1 × IVec S1x1024 1 :=
  let main_v19 : IVec S4224x1024 1 := cmpf .olt main_v17 main_v18
  let main_v20 : FVec F S4224x1024 .f32 := (extf .f32 · bitsLt_bf16_f32) main_arg5
  let main_v21 : FVec F S4224x1024 .f32 := Host.absf main_v20
  let main_cst_4 : FVec F S_ .f32 := constant S_ .f32 0x7F800000#32
  let main_v22 : FVec F S4224x1024 .f32 := broadcastInDim S4224x1024 ![] bcast_S_S4224x1024 main_cst_4
  let main_v23 : IVec S4224x1024 1 := cmpf .olt main_v21 main_v22
  let main_v24 : FVec F S4224x1024 .f32 := (extf .f32 · bitsLt_bf16_f32) main_arg6
  let main_v25 : FVec F S4224x1024 .f32 := Host.absf main_v24
  let main_cst_5 : FVec F S_ .f32 := constant S_ .f32 0x7F800000#32
  let main_v26 : FVec F S4224x1024 .f32 := broadcastInDim S4224x1024 ![] bcast_S_S4224x1024 main_cst_5
  let main_v27 : IVec S4224x1024 1 := cmpf .olt main_v25 main_v26
  let main_v28 : FVec F S4224x1024 .f32 := (extf .f32 · bitsLt_bf16_f32) main_arg7
  let main_v29 : FVec F S4224x1024 .f32 := Host.absf main_v28
  let main_cst_6 : FVec F S_ .f32 := constant S_ .f32 0x7F800000#32
  let main_v30 : FVec F S4224x1024 .f32 := broadcastInDim S4224x1024 ![] bcast_S_S4224x1024 main_cst_6
  let main_v31 : IVec S4224x1024 1 := cmpf .olt main_v29 main_v30
  let main_v32 : FVec F S4224x1024 .f32 := (extf .f32 · bitsLt_bf16_f32) main_arg8
  let main_v33 : FVec F S4224x1024 .f32 := Host.absf main_v32
  let main_cst_7 : FVec F S_ .f32 := constant S_ .f32 0x7F800000#32
  let main_v34 : FVec F S4224x1024 .f32 := broadcastInDim S4224x1024 ![] bcast_S_S4224x1024 main_cst_7
  let main_v35 : IVec S4224x1024 1 := cmpf .olt main_v33 main_v34
  let main_v36 : FVec F S11264x1024 .f32 := (extf .f32 · bitsLt_bf16_f32) main_arg9
  let main_v37 : FVec F S11264x1024 .f32 := Host.absf main_v36
  let main_cst_8 : FVec F S_ .f32 := constant S_ .f32 0x7F800000#32
  fn_part2 (F := F) main_arg10 main_arg11 main_arg12 main_arg13 main_v3 main_v7 main_v11 main_v15 main_v19 main_v23 main_v27 main_v31 main_v35 main_v37 main_cst_8

def fn {F : FTy → Type} [FloatOps F] (main_arg0 : FVec F S4224x1024 .bf16) (main_arg1 : FVec F S4224x1024 .bf16) (main_arg2 : FVec F S4224x2048 .bf16) (main_arg3 : FVec F S4224x2048 .bf16) (main_arg4 : FVec F S4224x1024 .bf16) (main_arg5 : FVec F S4224x1024 .bf16) (main_arg6 : FVec F S4224x1024 .bf16) (main_arg7 : FVec F S4224x1024 .bf16) (main_arg8 : FVec F S4224x1024 .bf16) (main_arg9 : FVec F S11264x1024 .bf16) (main_arg10 : FVec F S4224x128 .bf16) (main_arg11 : FVec F S128x1024 .bf16) (main_arg12 : FVec F S4224x1024 .f32) (main_arg13 : FVec F S1x1024 .f32) (main_arg14 : FVec F S4224x1024 .f32) : IVec S4224x1024 1 × IVec S4224x1024 1 × IVec S4224x2048 1 × IVec S4224x2048 1 × IVec S4224x1024 1 × IVec S4224x1024 1 × IVec S4224x1024 1 × IVec S4224x1024 1 × IVec S4224x1024 1 × IVec S11264x1024 1 × IVec S4224x128 1 × IVec S128x1024 1 × IVec S4224x1024 1 × IVec S1x1024 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_v4 : FVec F S4224x1024 .f32 := (extf .f32 · bitsLt_bf16_f32) main_arg1
  let main_v5 : FVec F S4224x1024 .f32 := Host.absf main_v4
  let main_cst_0 : FVec F S_ .f32 := constant S_ .f32 0x7F800000#32
  let main_v6 : FVec F S4224x1024 .f32 := broadcastInDim S4224x1024 ![] bcast_S_S4224x1024 main_cst_0
  let main_v7 : IVec S4224x1024 1 := cmpf .olt main_v5 main_v6
  let main_v8 : FVec F S4224x2048 .f32 := (extf .f32 · bitsLt_bf16_f32) main_arg2
  let main_v9 : FVec F S4224x2048 .f32 := Host.absf main_v8
  let main_cst_1 : FVec F S_ .f32 := constant S_ .f32 0x7F800000#32
  let main_v10 : FVec F S4224x2048 .f32 := broadcastInDim S4224x2048 ![] bcast_S_S4224x2048 main_cst_1
  let main_v11 : IVec S4224x2048 1 := cmpf .olt main_v9 main_v10
  let main_v12 : FVec F S4224x2048 .f32 := (extf .f32 · bitsLt_bf16_f32) main_arg3
  let main_v13 : FVec F S4224x2048 .f32 := Host.absf main_v12
  let main_cst_2 : FVec F S_ .f32 := constant S_ .f32 0x7F800000#32
  let main_v14 : FVec F S4224x2048 .f32 := broadcastInDim S4224x2048 ![] bcast_S_S4224x2048 main_cst_2
  let main_v15 : IVec S4224x2048 1 := cmpf .olt main_v13 main_v14
  let main_v16 : FVec F S4224x1024 .f32 := (extf .f32 · bitsLt_bf16_f32) main_arg4
  let main_v17 : FVec F S4224x1024 .f32 := Host.absf main_v16
  let main_cst_3 : FVec F S_ .f32 := constant S_ .f32 0x7F800000#32
  let main_v18 : FVec F S4224x1024 .f32 := broadcastInDim S4224x1024 ![] bcast_S_S4224x1024 main_cst_3
  fn_part1 (F := F) main_arg5 main_arg6 main_arg7 main_arg8 main_arg9 main_arg10 main_arg11 main_arg12 main_arg13 main_v3 main_v7 main_v11 main_v15 main_v17 main_v18
-- ==== Pre_finite9.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  bitsLt_bf16_f32 : FTy.bits .bf16 < FTy.bits .f32
  bcast_S_S4224x1024 : S_.BroadcastsInDim S4224x1024 (![] : Fin 0 → Fin S4224x1024.rank)
  bcast_S_S2816x1024 : S_.BroadcastsInDim S2816x1024 (![] : Fin 0 → Fin S2816x1024.rank)
  bcast_S_S4224x2816 : S_.BroadcastsInDim S4224x2816 (![] : Fin 0 → Fin S4224x2816.rank)

variable [Facts]

def fn {F : FTy → Type} [FloatOps F] (main_arg0 : FVec F S4224x1024 .bf16) (main_arg1 : FVec F S2816x1024 .bf16) (main_arg2 : FVec F S4224x2816 .f32) (main_arg3 : FVec F S4224x2816 .f32) : IVec S4224x1024 1 × IVec S2816x1024 1 × IVec S4224x2816 1 :=
  let main_v0 : FVec F S4224x1024 .f32 := (extf .f32 · bitsLt_bf16_f32) main_arg0
  let main_v1 : FVec F S4224x1024 .f32 := Host.absf main_v0
  let main_cst : FVec F S_ .f32 := constant S_ .f32 0x7F800000#32
  let main_v2 : FVec F S4224x1024 .f32 := broadcastInDim S4224x1024 ![] bcast_S_S4224x1024 main_cst
  let main_v3 : IVec S4224x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4224x2816 .f32 := Host.absf main_arg3
  let main_cst_1 : FVec F S_ .f32 := constant S_ .f32 0x7F800000#32
  let main_v9 : FVec F S4224x2816 .f32 := broadcastInDim S4224x2816 ![] bcast_S_S4224x2816 main_cst_1
  let main_v10 : IVec S4224x2816 1 := cmpf .olt main_v8 main_v9
  (main_v3, main_v7, main_v10)
-- ==== Kernel.lean ====
abbrev S8x4224x256 : Shape := ⟨3, ![8, 4224, 256]⟩
abbrev S8x4224x128 : Shape := ⟨3, ![8, 4224, 128]⟩
abbrev S8x66 : Shape := ⟨2, ![8, 66]⟩
abbrev S8x66x128x256 : Shape := ⟨4, ![8, 66, 128, 256]⟩
abbrev S4224x128 : Shape := ⟨2, ![4224, 128]⟩
abbrev S_ : Shape := ⟨0, ![]⟩
abbrev S8x66x1 : Shape := ⟨3, ![8, 66, 1]⟩
abbrev S8x66x64 : Shape := ⟨3, ![8, 66, 64]⟩
abbrev S8x4224x1 : Shape := ⟨3, ![8, 4224, 1]⟩
abbrev S4x128x256 : Shape := ⟨3, ![4, 128, 256]⟩
abbrev S4x128x128 : Shape := ⟨3, ![4, 128, 128]⟩
abbrev S4x128x1 : Shape := ⟨3, ![4, 128, 1]⟩
abbrev S4x2x128x256 : Shape := ⟨4, ![4, 2, 128, 256]⟩
abbrev S64x256 : Shape := ⟨2, ![64, 256]⟩
abbrev S1x1x128x256 : Shape := ⟨4, ![1, 1, 128, 256]⟩
abbrev S128x256 : Shape := ⟨2, ![128, 256]⟩
abbrev S1x128x256 : Shape := ⟨3, ![1, 128, 256]⟩
abbrev S1x64x256 : Shape := ⟨3, ![1, 64, 256]⟩
abbrev S1x64x128 : Shape := ⟨3, ![1, 64, 128]⟩
abbrev S64x128 : Shape := ⟨2, ![64, 128]⟩
abbrev S128x128 : Shape := ⟨2, ![128, 128]⟩
abbrev S1x1x1 : Shape := ⟨3, ![1, 1, 1]⟩
abbrev S1x1 : Shape := ⟨2, ![1, 1]⟩
abbrev S128 : Shape := ⟨1, ![128]⟩
abbrev S128x1 : Shape := ⟨2, ![128, 1]⟩
abbrev S1 : Shape := ⟨1, ![1]⟩
abbrev S64x1 : Shape := ⟨2, ![64, 1]⟩
abbrev S1x64x1 : Shape := ⟨3, ![1, 64, 1]⟩

abbrev nBuf : Space → Nat
  | .hbm => 87
  | .vmem => 29
  | .smem => 0
  | _ => 0

abbrev bufTy : (tb : Table) → Fin (tcTables nBuf tb) → BufTy
  | .hbm, ⟨0, _⟩ => ⟨S8x4224x256, .f32⟩
  | .hbm, ⟨1, _⟩ => ⟨S8x4224x128, .bf16⟩
  | .hbm, ⟨2, _⟩ => ⟨S8x4224x128, .bf16⟩
  | .hbm, ⟨3, _⟩ => ⟨S8x4224x128, .bf16⟩
  | .hbm, ⟨4, _⟩ => ⟨S8x4224x128, .bf16⟩
  | .hbm, ⟨5, _⟩ => ⟨S8x66, .f32⟩
  | .hbm, ⟨6, _⟩ => ⟨S8x66x128x256, .bf16⟩
  | .hbm, ⟨7, _⟩ => ⟨S8x4224x256, .f32⟩
  | .hbm, ⟨8, _⟩ => ⟨S4224x128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4224x128, .i32⟩
  | .hbm, ⟨16, _⟩ => ⟨S4224x128, .i32⟩
  | .hbm, ⟨17, _⟩ => ⟨S_, .i32⟩
  | .hbm, ⟨18, _⟩ => ⟨S4224x128, .i32⟩
  | .hbm, ⟨19, _⟩ => ⟨S4224x128, .i1⟩
  | .hbm, ⟨20, _⟩ => ⟨S_, .i32⟩
  | .hbm, ⟨21, _⟩ => ⟨S4224x128, .i32⟩
  | .hbm, ⟨22, _⟩ => ⟨S4224x128, .i1⟩
  | .hbm, ⟨23, _⟩ => ⟨S_, .i32⟩
  | .hbm, ⟨24, _⟩ => ⟨S_, .i1⟩
  | .hbm, ⟨25, _⟩ => ⟨S4224x128, .i1⟩
  | .hbm, ⟨26, _⟩ => ⟨S4224x128, .i1⟩
  | .hbm, ⟨27, _⟩ => ⟨S4224x128, .i1⟩
  | .hbm, ⟨28, _⟩ => ⟨S4224x128, .i32⟩
  | .hbm, ⟨29, _⟩ => ⟨S4224x128, .i32⟩
  | .hbm, ⟨30, _⟩ => ⟨S4224x128, .i32⟩
  | .hbm, ⟨31, _⟩ => ⟨S4224x128, .i32⟩
  | .hbm, ⟨32, _⟩ => ⟨S_, .i32⟩
  | .hbm, ⟨33, _⟩ => ⟨S_, .i32⟩
  | .hbm, ⟨34, _⟩ => ⟨S4224x128, .i32⟩
  | .hbm, ⟨35, _⟩ => ⟨S4224x128, .i32⟩
  | .hbm, ⟨36, _⟩ => ⟨S4224x128, .i32⟩
  | .hbm, ⟨37, _⟩ => ⟨S_, .i32⟩
  | .hbm, ⟨38, _⟩ => ⟨S4224x128, .i32⟩
  | .hbm, ⟨39, _⟩ => ⟨S4224x128, .i1⟩
  | .hbm, ⟨40, _⟩ => ⟨S4224x128, .i32⟩
  | .hbm, ⟨41, _⟩ => ⟨S4224x128, .i32⟩
  | .hbm, ⟨42, _⟩ => ⟨S_, .i32⟩
  | .hbm, ⟨43, _⟩ => ⟨S4224x128, .i32⟩
  | .hbm, ⟨44, _⟩ => ⟨S4224x128, .i1⟩
  | .hbm, ⟨45, _⟩ => ⟨S4224x128, .i1⟩
  | .hbm, ⟨46, _⟩ => ⟨S_, .i32⟩
  | .hbm, ⟨47, _⟩ => ⟨S4224x128, .i32⟩
  | .hbm, ⟨48, _⟩ => ⟨S4224x128, .i32⟩
  | .hbm, ⟨49, _⟩ => ⟨S4224x128, .i32⟩
  | .hbm, ⟨50, _⟩ => ⟨S_, .i32⟩
  | .hbm, ⟨51, _⟩ => ⟨S_, .i32⟩
  | .hbm, ⟨52, _⟩ => ⟨S4224x128, .i32⟩
  | .hbm, ⟨53, _⟩ => ⟨S4224x128, .i32⟩
  | .hbm, ⟨54, _⟩ => ⟨S4224x128, .i32⟩
  | .hbm, ⟨55, _⟩ => ⟨S_, .i32⟩
  | .hbm, ⟨56, _⟩ => ⟨S4224x128, .i32⟩
  | .hbm, ⟨57, _⟩ => ⟨S4224x128, .i1⟩
  | .hbm, ⟨58, _⟩ => ⟨S4224x128, .i32⟩
  | .hbm, ⟨59, _⟩ => ⟨S4224x128, .i32⟩
  | .hbm, ⟨60, _⟩ => ⟨S_, .i32⟩
  | .hbm, ⟨61, _⟩ => ⟨S4224x128, .i32⟩
  | .hbm, ⟨62, _⟩ => ⟨S4224x128, .i1⟩
  | .hbm, ⟨63, _⟩ => ⟨S4224x128, .i1⟩
  | .hbm, ⟨64, _⟩ => ⟨S_, .i32⟩
  | .hbm, ⟨65, _⟩ => ⟨S4224x128, .i32⟩
  | .hbm, ⟨66, _⟩ => ⟨S4224x128, .i32⟩
  | .hbm, ⟨67, _⟩ => ⟨S4224x128, .i32⟩
  | .hbm, ⟨68, _⟩ => ⟨S4224x128, .i1⟩
  | .hbm, ⟨69, _⟩ => ⟨S4224x128, .i1⟩
  | .hbm, ⟨70, _⟩ => ⟨S4224x128, .i1⟩
  | .hbm, ⟨71, _⟩ => ⟨S8x4224x128, .f32⟩
  | .hbm, ⟨72, _⟩ => ⟨S_, .f32⟩
  | .hbm, ⟨73, _⟩ => ⟨S_, .f32⟩
  | .hbm, ⟨74, _⟩ => ⟨S8x4224x128, .i1⟩
  | .hbm, ⟨75, _⟩ => ⟨S8x4224x128, .f32⟩
  | .hbm, ⟨76, _⟩ => ⟨S8x4224x128, .f32⟩
  | .hbm, ⟨77, _⟩ => ⟨S8x4224x128, .bf16⟩
  | .hbm, ⟨78, _⟩ => ⟨S8x66x1, .f32⟩
  | .hbm, ⟨79, _⟩ => ⟨S8x66x64, .f32⟩
  | .hbm, ⟨80, _⟩ => ⟨S8x4224x1, .f32⟩
  | .hbm, ⟨81, _⟩ => ⟨S8x4224x256, .f32⟩
  | .hbm, ⟨82, _⟩ => ⟨S8x4224x128, .f32⟩
  | .hbm, ⟨83, _⟩ => ⟨S8x4224x128, .f32⟩
  | .hbm, ⟨84, _⟩ => ⟨S8x4224x128, .f32⟩
  | .hbm, ⟨85, _⟩ => ⟨S8x4224x128, .f32⟩
  | .hbm, ⟨86, _⟩ => ⟨S8x4224x1, .f32⟩
  | .local _ .vmem, ⟨0, _⟩ => ⟨S4x128x256, .f32⟩
  | .local _ .vmem, ⟨1, _⟩ => ⟨S4x128x256, .f32⟩
  | .local _ .vmem, ⟨2, _⟩ => ⟨S4x128x128, .bf16⟩
  | .local _ .vmem, ⟨3, _⟩ => ⟨S4x128x128, .bf16⟩
  | .local _ .vmem, ⟨4, _⟩ => ⟨S4x128x128, .bf16⟩
  | .local _ .vmem, ⟨5, _⟩ => ⟨S4x128x128, .bf16⟩
  | .local _ .vmem, ⟨6, _⟩ => ⟨S4x128x128, .bf16⟩
  | .local _ .vmem, ⟨7, _⟩ => ⟨S4x128x128, .bf16⟩
  | .local _ .vmem, ⟨8, _⟩ => ⟨S4x128x128, .bf16⟩
  | .local _ .vmem, ⟨9, _⟩ => ⟨S4x128x128, .bf16⟩
  | .local _ .vmem, ⟨10, _⟩ => ⟨S4x128x1, .f32⟩
  | .local _ .vmem, ⟨11, _⟩ => ⟨S4x128x1, .f32⟩
  | .local _ .vmem, ⟨12, _⟩ => ⟨S4x2x128x256, .bf16⟩
  | .local _ .vmem, ⟨13, _⟩ => ⟨S4x2x128x256, .bf16⟩
  | .local _ .vmem, ⟨14, _⟩ => ⟨S4x128x256, .f32⟩
  | .local _ .vmem, ⟨15, _⟩ => ⟨S4x128x256, .f32⟩
  | .local _ .vmem, ⟨16, _⟩ => ⟨S4x128x256, .f32⟩
  | .local _ .vmem, ⟨17, _⟩ => ⟨S4x128x256, .f32⟩
  | .local _ .vmem, ⟨18, _⟩ => ⟨S4x128x128, .f32⟩
  | .local _ .vmem, ⟨19, _⟩ => ⟨S4x128x128, .f32⟩
  | .local _ .vmem, ⟨20, _⟩ => ⟨S4x128x128, .f32⟩
  | .local _ .vmem, ⟨21, _⟩ => ⟨S4x128x128, .f32⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | .local _ .vmem, ⟨25, _⟩ => ⟨S4x128x128, .f32⟩
  | .local _ .vmem, ⟨26, _⟩ => ⟨S4x128x1, .f32⟩
  | .local _ .vmem, ⟨27, _⟩ => ⟨S4x128x1, .f32⟩
  | .local _ .vmem, ⟨28, _⟩ => ⟨S4x128x256, .f32⟩
  | _, _ => ⟨S8x4224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v3 : Ref sig .tc := ⟨.hbm, 49, rfl⟩
abbrev main_c_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v4 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14_0 : Ref sig .tc := ⟨.hbm, 81, rfl⟩
abbrev main_v14_1 : Ref sig .tc := ⟨.hbm, 82, rfl⟩
abbrev main_v14_2 : Ref sig .tc := ⟨.hbm, 83, rfl⟩
abbrev main_v14_3 : Ref sig .tc := ⟨.hbm, 84, rfl⟩
abbrev main_v14_4 : Ref sig .tc := ⟨.hbm, 85, rfl⟩
abbrev main_v14_5 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_6 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

def cc0_transform_13 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![arg0.toNat, v0.toNat, c0_i32.toNat]

abbrev stage0_0 : Fin 2 → Memref sig .tc .vmem S4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x4224x256 : Shape := ⟨3, ![8, 4224, 256]⟩
abbrev S8x4224x128 : Shape := ⟨3, ![8, 4224, 128]⟩
abbrev S8x66 : Shape := ⟨2, ![8, 66]⟩
abbrev S8x66x128x256 : Shape := ⟨4, ![8, 66, 128, 256]⟩
abbrev S8x33x2x64x2x64 : Shape := ⟨6, ![8, 33, 2, 64, 2, 64]⟩
abbrev S8x33x1x64x1x64 : Shape := ⟨6, ![8, 33, 1, 64, 1, 64]⟩
abbrev S8x33x64x64 : Shape := ⟨4, ![8, 33, 64, 64]⟩
abbrev S8x33x1x64x64 : Shape := ⟨5, ![8, 33, 1, 64, 64]⟩
abbrev S8x33x2x64x64 : Shape := ⟨5, ![8, 33, 2, 64, 64]⟩
abbrev S8x66x64x64 : Shape := ⟨4, ![8, 66, 64, 64]⟩
abbrev S_ : Shape := ⟨0, ![]⟩
abbrev S64x64 : Shape := ⟨2, ![64, 64]⟩
abbrev S66x8x64x64 : Shape := ⟨4, ![66, 8, 64, 64]⟩
abbrev S8x66x64x256 : Shape := ⟨4, ![8, 66, 64, 256]⟩
abbrev S66x8x64x256 : Shape := ⟨4, ![66, 8, 64, 256]⟩
abbrev S8x66x64x128 : Shape := ⟨4, ![8, 66, 64, 128]⟩
abbrev S66x8x64x128 : Shape := ⟨4, ![66, 8, 64, 128]⟩
abbrev S66x8 : Shape := ⟨2, ![66, 8]⟩
abbrev S66x8x128x256 : Shape := ⟨4, ![66, 8, 128, 256]⟩
abbrev S8x128x256 : Shape := ⟨3, ![8, 128, 256]⟩
abbrev S1x8x128x256 : Shape := ⟨4, ![1, 8, 128, 256]⟩
abbrev S1x8x64x256 : Shape := ⟨4, ![1, 8, 64, 256]⟩
abbrev S8x64x256 : Shape := ⟨3, ![8, 64, 256]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x256x64 : Shape := ⟨3, ![8, 256, 64]⟩
abbrev S8x128x64 : Shape := ⟨3, ![8, 128, 64]⟩
abbrev S8x256x128 : Shape := ⟨3, ![8, 256, 128]⟩
abbrev S2x2 : Shape := ⟨2, ![2, 2]⟩
abbrev S2x1x2x1 : Shape := ⟨4, ![2, 1, 2, 1]⟩
abbrev S64x1x64 : Shape := ⟨3, ![64, 1, 64]⟩
abbrev S1x64x1x64 : Shape := ⟨4, ![1, 64, 1, 64]⟩
abbrev S2x64x2x64 : Shape := ⟨4, ![2, 64, 2, 64]⟩
abbrev S8x33x2x64x1x64 : Shape := ⟨6, ![8, 33, 2, 64, 1, 64]⟩
abbrev S8x66x63 : Shape := ⟨3, ![8, 66, 63]⟩
abbrev S8x66x1 : Shape := ⟨3, ![8, 66, 1]⟩
abbrev S8x66x64 : Shape := ⟨3, ![8, 66, 64]⟩
abbrev S8x4224x1 : Shape := ⟨3, ![8, 4224, 1]⟩

abbrev nBuf : Space → Nat
  | .hbm => 237
  | .vmem => 0
  | .smem => 0
  | _ => 0

abbrev hbmTy0_0 (i : Nat) : BufTy := match i % 128 with
  | 0 => ⟨S8x4224x256, .f32⟩
  | 1 => ⟨S8x4224x128, .bf16⟩
  | 2 => ⟨S8x4224x128, .bf16⟩
  | 3 => ⟨S8x4224x128, .bf16⟩
  | 4 => ⟨S8x4224x128, .bf16⟩
  | 5 => ⟨S8x66, .f32⟩
  | 6 => ⟨S8x66x128x256, .bf16⟩
  | 7 => ⟨S8x4224x256, .f32⟩
  | 8 => ⟨S8x4224x128, .f32⟩
  | 9 => ⟨S8x33x2x64x2x64, .f32⟩
  | 10 => ⟨S8x33x1x64x1x64, .f32⟩
  | 11 => ⟨S8x33x64x64, .f32⟩
  | 12 => ⟨S8x33x1x64x1x64, .f32⟩
  | 13 => ⟨S8x33x64x64, .f32⟩
  | 14 => ⟨S8x33x1x64x64, .f32⟩
  | 15 => ⟨S8x33x1x64x64, .f32⟩
  | 16 => ⟨S8x33x2x64x64, .f32⟩
  | 17 => ⟨S8x66x64x64, .f32⟩
  | 18 => ⟨S_, .i1⟩
  | 19 => ⟨S64x64, .i1⟩
  | 20 => ⟨S64x64, .i32⟩
  | 21 => ⟨S_, .i32⟩
  | 22 => ⟨S64x64, .i32⟩
  | 23 => ⟨S64x64, .i32⟩
  | 24 => ⟨S64x64, .i32⟩
  | 25 => ⟨S64x64, .i1⟩
  | 26 => ⟨S_, .i1⟩
  | 27 => ⟨S64x64, .i1⟩
  | 28 => ⟨S64x64, .i1⟩
  | 29 => ⟨S_, .f32⟩
  | 30 => ⟨S_, .f32⟩
  | 31 => ⟨S8x66x64x64, .i1⟩
  | 32 => ⟨S8x66x64x64, .f32⟩
  | 33 => ⟨S8x66x64x64, .f32⟩
  | 34 => ⟨S66x8x64x64, .f32⟩
  | 35 => ⟨S8x66x64x256, .f32⟩
  | 36 => ⟨S66x8x64x256, .f32⟩
  | 37 => ⟨S8x4224x128, .f32⟩
  | 38 => ⟨S8x66x64x128, .f32⟩
  | 39 => ⟨S66x8x64x128, .f32⟩
  | 40 => ⟨S8x4224x128, .f32⟩
  | 41 => ⟨S8x66x64x128, .f32⟩
  | 42 => ⟨S66x8x64x128, .f32⟩
  | 43 => ⟨S8x4224x128, .f32⟩
  | 44 => ⟨S8x66x64x128, .f32⟩
  | 45 => ⟨S66x8x64x128, .f32⟩
  | 46 => ⟨S66x8, .f32⟩
  | 47 => ⟨S8x66x128x256, .f32⟩
  | 48 => ⟨S66x8x128x256, .f32⟩
  | 49 => ⟨S_, .f32⟩
  | 50 => ⟨S8x128x256, .f32⟩
  | 51 => ⟨S8x66x64x256, .f32⟩
  | 52 => ⟨S66x8x64x256, .f32⟩
  | 53 => ⟨S_, .f32⟩
  | 54 => ⟨S66x8x64x256, .f32⟩
  | 55 => ⟨S_, .f32⟩
  | 56 => ⟨S66x8x64x128, .f32⟩
  | 57 => ⟨S_, .f32⟩
  | 58 => ⟨S66x8x64x64, .f32⟩
  | 59 => ⟨S_, .f32⟩
  | 60 => ⟨S66x8x64x128, .f32⟩
  | 61 => ⟨S_, .f32⟩
  | 62 => ⟨S66x8x64x128, .f32⟩
  | 63 => ⟨S_, .f32⟩
  | 64 => ⟨S66x8, .f32⟩
  | 65 => ⟨S_, .i32⟩
  | 66 => ⟨S66x8x128x256, .f32⟩
  | 67 => ⟨S66x8x64x256, .f32⟩
  | 68 => ⟨S66x8x64x128, .f32⟩
  | 69 => ⟨S66x8x64x64, .f32⟩
  | 70 => ⟨S66x8x64x128, .f32⟩
  | 71 => ⟨S66x8x64x128, .f32⟩
  | 72 => ⟨S66x8, .f32⟩
  | 73 => ⟨S66x8x64x256, .f32⟩
  | 74 => ⟨S_, .i32⟩
  | 75 => ⟨S8x128x256, .f32⟩
  | 76 => ⟨S66x8x64x256, .f32⟩
  | 77 => ⟨S66x8x64x128, .f32⟩
  | 78 => ⟨S66x8x64x64, .f32⟩
  | 79 => ⟨S66x8x64x128, .f32⟩
  | 80 => ⟨S66x8x64x128, .f32⟩
  | 81 => ⟨S66x8, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S1x8x128x256, .f32⟩
  | 92 => ⟨S8x128x256, .f32⟩
  | 93 => ⟨S_, .i32⟩
  | 94 => ⟨S_, .i32⟩
  | 95 => ⟨S_, .i32⟩
  | 96 => ⟨S1x8x64x256, .f32⟩
  | 97 => ⟨S8x64x256, .f32⟩
  | 98 => ⟨S_, .i32⟩
  | 99 => ⟨S_, .i32⟩
  | 100 => ⟨S_, .i32⟩
  | 101 => ⟨S1x8x64x128, .f32⟩
  | 102 => ⟨S8x64x128, .f32⟩
  | 103 => ⟨S_, .i32⟩
  | 104 => ⟨S_, .i32⟩
  | 105 => ⟨S_, .i32⟩
  | 106 => ⟨S1x8x64x64, .f32⟩
  | 107 => ⟨S8x64x64, .f32⟩
  | 108 => ⟨S_, .i32⟩
  | 109 => ⟨S_, .i32⟩
  | 110 => ⟨S_, .i32⟩
  | 111 => ⟨S1x8x64x128, .f32⟩
  | 112 => ⟨S8x64x128, .f32⟩
  | 113 => ⟨S_, .i32⟩
  | 114 => ⟨S_, .i32⟩
  | 115 => ⟨S_, .i32⟩
  | 116 => ⟨S1x8x64x128, .f32⟩
  | 117 => ⟨S8x64x128, .f32⟩
  | 118 => ⟨S_, .i32⟩
  | 119 => ⟨S1x8, .f32⟩
  | 120 => ⟨S8, .f32⟩
  | 121 => ⟨S_, .i32⟩
  | 122 => ⟨S_, .i32⟩
  | 123 => ⟨S_, .i32⟩
  | 124 => ⟨S1x8x64x256, .f32⟩
  | 125 => ⟨S8x64x256, .f32⟩
  | 126 => ⟨S8x64x256, .f32⟩
  | 127 => ⟨S8x64x256, .f32⟩
  | _ => ⟨S8x4224x256, .f32⟩

abbrev hbmTy0_1 (i : Nat) : BufTy := match i % 128 with
  | 0 => ⟨S8x64x256, .f32⟩
  | 1 => ⟨S8x64x256, .f32⟩
  | 2 => ⟨S8x64x256, .f32⟩
  | 3 => ⟨S8x1x1, .f32⟩
  | 4 => ⟨S8x128x256, .f32⟩
  | 5 => ⟨S8x128x256, .f32⟩
  | 6 => ⟨S8x128x256, .f32⟩
  | 7 => ⟨S8x128x256, .f32⟩
  | 8 => ⟨S8x256x64, .f32⟩
  | 9 => ⟨S8x64x256, .f32⟩
  | 10 => ⟨S8x128x64, .f32⟩
  | 11 => ⟨S8x64x128, .f32⟩
  | 12 => ⟨S8x128x256, .f32⟩
  | 13 => ⟨S_, .f32⟩
  | 14 => ⟨S8, .f32⟩
  | 15 => ⟨S8x1x1, .f32⟩
  | 16 => ⟨S8x128x256, .f32⟩
  | 17 => ⟨S8x128x256, .f32⟩
  | 18 => ⟨S_, .f32⟩
  | 19 => ⟨S8, .f32⟩
  | 20 => ⟨S8x256x64, .f32⟩
  | 21 => ⟨S8x64x256, .f32⟩
  | 22 => ⟨S8x64x256, .f32⟩
  | 23 => ⟨S8x64x64, .f32⟩
  | 24 => ⟨S8x256x128, .f32⟩
  | 25 => ⟨S8x128x256, .f32⟩
  | 26 => ⟨S8x128x256, .f32⟩
  | 27 => ⟨S8x64x128, .f32⟩
  | 28 => ⟨S8x64x256, .f32⟩
  | 29 => ⟨S8x256x128, .f32⟩
  | 30 => ⟨S8x128x256, .f32⟩
  | 31 => ⟨S8x128x256, .f32⟩
  | 32 => ⟨S8x64x128, .f32⟩
  | 33 => ⟨S1x8x64x256, .f32⟩
  | 34 => ⟨S_, .i32⟩
  | 35 => ⟨S_, .i32⟩
  | 36 => ⟨S_, .i32⟩
  | 37 => ⟨S66x8x64x256, .f32⟩
  | 38 => ⟨S1x8x64x128, .f32⟩
  | 39 => ⟨S_, .i32⟩
  | 40 => ⟨S_, .i32⟩
  | 41 => ⟨S_, .i32⟩
  | 42 => ⟨S66x8x64x128, .f32⟩
  | 43 => ⟨S1x8x64x64, .f32⟩
  | 44 => ⟨S_, .i32⟩
  | 45 => ⟨S_, .i32⟩
  | 46 => ⟨S_, .i32⟩
  | 47 => ⟨S66x8x64x64, .f32⟩
  | 48 => ⟨S1x8x64x128, .f32⟩
  | 49 => ⟨S_, .i32⟩
  | 50 => ⟨S_, .i32⟩
  | 51 => ⟨S_, .i32⟩
  | 52 => ⟨S66x8x64x128, .f32⟩
  | 53 => ⟨S1x8x64x128, .f32⟩
  | 54 => ⟨S_, .i32⟩
  | 55 => ⟨S_, .i32⟩
  | 56 => ⟨S_, .i32⟩
  | 57 => ⟨S66x8x64x128, .f32⟩
  | 58 => ⟨S1x8, .f32⟩
  | 59 => ⟨S_, .i32⟩
  | 60 => ⟨S66x8, .f32⟩
  | 61 => ⟨S_, .i32⟩
  | 62 => ⟨S_, .i32⟩
  | 63 => ⟨S2x2, .i32⟩
  | 64 => ⟨S2x2, .i32⟩
  | 65 => ⟨S_, .i32⟩
  | 66 => ⟨S2x2, .i32⟩
  | 67 => ⟨S2x2, .i32⟩
  | 68 => ⟨S2x2, .i1⟩
  | 69 => ⟨S2x1x2x1, .i1⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S64x1x64, .i1⟩
  | 82 => ⟨S1x64x1x64, .i1⟩
  | 83 => ⟨S2x64x2x64, .i1⟩
  | 84 => ⟨S2x64x2x64, .i1⟩
  | 85 => ⟨S2x64x2x64, .i1⟩
  | 86 => ⟨S8x66x64x64, .f32⟩
  | 87 => ⟨S8x33x2x64x1x64, .f32⟩
  | 88 => ⟨S_, .f32⟩
  | 89 => ⟨S_, .f32⟩
  | 90 => ⟨S8x33x2x64x2x64, .i1⟩
  | 91 => ⟨S8x33x2x64x2x64, .f32⟩
  | 92 => ⟨S8x33x2x64x2x64, .f32⟩
  | 93 => ⟨S8x33x2x64x2x64, .f32⟩
  | 94 => ⟨S_, .f32⟩
  | 95 => ⟨S8x66x63, .f32⟩
  | 96 => ⟨S8x66, .f32⟩
  | 97 => ⟨S8x66x1, .f32⟩
  | 98 => ⟨S8x66x64, .f32⟩
  | 99 => ⟨S8x4224x1, .f32⟩
  | 100 => ⟨S8x66x64x256, .f32⟩
  | 101 => ⟨S8x4224x256, .f32⟩
  | 102 => ⟨S8x66x64x128, .f32⟩
  | 103 => ⟨S8x4224x128, .f32⟩
  | 104 => ⟨S8x4224x128, .f32⟩
  | 105 => ⟨S8x66x64x128, .f32⟩
  | 106 => ⟨S8x4224x128, .f32⟩
  | 107 => ⟨S8x66x64x128, .f32⟩
  | 108 => ⟨S8x4224x128, .f32⟩
  | _ => ⟨S8x4224x256, .f32⟩

abbrev hbmTy (i : Nat) : BufTy := match i / 128 with
  | 0 => hbmTy0_0 i
  | 1 => hbmTy0_1 i
  | _ => ⟨S8x4224x256, .f32⟩

abbrev bufTy : (tb : Table) → Fin (tcTables nBuf tb) → BufTy
  | .hbm, ⟨i, _⟩ => hbmTy i
  | _, _ => ⟨S8x4224x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v11 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_c_7 : Ref sig .tc := ⟨.hbm, 65, rfl⟩
abbrev main_v37_0 : Ref sig .tc := ⟨.hbm, 66, rfl⟩
abbrev main_v37_1 : Ref sig .tc := ⟨.hbm, 67, rfl⟩
abbrev main_v37_2 : Ref sig .tc := ⟨.hbm, 68, rfl⟩
abbrev main_v37_3 : Ref sig .tc := ⟨.hbm, 69, rfl⟩
abbrev main_v37_4 : Ref sig .tc := ⟨.hbm, 70, rfl⟩
abbrev main_v37_5 : Ref sig .tc := ⟨.hbm, 71, rfl⟩
abbrev main_v37_6 : Ref sig .tc := ⟨.hbm, 72, rfl⟩
abbrev main_v37_7 : Ref sig .tc := ⟨.hbm, 73, rfl⟩
abbrev main_v37_8 : Ref sig .tc := ⟨.hbm, 74, rfl⟩
abbrev main_v37_9 : Ref sig .tc := ⟨.hbm, 75, rfl⟩
abbrev main_v37_10 : Ref sig .tc := ⟨.hbm, 76, rfl⟩
abbrev main_v37_11 : Ref sig .tc := ⟨.hbm, 77, rfl⟩
abbrev main_v37_12 : Ref sig .tc := ⟨.hbm, 78, rfl⟩
abbrev main_v37_13 : Ref sig .tc := ⟨.hbm, 79, rfl⟩
abbrev main_v37_14 : Ref sig .tc := ⟨.hbm, 80, rfl⟩
abbrev main_v37_15 : Ref sig .tc := ⟨.hbm, 81, rfl⟩
abbrev main_while0c_c_27 : Ref sig .tc := ⟨.hbm, 82, rfl⟩
abbrev main_while0c_v68 : Ref sig .tc := ⟨.hbm, 83, rfl⟩
abbrev main_while0b_c_27 : Ref sig .tc := ⟨.hbm, 84, rfl⟩
abbrev main_while0b_v68 : Ref sig .tc := ⟨.hbm, 85, rfl⟩
abbrev main_while0b_c_28 : Ref sig .tc := ⟨.hbm, 86, rfl⟩
abbrev main_while0b_v69 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_call2_c_1 : Ref sig .tc := ⟨.hbm, 90, rfl⟩
abbrev main_while0b_call2_v0 : Ref sig .tc := ⟨.hbm, 91, rfl⟩
abbrev main_while0b_v70 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_v0 : Ref sig .tc := ⟨.hbm, 96, rfl⟩
abbrev main_while0b_v71 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_v0 : Ref sig .tc := ⟨.hbm, 101, rfl⟩
abbrev main_while0b_v72 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_v0 : Ref sig .tc := ⟨.hbm, 106, rfl⟩
abbrev main_while0b_v73 : Ref sig .tc := ⟨.hbm, 107, rfl⟩
abbrev main_while0b_call6_c : Ref sig .tc := ⟨.hbm, 108, rfl⟩
abbrev main_while0b_call6_c_0 : Ref sig .tc := ⟨.hbm, 109, rfl⟩
abbrev main_while0b_call6_c_1 : Ref sig .tc := ⟨.hbm, 110, rfl⟩
abbrev main_while0b_call6_v0 : Ref sig .tc := ⟨.hbm, 111, rfl⟩
abbrev main_while0b_v74 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v75 : Ref sig .tc := ⟨.hbm, 117, rfl⟩
abbrev main_while0b_call8_c : Ref sig .tc := ⟨.hbm, 118, rfl⟩
abbrev main_while0b_call8_v0 : Ref sig .tc := ⟨.hbm, 119, rfl⟩
abbrev main_while0b_v76 : Ref sig .tc := ⟨.hbm, 120, rfl⟩
abbrev main_while0b_call9_c : Ref sig .tc := ⟨.hbm, 121, rfl⟩
abbrev main_while0b_call9_c_0 : Ref sig .tc := ⟨.hbm, 122, rfl⟩
abbrev main_while0b_call9_c_1 : Ref sig .tc := ⟨.hbm, 123, rfl⟩
abbrev main_while0b_call9_v0 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_cst_29 : Ref sig .tc := ⟨.hbm, 141, rfl⟩
abbrev main_while0b_v93 : Ref sig .tc := ⟨.hbm, 142, rfl⟩
abbrev main_while0b_v94 : Ref sig .tc := ⟨.hbm, 143, rfl⟩
abbrev main_while0b_v95 : Ref sig .tc := ⟨.hbm, 144, rfl⟩
abbrev main_while0b_v96 : Ref sig .tc := ⟨.hbm, 145, rfl⟩
abbrev main_while0b_cst_30 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_call10_v0 : Ref sig .tc := ⟨.hbm, 161, rfl⟩
abbrev main_while0b_call10_c : Ref sig .tc := ⟨.hbm, 162, rfl⟩
abbrev main_while0b_call10_c_0 : Ref sig .tc := ⟨.hbm, 163, rfl⟩
abbrev main_while0b_call10_c_1 : Ref sig .tc := ⟨.hbm, 164, rfl⟩
abbrev main_while0b_v111 : Ref sig .tc := ⟨.hbm, 165, rfl⟩
abbrev main_while0b_call11_v0 : Ref sig .tc := ⟨.hbm, 166, rfl⟩
abbrev main_while0b_call11_c : Ref sig .tc := ⟨.hbm, 167, rfl⟩
abbrev main_while0b_call11_c_0 : Ref sig .tc := ⟨.hbm, 168, rfl⟩
abbrev main_while0b_call11_c_1 : Ref sig .tc := ⟨.hbm, 169, rfl⟩
abbrev main_while0b_v112 : Ref sig .tc := ⟨.hbm, 170, rfl⟩
abbrev main_while0b_call12_v0 : Ref sig .tc := ⟨.hbm, 171, rfl⟩
abbrev main_while0b_call12_c : Ref sig .tc := ⟨.hbm, 172, rfl⟩
abbrev main_while0b_call12_c_0 : Ref sig .tc := ⟨.hbm, 173, rfl⟩
abbrev main_while0b_call12_c_1 : Ref sig .tc := ⟨.hbm, 174, rfl⟩
abbrev main_while0b_v113 : Ref sig .tc := ⟨.hbm, 175, rfl⟩
abbrev main_while0b_call13_v0 : Ref sig .tc := ⟨.hbm, 176, rfl⟩
abbrev main_while0b_call13_c : Ref sig .tc := ⟨.hbm, 177, rfl⟩
abbrev main_while0b_call13_c_0 : Ref sig .tc := ⟨.hbm, 178, rfl⟩
abbrev main_while0b_call13_c_1 : Ref sig .tc := ⟨.hbm, 179, rfl⟩
abbrev main_while0b_v114 : Ref sig .tc := ⟨.hbm, 180, rfl⟩
abbrev main_while0b_call14_v0 : Ref sig .tc := ⟨.hbm, 181, rfl⟩
abbrev main_while0b_call14_c : Ref sig .tc := ⟨.hbm, 182, rfl⟩
abbrev main_while0b_call14_c_0 : Ref sig .tc := ⟨.hbm, 183, rfl⟩
abbrev main_while0b_call14_c_1 : Ref sig .tc := ⟨.hbm, 184, rfl⟩
abbrev main_while0b_v115 : Ref sig .tc := ⟨.hbm, 185, rfl⟩
abbrev main_while0b_call15_v0 : Ref sig .tc := ⟨.hbm, 186, rfl⟩
abbrev main_while0b_call15_c : Ref sig .tc := ⟨.hbm, 187, rfl⟩
abbrev main_while0b_v116 : Ref sig .tc := ⟨.hbm, 188, rfl⟩
abbrev main_while0b_c_31 : Ref sig .tc := ⟨.hbm, 189, rfl⟩
abbrev main_while0b_v117 : Ref sig .tc := ⟨.hbm, 190, rfl⟩
abbrev main_v38 : Ref sig .tc := ⟨.hbm, 191, rfl⟩
abbrev main_v39 : Ref sig .tc := ⟨.hbm, 192, rfl⟩
abbrev main_c_8 : Ref sig .tc := ⟨.hbm, 193, rfl⟩
abbrev main_v40 : Ref sig .tc := ⟨.hbm, 194, rfl⟩
abbrev main_v41 : Ref sig .tc := ⟨.hbm, 195, rfl⟩
abbrev main_v42 : Ref sig .tc := ⟨.hbm, 196, rfl⟩
abbrev main_v43 : Ref sig .tc := ⟨.hbm, 197, rfl⟩
abbrev main_c_9 : Ref sig .tc := ⟨.hbm, 198, rfl⟩
abbrev main_v44 : Ref sig .tc := ⟨.hbm, 199, rfl⟩
abbrev main_call16_v0 : Ref sig .tc := ⟨.hbm, 200, rfl⟩
abbrev main_call16_c : Ref sig .tc := ⟨.hbm, 201, rfl⟩
abbrev main_call16_v1 : Ref sig .tc := ⟨.hbm, 202, rfl⟩
abbrev main_call16_v2 : Ref sig .tc := ⟨.hbm, 203, rfl⟩
abbrev main_call16_v3 : Ref sig .tc := ⟨.hbm, 204, rfl⟩
abbrev main_call16_v4 : Ref sig .tc := ⟨.hbm, 205, rfl⟩
abbrev main_call16_c_0 : Ref sig .tc := ⟨.hbm, 206, rfl⟩
abbrev main_call16_v5 : Ref sig .tc := ⟨.hbm, 207, rfl⟩
abbrev main_v45 : Ref sig .tc := ⟨.hbm, 208, rfl⟩
abbrev main_v46 : Ref sig .tc := ⟨.hbm, 209, rfl⟩
abbrev main_v47 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_cst_10 : Ref sig .tc := ⟨.hbm, 216, rfl⟩
abbrev main_call17_v0 : Ref sig .tc := ⟨.hbm, 217, rfl⟩
abbrev main_call17_v1 : Ref sig .tc := ⟨.hbm, 218, rfl⟩
abbrev main_call17_v2 : Ref sig .tc := ⟨.hbm, 219, rfl⟩
abbrev main_call17_v3 : Ref sig .tc := ⟨.hbm, 220, rfl⟩
abbrev main_v53 : Ref sig .tc := ⟨.hbm, 221, rfl⟩
abbrev main_cst_11 : Ref sig .tc := ⟨.hbm, 222, rfl⟩
abbrev main_v54 : Ref sig .tc := ⟨.hbm, 223, rfl⟩
abbrev main_v55 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_v59 : Ref sig .tc := ⟨.hbm, 228, rfl⟩
abbrev main_v60 : Ref sig .tc := ⟨.hbm, 229, rfl⟩
abbrev main_v61 : Ref sig .tc := ⟨.hbm, 230, rfl⟩
abbrev main_v62 : Ref sig .tc := ⟨.hbm, 231, rfl⟩
abbrev main_v63 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩

abbrev nD : Nat := 1
abbrev τ : Topo := Topo.v7x

variable {F : FTy → Type} [FloatOps F]

abbrev main_while0_count : Scf.Loop 32 := ⟨0#32, 66#32, 1#32⟩
-- ==== Kernel2.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x2816, .f32⟩
  | .hbm, ⟨3, _⟩ => ⟨S4224x1024, .f32⟩
  | .hbm, ⟨4, _⟩ => ⟨S_, .f32⟩
  | .hbm, ⟨5, _⟩ => ⟨S2816x1024, .f32⟩
  | .hbm, ⟨6, _⟩ => ⟨S4224x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4224x2816 : Shape := ⟨2, ![4224, 2816]⟩
abbrev S4224x1024 : Shape := ⟨2, ![4224, 1024]⟩
abbrev S5632x1024 : Shape := ⟨2, ![5632, 1024]⟩
abbrev S1408x1408 : Shape := ⟨2, ![1408, 1408]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S4224x1024, .bf16⟩
  | .hbm, ⟨3, _⟩ => ⟨S5632x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond4 (i : grid0.Coords) : BitVec 1 :=
  let arg2 : BitVec 32 := BitVec.ofNat 32 (i 2).val
  let c2_i32_5 : BitVec 32 := 2#32
  let v13 : BitVec 1 := Scalar.cmpi .eq arg2 c2_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c2_i32 : BitVec 32 := 2#32
  let v1 : BitVec 1 := Scalar.cmpi .sge arg0 c2_i32
  let c2_i32_0 : BitVec 32 := 2#32
  let v2 : BitVec 32 := Scalar.select v1 c2_i32_0 arg2
  let c0_i32_1 : BitVec 32 := 0#32
  let v3 : BitVec 32 := Scalar.select v0 c0_i32_1 v2
  let c0_i32_2 : BitVec 32 := 0#32
  let v4 : BitVec 32 := Scalar.subi arg0 c0_i32_2
  let c0_i32_3 : BitVec 32 := 0#32
  let c1_i32 : BitVec 32 := 1#32
  let v5 : BitVec 32 := Scalar.maxsi c0_i32_3 v4
  let v6 : BitVec 32 := Scalar.minsi c1_i32 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c4_i32 : BitVec 32 := 4#32
  let v1 : BitVec 1 := Scalar.cmpi .sge arg0 c4_i32
  let c2_i32_0 : BitVec 32 := 2#32
  let v2 : BitVec 32 := Scalar.select v1 c2_i32_0 arg2
  let c0_i32 : BitVec 32 := 0#32
  let v3 : BitVec 32 := Scalar.select v0 c0_i32 v2
  let c2_i32_1 : BitVec 32 := 2#32
  let v4 : BitVec 32 := Scalar.subi arg0 c2_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4224x2816 : Shape := ⟨2, ![4224, 2816]⟩
abbrev S4224x1024 : Shape := ⟨2, ![4224, 1024]⟩
abbrev S4224x5632 : Shape := ⟨2, ![4224, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S4224x1024, .bf16⟩
  | .hbm, ⟨3, _⟩ => ⟨S4224x5632, .bf16⟩
  | .hbm, ⟨4, _⟩ => ⟨S4224x1024, .f32⟩
  | .hbm, ⟨5, _⟩ => ⟨S4224x5632, .f32⟩
  | .hbm, ⟨6, _⟩ => ⟨S_, .f32⟩
  | .hbm, ⟨7, _⟩ => ⟨S1024x5632, .f32⟩
  | .hbm, ⟨8, _⟩ => ⟨S4224x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | .hbm, ⟨12, _⟩ => ⟨S5632x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4224x1024 : Shape := ⟨2, ![4224, 1024]⟩
abbrev S4224x2048 : Shape := ⟨2, ![4224, 2048]⟩
abbrev S6144x1024 : Shape := ⟨2, ![6144, 1024]⟩
abbrev S1408x1024 : Shape := ⟨2, ![1408, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x2048, .bf16⟩
  | .hbm, ⟨3, _⟩ => ⟨S4224x2048, .bf16⟩
  | .hbm, ⟨4, _⟩ => ⟨S4224x1024, .bf16⟩
  | .hbm, ⟨5, _⟩ => ⟨S6144x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 1, 3], ![false, false, false]⟩

def k0_cond6 (i : grid0.Coords) : BitVec 1 :=
  let arg2 : BitVec 32 := BitVec.ofNat 32 (i 2).val
  let c2_i32_9 : BitVec 32 := 2#32
  let v23 : BitVec 1 := Scalar.cmpi .eq arg2 c2_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c1_i32 : BitVec 32 := 1#32
  let v1 : BitVec 1 := Scalar.cmpi .sge arg0 c1_i32
  let c2_i32 : BitVec 32 := 2#32
  let v2 : BitVec 32 := Scalar.select v1 c2_i32 arg2
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c2_i32 : BitVec 32 := 2#32
  let v1 : BitVec 1 := Scalar.cmpi .sge arg0 c2_i32
  let c2_i32_0 : BitVec 32 := 2#32
  let v2 : BitVec 32 := Scalar.select v1 c2_i32_0 arg2
  let c0_i32 : BitVec 32 := 0#32
  let v3 : BitVec 32 := Scalar.select v0 c0_i32 v2
  let c1_i32_1 : BitVec 32 := 1#32
  let v4 : BitVec 32 := Scalar.subi arg0 c1_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c4_i32 : BitVec 32 := 4#32
  let v1 : BitVec 1 := Scalar.cmpi .sge arg0 c4_i32
  let c2_i32_0 : BitVec 32 := 2#32
  let v2 : BitVec 32 := Scalar.select v1 c2_i32_0 arg2
  let c0_i32 : BitVec 32 := 0#32
  let v3 : BitVec 32 := Scalar.select v0 c0_i32 v2
  let c2_i32_1 : BitVec 32 := 2#32
  let v4 : BitVec 32 := Scalar.subi arg0 c2_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c6_i32 : BitVec 32 := 6#32
  let v1 : BitVec 1 := Scalar.cmpi .sge arg0 c6_i32
  let c2_i32 : BitVec 32 := 2#32
  let v2 : BitVec 32 := Scalar.select v1 c2_i32 arg2
  let c0_i32 : BitVec 32 := 0#32
  let v3 : BitVec 32 := Scalar.select v0 c0_i32 v2
  let c4_i32_0 : BitVec 32 := 4#32
  let v4 : BitVec 32 := Scalar.subi arg0 c4_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S4224x1024 : Shape := ⟨2, ![4224, 1024]⟩
abbrev S4224x2048 : Shape := ⟨2, ![4224, 2048]⟩
abbrev S4224x6144 : Shape := ⟨2, ![4224, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x2048, .bf16⟩
  | .hbm, ⟨3, _⟩ => ⟨S4224x2048, .bf16⟩
  | .hbm, ⟨4, _⟩ => ⟨S4224x1024, .bf16⟩
  | .hbm, ⟨5, _⟩ => ⟨S4224x6144, .bf16⟩
  | .hbm, ⟨6, _⟩ => ⟨S4224x1024, .f32⟩
  | .hbm, ⟨7, _⟩ => ⟨S4224x6144, .f32⟩
  | .hbm, ⟨8, _⟩ => ⟨S_, .f32⟩
  | .hbm, ⟨9, _⟩ => ⟨S1024x6144, .f32⟩
  | .hbm, ⟨10, _⟩ => ⟨S4224x6144, .f32⟩
  | .hbm, ⟨11, _⟩ => ⟨S6144x1024, .f32⟩
  | .hbm, ⟨12, _⟩ => ⟨S1024x6144, .f32⟩
  | .hbm, ⟨13, _⟩ => ⟨S1024x6144, .bf16⟩
  | .hbm, ⟨14, _⟩ => ⟨S6144x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel5.lean ====
abbrev S4224x1024 : Shape := ⟨2, ![4224, 1024]⟩
abbrev S5120x1024 : Shape := ⟨2, ![5120, 1024]⟩
abbrev S1408x1024 : Shape := ⟨2, ![1408, 1024]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .bf16⟩
  | .hbm, ⟨3, _⟩ => ⟨S4224x1024, .bf16⟩
  | .hbm, ⟨4, _⟩ => ⟨S4224x1024, .bf16⟩
  | .hbm, ⟨5, _⟩ => ⟨S4224x1024, .bf16⟩
  | .hbm, ⟨6, _⟩ => ⟨S5120x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![5, 1, 3], ![false, false, false]⟩

def k0_cond7 (i : grid0.Coords) : BitVec 1 :=
  let arg2 : BitVec 32 := BitVec.ofNat 32 (i 2).val
  let c2_i32_11 : BitVec 32 := 2#32
  let v28 : BitVec 1 := Scalar.cmpi .eq arg2 c2_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg0 c0_i32
  let c1_i32 : BitVec 32 := 1#32
  let v1 : BitVec 1 := Scalar.cmpi .sge arg0 c1_i32
  let c2_i32 : BitVec 32 := 2#32
  let v2 : BitVec 32 := Scalar.select v1 c2_i32 arg2
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg0 c1_i32
  let c2_i32 : BitVec 32 := 2#32
  let v1 : BitVec 1 := Scalar.cmpi .sge arg0 c2_i32
  let c2_i32_0 : BitVec 32 := 2#32
  let v2 : BitVec 32 := Scalar.select v1 c2_i32_0 arg2
  let c0_i32 : BitVec 32 := 0#32
  let v3 : BitVec 32 := Scalar.select v0 c0_i32 v2
  let c1_i32_1 : BitVec 32 := 1#32
  let v4 : BitVec 32 := Scalar.subi arg0 c1_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c3_i32 : BitVec 32 := 3#32
  let v1 : BitVec 1 := Scalar.cmpi .sge arg0 c3_i32
  let c2_i32_0 : BitVec 32 := 2#32
  let v2 : BitVec 32 := Scalar.select v1 c2_i32_0 arg2
  let c0_i32 : BitVec 32 := 0#32
  let v3 : BitVec 32 := Scalar.select v0 c0_i32 v2
  let c2_i32_1 : BitVec 32 := 2#32
  let v4 : BitVec 32 := Scalar.subi arg0 c2_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .slt arg0 c3_i32
  let c4_i32 : BitVec 32 := 4#32
  let v1 : BitVec 1 := Scalar.cmpi .sge arg0 c4_i32
  let c2_i32 : BitVec 32 := 2#32
  let v2 : BitVec 32 := Scalar.select v1 c2_i32 arg2
  let c0_i32 : BitVec 32 := 0#32
  let v3 : BitVec 32 := Scalar.select v0 c0_i32 v2
  let c3_i32_0 : BitVec 32 := 3#32
  let v4 : BitVec 32 := Scalar.subi arg0 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg0 c4_i32
  let c5_i32 : BitVec 32 := 5#32
  let v1 : BitVec 1 := Scalar.cmpi .sge arg0 c5_i32
  let c2_i32 : BitVec 32 := 2#32
  let v2 : BitVec 32 := Scalar.select v1 c2_i32 arg2
  let c0_i32 : BitVec 32 := 0#32
  let v3 : BitVec 32 := Scalar.select v0 c0_i32 v2
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference5Ideal.lean ====
abbrev S4224x1024 : Shape := ⟨2, ![4224, 1024]⟩
abbrev S4224x5120 : Shape := ⟨2, ![4224, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .bf16⟩
  | .hbm, ⟨3, _⟩ => ⟨S4224x1024, .bf16⟩
  | .hbm, ⟨4, _⟩ => ⟨S4224x1024, .bf16⟩
  | .hbm, ⟨5, _⟩ => ⟨S4224x1024, .bf16⟩
  | .hbm, ⟨6, _⟩ => ⟨S4224x5120, .bf16⟩
  | .hbm, ⟨7, _⟩ => ⟨S4224x1024, .f32⟩
  | .hbm, ⟨8, _⟩ => ⟨S4224x5120, .f32⟩
  | .hbm, ⟨9, _⟩ => ⟨S_, .f32⟩
  | .hbm, ⟨10, _⟩ => ⟨S1024x5120, .f32⟩
  | .hbm, ⟨11, _⟩ => ⟨S4224x5120, .f32⟩
  | .hbm, ⟨12, _⟩ => ⟨S5120x1024, .f32⟩
  | .hbm, ⟨13, _⟩ => ⟨S1024x5120, .f32⟩
  | .hbm, ⟨14, _⟩ => ⟨S1024x5120, .bf16⟩
  | .hbm, ⟨15, _⟩ => ⟨S5120x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel6.lean ====
abbrev S4224x2048 : Shape := ⟨2, ![4224, 2048]⟩
abbrev S4224x1024 : Shape := ⟨2, ![4224, 1024]⟩
abbrev S2048x1024 : Shape := ⟨2, ![2048, 1024]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x2048 : Shape := ⟨2, ![4224, 2048]⟩
abbrev S4224x1024 : Shape := ⟨2, ![4224, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S4224x2048, .f32⟩
  | .hbm, ⟨3, _⟩ => ⟨S4224x1024, .f32⟩
  | .hbm, ⟨4, _⟩ => ⟨S_, .f32⟩
  | .hbm, ⟨5, _⟩ => ⟨S2048x1024, .f32⟩
  | .hbm, ⟨6, _⟩ => ⟨S4224x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4224x128 : Shape := ⟨2, ![4224, 128]⟩
abbrev S4224x1024 : Shape := ⟨2, ![4224, 1024]⟩
abbrev S128x1024 : Shape := ⟨2, ![128, 1024]⟩
abbrev S1408x128 : Shape := ⟨2, ![1408, 128]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x128, .bf16⟩
  | .hbm, ⟨1, _⟩ => ⟨S4224x1024, .bf16⟩
  | .hbm, ⟨2, _⟩ => ⟨S128x1024, .bf16⟩
  | .local _ .vmem, ⟨0, _⟩ => ⟨S1408x128, .bf16⟩
  | .local _ .vmem, ⟨1, _⟩ => ⟨S1408x128, .bf16⟩
  | .local _ .vmem, ⟨2, _⟩ => ⟨S1408x1024, .bf16⟩
  | .local _ .vmem, ⟨3, _⟩ => ⟨S1408x1024, .bf16⟩
  | .local _ .vmem, ⟨4, _⟩ => ⟨S128x1024, .bf16⟩
  | .local _ .vmem, ⟨5, _⟩ => ⟨S128x1024, .f32⟩
  | _, _ => ⟨S4224x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S4224x128 : Shape := ⟨2, ![4224, 128]⟩
abbrev S4224x1024 : Shape := ⟨2, ![4224, 1024]⟩
abbrev S_ : Shape := ⟨0, ![]⟩
abbrev S1024x128 : Shape := ⟨2, ![1024, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x128, .bf16⟩
  | .hbm, ⟨1, _⟩ => ⟨S4224x1024, .bf16⟩
  | .hbm, ⟨2, _⟩ => ⟨S4224x1024, .f32⟩
  | .hbm, ⟨3, _⟩ => ⟨S4224x128, .f32⟩
  | .hbm, ⟨4, _⟩ => ⟨S_, .f32⟩
  | .hbm, ⟨5, _⟩ => ⟨S1024x128, .f32⟩
  | .hbm, ⟨6, _⟩ => ⟨S4224x128, .f32⟩
  | .hbm, ⟨7, _⟩ => ⟨S128x1024, .f32⟩
  | .hbm, ⟨8, _⟩ => ⟨S1024x128, .f32⟩
  | .hbm, ⟨9, _⟩ => ⟨S1024x128, .bf16⟩
  | .hbm, ⟨10, _⟩ => ⟨S128x1024, .bf16⟩
  | _, _ => ⟨S4224x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4224x1024 : Shape := ⟨2, ![4224, 1024]⟩
abbrev S2816x1024 : Shape := ⟨2, ![2816, 1024]⟩
abbrev S4224x2816 : Shape := ⟨2, ![4224, 2816]⟩
abbrev S528x1024 : Shape := ⟨2, ![528, 1024]⟩
abbrev S1408x1024 : Shape := ⟨2, ![1408, 1024]⟩
abbrev S528x1408 : Shape := ⟨2, ![528, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .hbm, ⟨3, _⟩ => ⟨S4224x2816, .f32⟩
  | .hbm, ⟨4, _⟩ => ⟨S4224x2816, .bf16⟩
  | .hbm, ⟨5, _⟩ => ⟨S4224x2816, .bf16⟩
  | .local _ .vmem, ⟨0, _⟩ => ⟨S528x1024, .bf16⟩
  | .local _ .vmem, ⟨1, _⟩ => ⟨S528x1024, .bf16⟩
  | .local _ .vmem, ⟨2, _⟩ => ⟨S1408x1024, .bf16⟩
  | .local _ .vmem, ⟨3, _⟩ => ⟨S1408x1024, .bf16⟩
  | .local _ .vmem, ⟨4, _⟩ => ⟨S528x1408, .f32⟩
  | .local _ .vmem, ⟨5, _⟩ => ⟨S528x1408, .f32⟩
  | .local _ .vmem, ⟨6, _⟩ => ⟨S528x1408, .f32⟩
  | .local _ .vmem, ⟨7, _⟩ => ⟨S528x1408, .f32⟩
  | .local _ .vmem, ⟨8, _⟩ => ⟨S528x1408, .bf16⟩
  | .local _ .vmem, ⟨9, _⟩ => ⟨S528x1408, .bf16⟩
  | .local _ .vmem, ⟨10, _⟩ => ⟨S528x1408, .bf16⟩
  | .local _ .vmem, ⟨11, _⟩ => ⟨S528x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S528x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S4224x2816, .f32⟩
  | .hbm, ⟨6, _⟩ => ⟨S_, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S2816x1024, .f32⟩
  | .hbm, ⟨19, _⟩ => ⟨S4224x1024, .f32⟩
  | .hbm, ⟨20, _⟩ => ⟨S4224x1024, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .bf16⟩
  | .hbm, ⟨29, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel10.lean ====
abbrev S4224x1024 : Shape := ⟨2, ![4224, 1024]⟩
abbrev S2048x1024 : Shape := ⟨2, ![2048, 1024]⟩
abbrev S4224x2048 : Shape := ⟨2, ![4224, 2048]⟩
abbrev S1056x1024 : Shape := ⟨2, ![1056, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S4224x2048, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1056x1024, .f32⟩
  | .local _ .vmem, ⟨5, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4224x1024 : Shape := ⟨2, ![4224, 1024]⟩
abbrev S2048x1024 : Shape := ⟨2, ![2048, 1024]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2048x1024, .bf16⟩
  | .hbm, ⟨2, _⟩ => ⟨S_, .f32⟩
  | .hbm, ⟨3, _⟩ => ⟨S4224x2048, .f32⟩
  | .hbm, ⟨4, _⟩ => ⟨S2048x1024, .f32⟩
  | .hbm, ⟨5, _⟩ => ⟨S4224x1024, .f32⟩
  | .hbm, ⟨6, _⟩ => ⟨S4224x1024, .f32⟩
  | .hbm, ⟨7, _⟩ => ⟨S4224x2048, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .bf16⟩
  | .local _ .vmem, ⟨4, _⟩ => ⟨S1056x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4224x1024 : Shape := ⟨2, ![4224, 1024]⟩
abbrev S1024x1024 : Shape := ⟨2, ![1024, 1024]⟩
abbrev S4224x11264 : Shape := ⟨2, ![4224, 11264]⟩
abbrev S1056x1024 : Shape := ⟨2, ![1056, 1024]⟩
abbrev S512x1024 : Shape := ⟨2, ![512, 1024]⟩
abbrev S1056x512 : Shape := ⟨2, ![1056, 512]⟩

abbrev nBuf : Space → Nat
  | .hbm => 9
  | .vmem => 20
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x11264, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S4224x1024, .bf16⟩
  | .hbm, ⟨7, _⟩ => ⟨S4224x1024, .bf16⟩
  | .hbm, ⟨8, _⟩ => ⟨S4224x1024, .bf16⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S512x1024, .bf16⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | .local _ .vmem, ⟨12, _⟩ => ⟨S1056x512, .bf16⟩
  | .local _ .vmem, ⟨13, _⟩ => ⟨S1056x512, .bf16⟩
  | .local _ .vmem, ⟨14, _⟩ => ⟨S1056x512, .bf16⟩
  | .local _ .vmem, ⟨15, _⟩ => ⟨S1056x512, .bf16⟩
  | .local _ .vmem, ⟨16, _⟩ => ⟨S1056x512, .bf16⟩
  | .local _ .vmem, ⟨17, _⟩ => ⟨S1056x512, .bf16⟩
  | .local _ .vmem, ⟨18, _⟩ => ⟨S1056x512, .bf16⟩
  | .local _ .vmem, ⟨19, _⟩ => ⟨S1056x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1056x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1056x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference12Ideal.lean ====
abbrev S4224x1024 : Shape := ⟨2, ![4224, 1024]⟩
abbrev S1024x1024 : Shape := ⟨2, ![1024, 1024]⟩
abbrev S4224x11264 : Shape := ⟨2, ![4224, 11264]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x11264, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S_, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S1024x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .bf16⟩
  | .hbm, ⟨45, _⟩ => ⟨S4224x1024, .bf16⟩
  | .hbm, ⟨46, _⟩ => ⟨S4224x1024, .bf16⟩
  | .hbm, ⟨47, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel13.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S1024x1024, .bf16⟩
  | .hbm, ⟨3, _⟩ => ⟨S4224x1024, .f32⟩
  | .local _ .vmem, ⟨0, _⟩ => ⟨S1056x1024, .f32⟩
  | .local _ .vmem, ⟨1, _⟩ => ⟨S1056x1024, .f32⟩
  | .local _ .vmem, ⟨2, _⟩ => ⟨S1056x1024, .bf16⟩
  | .local _ .vmem, ⟨3, _⟩ => ⟨S1056x1024, .bf16⟩
  | .local _ .vmem, ⟨4, _⟩ => ⟨S1024x1024, .bf16⟩
  | .local _ .vmem, ⟨5, _⟩ => ⟨S1056x1024, .f32⟩
  | .local _ .vmem, ⟨6, _⟩ => ⟨S1056x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S1024x1024, .bf16⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4224x2048 : Shape := ⟨2, ![4224, 2048]⟩
abbrev S4224x1024 : Shape := ⟨2, ![4224, 1024]⟩
abbrev S2048x1024 : Shape := ⟨2, ![2048, 1024]⟩
abbrev S1024x1024 : Shape := ⟨2, ![1024, 1024]⟩
abbrev S4224x11264 : Shape := ⟨2, ![4224, 11264]⟩
abbrev S1056x2048 : Shape := ⟨2, ![1056, 2048]⟩
abbrev S1056x1024 : Shape := ⟨2, ![1056, 1024]⟩
abbrev S2048x512 : Shape := ⟨2, ![2048, 512]⟩
abbrev S1024x512 : Shape := ⟨2, ![1024, 512]⟩
abbrev S1056x512 : Shape := ⟨2, ![1056, 512]⟩

abbrev nBuf : Space → Nat
  | .hbm => 8
  | .vmem => 18
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .hbm, ⟨3, _⟩ => ⟨S1024x1024, .bf16⟩
  | .hbm, ⟨4, _⟩ => ⟨S4224x11264, .f32⟩
  | .hbm, ⟨5, _⟩ => ⟨S4224x1024, .bf16⟩
  | .hbm, ⟨6, _⟩ => ⟨S4224x1024, .f32⟩
  | .hbm, ⟨7, _⟩ => ⟨S4224x1024, .f32⟩
  | .local _ .vmem, ⟨0, _⟩ => ⟨S1056x2048, .bf16⟩
  | .local _ .vmem, ⟨1, _⟩ => ⟨S1056x2048, .bf16⟩
  | .local _ .vmem, ⟨2, _⟩ => ⟨S1056x1024, .bf16⟩
  | .local _ .vmem, ⟨3, _⟩ => ⟨S1056x1024, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1056x512, .f32⟩
  | .local _ .vmem, ⟨9, _⟩ => ⟨S1056x512, .f32⟩
  | .local _ .vmem, ⟨10, _⟩ => ⟨S1056x512, .f32⟩
  | .local _ .vmem, ⟨11, _⟩ => ⟨S1056x512, .f32⟩
  | .local _ .vmem, ⟨12, _⟩ => ⟨S1056x512, .bf16⟩
  | .local _ .vmem, ⟨13, _⟩ => ⟨S1056x512, .bf16⟩
  | .local _ .vmem, ⟨14, _⟩ => ⟨S1056x512, .f32⟩
  | .local _ .vmem, ⟨15, _⟩ => ⟨S1056x512, .f32⟩
  | .local _ .vmem, ⟨16, _⟩ => ⟨S1056x512, .f32⟩
  | .local _ .vmem, ⟨17, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1056x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference14Ideal.lean ====
abbrev S4224x2048 : Shape := ⟨2, ![4224, 2048]⟩
abbrev S4224x1024 : Shape := ⟨2, ![4224, 1024]⟩
abbrev S2048x1024 : Shape := ⟨2, ![2048, 1024]⟩
abbrev S1024x1024 : Shape := ⟨2, ![1024, 1024]⟩
abbrev S4224x11264 : Shape := ⟨2, ![4224, 11264]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S2048x1024, .bf16⟩
  | .hbm, ⟨3, _⟩ => ⟨S1024x1024, .bf16⟩
  | .hbm, ⟨4, _⟩ => ⟨S4224x11264, .f32⟩
  | .hbm, ⟨5, _⟩ => ⟨S4224x1024, .f32⟩
  | .hbm, ⟨6, _⟩ => ⟨S4224x1024, .f32⟩
  | .hbm, ⟨7, _⟩ => ⟨S4224x2048, .f32⟩
  | .hbm, ⟨8, _⟩ => ⟨S2048x1024, .f32⟩
  | .hbm, ⟨9, _⟩ => ⟨S4224x1024, .f32⟩
  | .hbm, ⟨10, _⟩ => ⟨S4224x1024, .f32⟩
  | .hbm, ⟨11, _⟩ => ⟨S1024x1024, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S_, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel16.lean ====
abbrev S4224x1024 : Shape := ⟨2, ![4224, 1024]⟩
abbrev S1x1024 : Shape := ⟨2, ![1, 1024]⟩
abbrev S11264x1024 : Shape := ⟨2, ![11264, 1024]⟩
abbrev S4224x11264 : Shape := ⟨2, ![4224, 11264]⟩
abbrev S1056x1024 : Shape := ⟨2, ![1056, 1024]⟩
abbrev S1024x1024 : Shape := ⟨2, ![1024, 1024]⟩
abbrev S1056 : Shape := ⟨1, ![1056]⟩
abbrev S1056x1 : Shape := ⟨2, ![1056, 1]⟩

abbrev nBuf : Space → Nat
  | .hbm => 5
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S11264x1024, .bf16⟩
  | .hbm, ⟨3, _⟩ => ⟨S4224x11264, .f32⟩
  | .hbm, ⟨4, _⟩ => ⟨S4224x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1056x1024, .f32⟩
  | .local _ .vmem, ⟨6, _⟩ => ⟨S1056x1024, .f32⟩
  | .local _ .vmem, ⟨7, _⟩ => ⟨S1056x1024, .bf16⟩
  | .local _ .vmem, ⟨8, _⟩ => ⟨S1056x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1056x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1056x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S4224x1024 : Shape := ⟨2, ![4224, 1024]⟩
abbrev S1x1024 : Shape := ⟨2, ![1, 1024]⟩
abbrev S11264x1024 : Shape := ⟨2, ![11264, 1024]⟩
abbrev S_ : Shape := ⟨0, ![]⟩
abbrev S4224 : Shape := ⟨1, ![4224]⟩
abbrev S4224x1 : Shape := ⟨2, ![4224, 1]⟩
abbrev S1024x11264 : Shape := ⟨2, ![1024, 11264]⟩
abbrev S4224x11264 : Shape := ⟨2, ![4224, 11264]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S11264x1024, .bf16⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S4224x1024, .f32⟩
  | .hbm, ⟨20, _⟩ => ⟨S11264x1024, .f32⟩
  | .hbm, ⟨21, _⟩ => ⟨S1024x11264, .f32⟩
  | .hbm, ⟨22, _⟩ => ⟨S4224x11264, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel17.lean ====
abbrev S4224x1024 : Shape := ⟨2, ![4224, 1024]⟩
abbrev S4224x2816 : Shape := ⟨2, ![4224, 2816]⟩
abbrev S2816x1024 : Shape := ⟨2, ![2816, 1024]⟩
abbrev S1x1024 : Shape := ⟨2, ![1, 1024]⟩
abbrev S528x1024 : Shape := ⟨2, ![528, 1024]⟩
abbrev S528x2816 : Shape := ⟨2, ![528, 2816]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S4224x2816, .bf16⟩
  | .hbm, ⟨2, _⟩ => ⟨S2816x1024, .bf16⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S1x1024, .f32⟩
  | .local _ .vmem, ⟨0, _⟩ => ⟨S528x1024, .f32⟩
  | .local _ .vmem, ⟨1, _⟩ => ⟨S528x1024, .f32⟩
  | .local _ .vmem, ⟨2, _⟩ => ⟨S528x2816, .bf16⟩
  | .local _ .vmem, ⟨3, _⟩ => ⟨S528x2816, .bf16⟩
  | .local _ .vmem, ⟨4, _⟩ => ⟨S2816x1024, .bf16⟩
  | .local _ .vmem, ⟨5, _⟩ => ⟨S528x1024, .f32⟩
  | .local _ .vmem, ⟨6, _⟩ => ⟨S528x1024, .f32⟩
  | .local _ .vmem, ⟨7, _⟩ => ⟨S528x1024, .f32⟩
  | .local _ .vmem, ⟨8, _⟩ => ⟨S528x1024, .f32⟩
  | .local _ .vmem, ⟨9, _⟩ => ⟨S528x1024, .bf16⟩
  | .local _ .vmem, ⟨10, _⟩ => ⟨S528x1024, .bf16⟩
  | .local _ .vmem, ⟨11, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4224x1024 : Shape := ⟨2, ![4224, 1024]⟩
abbrev S4224x2816 : Shape := ⟨2, ![4224, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x2816, .bf16⟩
  | .hbm, ⟨2, _⟩ => ⟨S2816x1024, .bf16⟩
  | .hbm, ⟨3, _⟩ => ⟨S4224x1024, .f32⟩
  | .hbm, ⟨4, _⟩ => ⟨S4224x2816, .f32⟩
  | .hbm, ⟨5, _⟩ => ⟨S2816x1024, .f32⟩
  | .hbm, ⟨6, _⟩ => ⟨S4224x1024, .f32⟩
  | .hbm, ⟨7, _⟩ => ⟨S4224x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4224x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4224x1024, .bf16⟩
  | .hbm, ⟨40, _⟩ => ⟨S_, .f32⟩
  | .hbm, ⟨41, _⟩ => ⟨S1024, .f32⟩
  | .hbm, ⟨42, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel18.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S528x1408 : Shape := ⟨2, ![528, 1408]⟩
abbrev S1408x1024 : Shape := ⟨2, ![1408, 1024]⟩
abbrev S528x1024 : Shape := ⟨2, ![528, 1024]⟩
abbrev S528 : Shape := ⟨1, ![528]⟩
abbrev S528x1 : Shape := ⟨2, ![528, 1]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S2816x1024, .bf16⟩
  | .hbm, ⟨3, _⟩ => ⟨S2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S1x1024, .f32⟩
  | .local _ .vmem, ⟨0, _⟩ => ⟨S528x1408, .bf16⟩
  | .local _ .vmem, ⟨1, _⟩ => ⟨S528x1408, .bf16⟩
  | .local _ .vmem, ⟨2, _⟩ => ⟨S1408x1024, .bf16⟩
  | .local _ .vmem, ⟨3, _⟩ => ⟨S1408x1024, .bf16⟩
  | .local _ .vmem, ⟨4, _⟩ => ⟨S528x1408, .bf16⟩
  | .local _ .vmem, ⟨5, _⟩ => ⟨S528x1408, .bf16⟩
  | .local _ .vmem, ⟨6, _⟩ => ⟨S1408x1024, .bf16⟩
  | .local _ .vmem, ⟨7, _⟩ => ⟨S1408x1024, .bf16⟩
  | .local _ .vmem, ⟨8, _⟩ => ⟨S528x1024, .f32⟩
  | .local _ .vmem, ⟨9, _⟩ => ⟨S528x1024, .f32⟩
  | .local _ .vmem, ⟨10, _⟩ => ⟨S1x1024, .f32⟩
  | .local _ .vmem, ⟨11, _⟩ => ⟨S528x1024, .f32⟩
  | .local _ .vmem, ⟨12, _⟩ => ⟨S528x1024, .f32⟩
  | .local _ .vmem, ⟨13, _⟩ => ⟨S528x1024, .f32⟩
  | .local _ .vmem, ⟨14, _⟩ => ⟨S528x1024, .f32⟩
  | .local _ .vmem, ⟨15, _⟩ => ⟨S528x1024, .bf16⟩
  | .local _ .vmem, ⟨16, _⟩ => ⟨S528x1024, .bf16⟩
  | .local _ .vmem, ⟨17, _⟩ => ⟨S1x1024, .f32⟩
  | .local _ .vmem, ⟨18, _⟩ => ⟨S528x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_16 : BitVec 32 := 0#32
  let v22 : BitVec 1 := Scalar.cmpi .ne v21 c0_i32_16
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S528x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference18Ideal.lean ====
abbrev S4224x2816 : Shape := ⟨2, ![4224, 2816]⟩
abbrev S2816x1024 : Shape := ⟨2, ![2816, 1024]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024x2816 : Shape := ⟨2, ![1024, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S2816x1024, .bf16⟩
  | .hbm, ⟨3, _⟩ => ⟨S2816x1024, .bf16⟩
  | .hbm, ⟨4, _⟩ => ⟨S4224x1024, .f32⟩
  | .hbm, ⟨5, _⟩ => ⟨S1x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S_, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S2816x1024, .f32⟩
  | .hbm, ⟨27, _⟩ => ⟨S1024x2816, .f32⟩
  | .hbm, ⟨28, _⟩ => ⟨S4224x2816, .f32⟩
  | .hbm, ⟨29, _⟩ => ⟨S2816x1024, .f32⟩
  | .hbm, ⟨30, _⟩ => ⟨S1024x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S_, .f32⟩
  | .hbm, ⟨45, _⟩ => ⟨S4224, .f32⟩
  | .hbm, ⟨46, _⟩ => ⟨S4224x1, .f32⟩
  | .hbm, ⟨47, _⟩ => ⟨S4224x1024, .f32⟩
  | .hbm, ⟨48, _⟩ => ⟨S4224x1024, .f32⟩
  | .hbm, ⟨49, _⟩ => ⟨S4224x1, .f32⟩
  | .hbm, ⟨50, _⟩ => ⟨S_, .f32⟩
  | .hbm, ⟨51, _⟩ => ⟨S4224x1, .f32⟩
  | .hbm, ⟨52, _⟩ => ⟨S4224x1, .f32⟩
  | .hbm, ⟨53, _⟩ => ⟨S_, .f32⟩
  | .hbm, ⟨54, _⟩ => ⟨S4224, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .f32⟩
  | .hbm, ⟨60, _⟩ => ⟨S4224x1024, .f32⟩
  | .hbm, ⟨61, _⟩ => ⟨S4224x1024, .bf16⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel19.lean ====
abbrev S4224x1024 : Shape := ⟨2, ![4224, 1024]⟩
abbrev S4224x2048 : Shape := ⟨2, ![4224, 2048]⟩
abbrev S11264x1024 : Shape := ⟨2, ![11264, 1024]⟩
abbrev S4224x128 : Shape := ⟨2, ![4224, 128]⟩
abbrev S128x1024 : Shape := ⟨2, ![128, 1024]⟩
abbrev S1x1024 : Shape := ⟨2, ![1, 1024]⟩
abbrev S528x1024 : Shape := ⟨2, ![528, 1024]⟩
abbrev S1024x1024 : Shape := ⟨2, ![1024, 1024]⟩
abbrev S528x128 : Shape := ⟨2, ![528, 128]⟩
abbrev S528 : Shape := ⟨1, ![528]⟩
abbrev S528x1 : Shape := ⟨2, ![528, 1]⟩
abbrev S1024 : Shape := ⟨1, ![1024]⟩

abbrev nBuf : Space → Nat
  | .hbm => 18
  | .vmem => 34
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x2048, .bf16⟩
  | .hbm, ⟨3, _⟩ => ⟨S4224x2048, .bf16⟩
  | .hbm, ⟨4, _⟩ => ⟨S4224x1024, .bf16⟩
  | .hbm, ⟨5, _⟩ => ⟨S4224x1024, .bf16⟩
  | .hbm, ⟨6, _⟩ => ⟨S4224x1024, .bf16⟩
  | .hbm, ⟨7, _⟩ => ⟨S4224x1024, .bf16⟩
  | .hbm, ⟨8, _⟩ => ⟨S4224x1024, .bf16⟩
  | .hbm, ⟨9, _⟩ => ⟨S11264x1024, .bf16⟩
  | .hbm, ⟨10, _⟩ => ⟨S4224x128, .bf16⟩
  | .hbm, ⟨11, _⟩ => ⟨S128x1024, .bf16⟩
  | .hbm, ⟨12, _⟩ => ⟨S4224x1024, .f32⟩
  | .hbm, ⟨13, _⟩ => ⟨S1x1024, .f32⟩
  | .hbm, ⟨14, _⟩ => ⟨S4224x1024, .f32⟩
  | .hbm, ⟨15, _⟩ => ⟨S4224x1024, .f32⟩
  | .hbm, ⟨16, _⟩ => ⟨S4224x1024, .bf16⟩
  | .hbm, ⟨17, _⟩ => ⟨S1x1024, .f32⟩
  | .local _ .vmem, ⟨0, _⟩ => ⟨S528x1024, .bf16⟩
  | .local _ .vmem, ⟨1, _⟩ => ⟨S528x1024, .bf16⟩
  | .local _ .vmem, ⟨2, _⟩ => ⟨S528x1024, .bf16⟩
  | .local _ .vmem, ⟨3, _⟩ => ⟨S528x1024, .bf16⟩
  | .local _ .vmem, ⟨4, _⟩ => ⟨S528x1024, .bf16⟩
  | .local _ .vmem, ⟨5, _⟩ => ⟨S528x1024, .bf16⟩
  | .local _ .vmem, ⟨6, _⟩ => ⟨S528x1024, .bf16⟩
  | .local _ .vmem, ⟨7, _⟩ => ⟨S528x1024, .bf16⟩
  | .local _ .vmem, ⟨8, _⟩ => ⟨S528x1024, .bf16⟩
  | .local _ .vmem, ⟨9, _⟩ => ⟨S528x1024, .bf16⟩
  | .local _ .vmem, ⟨10, _⟩ => ⟨S528x1024, .bf16⟩
  | .local _ .vmem, ⟨11, _⟩ => ⟨S528x1024, .bf16⟩
  | .local _ .vmem, ⟨12, _⟩ => ⟨S528x1024, .bf16⟩
  | .local _ .vmem, ⟨13, _⟩ => ⟨S528x1024, .bf16⟩
  | .local _ .vmem, ⟨14, _⟩ => ⟨S528x1024, .bf16⟩
  | .local _ .vmem, ⟨15, _⟩ => ⟨S528x1024, .bf16⟩
  | .local _ .vmem, ⟨16, _⟩ => ⟨S528x1024, .bf16⟩
  | .local _ .vmem, ⟨17, _⟩ => ⟨S528x1024, .bf16⟩
  | .local _ .vmem, ⟨18, _⟩ => ⟨S1024x1024, .bf16⟩
  | .local _ .vmem, ⟨19, _⟩ => ⟨S1024x1024, .bf16⟩
  | .local _ .vmem, ⟨20, _⟩ => ⟨S528x128, .bf16⟩
  | .local _ .vmem, ⟨21, _⟩ => ⟨S528x128, .bf16⟩
  | .local _ .vmem, ⟨22, _⟩ => ⟨S128x1024, .bf16⟩
  | .local _ .vmem, ⟨23, _⟩ => ⟨S528x1024, .f32⟩
  | .local _ .vmem, ⟨24, _⟩ => ⟨S528x1024, .f32⟩
  | .local _ .vmem, ⟨25, _⟩ => ⟨S1x1024, .f32⟩
  | .local _ .vmem, ⟨26, _⟩ => ⟨S528x1024, .f32⟩
  | .local _ .vmem, ⟨27, _⟩ => ⟨S528x1024, .f32⟩
  | .local _ .vmem, ⟨28, _⟩ => ⟨S528x1024, .f32⟩
  | .local _ .vmem, ⟨29, _⟩ => ⟨S528x1024, .f32⟩
  | .local _ .vmem, ⟨30, _⟩ => ⟨S528x1024, .bf16⟩
  | .local _ .vmem, ⟨31, _⟩ => ⟨S528x1024, .bf16⟩
  | .local _ .vmem, ⟨32, _⟩ => ⟨S1x1024, .f32⟩
  | .local _ .vmem, ⟨33, _⟩ => ⟨S528x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨2, ![8, 11], ![false, false]⟩

def k0_cond12 (i : grid0.Coords) : BitVec 1 :=
  let arg1 : BitVec 32 := BitVec.ofNat 32 (i 1).val
  let c10_i32_22 : BitVec 32 := 10#32
  let v53 : BitVec 1 := Scalar.cmpi .eq arg1 c10_i32_22
  let v54 : BitVec 32 := Scalar.extui v53
  let c0_i32_23 : BitVec 32 := 0#32
  let v55 : BitVec 1 := Scalar.cmpi .ne v54 c0_i32_23
  v55

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S528x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S528x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S528x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S528x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S528x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S528x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S528x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S528x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S528x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== Reference19Ideal.lean ====
abbrev S4224x1024 : Shape := ⟨2, ![4224, 1024]⟩
abbrev S4224x2048 : Shape := ⟨2, ![4224, 2048]⟩
abbrev S11264x1024 : Shape := ⟨2, ![11264, 1024]⟩
abbrev S4224x128 : Shape := ⟨2, ![4224, 128]⟩
abbrev S128x1024 : Shape := ⟨2, ![128, 1024]⟩
abbrev S1x1024 : Shape := ⟨2, ![1, 1024]⟩
abbrev S4224x11264 : Shape := ⟨2, ![4224, 11264]⟩
abbrev S_ : Shape := ⟨0, ![]⟩
abbrev S4224 : Shape := ⟨1, ![4224]⟩
abbrev S4224x1 : Shape := ⟨2, ![4224, 1]⟩
abbrev S1024x11264 : Shape := ⟨2, ![1024, 11264]⟩
abbrev S1024x128 : Shape := ⟨2, ![1024, 128]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x2048, .bf16⟩
  | .hbm, ⟨3, _⟩ => ⟨S4224x2048, .bf16⟩
  | .hbm, ⟨4, _⟩ => ⟨S4224x1024, .bf16⟩
  | .hbm, ⟨5, _⟩ => ⟨S4224x1024, .bf16⟩
  | .hbm, ⟨6, _⟩ => ⟨S4224x1024, .bf16⟩
  | .hbm, ⟨7, _⟩ => ⟨S4224x1024, .bf16⟩
  | .hbm, ⟨8, _⟩ => ⟨S4224x1024, .bf16⟩
  | .hbm, ⟨9, _⟩ => ⟨S11264x1024, .bf16⟩
  | .hbm, ⟨10, _⟩ => ⟨S4224x128, .bf16⟩
  | .hbm, ⟨11, _⟩ => ⟨S128x1024, .bf16⟩
  | .hbm, ⟨12, _⟩ => ⟨S4224x1024, .f32⟩
  | .hbm, ⟨13, _⟩ => ⟨S1x1024, .f32⟩
  | .hbm, ⟨14, _⟩ => ⟨S4224x1024, .f32⟩
  | .hbm, ⟨15, _⟩ => ⟨S4224x11264, .bf16⟩
  | .hbm, ⟨16, _⟩ => ⟨S4224x1024, .f32⟩
  | .hbm, ⟨17, _⟩ => ⟨S_, .f32⟩
  | .hbm, ⟨18, _⟩ => ⟨S4224, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S_, .f32⟩
  | .hbm, ⟨24, _⟩ => ⟨S4224x1, .f32⟩
  | .hbm, ⟨25, _⟩ => ⟨S4224x1, .f32⟩
  | .hbm, ⟨26, _⟩ => ⟨S4224x1, .f32⟩
  | .hbm, ⟨27, _⟩ => ⟨S4224x1, .f32⟩
  | .hbm, ⟨28, _⟩ => ⟨S_, .f32⟩
  | .hbm, ⟨29, _⟩ => ⟨S4224x1, .f32⟩
  | .hbm, ⟨30, _⟩ => ⟨S4224x1, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S11264x1024, .f32⟩
  | .hbm, ⟨36, _⟩ => ⟨S1024x11264, .f32⟩
  | .hbm, ⟨37, _⟩ => ⟨S4224x11264, .f32⟩
  | .hbm, ⟨38, _⟩ => ⟨S128x1024, .f32⟩
  | .hbm, ⟨39, _⟩ => ⟨S1024x128, .f32⟩
  | .hbm, ⟨40, _⟩ => ⟨S4224x128, .f32⟩
  | .hbm, ⟨41, _⟩ => ⟨S4224x11264, .f32⟩
  | .hbm, ⟨42, _⟩ => ⟨S4224x128, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S_, .f32⟩
  | .hbm, ⟨54, _⟩ => ⟨S4224, .f32⟩
  | .hbm, ⟨55, _⟩ => ⟨S4224x1, .f32⟩
  | .hbm, ⟨56, _⟩ => ⟨S4224x1024, .f32⟩
  | .hbm, ⟨57, _⟩ => ⟨S4224x1024, .f32⟩
  | .hbm, ⟨58, _⟩ => ⟨S4224x1, .f32⟩
  | .hbm, ⟨59, _⟩ => ⟨S_, .f32⟩
  | .hbm, ⟨60, _⟩ => ⟨S4224x1, .f32⟩
  | .hbm, ⟨61, _⟩ => ⟨S4224x1, .f32⟩
  | .hbm, ⟨62, _⟩ => ⟨S_, .f32⟩
  | .hbm, ⟨63, _⟩ => ⟨S4224, .f32⟩
  | .hbm, ⟨64, _⟩ => ⟨S4224x1024, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S4224x1024, .f32⟩
  | .hbm, ⟨70, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel20.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel20Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel21Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference21Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel22Ideal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference22Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel23Ideal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference23Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel24Ideal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel25Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference25Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference26Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Kernel27Ideal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference27Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel28Ideal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference28Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel29Ideal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel30Ideal.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference30Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel31.lean ====
abbrev S8x1410x1024 : Shape := ⟨3, ![8, 1410, 1024]⟩
abbrev S1410x1024 : Shape := ⟨2, ![1410, 1024]⟩
abbrev S8x1410x256 : Shape := ⟨3, ![8, 1410, 256]⟩
abbrev S1410x256 : Shape := ⟨2, ![1410, 256]⟩
abbrev S1x1410x256 : Shape := ⟨3, ![1, 1410, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1410x1024, .bf16⟩
  | .hbm, ⟨1, _⟩ => ⟨S1410x1024, .f32⟩
  | .hbm, ⟨2, _⟩ => ⟨S1410x1024, .f32⟩
  | .hbm, ⟨3, _⟩ => ⟨S1410x1024, .f32⟩
  | .hbm, ⟨4, _⟩ => ⟨S1410x1024, .f32⟩
  | .hbm, ⟨5, _⟩ => ⟨S1410x1024, .f32⟩
  | .hbm, ⟨6, _⟩ => ⟨S1410x1024, .f32⟩
  | .hbm, ⟨7, _⟩ => ⟨S1410x1024, .f32⟩
  | .local _ .vmem, ⟨0, _⟩ => ⟨S8x1410x256, .bf16⟩
  | .local _ .vmem, ⟨1, _⟩ => ⟨S8x1410x256, .bf16⟩
  | .local _ .vmem, ⟨2, _⟩ => ⟨S1410x256, .f32⟩
  | .local _ .vmem, ⟨3, _⟩ => ⟨S1410x256, .f32⟩
  | .local _ .vmem, ⟨4, _⟩ => ⟨S1410x256, .f32⟩
  | .local _ .vmem, ⟨5, _⟩ => ⟨S1410x256, .f32⟩
  | .local _ .vmem, ⟨6, _⟩ => ⟨S1410x256, .f32⟩
  | .local _ .vmem, ⟨7, _⟩ => ⟨S1410x256, .f32⟩
  | .local _ .vmem, ⟨8, _⟩ => ⟨S1410x256, .f32⟩
  | .local _ .vmem, ⟨9, _⟩ => ⟨S1410x256, .f32⟩
  | .local _ .vmem, ⟨10, _⟩ => ⟨S1410x256, .f32⟩
  | .local _ .vmem, ⟨11, _⟩ => ⟨S1410x256, .f32⟩
  | .local _ .vmem, ⟨12, _⟩ => ⟨S1410x256, .f32⟩
  | .local _ .vmem, ⟨13, _⟩ => ⟨S1410x256, .f32⟩
  | .local _ .vmem, ⟨14, _⟩ => ⟨S1410x256, .f32⟩
  | .local _ .vmem, ⟨15, _⟩ => ⟨S1410x256, .f32⟩
  | _, _ => ⟨S8x1410x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1410x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1410x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1410x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1410x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1410x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1410x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1410x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1410x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference31Ideal.lean ====
abbrev S8x1410x1024 : Shape := ⟨3, ![8, 1410, 1024]⟩
abbrev S1410x1024 : Shape := ⟨2, ![1410, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1410x1024, .bf16⟩
  | .hbm, ⟨1, _⟩ => ⟨S1410x1024, .f32⟩
  | .hbm, ⟨2, _⟩ => ⟨S1410x1024, .f32⟩
  | .hbm, ⟨3, _⟩ => ⟨S1410x1024, .f32⟩
  | .hbm, ⟨4, _⟩ => ⟨S8x1410x1024, .f32⟩
  | .hbm, ⟨5, _⟩ => ⟨S_, .f32⟩
  | .hbm, ⟨6, _⟩ => ⟨S1410x1024, .f32⟩
  | .hbm, ⟨7, _⟩ => ⟨S_, .f32⟩
  | .hbm, ⟨8, _⟩ => ⟨S1410x1024, .f32⟩
  | .hbm, ⟨9, _⟩ => ⟨S1410x1024, .f32⟩
  | .hbm, ⟨10, _⟩ => ⟨S_, .f32⟩
  | .hbm, ⟨11, _⟩ => ⟨S1410x1024, .f32⟩
  | .hbm, ⟨12, _⟩ => ⟨S1410x1024, .f32⟩
  | .hbm, ⟨13, _⟩ => ⟨S1410x1024, .f32⟩
  | .hbm, ⟨14, _⟩ => ⟨S_, .f32⟩
  | .hbm, ⟨15, _⟩ => ⟨S1410x1024, .f32⟩
  | .hbm, ⟨16, _⟩ => ⟨S1410x1024, .f32⟩
  | .hbm, ⟨17, _⟩ => ⟨S1410x1024, .f32⟩
  | .hbm, ⟨18, _⟩ => ⟨S_, .f32⟩
  | .hbm, ⟨19, _⟩ => ⟨S1410x1024, .f32⟩
  | .hbm, ⟨20, _⟩ => ⟨S1410x1024, .f32⟩
  | .hbm, ⟨21, _⟩ => ⟨S1410x1024, .f32⟩
  | .hbm, ⟨22, _⟩ => ⟨S_, .f32⟩
  | .hbm, ⟨23, _⟩ => ⟨S1410x1024, .f32⟩
  | .hbm, ⟨24, _⟩ => ⟨S1410x1024, .f32⟩
  | .hbm, ⟨25, _⟩ => ⟨S_, .f32⟩
  | .hbm, ⟨26, _⟩ => ⟨S1410x1024, .f32⟩
  | .hbm, ⟨27, _⟩ => ⟨S1410x1024, .f32⟩
  | .hbm, ⟨28, _⟩ => ⟨S1410x1024, .f32⟩
  | .hbm, ⟨29, _⟩ => ⟨S_, .f32⟩
  | .hbm, ⟨30, _⟩ => ⟨S1410x1024, .f32⟩
  | .hbm, ⟨31, _⟩ => ⟨S1410x1024, .f32⟩
  | .hbm, ⟨32, _⟩ => ⟨S1410x1024, .f32⟩
  | .hbm, ⟨33, _⟩ => ⟨S_, .f32⟩
  | .hbm, ⟨34, _⟩ => ⟨S1410x1024, .f32⟩
  | .hbm, ⟨35, _⟩ => ⟨S1410x1024, .f32⟩
  | .hbm, ⟨36, _⟩ => ⟨S1410x1024, .f32⟩
  | .hbm, ⟨37, _⟩ => ⟨S_, .f32⟩
  | .hbm, ⟨38, _⟩ => ⟨S1410x1024, .f32⟩
  | .hbm, ⟨39, _⟩ => ⟨S1410x1024, .f32⟩
  | _, _ => ⟨S8x1410x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S8x280x128 : Shape := ⟨3, ![8, 280, 128]⟩
abbrev S280x128 : Shape := ⟨2, ![280, 128]⟩
abbrev S1x280x128 : Shape := ⟨3, ![1, 280, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x280x128, .f32⟩
  | .hbm, ⟨1, _⟩ => ⟨S280x128, .f32⟩
  | .local _ .vmem, ⟨0, _⟩ => ⟨S8x280x128, .f32⟩
  | .local _ .vmem, ⟨1, _⟩ => ⟨S280x128, .f32⟩
  | _, _ => ⟨S8x280x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference32Ideal.lean ====
abbrev S8x280x128 : Shape := ⟨3, ![8, 280, 128]⟩
abbrev S_ : Shape := ⟨0, ![]⟩
abbrev S280x128 : Shape := ⟨2, ![280, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x280x128, .f32⟩
  | .hbm, ⟨1, _⟩ => ⟨S_, .f32⟩
  | .hbm, ⟨2, _⟩ => ⟨S280x128, .f32⟩
  | _, _ => ⟨S8x280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Names.lean ====
/-
  THE EXTENDED REALS under a short name, for all the modules.
-/
module

public import Idealize.ShloMosaic.PureOps.Ideal

@[expose] public section

namespace Cert

export Idealize.ShloMosaic (Ideal)

end Cert

end
-- ==== Proof.Spec.lean ====
/-
  THE GRADIENT OF THE CHUNKED SCAN, element by element, over the extended reals: what both programs compute.

  Per head the state runs over 66 chunks of 64 rows. Backwards, `grad` is the state's gradient after the last `j`
  chunks; a chunk's results are read off the gradient that reaches it from the chunks behind it.
-/
module

public import Idealize.ShloMosaic.Lib.Pointwise

@[expose] public section

noncomputable section

namespace Cert.Scan

open Idealize.ShloMosaic
open scoped BigOperators

/-- The eight arguments, read by coordinates. -/
structure Args where
  u : Fin 8 → Fin 4224 → Fin 256 → EReal
  w : Fin 8 → Fin 4224 → Fin 128 → EReal
  p : Fin 8 → Fin 4224 → Fin 128 → EReal
  qd : Fin 8 → Fin 4224 → Fin 128 → EReal
  kd : Fin 8 → Fin 4224 → Fin 128 → EReal
  gl : Fin 8 → Fin 66 → EReal
  st : Fin 8 → Fin 66 → Fin 128 → Fin 256 → EReal
  ct : Fin 8 → Fin 4224 → Fin 256 → EReal

/-- Row `c` of chunk `n`. -/
def row (n : Fin 66) (c : Fin 64) : Fin 4224 := ⟨n.val * 64 + c.val, by omega⟩

/-- Column `c` of chunk `n`'s own half of the 128 columns its block row has. -/
def col (n : Fin 66) (c : Fin 64) : Fin 128 := ⟨n.val % 2 * 64 + c.val, by omega⟩

/-- The chunk that the scan meets at its backward step `j`. -/
def chunk (j : ℕ) : Fin 66 := ⟨65 - j, by omega⟩

/-- A chunk of a row. -/
def rowChunk (r : Fin 4224) : Fin 66 := ⟨r.val / 64, by omega⟩
/-- A row's place in its chunk. -/
def rowPos (r : Fin 4224) : Fin 64 := ⟨r.val % 64, by omega⟩

variable (a : Args)

/-- The masked attention of chunk `n`. -/
def att (h : Fin 8) (n : Fin 66) (i j : Fin 64) : EReal := if j.val ≤ i.val then a.p h (row n i) (col n j) else 0

/-- The new values of chunk `n`. -/
def vn (h : Fin 8) (n : Fin 66) (c : Fin 64) (e : Fin 256) : EReal :=
  a.u h (row n c) e - ∑ d : Fin 128, a.w h (row n c) d * a.st h n d e

/-- The gradient of the new values, under the state gradient `X`. -/
def dv (X : Fin 128 → Fin 256 → EReal) (h : Fin 8) (n : Fin 66) (i : Fin 64) (e : Fin 256) : EReal :=
  (∑ d : Fin 128, X d e * a.kd h (row n i) d) + ∑ j : Fin 64, a.ct h (row n j) e * att a h n j i

/-- The state gradient before chunk `n`, from the one behind it. -/
def next (X : Fin 128 → Fin 256 → EReal) (h : Fin 8) (n : Fin 66) (d : Fin 128) (e : Fin 256) : EReal :=
  X d e * a.gl h n + (∑ c : Fin 64, a.ct h (row n c) e * a.qd h (row n c) d)
    + ∑ c : Fin 64, -dv a X h n c e * a.w h (row n c) d

/-- The state gradient after the last `j` chunks. -/
def grad (h : Fin 8) : ℕ → Fin 128 → Fin 256 → EReal
  | 0 => fun _ _ => 0
  | j + 1 => next a (grad h j) h (chunk j)

/-- The state gradient that reaches chunk `n`. -/
def into (h : Fin 8) (n : Fin 66) : Fin 128 → Fin 256 → EReal := grad a h (65 - n.val)

/-- The gradient of `u` at row `c` of chunk `n`. -/
def duAt (h : Fin 8) (n : Fin 66) (c : Fin 64) (e : Fin 256) : EReal := dv a (into a h n) h n c e
/-- The gradient of `w`. -/
def dwAt (h : Fin 8) (n : Fin 66) (c : Fin 64) (d : Fin 128) : EReal :=
  ∑ e : Fin 256, -duAt a h n c e * a.st h n d e
/-- The gradient of the attention, before the mask. -/
def daAt (h : Fin 8) (n : Fin 66) (i j : Fin 64) : EReal := ∑ e : Fin 256, a.ct h (row n i) e * vn a h n j e
/-- The gradient of `qd`. -/
def dqAt (h : Fin 8) (n : Fin 66) (c : Fin 64) (d : Fin 128) : EReal :=
  ∑ e : Fin 256, a.ct h (row n c) e * a.st h n d e
/-- The gradient of `kd`. -/
def dkAt (h : Fin 8) (n : Fin 66) (c : Fin 64) (d : Fin 128) : EReal :=
  ∑ e : Fin 256, into a h n d e * vn a h n c e
/-- The gradient of the chunk's decay. -/
def dgAt (h : Fin 8) (n : Fin 66) : EReal :=
  ∑ d : Fin 128, ∑ e : Fin 256, a.st h n d e * into a h n d e

/-- The gradient of `p`: the masked gradient in the chunk's own half of the columns, zero in the other half. -/
def dpAt (h : Fin 8) (r : Fin 4224) (k : Fin 128) : EReal :=
  if k.val / 64 = r.val / 64 % 2 ∧ k.val % 64 ≤ r.val % 64 then
    daAt a h (rowChunk r) (rowPos r) ⟨k.val % 64, by omega⟩ else 0
/-- The gradient of the decays, on each chunk's last row. -/
def dglAt (h : Fin 8) (r : Fin 4224) : EReal := if r.val % 64 = 63 then dgAt a h (rowChunk r) else 0

/-- The arguments as arrays of extended reals. -/
def Args.of (x0 : (⟨3, ![8, 4224, 256]⟩ : Shape).Idx → EReal) (x1 x2 x3 x4 : (⟨3, ![8, 4224, 128]⟩ : Shape).Idx → EReal)
    (x5 : (⟨2, ![8, 66]⟩ : Shape).Idx → EReal) (x6 : (⟨4, ![8, 66, 128, 256]⟩ : Shape).Idx → EReal)
    (x7 : (⟨3, ![8, 4224, 256]⟩ : Shape).Idx → EReal) : Args where
  u h r e := x0 (ix3 h r e)
  w h r d := x1 (ix3 h r d)
  p h r k := x2 (ix3 h r k)
  qd h r d := x3 (ix3 h r d)
  kd h r d := x4 (ix3 h r d)
  gl h n := x5 (ix2 h n)
  st h n d e := x6 (ix4 h n d e)
  ct h r e := x7 (ix3 h r e)

/-- The six results as arrays. -/
def duOut : (⟨3, ![8, 4224, 256]⟩ : Shape).Idx → EReal := fun i => duAt a (i 0) (rowChunk (i 1)) (rowPos (i 1)) (i 2)
def dwOut : (⟨3, ![8, 4224, 128]⟩ : Shape).Idx → EReal := fun i => dwAt a (i 0) (rowChunk (i 1)) (rowPos (i 1)) (i 2)
def dpOut : (⟨3, ![8, 4224, 128]⟩ : Shape).Idx → EReal := fun i => dpAt a (i 0) (i 1) (i 2)
def dqOut : (⟨3, ![8, 4224, 128]⟩ : Shape).Idx → EReal := fun i => dqAt a (i 0) (rowChunk (i 1)) (rowPos (i 1)) (i 2)
def dkOut : (⟨3, ![8, 4224, 128]⟩ : Shape).Idx → EReal := fun i => dkAt a (i 0) (rowChunk (i 1)) (rowPos (i 1)) (i 2)
def dgOut : (⟨3, ![8, 4224, 1]⟩ : Shape).Idx → EReal := fun i => dglAt a (i 0) (i 1)

/-- The state gradient that reaches the chunk of step `j` is the one after `j` steps. -/
theorem into_chunk (h : Fin 8) (j : ℕ) (hj : j < 66) : into a h (chunk j) = grad a h j := by
  unfold into chunk
  congr 1
  show 65 - (65 - j) = j
  omega

end Cert.Scan

end
-- ==== Proof.Chunk.lean ====
/-
  ONE CHUNK OF THE KERNEL'S BODY, value by value: a payload stored for a head's chunk, read at an index, is the specification's
  term of that chunk. `Leaves` says what the loads hold.
-/
module

public import proofs.«01_k».proof.Proof.Names
public import proofs.«01_k».proof.Proof.Gen.KernelIdeal.Skeleton
public import proofs.«01_k».proof.Proof.Spec

@[expose] public section

noncomputable section

namespace Cert.Scan.Kern

open Idealize.ShloMosaic Idealize.ShloMosaic.TcCoe Cert.KernelIdeal Cert.KernelIdeal.Gen
open scoped BigOperators

/-- A vector over the extended reals. -/
abbrev V (s : Shape) (e : EltTy) : Type := Vec Ideal s e

/-- What the loads of head `h`'s chunk `n`, the half `b` of its block, hold; `X` is the state gradient that reaches it. -/
structure Leaves (a : Args) (h : Fin 8) (n : Fin 66) (b : ℕ) (X : Fin 128 → Fin 256 → EReal)
 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) : Prop where
  half : b = n.val % 2
  u : ∀ z c e, u (ix3 z c e) = a.u h (row n c) e
  w : ∀ z c d, w (ix3 z c d) = a.w h (row n c) d
  p : ∀ (z : Fin 1) (c : Fin 64) (k : Fin 128), p (ix3 z c k)
    = if k.val / 64 = n.val % 2 ∧ k.val % 64 ≤ c.val then a.p h (row n c) k else 0
  qd : ∀ z c d, qd (ix3 z c d) = a.qd h (row n c) d
  kd : ∀ z c d, kd (ix3 z c d) = a.kd h (row n c) d
  gl : ∀ x y z, gl (ix3 x y z) = a.gl h n
  st : ∀ y z d e, st (ix4 y z d e) = a.st h n d e
  ct : ∀ z c e, ct (ix3 z c e) = a.ct h (row n c) e
  xs : ∀ z d e, xs (ix3 z d e) = X d e

variable {a : Args} {h : Fin 8} {n : Fin 66} {X : Fin 128 → Fin 256 → EReal}

/-- The gradient of `p` at row `c` of chunk `n`, all 128 columns. -/
def dpOf (a : Args) (h : Fin 8) (n : Fin 66) (c : Fin 64) (k : Fin 128) : EReal :=
  if k.val / 64 = n.val % 2 ∧ k.val % 64 ≤ c.val then daAt a h n c ⟨k.val % 64, by omega⟩ else 0

/-- The gradient of the new values, with the products the kernel's way round and the mask in the array. -/
theorem dv_eq (c : Fin 64) (e : Fin 256) (q : Fin 128) (hq : q.val = n.val % 2 * 64 + c.val) :
    (∑ x : Fin 64, (if q.val / 64 = n.val % 2 ∧ q.val % 64 ≤ x.val then a.p h (row n x) q else 0) * a.ct h (row n x) e)
      + ∑ x : Fin 128, a.kd h (row n c) x * X x e = dv a X h n c e := by
  obtain rfl : q = col n c := Fin.ext hq
  unfold dv
  rw [add_comm]
  congr 1
  · refine Finset.sum_congr rfl fun d _ => ?_
    exact mul_comm _ _
  · refine Finset.sum_congr rfl fun x _ => (mul_comm _ _).trans (congrArg (a.ct h (row n x) e * ·) ?_)
    unfold att
    have e1 : (n.val % 2 * 64 + c.val) / 64 = n.val % 2 := by omega
    have e2 : (n.val % 2 * 64 + c.val) % 64 = c.val := by omega
    show (if (n.val % 2 * 64 + c.val) / 64 = n.val % 2 ∧ (n.val % 2 * 64 + c.val) % 64 ≤ x.val then _ else _) = _
    simp only [e1, e2, true_and]

theorem dw_eq (c : Fin 64) (d : Fin 128) (q : Fin 128) (hq : q.val = n.val % 2 * 64 + c.val) :
    0 - ∑ e : Fin 256, ((∑ x : Fin 64, (if q.val / 64 = n.val % 2 ∧ q.val % 64 ≤ x.val then a.p h (row n x) q else 0)
        * a.ct h (row n x) e) + ∑ x : Fin 128, a.kd h (row n c) x * X x e) * a.st h n d e
      = -∑ e : Fin 256, dv a X h n c e * a.st h n d e := by
  rw [zero_sub]
  refine congrArg (fun t => -t) (Finset.sum_congr rfl fun e _ => ?_)
  rw [dv_eq c e q hq]

/-- The next state gradient, from the products of the concatenated halves. -/
theorem next_eq (d : Fin 128) (e : Fin 256) (q : Fin 64 → Fin 128) (hq : ∀ x, (q x).val = n.val % 2 * 64 + x.val) :
    X d e * a.gl h n + ((∑ x : Fin 64, a.qd h (row n x) d * a.ct h (row n x) e)
      + ∑ x : Fin 64, (0 - a.w h (row n x) d)
        * ((∑ y : Fin 64, (if (q x).val / 64 = n.val % 2 ∧ (q x).val % 64 ≤ y.val then a.p h (row n y) (q x) else 0)
          * a.ct h (row n y) e) + ∑ y : Fin 128, a.kd h (row n x) y * X y e)) = next a X h n d e := by
  unfold next
  rw [← add_assoc]
  refine congrArg₂ (· + ·) (congrArg (X d e * a.gl h n + ·) ?_) ?_
  · refine Finset.sum_congr rfl fun x _ => ?_
    exact mul_comm _ _
  · refine Finset.sum_congr rfl fun x _ => ?_
    rw [dv_eq x e (q x) (hq x), zero_sub, EReal.neg_mul, EReal.neg_mul, mul_comm]

theorem dk_eq (c : Fin 64) (d : Fin 128) :
    (∑ x : Fin 256, (a.u h (row n c) x - ∑ y : Fin 128, a.w h (row n c) y * a.st h n y x) * X d x)
      = ∑ e : Fin 256, X d e * vn a h n c e := by
  refine Finset.sum_congr rfl fun e _ => ?_
  exact mul_comm _ _

theorem dg_eq (c : Fin 64) :
    Scalar.select (IntOp.cmpi CmpIPredicate.eq (BitVec.ofNat 32 c.val) 63#32)
        (∑ x : Fin 128, ∑ y : Fin 256, X x y * a.st h n x y) 0
      = if c.val = 63 then ∑ d : Fin 128, ∑ e : Fin 256, a.st h n d e * X d e else 0 := by
  have key : ∀ c : Fin 64, IntOp.cmpi CmpIPredicate.eq (BitVec.ofNat 32 c.val) 63#32 = BitVec.ofBool (decide (c.val = 63)) := by
    decide +kernel
  rw [key c]
  by_cases hc : c.val = 63
  · rw [if_pos hc, decide_eq_true hc]
    show (∑ x : Fin 128, ∑ y : Fin 256, X x y * a.st h n x y) = _
    refine Finset.sum_congr rfl fun d _ => Finset.sum_congr rfl fun e _ => ?_
    exact mul_comm _ _
  · rw [if_neg hc, decide_eq_false hc]
    rfl

/-- The kernel's mask words for the half `b` of a block: the column is in the row's half and not above it. -/
theorem mask_word (b : Fin 2) (c : Fin 64) (k : Fin 128) :
    IntOp.andi (IntOp.cmpi CmpIPredicate.eq
        (IntOp.shrsi ArithUnit.vector (IntOp.addi (BitVec.ofNat 32 (64 * b.val)) (BitVec.ofNat 32 c.val)) 6#32)
        (IntOp.shrsi ArithUnit.vector (BitVec.ofNat 32 k.val) 6#32))
      (IntOp.cmpi CmpIPredicate.sge (IntOp.addi (BitVec.ofNat 32 (64 * b.val)) (BitVec.ofNat 32 c.val)) (BitVec.ofNat 32 k.val))
      = BitVec.ofBool (decide (k.val / 64 = b.val ∧ k.val % 64 ≤ c.val)) := by
  revert b c k
  decide +kernel

theorem dp_eq (b : Fin 2) (hb : b.val = n.val % 2) (c : Fin 64) (k : Fin 128) (t : EReal)
    (ht : k.val / 64 = n.val % 2 → t = daAt a h n c ⟨k.val % 64, by omega⟩) :
    Scalar.select (IntOp.andi (IntOp.cmpi CmpIPredicate.eq
        (IntOp.shrsi ArithUnit.vector (IntOp.addi (BitVec.ofNat 32 (64 * b.val)) (BitVec.ofNat 32 c.val)) 6#32)
        (IntOp.shrsi ArithUnit.vector (BitVec.ofNat 32 k.val) 6#32))
      (IntOp.cmpi CmpIPredicate.sge (IntOp.addi (BitVec.ofNat 32 (64 * b.val)) (BitVec.ofNat 32 c.val)) (BitVec.ofNat 32 k.val))) t 0
      = dpOf a h n c k := by
  rw [mask_word]
  unfold dpOf
  by_cases hm : k.val / 64 = n.val % 2 ∧ k.val % 64 ≤ c.val
  · rw [if_pos hm, decide_eq_true (by rw [hb]; exact hm)]
    exact ht hm.1
  · rw [if_neg hm, decide_eq_false (by rw [hb]; exact hm)]
    rfl

/-- The product with the new values beside zeros, at a column of the chunk's own half. -/
theorem da_eq (c : Fin 64) (k : Fin 128) (q : Fin 64) (hq : q.val = k.val % 64) (f : Fin 256 → EReal)
    (hf : ∀ e, f e = a.u h (row n q) e - ∑ y : Fin 128, a.w h (row n q) y * a.st h n y e) :
    (∑ x : Fin 256, a.ct h (row n c) x * f x) = daAt a h n c ⟨k.val % 64, by omega⟩ := by
  have e0 : (⟨k.val % 64, by omega⟩ : Fin 64) = q := Fin.ext hq.symm
  rw [e0]
  exact Finset.sum_congr rfl fun e _ => congrArg _ (hf e)

theorem du_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (e : Fin 256) :
    k0_pay56 (k0_pay29 (k0_pay13 xs) (k0_pay17 ct) p kd) (ix3 z c e) = dv a X h n c e := by
  pointwise [k0_pay9, k0_pay13, k0_pay17, k0_pay29, k0_pay56]
  simp only [L.p, L.kd, L.ct, L.xs]
  have hb := L.half
  exact dv_eq c e ⟨64 + c.val, by omega⟩ (by show 64 + c.val = _; omega)

theorem du_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (e : Fin 256) :
    k0_pay63 (k0_pay30 (k0_pay14 xs) (k0_pay18 ct) p kd) (ix3 z c e) = dv a X h n c e := by
  pointwise [k0_pay10, k0_pay14, k0_pay18, k0_pay30, k0_pay63]
  simp only [L.p, L.kd, L.ct, L.xs]
  have hb := L.half
  exact dv_eq c e ⟨64 + c.val, by omega⟩ (by show 64 + c.val = _; omega)

theorem du_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (e : Fin 256) :
    k0_pay72 (k0_pay33 (k0_pay15 xs) (k0_pay31 (k0_pay19 ct) p) (k0_pay32 kd) (constant S64x256 .f32 0#32)) (ix3 z c e) = dv a X h n c e := by
  pointwise [k0_pay11, k0_pay15, k0_pay19, k0_pay31, k0_pay32, k0_pay33, k0_pay72]
  simp only [L.p, L.kd, L.ct, L.xs]
  have hb := L.half
  exact dv_eq c e ⟨64 + c.val, by omega⟩ (by show 64 + c.val = _; omega)

theorem du_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (e : Fin 256) :
    k0_pay80 (k0_pay34 (k0_pay16 xs) (k0_pay20 ct) p kd) (ix3 z c e) = dv a X h n c e := by
  pointwise [k0_pay12, k0_pay16, k0_pay20, k0_pay34, k0_pay80]
  simp only [L.p, L.kd, L.ct, L.xs]
  have hb := L.half
  exact dv_eq c e ⟨64 + c.val, by omega⟩ (by show 64 + c.val = _; omega)

theorem dw_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay57 (k0_pay39 (k0_pay5 st) (k0_pay17 ct) (k0_pay29 (k0_pay13 xs) (k0_pay17 ct) p kd)) (ix3 z c d) = -∑ e : Fin 256, dv a X h n c e * a.st h n d e := by
  pointwise [k0_pay5, k0_pay9, k0_pay13, k0_pay17, k0_pay29, k0_pay35, k0_pay39, k0_pay57]
  simp only [L.p, L.kd, L.ct, L.xs, L.st]
  have hb := L.half
  exact dw_eq c d ⟨64 + c.val, by omega⟩ (by show 64 + c.val = _; omega)

theorem dw_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay65 (k0_pay64 (k0_pay40 (k0_pay6 st) (k0_pay18 ct) (k0_pay30 (k0_pay14 xs) (k0_pay18 ct) p kd))) (ix3 z c d) = -∑ e : Fin 256, dv a X h n c e * a.st h n d e := by
  pointwise [k0_pay6, k0_pay10, k0_pay14, k0_pay18, k0_pay30, k0_pay36, k0_pay40, k0_pay64, k0_pay65]
  simp only [L.p, L.kd, L.ct, L.xs, L.st]
  have hb := L.half
  exact dw_eq c d ⟨64 + c.val, by omega⟩ (by show 64 + c.val = _; omega)

theorem dw_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay73 (k0_pay41 (k0_pay7 st) (k0_pay15 xs) (k0_pay19 ct) (k0_pay31 (k0_pay19 ct) p) (k0_pay32 kd) (constant S64x256 .f32 0#32)) (ix3 z c d) = -∑ e : Fin 256, dv a X h n c e * a.st h n d e := by
  pointwise [k0_pay7, k0_pay11, k0_pay15, k0_pay19, k0_pay31, k0_pay32, k0_pay33, k0_pay37, k0_pay41, k0_pay73]
  simp only [L.p, L.kd, L.ct, L.xs, L.st]
  have hb := L.half
  exact dw_eq c d ⟨64 + c.val, by omega⟩ (by show 64 + c.val = _; omega)

theorem dw_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay81 (k0_pay42 (k0_pay8 st) (k0_pay16 xs) (k0_pay20 ct) p kd) (ix3 z c d) = -∑ e : Fin 256, dv a X h n c e * a.st h n d e := by
  pointwise [k0_pay8, k0_pay12, k0_pay16, k0_pay20, k0_pay34, k0_pay38, k0_pay42, k0_pay81]
  simp only [L.p, L.kd, L.ct, L.xs, L.st]
  have hb := L.half
  exact dw_eq c d ⟨64 + c.val, by omega⟩ (by show 64 + c.val = _; omega)

theorem dp_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (k : Fin 128) :
    k0_pay58 (k0_pay43 k0_pay4 (k0_pay17 ct) (k0_pay25 (k0_pay5 st) w u)) (ix3 z c k) = dpOf a h n c k := by
  pointwise [k0_pay4, k0_pay5, k0_pay17, k0_pay21, k0_pay25, k0_pay43, k0_pay58]
  simp only [L.u, L.w, L.st, L.ct]
  have hb := L.half
  refine dp_eq 1 hb c k _ fun hk => ?_
  exact da_eq c k ⟨k.val - 64, by omega⟩ (by show k.val - 64 = _; omega) _ fun e => dif_neg (by omega)

theorem dp_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (k : Fin 128) :
    k0_pay66 (k0_pay44 k0_pay4 (k0_pay18 ct) (k0_pay26 (k0_pay6 st) w u)) (ix3 z c k) = dpOf a h n c k := by
  pointwise [k0_pay4, k0_pay6, k0_pay18, k0_pay22, k0_pay26, k0_pay44, k0_pay66]
  simp only [L.u, L.w, L.st, L.ct]
  have hb := L.half
  refine dp_eq 1 hb c k _ fun hk => ?_
  exact da_eq c k ⟨k.val - 64, by omega⟩ (by show k.val - 64 = _; omega) _ fun e => dif_neg (by omega)

theorem dp_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (k : Fin 128) :
    k0_pay74 (k0_pay45 k0_pay4 (k0_pay19 ct) (k0_pay27 (k0_pay7 st) (k0_pay23 w) u)) (ix3 z c k) = dpOf a h n c k := by
  pointwise [k0_pay4, k0_pay7, k0_pay19, k0_pay23, k0_pay27, k0_pay45, k0_pay74]
  simp only [L.u, L.w, L.st, L.ct]
  have hb := L.half
  refine dp_eq 1 hb c k _ fun hk => ?_
  exact da_eq c k ⟨k.val - 64, by omega⟩ (by show k.val - 64 = _; omega) _ fun e => dif_neg (by omega)

theorem dp_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (k : Fin 128) :
    k0_pay82 (k0_pay46 k0_pay4 (k0_pay20 ct) (k0_pay28 (k0_pay8 st) (k0_pay24 w) u)) (ix3 z c k) = dpOf a h n c k := by
  pointwise [k0_pay4, k0_pay8, k0_pay20, k0_pay24, k0_pay28, k0_pay46, k0_pay82]
  simp only [L.u, L.w, L.st, L.ct]
  have hb := L.half
  refine dp_eq 1 hb c k _ fun hk => ?_
  exact da_eq c k ⟨k.val - 64, by omega⟩ (by show k.val - 64 = _; omega) _ fun e => dif_neg (by omega)

theorem dq_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay59 (k0_pay39 (k0_pay5 st) (k0_pay17 ct) (k0_pay29 (k0_pay13 xs) (k0_pay17 ct) p kd)) (ix3 z c d) = dqAt a h n c d := by
  pointwise [k0_pay5, k0_pay9, k0_pay13, k0_pay17, k0_pay29, k0_pay35, k0_pay39, k0_pay59]
  simp only [L.ct, L.st]
  rfl

theorem dq_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay67 (k0_pay40 (k0_pay6 st) (k0_pay18 ct) (k0_pay30 (k0_pay14 xs) (k0_pay18 ct) p kd)) (ix3 z c d) = dqAt a h n c d := by
  pointwise [k0_pay6, k0_pay10, k0_pay14, k0_pay18, k0_pay30, k0_pay36, k0_pay40, k0_pay67]
  simp only [L.ct, L.st]
  rfl

theorem dq_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay76 (k0_pay75 (k0_pay41 (k0_pay7 st) (k0_pay15 xs) (k0_pay19 ct) (k0_pay31 (k0_pay19 ct) p) (k0_pay32 kd) (constant S64x256 .f32 0#32))) (ix3 z c d) = dqAt a h n c d := by
  pointwise [k0_pay7, k0_pay11, k0_pay15, k0_pay19, k0_pay31, k0_pay32, k0_pay33, k0_pay37, k0_pay41, k0_pay75, k0_pay76]
  simp only [L.ct, L.st]
  rfl

theorem dq_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay83 (k0_pay42 (k0_pay8 st) (k0_pay16 xs) (k0_pay20 ct) p kd) (ix3 z c d) = dqAt a h n c d := by
  pointwise [k0_pay8, k0_pay12, k0_pay16, k0_pay20, k0_pay34, k0_pay38, k0_pay42, k0_pay83]
  simp only [L.ct, L.st]
  rfl

theorem dk_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay60 (k0_pay47 (k0_pay13 xs) (k0_pay25 (k0_pay5 st) w u)) (ix3 z c d) = ∑ e : Fin 256, X d e * vn a h n c e := by
  pointwise [k0_pay5, k0_pay9, k0_pay13, k0_pay21, k0_pay25, k0_pay47, k0_pay60]
  simp only [L.u, L.w, L.st, L.xs]
  exact dk_eq c d

theorem dk_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay68 (k0_pay48 (k0_pay14 xs) (k0_pay26 (k0_pay6 st) w u)) (ix3 z c d) = ∑ e : Fin 256, X d e * vn a h n c e := by
  pointwise [k0_pay6, k0_pay10, k0_pay14, k0_pay22, k0_pay26, k0_pay48, k0_pay68]
  simp only [L.u, L.w, L.st, L.xs]
  exact dk_eq c d

theorem dk_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay77 (k0_pay49 (k0_pay15 xs) (k0_pay27 (k0_pay7 st) (k0_pay23 w) u)) (ix3 z c d) = ∑ e : Fin 256, X d e * vn a h n c e := by
  pointwise [k0_pay7, k0_pay11, k0_pay15, k0_pay23, k0_pay27, k0_pay49, k0_pay77]
  simp only [L.u, L.w, L.st, L.xs]
  exact dk_eq c d

theorem dk_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (d : Fin 128) :
    k0_pay84 (k0_pay51 (k0_pay16 xs) (k0_pay50 (k0_pay28 (k0_pay8 st) (k0_pay24 w) u))) (ix3 z c d) = ∑ e : Fin 256, X d e * vn a h n c e := by
  pointwise [k0_pay8, k0_pay12, k0_pay16, k0_pay24, k0_pay28, k0_pay50, k0_pay51, k0_pay84]
  simp only [L.u, L.w, L.st, L.xs]
  exact dk_eq c d

theorem dg_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (o : Fin 1) :
    k0_pay61 (k0_pay5 st) (k0_pay9 xs) (ix3 z c o) = if c.val = 63 then ∑ d : Fin 128, ∑ e : Fin 256, a.st h n d e * X d e else 0 := by
  pointwise [k0_pay5, k0_pay9, k0_pay61]
  simp only [L.st, L.xs]
  exact dg_eq c

theorem dg_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (o : Fin 1) :
    k0_pay70 (k0_pay69 (k0_pay6 st) (k0_pay10 xs)) (ix3 z c o) = if c.val = 63 then ∑ d : Fin 128, ∑ e : Fin 256, a.st h n d e * X d e else 0 := by
  pointwise [k0_pay6, k0_pay10, k0_pay69, k0_pay70]
  simp only [L.st, L.xs]
  exact dg_eq c

theorem dg_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (o : Fin 1) :
    k0_pay78 (k0_pay7 st) (k0_pay11 xs) (ix3 z c o) = if c.val = 63 then ∑ d : Fin 128, ∑ e : Fin 256, a.st h n d e * X d e else 0 := by
  pointwise [k0_pay7, k0_pay11, k0_pay78]
  simp only [L.st, L.xs]
  exact dg_eq c

theorem dg_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (c : Fin 64) (o : Fin 1) :
    k0_pay86 (k0_pay85 (k0_pay8 st) (k0_pay12 xs)) (ix3 z c o) = if c.val = 63 then ∑ d : Fin 128, ∑ e : Fin 256, a.st h n d e * X d e else 0 := by
  pointwise [k0_pay8, k0_pay12, k0_pay85, k0_pay86]
  simp only [L.st, L.xs]
  exact dg_eq c

theorem nx_1_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (d : Fin 128) (e : Fin 256) :
    k0_pay62 (k0_pay52 (k0_pay9 xs) (k0_pay21 w) (k0_pay35 (k0_pay17 ct) (k0_pay29 (k0_pay13 xs) (k0_pay17 ct) p kd)) gl qd) (ix3 z d e) = next a X h n d e := by
  pointwise [k0_pay9, k0_pay13, k0_pay17, k0_pay21, k0_pay29, k0_pay35, k0_pay52, k0_pay62]
  simp only [L.p, L.kd, L.ct, L.xs, L.w, L.qd, L.gl]
  have hb := L.half
  exact next_eq d e (fun x => ⟨64 + x.val, by omega⟩) fun x => (by show 64 + x.val = _; omega)

theorem nx_1_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (d : Fin 128) (e : Fin 256) :
    k0_pay71 (k0_pay53 (k0_pay10 xs) (k0_pay22 w) (k0_pay36 (k0_pay18 ct) (k0_pay30 (k0_pay14 xs) (k0_pay18 ct) p kd)) gl qd) (ix3 z d e) = next a X h n d e := by
  pointwise [k0_pay10, k0_pay14, k0_pay18, k0_pay22, k0_pay30, k0_pay36, k0_pay53, k0_pay71]
  simp only [L.p, L.kd, L.ct, L.xs, L.w, L.qd, L.gl]
  have hb := L.half
  exact next_eq d e (fun x => ⟨64 + x.val, by omega⟩) fun x => (by show 64 + x.val = _; omega)

theorem nx_1_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (d : Fin 128) (e : Fin 256) :
    k0_pay79 (k0_pay54 (k0_pay11 xs) (k0_pay23 w) (k0_pay37 (k0_pay15 xs) (k0_pay19 ct) (k0_pay31 (k0_pay19 ct) p) (k0_pay32 kd) (constant S64x256 .f32 0#32)) gl qd) (ix3 z d e) = next a X h n d e := by
  pointwise [k0_pay11, k0_pay15, k0_pay19, k0_pay23, k0_pay31, k0_pay32, k0_pay33, k0_pay37, k0_pay54, k0_pay79]
  simp only [L.p, L.kd, L.ct, L.xs, L.w, L.qd, L.gl]
  have hb := L.half
  exact next_eq d e (fun x => ⟨64 + x.val, by omega⟩) fun x => (by show 64 + x.val = _; omega)

theorem nx_1_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 1 X u w p qd kd gl st ct xs) (z : Fin 1) (d : Fin 128) (e : Fin 256) :
    k0_pay87 (k0_pay55 (k0_pay12 xs) (k0_pay24 w) (k0_pay38 (k0_pay16 xs) (k0_pay20 ct) p kd) gl qd) (ix3 z d e) = next a X h n d e := by
  pointwise [k0_pay12, k0_pay16, k0_pay20, k0_pay24, k0_pay34, k0_pay38, k0_pay55, k0_pay87]
  simp only [L.p, L.kd, L.ct, L.xs, L.w, L.qd, L.gl]
  have hb := L.half
  exact next_eq d e (fun x => ⟨64 + x.val, by omega⟩) fun x => (by show 64 + x.val = _; omega)

theorem du_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (e : Fin 256) :
    k0_pay139 (k0_pay112 (k0_pay96 xs) (k0_pay100 ct) p kd) (ix3 z c e) = dv a X h n c e := by
  pointwise [k0_pay92, k0_pay96, k0_pay100, k0_pay112, k0_pay139]
  simp only [L.p, L.kd, L.ct, L.xs]
  have hb := L.half
  exact dv_eq c e ⟨c.val, by omega⟩ (by show c.val = _; omega)

theorem du_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (e : Fin 256) :
    k0_pay146 (k0_pay113 (k0_pay97 xs) (k0_pay101 ct) p kd) (ix3 z c e) = dv a X h n c e := by
  pointwise [k0_pay93, k0_pay97, k0_pay101, k0_pay113, k0_pay146]
  simp only [L.p, L.kd, L.ct, L.xs]
  have hb := L.half
  exact dv_eq c e ⟨c.val, by omega⟩ (by show c.val = _; omega)

theorem du_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (e : Fin 256) :
    k0_pay155 (k0_pay116 (k0_pay98 xs) (k0_pay114 (k0_pay102 ct) p) (k0_pay115 kd) (constant S64x256 .f32 0#32)) (ix3 z c e) = dv a X h n c e := by
  pointwise [k0_pay94, k0_pay98, k0_pay102, k0_pay114, k0_pay115, k0_pay116, k0_pay155]
  simp only [L.p, L.kd, L.ct, L.xs]
  have hb := L.half
  exact dv_eq c e ⟨c.val, by omega⟩ (by show c.val = _; omega)

theorem du_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (e : Fin 256) :
    k0_pay163 (k0_pay117 (k0_pay99 xs) (k0_pay103 ct) p kd) (ix3 z c e) = dv a X h n c e := by
  pointwise [k0_pay95, k0_pay99, k0_pay103, k0_pay117, k0_pay163]
  simp only [L.p, L.kd, L.ct, L.xs]
  have hb := L.half
  exact dv_eq c e ⟨c.val, by omega⟩ (by show c.val = _; omega)

theorem dw_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay140 (k0_pay122 (k0_pay88 st) (k0_pay100 ct) (k0_pay112 (k0_pay96 xs) (k0_pay100 ct) p kd)) (ix3 z c d) = -∑ e : Fin 256, dv a X h n c e * a.st h n d e := by
  pointwise [k0_pay88, k0_pay92, k0_pay96, k0_pay100, k0_pay112, k0_pay118, k0_pay122, k0_pay140]
  simp only [L.p, L.kd, L.ct, L.xs, L.st]
  have hb := L.half
  exact dw_eq c d ⟨c.val, by omega⟩ (by show c.val = _; omega)

theorem dw_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay148 (k0_pay147 (k0_pay123 (k0_pay89 st) (k0_pay101 ct) (k0_pay113 (k0_pay97 xs) (k0_pay101 ct) p kd))) (ix3 z c d) = -∑ e : Fin 256, dv a X h n c e * a.st h n d e := by
  pointwise [k0_pay89, k0_pay93, k0_pay97, k0_pay101, k0_pay113, k0_pay119, k0_pay123, k0_pay147, k0_pay148]
  simp only [L.p, L.kd, L.ct, L.xs, L.st]
  have hb := L.half
  exact dw_eq c d ⟨c.val, by omega⟩ (by show c.val = _; omega)

theorem dw_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay156 (k0_pay124 (k0_pay90 st) (k0_pay98 xs) (k0_pay102 ct) (k0_pay114 (k0_pay102 ct) p) (k0_pay115 kd) (constant S64x256 .f32 0#32)) (ix3 z c d) = -∑ e : Fin 256, dv a X h n c e * a.st h n d e := by
  pointwise [k0_pay90, k0_pay94, k0_pay98, k0_pay102, k0_pay114, k0_pay115, k0_pay116, k0_pay120, k0_pay124, k0_pay156]
  simp only [L.p, L.kd, L.ct, L.xs, L.st]
  have hb := L.half
  exact dw_eq c d ⟨c.val, by omega⟩ (by show c.val = _; omega)

theorem dw_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay164 (k0_pay125 (k0_pay91 st) (k0_pay99 xs) (k0_pay103 ct) p kd) (ix3 z c d) = -∑ e : Fin 256, dv a X h n c e * a.st h n d e := by
  pointwise [k0_pay91, k0_pay95, k0_pay99, k0_pay103, k0_pay117, k0_pay121, k0_pay125, k0_pay164]
  simp only [L.p, L.kd, L.ct, L.xs, L.st]
  have hb := L.half
  exact dw_eq c d ⟨c.val, by omega⟩ (by show c.val = _; omega)

theorem dp_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (k : Fin 128) :
    k0_pay141 (k0_pay126 k0_pay4 (k0_pay100 ct) (k0_pay108 (k0_pay88 st) w u)) (ix3 z c k) = dpOf a h n c k := by
  pointwise [k0_pay4, k0_pay88, k0_pay100, k0_pay104, k0_pay108, k0_pay126, k0_pay141]
  simp only [L.u, L.w, L.st, L.ct]
  have hb := L.half
  refine dp_eq 0 hb c k _ fun hk => ?_
  exact da_eq c k ⟨k.val, by omega⟩ (by show k.val = _; omega) _ fun e => dif_pos (by omega)

theorem dp_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (k : Fin 128) :
    k0_pay149 (k0_pay127 k0_pay4 (k0_pay101 ct) (k0_pay109 (k0_pay89 st) w u)) (ix3 z c k) = dpOf a h n c k := by
  pointwise [k0_pay4, k0_pay89, k0_pay101, k0_pay105, k0_pay109, k0_pay127, k0_pay149]
  simp only [L.u, L.w, L.st, L.ct]
  have hb := L.half
  refine dp_eq 0 hb c k _ fun hk => ?_
  exact da_eq c k ⟨k.val, by omega⟩ (by show k.val = _; omega) _ fun e => dif_pos (by omega)

theorem dp_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (k : Fin 128) :
    k0_pay157 (k0_pay128 k0_pay4 (k0_pay102 ct) (k0_pay110 (k0_pay90 st) (k0_pay106 w) u)) (ix3 z c k) = dpOf a h n c k := by
  pointwise [k0_pay4, k0_pay90, k0_pay102, k0_pay106, k0_pay110, k0_pay128, k0_pay157]
  simp only [L.u, L.w, L.st, L.ct]
  have hb := L.half
  refine dp_eq 0 hb c k _ fun hk => ?_
  exact da_eq c k ⟨k.val, by omega⟩ (by show k.val = _; omega) _ fun e => dif_pos (by omega)

theorem dp_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (k : Fin 128) :
    k0_pay165 (k0_pay129 k0_pay4 (k0_pay103 ct) (k0_pay111 (k0_pay91 st) (k0_pay107 w) u)) (ix3 z c k) = dpOf a h n c k := by
  pointwise [k0_pay4, k0_pay91, k0_pay103, k0_pay107, k0_pay111, k0_pay129, k0_pay165]
  simp only [L.u, L.w, L.st, L.ct]
  have hb := L.half
  refine dp_eq 0 hb c k _ fun hk => ?_
  exact da_eq c k ⟨k.val, by omega⟩ (by show k.val = _; omega) _ fun e => dif_pos (by omega)

theorem dq_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay142 (k0_pay122 (k0_pay88 st) (k0_pay100 ct) (k0_pay112 (k0_pay96 xs) (k0_pay100 ct) p kd)) (ix3 z c d) = dqAt a h n c d := by
  pointwise [k0_pay88, k0_pay92, k0_pay96, k0_pay100, k0_pay112, k0_pay118, k0_pay122, k0_pay142]
  simp only [L.ct, L.st]
  rfl

theorem dq_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay150 (k0_pay123 (k0_pay89 st) (k0_pay101 ct) (k0_pay113 (k0_pay97 xs) (k0_pay101 ct) p kd)) (ix3 z c d) = dqAt a h n c d := by
  pointwise [k0_pay89, k0_pay93, k0_pay97, k0_pay101, k0_pay113, k0_pay119, k0_pay123, k0_pay150]
  simp only [L.ct, L.st]
  rfl

theorem dq_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay159 (k0_pay158 (k0_pay124 (k0_pay90 st) (k0_pay98 xs) (k0_pay102 ct) (k0_pay114 (k0_pay102 ct) p) (k0_pay115 kd) (constant S64x256 .f32 0#32))) (ix3 z c d) = dqAt a h n c d := by
  pointwise [k0_pay90, k0_pay94, k0_pay98, k0_pay102, k0_pay114, k0_pay115, k0_pay116, k0_pay120, k0_pay124, k0_pay158, k0_pay159]
  simp only [L.ct, L.st]
  rfl

theorem dq_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay166 (k0_pay125 (k0_pay91 st) (k0_pay99 xs) (k0_pay103 ct) p kd) (ix3 z c d) = dqAt a h n c d := by
  pointwise [k0_pay91, k0_pay95, k0_pay99, k0_pay103, k0_pay117, k0_pay121, k0_pay125, k0_pay166]
  simp only [L.ct, L.st]
  rfl

theorem dk_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay143 (k0_pay130 (k0_pay96 xs) (k0_pay108 (k0_pay88 st) w u)) (ix3 z c d) = ∑ e : Fin 256, X d e * vn a h n c e := by
  pointwise [k0_pay88, k0_pay92, k0_pay96, k0_pay104, k0_pay108, k0_pay130, k0_pay143]
  simp only [L.u, L.w, L.st, L.xs]
  exact dk_eq c d

theorem dk_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay151 (k0_pay131 (k0_pay97 xs) (k0_pay109 (k0_pay89 st) w u)) (ix3 z c d) = ∑ e : Fin 256, X d e * vn a h n c e := by
  pointwise [k0_pay89, k0_pay93, k0_pay97, k0_pay105, k0_pay109, k0_pay131, k0_pay151]
  simp only [L.u, L.w, L.st, L.xs]
  exact dk_eq c d

theorem dk_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay160 (k0_pay132 (k0_pay98 xs) (k0_pay110 (k0_pay90 st) (k0_pay106 w) u)) (ix3 z c d) = ∑ e : Fin 256, X d e * vn a h n c e := by
  pointwise [k0_pay90, k0_pay94, k0_pay98, k0_pay106, k0_pay110, k0_pay132, k0_pay160]
  simp only [L.u, L.w, L.st, L.xs]
  exact dk_eq c d

theorem dk_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (d : Fin 128) :
    k0_pay167 (k0_pay134 (k0_pay99 xs) (k0_pay133 (k0_pay111 (k0_pay91 st) (k0_pay107 w) u))) (ix3 z c d) = ∑ e : Fin 256, X d e * vn a h n c e := by
  pointwise [k0_pay91, k0_pay95, k0_pay99, k0_pay107, k0_pay111, k0_pay133, k0_pay134, k0_pay167]
  simp only [L.u, L.w, L.st, L.xs]
  exact dk_eq c d

theorem dg_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (o : Fin 1) :
    k0_pay144 (k0_pay88 st) (k0_pay92 xs) (ix3 z c o) = if c.val = 63 then ∑ d : Fin 128, ∑ e : Fin 256, a.st h n d e * X d e else 0 := by
  pointwise [k0_pay88, k0_pay92, k0_pay144]
  simp only [L.st, L.xs]
  exact dg_eq c

theorem dg_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (o : Fin 1) :
    k0_pay153 (k0_pay152 (k0_pay89 st) (k0_pay93 xs)) (ix3 z c o) = if c.val = 63 then ∑ d : Fin 128, ∑ e : Fin 256, a.st h n d e * X d e else 0 := by
  pointwise [k0_pay89, k0_pay93, k0_pay152, k0_pay153]
  simp only [L.st, L.xs]
  exact dg_eq c

theorem dg_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (o : Fin 1) :
    k0_pay161 (k0_pay90 st) (k0_pay94 xs) (ix3 z c o) = if c.val = 63 then ∑ d : Fin 128, ∑ e : Fin 256, a.st h n d e * X d e else 0 := by
  pointwise [k0_pay90, k0_pay94, k0_pay161]
  simp only [L.st, L.xs]
  exact dg_eq c

theorem dg_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (c : Fin 64) (o : Fin 1) :
    k0_pay1 (k0_pay168 (k0_pay91 st) (k0_pay95 xs)) (ix3 z c o) = if c.val = 63 then ∑ d : Fin 128, ∑ e : Fin 256, a.st h n d e * X d e else 0 := by
  pointwise [k0_pay1, k0_pay91, k0_pay95, k0_pay168]
  simp only [L.st, L.xs]
  exact dg_eq c

theorem nx_0_0 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (d : Fin 128) (e : Fin 256) :
    k0_pay145 (k0_pay135 (k0_pay92 xs) (k0_pay104 w) (k0_pay118 (k0_pay100 ct) (k0_pay112 (k0_pay96 xs) (k0_pay100 ct) p kd)) gl qd) (ix3 z d e) = next a X h n d e := by
  pointwise [k0_pay92, k0_pay96, k0_pay100, k0_pay104, k0_pay112, k0_pay118, k0_pay135, k0_pay145]
  simp only [L.p, L.kd, L.ct, L.xs, L.w, L.qd, L.gl]
  have hb := L.half
  exact next_eq d e (fun x => ⟨x.val, by omega⟩) fun x => (by show x.val = _; omega)

theorem nx_0_1 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (d : Fin 128) (e : Fin 256) :
    k0_pay154 (k0_pay136 (k0_pay93 xs) (k0_pay105 w) (k0_pay119 (k0_pay101 ct) (k0_pay113 (k0_pay97 xs) (k0_pay101 ct) p kd)) gl qd) (ix3 z d e) = next a X h n d e := by
  pointwise [k0_pay93, k0_pay97, k0_pay101, k0_pay105, k0_pay113, k0_pay119, k0_pay136, k0_pay154]
  simp only [L.p, L.kd, L.ct, L.xs, L.w, L.qd, L.gl]
  have hb := L.half
  exact next_eq d e (fun x => ⟨x.val, by omega⟩) fun x => (by show x.val = _; omega)

theorem nx_0_2 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (d : Fin 128) (e : Fin 256) :
    k0_pay162 (k0_pay137 (k0_pay94 xs) (k0_pay106 w) (k0_pay120 (k0_pay98 xs) (k0_pay102 ct) (k0_pay114 (k0_pay102 ct) p) (k0_pay115 kd) (constant S64x256 .f32 0#32)) gl qd) (ix3 z d e) = next a X h n d e := by
  pointwise [k0_pay94, k0_pay98, k0_pay102, k0_pay106, k0_pay114, k0_pay115, k0_pay116, k0_pay120, k0_pay137, k0_pay162]
  simp only [L.p, L.kd, L.ct, L.xs, L.w, L.qd, L.gl]
  have hb := L.half
  exact next_eq d e (fun x => ⟨x.val, by omega⟩) fun x => (by show x.val = _; omega)

theorem nx_0_3 (u : V S1x64x256 .f32) (w : V S1x64x128 .bf16) (p : V S1x64x128 .bf16) (qd : V S1x64x128 .bf16) (kd : V S1x64x128 .bf16) (gl : V S1x1x1 .f32) (st : V S1x1x128x256 .bf16) (ct : V S1x64x256 .f32) (xs : V S1x128x256 .f32) (L : Leaves a h n 0 X u w p qd kd gl st ct xs) (z : Fin 1) (d : Fin 128) (e : Fin 256) :
    k0_pay2 (k0_pay138 (k0_pay95 xs) (k0_pay107 w) (k0_pay121 (k0_pay99 xs) (k0_pay103 ct) p kd) gl qd) (ix3 z d e) = next a X h n d e := by
  pointwise [k0_pay2, k0_pay95, k0_pay99, k0_pay103, k0_pay107, k0_pay117, k0_pay121, k0_pay138]
  simp only [L.p, L.kd, L.ct, L.xs, L.w, L.qd, L.gl]
  have hb := L.half
  exact next_eq d e (fun x => ⟨x.val, by omega⟩) fun x => (by show x.val = _; omega)

end Cert.Scan.Kern

end
-- ==== Proof.Blocks.lean ====
/-
  ONE GRID POINT'S BLOCKS: what the blocks a grid point is handed hold of the arguments, the loads of one head's chunk out of
  them, and the loads of the state gradient the point keeps between its chunks.

  Grid point `t` takes the four heads of group `t / 33` and the 128 rows of block `32 - t % 33`, two chunks, the later first.
-/
module

public import proofs.«01_k».proof.Proof.Names
public import proofs.«01_k».proof.Proof.Chunk
public import proofs.«01_k».proof.Proof.Gen.KernelIdeal.Value
public import Idealize.ShloMosaic.Lib.Pipeline.CanonAppend
public import Idealize.ShloMosaic.Lib.Pipeline.ValueKit.Tiles

@[expose] public section

noncomputable section

namespace Cert.Scan.Kern

open Idealize.ShloMosaic Idealize.ShloMosaic.TcCoe Cert.KernelIdeal Cert.KernelIdeal.Gen
open Idealize.SL.Sem
open scoped BigOperators

/-- The head that grid point `t` has at place `hh`. -/
def head (t : Fin 66) (hh : Fin 4) : Fin 8 := ⟨4 * (t.val / 33) + hh.val, by omega⟩
/-- The row that grid point `t` has at place `r`. -/
def rowOf (t : Fin 66) (r : Fin 128) : Fin 4224 := ⟨(32 - t.val % 33) * 128 + r.val, by omega⟩
/-- The chunk that grid point `t` has in half `b` of its rows. -/
def cn (t : Fin 66) (b : Fin 2) : Fin 66 := ⟨(32 - t.val % 33) * 2 + b.val, by omega⟩

theorem cn_mod (t : Fin 66) (b : Fin 2) : (cn t b).val % 2 = b.val := by
  show ((32 - t.val % 33) * 2 + b.val) % 2 = b.val
  omega

theorem cn_one (t : Fin 66) : cn t 1 = chunk (2 * (t.val % 33)) := by
  apply Fin.ext
  show (32 - t.val % 33) * 2 + 1 = 65 - 2 * (t.val % 33)
  omega

theorem cn_zero (t : Fin 66) : cn t 0 = chunk (2 * (t.val % 33) + 1) := by
  apply Fin.ext
  show (32 - t.val % 33) * 2 + 0 = 65 - (2 * (t.val % 33) + 1)
  omega

theorem rowChunk_row (n : Fin 66) (c : Fin 64) : rowChunk (row n c) = n := by
  apply Fin.ext
  show (n.val * 64 + c.val) / 64 = n.val
  omega

theorem rowPos_row (n : Fin 66) (c : Fin 64) : rowPos (row n c) = c := by
  apply Fin.ext
  show (n.val * 64 + c.val) % 64 = c.val
  omega

/-- Row `64 b + c` of the block is row `c` of the chunk in half `b`. -/
theorem rowOf_half (t : Fin 66) (b : Fin 2) (c : Fin 64) (r : Fin 128) (hr : r.val = 64 * b.val + c.val) :
    rowOf t r = row (cn t b) c := by
  apply Fin.ext
  show (32 - t.val % 33) * 128 + r.val = ((32 - t.val % 33) * 2 + b.val) * 64 + c.val
  omega

/-- The part of a whole array that grid point `t` has. -/
def blk {W : ℕ} (t : Fin 66) (G : (⟨3, ![8, 4224, W]⟩ : Shape).Idx → EReal) : (⟨3, ![4, 128, W]⟩ : Shape).Idx → EReal :=
  fun y => G (ix3 (head t (y 0)) (rowOf t (y 1)) (y 2))

/-- … at a place of one head's chunk. -/
theorem blk_emb {W : ℕ} (t : Fin 66) (G : (⟨3, ![8, 4224, W]⟩ : Shape).Idx → EReal) (hh : Fin 4) (b : Fin 2) (o0 o1 : ℕ)
    (h0 : o0 = hh.val) (h1 : o1 = 64 * b.val)
    (inb : ∀ k, (![o0, o1, 0] : Fin 3 → ℕ) k + (![1, 64, W] : Fin 3 → ℕ) k ≤ (⟨3, ![4, 128, W]⟩ : Shape).size k)
    (z : Fin 1) (c : Fin 64) (e : Fin W) :
    blk t G ((Rect.unit (s := ⟨3, ![4, 128, W]⟩) ![o0, o1, 0] ![1, 64, W] inb).emb (ix3 z c e))
      = G (ix3 (head t hh) (row (cn t b) c) e) := by
  subst h0 h1
  have hz : z.val = 0 := by omega
  rw [← rowOf_half t b c ⟨64 * b.val + c.val, by omega⟩ rfl]
  have key : (Rect.unit (s := ⟨3, ![4, 128, W]⟩) ![hh.val, 64 * b.val, 0] ![1, 64, W] inb).emb (ix3 z c e)
      = ix3 hh (⟨64 * b.val + c.val, by omega⟩ : Fin 128) e := by
    funext k
    apply Fin.ext
    refine (Rect.idx_unit_val _ _ inb (ix3 z c e) k).trans ?_
    match k with
    | ⟨0, _⟩ => show hh.val + z.val = hh.val; omega
    | ⟨1, _⟩ => rfl
    | ⟨2, _⟩ => show 0 + e.val = e.val; omega
  rw [key]
  rfl

/-- A statement about every index of a three-dimensional shape, from its coordinates. -/
theorem all3 {n0 n1 n2 : ℕ} {P : (⟨3, ![n0, n1, n2]⟩ : Shape).Idx → Prop} (h : ∀ x y z, P (ix3 x y z)) : ∀ i, P i :=
  fun i => by rw [eq_ix3 i]; exact h _ _ _

/-- What the eight blocks of grid point `t` hold of the arguments. -/
structure Blocks (a : Args) (t : Fin 66) (x0 : V S4x128x256 .f32) (x1 : V S4x128x128 .bf16) (x2 : V S4x128x128 .bf16) (x3 : V S4x128x128 .bf16)
    (x4 : V S4x128x128 .bf16) (x5 : V S4x128x1 .f32) (x6 : V S4x2x128x256 .bf16) (x7 : V S4x128x256 .f32) : Prop where
  u : ∀ hh r e, x0 (ix3 hh r e) = a.u (head t hh) (rowOf t r) e
  w : ∀ hh r d, x1 (ix3 hh r d) = a.w (head t hh) (rowOf t r) d
  p : ∀ (hh : Fin 4) (r k : Fin 128), x2 (ix3 hh r k)
    = if k.val / 64 = r.val / 64 ∧ k.val % 64 ≤ r.val % 64 then a.p (head t hh) (rowOf t r) k else 0
  qd : ∀ hh r d, x3 (ix3 hh r d) = a.qd (head t hh) (rowOf t r) d
  kd : ∀ hh r d, x4 (ix3 hh r d) = a.kd (head t hh) (rowOf t r) d
  gl : ∀ (hh : Fin 4) (r : Fin 128) (z : Fin 1) (b : Fin 2), r.val = 64 * b.val → x5 (ix3 hh r z) = a.gl (head t hh) (cn t b)
  st : ∀ hh b d e, x6 (ix4 hh b d e) = a.st (head t hh) (cn t b) d e
  ct : ∀ hh r e, x7 (ix3 hh r e) = a.ct (head t hh) (rowOf t r) e

variable {a : Args} {t : Fin 66} {x0 : V S4x128x256 .f32} {x1 : V S4x128x128 .bf16} {x2 : V S4x128x128 .bf16} {x3 : V S4x128x128 .bf16}
    {x4 : V S4x128x128 .bf16} {x5 : V S4x128x1 .f32} {x6 : V S4x2x128x256 .bf16} {x7 : V S4x128x256 .f32}

/-- A load of one head's chunk, at a place. -/
theorem ld3 {W : ℕ} {e : EltTy} (X : V ⟨3, ![4, 128, W]⟩ e) (hh : Fin 4) (b : Fin 2) (o0 o1 : ℕ) (h0 : o0 = hh.val)
    (h1 : o1 = 64 * b.val)
    (inb : ∀ k, (![o0, o1, 0] : Fin 3 → ℕ) k + (![1, 64, W] : Fin 3 → ℕ) k ≤ (⟨3, ![4, 128, W]⟩ : Shape).size k)
    (z : Fin 1) (c : Fin 64) (q : Fin W) :
    View.ld X (Rect.unit (s := ⟨3, ![4, 128, W]⟩) ![o0, o1, 0] ![1, 64, W] inb) (ix3 z c q)
      = X (ix3 hh (⟨64 * b.val + c.val, by omega⟩ : Fin 128) q) := by
  subst h0 h1
  have hz : z.val = 0 := by omega
  refine View.ld_unit_apply_of X _ _ inb _ _ fun k => ?_
  match k with
  | ⟨0, _⟩ => show hh.val = hh.val + z.val; omega
  | ⟨1, _⟩ => rfl
  | ⟨2, _⟩ => show q.val = 0 + q.val; omega

/-- THE LOADS OF ONE HEAD'S CHUNK out of the blocks, with the state gradient `xs` loaded beside them. -/
theorem Blocks.leaves (B : Blocks a t x0 x1 x2 x3 x4 x5 x6 x7) (hh : Fin 4) (b : Fin 2) (o0 o1 ob : ℕ) (h0 : o0 = hh.val)
    (h1 : o1 = 64 * b.val) (hb : ob = b.val) {X : Fin 128 → Fin 256 → EReal} {xs : V S1x128x256 .f32}
    (hx : ∀ z d e, xs (ix3 z d e) = X d e)
    (i0 : ∀ k, (![o0, o1, 0] : Fin 3 → ℕ) k + (![1, 64, 256] : Fin 3 → ℕ) k ≤ S4x128x256.size k)
    (i1 : ∀ k, (![o0, o1, 0] : Fin 3 → ℕ) k + (![1, 64, 128] : Fin 3 → ℕ) k ≤ S4x128x128.size k)
    (i2 : ∀ k, (![o0, o1, 0] : Fin 3 → ℕ) k + (![1, 64, 128] : Fin 3 → ℕ) k ≤ S4x128x128.size k)
    (i3 : ∀ k, (![o0, o1, 0] : Fin 3 → ℕ) k + (![1, 64, 128] : Fin 3 → ℕ) k ≤ S4x128x128.size k)
    (i4 : ∀ k, (![o0, o1, 0] : Fin 3 → ℕ) k + (![1, 64, 128] : Fin 3 → ℕ) k ≤ S4x128x128.size k)
    (i5 : ∀ k, (![o0, o1, 0] : Fin 3 → ℕ) k + (![1, 1, 1] : Fin 3 → ℕ) k ≤ S4x128x1.size k)
    (i6 : ∀ k, (![o0, ob, 0, 0] : Fin 4 → ℕ) k + (![1, 1, 128, 256] : Fin 4 → ℕ) k ≤ S4x2x128x256.size k)
    (i7 : ∀ k, (![o0, o1, 0] : Fin 3 → ℕ) k + (![1, 64, 256] : Fin 3 → ℕ) k ≤ S4x128x256.size k) :
    Leaves a (head t hh) (cn t b) ob X
      (View.ld x0 (Rect.unit ![o0, o1, 0] ![1, 64, 256] i0)) (View.ld x1 (Rect.unit ![o0, o1, 0] ![1, 64, 128] i1))
      (View.ld x2 (Rect.unit ![o0, o1, 0] ![1, 64, 128] i2)) (View.ld x3 (Rect.unit ![o0, o1, 0] ![1, 64, 128] i3))
      (View.ld x4 (Rect.unit ![o0, o1, 0] ![1, 64, 128] i4)) (View.ld x5 (Rect.unit ![o0, o1, 0] ![1, 1, 1] i5))
      (View.ld x6 (Rect.unit ![o0, ob, 0, 0] ![1, 1, 128, 256] i6)) (View.ld x7 (Rect.unit ![o0, o1, 0] ![1, 64, 256] i7)) xs where
  half := hb.trans (cn_mod t b).symm
  u z c e := by
    rw [← rowOf_half t b c ⟨64 * b.val + c.val, by omega⟩ rfl]
    exact (ld3 x0 hh b o0 o1 h0 h1 i0 z c e).trans (B.u _ _ _)
  w z c e := by
    rw [← rowOf_half t b c ⟨64 * b.val + c.val, by omega⟩ rfl]
    exact (ld3 x1 hh b o0 o1 h0 h1 i1 z c e).trans (B.w _ _ _)
  p z c k := by
    rw [← rowOf_half t b c ⟨64 * b.val + c.val, by omega⟩ rfl, cn_mod]
    refine (ld3 x2 hh b o0 o1 h0 h1 i2 z c k).trans ((B.p _ _ _).trans ?_)
    have e1 : (64 * b.val + c.val) / 64 = b.val := by omega
    have e2 : (64 * b.val + c.val) % 64 = c.val := by omega
    show (if k.val / 64 = (64 * b.val + c.val) / 64 ∧ k.val % 64 ≤ (64 * b.val + c.val) % 64 then _ else _) = _
    rw [e1, e2]
  qd z c e := by
    rw [← rowOf_half t b c ⟨64 * b.val + c.val, by omega⟩ rfl]
    exact (ld3 x3 hh b o0 o1 h0 h1 i3 z c e).trans (B.qd _ _ _)
  kd z c e := by
    rw [← rowOf_half t b c ⟨64 * b.val + c.val, by omega⟩ rfl]
    exact (ld3 x4 hh b o0 o1 h0 h1 i4 z c e).trans (B.kd _ _ _)
  gl x y z := by
    subst h0 h1
    have hx0 : x.val = 0 := by omega
    have hy0 : y.val = 0 := by omega
    refine (View.ld_unit_apply_of x5 _ _ i5 _ (ix3 hh (⟨64 * b.val, by omega⟩ : Fin 128) z) fun k => ?_).trans
      (B.gl hh ⟨64 * b.val, by omega⟩ z b rfl)
    match k with
    | ⟨0, _⟩ => show hh.val = hh.val + x.val; omega
    | ⟨1, _⟩ => show 64 * b.val = 64 * b.val + y.val; omega
    | ⟨2, _⟩ => show z.val = 0 + z.val; omega
  st y z d e := by
    subst h0 hb
    have hy0 : y.val = 0 := by omega
    have hz0 : z.val = 0 := by omega
    refine (View.ld_unit_apply_of x6 _ _ i6 _ (ix4 hh b d e) fun k => ?_).trans (B.st hh b d e)
    match k with
    | ⟨0, _⟩ => show hh.val = hh.val + y.val; omega
    | ⟨1, _⟩ => show b.val = b.val + z.val; omega
    | ⟨2, _⟩ => show d.val = 0 + d.val; omega
    | ⟨3, _⟩ => show e.val = 0 + e.val; omega
  ct z c e := by
    rw [← rowOf_half t b c ⟨64 * b.val + c.val, by omega⟩ rfl]
    exact (ld3 x7 hh b o0 o1 h0 h1 i7 z c e).trans (B.ct _ _ _)
  xs := hx

/-- The loads of head 0's chunk in half 0. -/
theorem leaf_0_0 (B : Blocks a t x0 x1 x2 x3 x4 x5 x6 x7) {X : Fin 128 → Fin 256 → EReal} {xs : V S1x128x256 .f32}
    (hx : ∀ z d e, xs (ix3 z d e) = X d e) :
    Leaves a (head t 0) (cn t 0) 0 X
      (View.ld x0 (Rect.unit ![0, 0, 0] ![1, 64, 256] inb_S4x128x256_S1x64x256_0_0_0)) (View.ld x1 (Rect.unit ![0, 0, 0] ![1, 64, 128] inb_S4x128x128_S1x64x128_0_0_0))
      (View.ld x2 (Rect.unit ![0, 0, 0] ![1, 64, 128] inb_S4x128x128_S1x64x128_0_0_0)) (View.ld x3 (Rect.unit ![0, 0, 0] ![1, 64, 128] inb_S4x128x128_S1x64x128_0_0_0))
      (View.ld x4 (Rect.unit ![0, 0, 0] ![1, 64, 128] inb_S4x128x128_S1x64x128_0_0_0))
      (View.ld x5 (Rect.unit ![0, 0, 0] ![1, 1, 1] inb_S4x128x1_S1x1x1_0_0_0))
      (View.ld x6 (Rect.unit ![0, 0, 0, 0] ![1, 1, 128, 256] inb_S4x2x128x256_S1x1x128x256_0_0_0_0))
      (View.ld x7 (Rect.unit ![0, 0, 0] ![1, 64, 256] inb_S4x128x256_S1x64x256_0_0_0)) xs :=
  B.leaves 0 0 0 0 0 rfl rfl rfl hx inb_S4x128x256_S1x64x256_0_0_0 inb_S4x128x128_S1x64x128_0_0_0 inb_S4x128x128_S1x64x128_0_0_0 inb_S4x128x128_S1x64x128_0_0_0 inb_S4x128x128_S1x64x128_0_0_0
    inb_S4x128x1_S1x1x1_0_0_0 inb_S4x2x128x256_S1x1x128x256_0_0_0_0 inb_S4x128x256_S1x64x256_0_0_0

/-- The loads of head 1's chunk in half 0. -/
theorem leaf_0_1 (B : Blocks a t x0 x1 x2 x3 x4 x5 x6 x7) {X : Fin 128 → Fin 256 → EReal} {xs : V S1x128x256 .f32}
    (hx : ∀ z d e, xs (ix3 z d e) = X d e) :
    Leaves a (head t 1) (cn t 0) 0 X
      (View.ld x0 (Rect.unit ![1, 0, 0] ![1, 64, 256] inb_S4x128x256_S1x64x256_1_0_0)) (View.ld x1 (Rect.unit ![1, 0, 0] ![1, 64, 128] inb_S4x128x128_S1x64x128_1_0_0))
      (View.ld x2 (Rect.unit ![1, 0, 0] ![1, 64, 128] inb_S4x128x128_S1x64x128_1_0_0)) (View.ld x3 (Rect.unit ![1, 0, 0] ![1, 64, 128] inb_S4x128x128_S1x64x128_1_0_0))
      (View.ld x4 (Rect.unit ![1, 0, 0] ![1, 64, 128] inb_S4x128x128_S1x64x128_1_0_0))
      (View.ld x5 (Rect.unit ![1, 0, 0] ![1, 1, 1] inb_S4x128x1_S1x1x1_1_0_0))
      (View.ld x6 (Rect.unit ![1, 0, 0, 0] ![1, 1, 128, 256] inb_S4x2x128x256_S1x1x128x256_1_0_0_0))
      (View.ld x7 (Rect.unit ![1, 0, 0] ![1, 64, 256] inb_S4x128x256_S1x64x256_1_0_0)) xs :=
  B.leaves 1 0 1 0 0 rfl rfl rfl hx inb_S4x128x256_S1x64x256_1_0_0 inb_S4x128x128_S1x64x128_1_0_0 inb_S4x128x128_S1x64x128_1_0_0 inb_S4x128x128_S1x64x128_1_0_0 inb_S4x128x128_S1x64x128_1_0_0
    inb_S4x128x1_S1x1x1_1_0_0 inb_S4x2x128x256_S1x1x128x256_1_0_0_0 inb_S4x128x256_S1x64x256_1_0_0

/-- The loads of head 2's chunk in half 0. -/
theorem leaf_0_2 (B : Blocks a t x0 x1 x2 x3 x4 x5 x6 x7) {X : Fin 128 → Fin 256 → EReal} {xs : V S1x128x256 .f32}
    (hx : ∀ z d e, xs (ix3 z d e) = X d e) :
    Leaves a (head t 2) (cn t 0) 0 X
      (View.ld x0 (Rect.unit ![2, 0, 0] ![1, 64, 256] inb_S4x128x256_S1x64x256_2_0_0)) (View.ld x1 (Rect.unit ![2, 0, 0] ![1, 64, 128] inb_S4x128x128_S1x64x128_2_0_0))
      (View.ld x2 (Rect.unit ![2, 0, 0] ![1, 64, 128] inb_S4x128x128_S1x64x128_2_0_0)) (View.ld x3 (Rect.unit ![2, 0, 0] ![1, 64, 128] inb_S4x128x128_S1x64x128_2_0_0))
      (View.ld x4 (Rect.unit ![2, 0, 0] ![1, 64, 128] inb_S4x128x128_S1x64x128_2_0_0))
      (View.ld x5 (Rect.unit ![2, 0, 0] ![1, 1, 1] inb_S4x128x1_S1x1x1_2_0_0))
      (View.ld x6 (Rect.unit ![2, 0, 0, 0] ![1, 1, 128, 256] inb_S4x2x128x256_S1x1x128x256_2_0_0_0))
      (View.ld x7 (Rect.unit ![2, 0, 0] ![1, 64, 256] inb_S4x128x256_S1x64x256_2_0_0)) xs :=
  B.leaves 2 0 2 0 0 rfl rfl rfl hx inb_S4x128x256_S1x64x256_2_0_0 inb_S4x128x128_S1x64x128_2_0_0 inb_S4x128x128_S1x64x128_2_0_0 inb_S4x128x128_S1x64x128_2_0_0 inb_S4x128x128_S1x64x128_2_0_0
    inb_S4x128x1_S1x1x1_2_0_0 inb_S4x2x128x256_S1x1x128x256_2_0_0_0 inb_S4x128x256_S1x64x256_2_0_0

/-- The loads of head 3's chunk in half 0. -/
theorem leaf_0_3 (B : Blocks a t x0 x1 x2 x3 x4 x5 x6 x7) {X : Fin 128 → Fin 256 → EReal} {xs : V S1x128x256 .f32}
    (hx : ∀ z d e, xs (ix3 z d e) = X d e) :
    Leaves a (head t 3) (cn t 0) 0 X
      (View.ld x0 (Rect.unit ![3, 0, 0] ![1, 64, 256] inb_S4x128x256_S1x64x256_3_0_0)) (View.ld x1 (Rect.unit ![3, 0, 0] ![1, 64, 128] inb_S4x128x128_S1x64x128_3_0_0))
      (View.ld x2 (Rect.unit ![3, 0, 0] ![1, 64, 128] inb_S4x128x128_S1x64x128_3_0_0)) (View.ld x3 (Rect.unit ![3, 0, 0] ![1, 64, 128] inb_S4x128x128_S1x64x128_3_0_0))
      (View.ld x4 (Rect.unit ![3, 0, 0] ![1, 64, 128] inb_S4x128x128_S1x64x128_3_0_0))
      (View.ld x5 (Rect.unit ![3, 0, 0] ![1, 1, 1] inb_S4x128x1_S1x1x1_3_0_0))
      (View.ld x6 (Rect.unit ![3, 0, 0, 0] ![1, 1, 128, 256] inb_S4x2x128x256_S1x1x128x256_3_0_0_0))
      (View.ld x7 (Rect.unit ![3, 0, 0] ![1, 64, 256] inb_S4x128x256_S1x64x256_3_0_0)) xs :=
  B.leaves 3 0 3 0 0 rfl rfl rfl hx inb_S4x128x256_S1x64x256_3_0_0 inb_S4x128x128_S1x64x128_3_0_0 inb_S4x128x128_S1x64x128_3_0_0 inb_S4x128x128_S1x64x128_3_0_0 inb_S4x128x128_S1x64x128_3_0_0
    inb_S4x128x1_S1x1x1_3_0_0 inb_S4x2x128x256_S1x1x128x256_3_0_0_0 inb_S4x128x256_S1x64x256_3_0_0

/-- The loads of head 0's chunk in half 1. -/
theorem leaf_1_0 (B : Blocks a t x0 x1 x2 x3 x4 x5 x6 x7) {X : Fin 128 → Fin 256 → EReal} {xs : V S1x128x256 .f32}
    (hx : ∀ z d e, xs (ix3 z d e) = X d e) :
    Leaves a (head t 0) (cn t 1) 1 X
      (View.ld x0 (Rect.unit ![0, 64, 0] ![1, 64, 256] inb_S4x128x256_S1x64x256_0_64_0)) (View.ld x1 (Rect.unit ![0, 64, 0] ![1, 64, 128] inb_S4x128x128_S1x64x128_0_64_0))
      (View.ld x2 (Rect.unit ![0, 64, 0] ![1, 64, 128] inb_S4x128x128_S1x64x128_0_64_0)) (View.ld x3 (Rect.unit ![0, 64, 0] ![1, 64, 128] inb_S4x128x128_S1x64x128_0_64_0))
      (View.ld x4 (Rect.unit ![0, 64, 0] ![1, 64, 128] inb_S4x128x128_S1x64x128_0_64_0))
      (View.ld x5 (Rect.unit ![0, 64, 0] ![1, 1, 1] inb_S4x128x1_S1x1x1_0_64_0))
      (View.ld x6 (Rect.unit ![0, 1, 0, 0] ![1, 1, 128, 256] inb_S4x2x128x256_S1x1x128x256_0_1_0_0))
      (View.ld x7 (Rect.unit ![0, 64, 0] ![1, 64, 256] inb_S4x128x256_S1x64x256_0_64_0)) xs :=
  B.leaves 0 1 0 64 1 rfl rfl rfl hx inb_S4x128x256_S1x64x256_0_64_0 inb_S4x128x128_S1x64x128_0_64_0 inb_S4x128x128_S1x64x128_0_64_0 inb_S4x128x128_S1x64x128_0_64_0 inb_S4x128x128_S1x64x128_0_64_0
    inb_S4x128x1_S1x1x1_0_64_0 inb_S4x2x128x256_S1x1x128x256_0_1_0_0 inb_S4x128x256_S1x64x256_0_64_0

/-- The loads of head 1's chunk in half 1. -/
theorem leaf_1_1 (B : Blocks a t x0 x1 x2 x3 x4 x5 x6 x7) {X : Fin 128 → Fin 256 → EReal} {xs : V S1x128x256 .f32}
    (hx : ∀ z d e, xs (ix3 z d e) = X d e) :
    Leaves a (head t 1) (cn t 1) 1 X
      (View.ld x0 (Rect.unit ![1, 64, 0] ![1, 64, 256] inb_S4x128x256_S1x64x256_1_64_0)) (View.ld x1 (Rect.unit ![1, 64, 0] ![1, 64, 128] inb_S4x128x128_S1x64x128_1_64_0))
      (View.ld x2 (Rect.unit ![1, 64, 0] ![1, 64, 128] inb_S4x128x128_S1x64x128_1_64_0)) (View.ld x3 (Rect.unit ![1, 64, 0] ![1, 64, 128] inb_S4x128x128_S1x64x128_1_64_0))
      (View.ld x4 (Rect.unit ![1, 64, 0] ![1, 64, 128] inb_S4x128x128_S1x64x128_1_64_0))
      (View.ld x5 (Rect.unit ![1, 64, 0] ![1, 1, 1] inb_S4x128x1_S1x1x1_1_64_0))
      (View.ld x6 (Rect.unit ![1, 1, 0, 0] ![1, 1, 128, 256] inb_S4x2x128x256_S1x1x128x256_1_1_0_0))
      (View.ld x7 (Rect.unit ![1, 64, 0] ![1, 64, 256] inb_S4x128x256_S1x64x256_1_64_0)) xs :=
  B.leaves 1 1 1 64 1 rfl rfl rfl hx inb_S4x128x256_S1x64x256_1_64_0 inb_S4x128x128_S1x64x128_1_64_0 inb_S4x128x128_S1x64x128_1_64_0 inb_S4x128x128_S1x64x128_1_64_0 inb_S4x128x128_S1x64x128_1_64_0
    inb_S4x128x1_S1x1x1_1_64_0 inb_S4x2x128x256_S1x1x128x256_1_1_0_0 inb_S4x128x256_S1x64x256_1_64_0

/-- The loads of head 2's chunk in half 1. -/
theorem leaf_1_2 (B : Blocks a t x0 x1 x2 x3 x4 x5 x6 x7) {X : Fin 128 → Fin 256 → EReal} {xs : V S1x128x256 .f32}
    (hx : ∀ z d e, xs (ix3 z d e) = X d e) :
    Leaves a (head t 2) (cn t 1) 1 X
      (View.ld x0 (Rect.unit ![2, 64, 0] ![1, 64, 256] inb_S4x128x256_S1x64x256_2_64_0)) (View.ld x1 (Rect.unit ![2, 64, 0] ![1, 64, 128] inb_S4x128x128_S1x64x128_2_64_0))
      (View.ld x2 (Rect.unit ![2, 64, 0] ![1, 64, 128] inb_S4x128x128_S1x64x128_2_64_0)) (View.ld x3 (Rect.unit ![2, 64, 0] ![1, 64, 128] inb_S4x128x128_S1x64x128_2_64_0))
      (View.ld x4 (Rect.unit ![2, 64, 0] ![1, 64, 128] inb_S4x128x128_S1x64x128_2_64_0))
      (View.ld x5 (Rect.unit ![2, 64, 0] ![1, 1, 1] inb_S4x128x1_S1x1x1_2_64_0))
      (View.ld x6 (Rect.unit ![2, 1, 0, 0] ![1, 1, 128, 256] inb_S4x2x128x256_S1x1x128x256_2_1_0_0))
      (View.ld x7 (Rect.unit ![2, 64, 0] ![1, 64, 256] inb_S4x128x256_S1x64x256_2_64_0)) xs :=
  B.leaves 2 1 2 64 1 rfl rfl rfl hx inb_S4x128x256_S1x64x256_2_64_0 inb_S4x128x128_S1x64x128_2_64_0 inb_S4x128x128_S1x64x128_2_64_0 inb_S4x128x128_S1x64x128_2_64_0 inb_S4x128x128_S1x64x128_2_64_0
    inb_S4x128x1_S1x1x1_2_64_0 inb_S4x2x128x256_S1x1x128x256_2_1_0_0 inb_S4x128x256_S1x64x256_2_64_0

/-- The loads of head 3's chunk in half 1. -/
theorem leaf_1_3 (B : Blocks a t x0 x1 x2 x3 x4 x5 x6 x7) {X : Fin 128 → Fin 256 → EReal} {xs : V S1x128x256 .f32}
    (hx : ∀ z d e, xs (ix3 z d e) = X d e) :
    Leaves a (head t 3) (cn t 1) 1 X
      (View.ld x0 (Rect.unit ![3, 64, 0] ![1, 64, 256] inb_S4x128x256_S1x64x256_3_64_0)) (View.ld x1 (Rect.unit ![3, 64, 0] ![1, 64, 128] inb_S4x128x128_S1x64x128_3_64_0))
      (View.ld x2 (Rect.unit ![3, 64, 0] ![1, 64, 128] inb_S4x128x128_S1x64x128_3_64_0)) (View.ld x3 (Rect.unit ![3, 64, 0] ![1, 64, 128] inb_S4x128x128_S1x64x128_3_64_0))
      (View.ld x4 (Rect.unit ![3, 64, 0] ![1, 64, 128] inb_S4x128x128_S1x64x128_3_64_0))
      (View.ld x5 (Rect.unit ![3, 64, 0] ![1, 1, 1] inb_S4x128x1_S1x1x1_3_64_0))
      (View.ld x6 (Rect.unit ![3, 1, 0, 0] ![1, 1, 128, 256] inb_S4x2x128x256_S1x1x128x256_3_1_0_0))
      (View.ld x7 (Rect.unit ![3, 64, 0] ![1, 64, 256] inb_S4x128x256_S1x64x256_3_64_0)) xs :=
  B.leaves 3 1 3 64 1 rfl rfl rfl hx inb_S4x128x256_S1x64x256_3_64_0 inb_S4x128x128_S1x64x128_3_64_0 inb_S4x128x128_S1x64x128_3_64_0 inb_S4x128x128_S1x64x128_3_64_0 inb_S4x128x128_S1x64x128_3_64_0
    inb_S4x128x1_S1x1x1_3_64_0 inb_S4x2x128x256_S1x1x128x256_3_1_0_0 inb_S4x128x256_S1x64x256_3_64_0

/-- The place of a head's state in the scratch. -/
theorem emb_state (hh : Fin 4) (o0 : ℕ) (h0 : o0 = hh.val)
    (inb : ∀ k, (![o0, 0, 0] : Fin 3 → ℕ) k + (![1, 128, 256] : Fin 3 → ℕ) k ≤ S4x128x256.size k)
    (z : Fin 1) (d : Fin 128) (e : Fin 256) :
    (Rect.unit (s := S4x128x256) ![o0, 0, 0] ![1, 128, 256] inb).emb (ix3 z d e) = ix3 hh d e := by
  subst h0
  have hz : z.val = 0 := by omega
  funext k
  apply Fin.ext
  refine (Rect.idx_unit_val _ _ inb (ix3 z d e) k).trans ?_
  match k with
  | ⟨0, _⟩ => show hh.val + z.val = hh.val; omega
  | ⟨1, _⟩ => show 0 + d.val = d.val; omega
  | ⟨2, _⟩ => show 0 + e.val = e.val; omega

theorem mem_state (hh : Fin 4) (o0 : ℕ) (h0 : o0 = hh.val)
    (inb : ∀ k, (![o0, 0, 0] : Fin 3 → ℕ) k + (![1, 128, 256] : Fin 3 → ℕ) k ≤ S4x128x256.size k)
    (d : Fin 128) (e : Fin 256) :
    (ix3 hh d e : S4x128x256.Idx) ∈ (Rect.unit (s := S4x128x256) ![o0, 0, 0] ![1, 128, 256] inb).set := by
  rw [← emb_state hh o0 h0 inb 0 d e]
  exact LoadRect.idx_mem _ _

/-! Where the four heads' states lie. -/

theorem fits_0 : ∀ k, (![0, 0, 0] : Fin 3 → ℕ) k + (![1, 128, 256] : Fin 3 → ℕ) k ≤ S4x128x256.size k := inb_S4x128x256_S1x128x256_0_0_0
theorem fits_1 : ∀ k, (![1, 0, 0] : Fin 3 → ℕ) k + (![1, 128, 256] : Fin 3 → ℕ) k ≤ S4x128x256.size k := inb_S4x128x256_S1x128x256_1_0_0
theorem fits_2 : ∀ k, (![2, 0, 0] : Fin 3 → ℕ) k + (![1, 128, 256] : Fin 3 → ℕ) k ≤ S4x128x256.size k := inb_S4x128x256_S1x128x256_2_0_0
theorem fits_3 : ∀ k, (![3, 0, 0] : Fin 3 → ℕ) k + (![1, 128, 256] : Fin 3 → ℕ) k ≤ S4x128x256.size k := inb_S4x128x256_S1x128x256_3_0_0

/-- The scratch as a point finds it, loaded for one head. -/
theorem ld_state {xs0 : V S4x128x256 .f32} {Y : Fin 4 → Fin 128 → Fin 256 → EReal} (hx : ∀ hh d e, xs0 (ix3 hh d e) = Y hh d e)
    (hh : Fin 4) (o0 : ℕ) (h0 : o0 = hh.val)
    (inb : ∀ k, (![o0, 0, 0] : Fin 3 → ℕ) k + (![1, 128, 256] : Fin 3 → ℕ) k ≤ S4x128x256.size k)
    (z : Fin 1) (d : Fin 128) (e : Fin 256) :
    View.ld xs0 (Rect.unit (s := S4x128x256) ![o0, 0, 0] ![1, 128, 256] inb) (ix3 z d e) = Y hh d e :=
  (congrArg xs0 (emb_state hh o0 h0 inb z d e)).trans (hx hh d e)

abbrev P4 : Type := View.Piece (Elt Ideal) S4x128x256 .f32

/-- The four states stored one by one, last first, over earlier stores `L`. -/
abbrev four (v3 v2 v1 v0 : V S1x128x256 .f32) (L : List P4) : List P4 :=
  ⟨Rect.unit ![3, 0, 0] ![1, 128, 256] inb_S4x128x256_S1x128x256_3_0_0, v3⟩
    :: ⟨Rect.unit ![2, 0, 0] ![1, 128, 256] inb_S4x128x256_S1x128x256_2_0_0, v2⟩
    :: ⟨Rect.unit ![1, 0, 0] ![1, 128, 256] inb_S4x128x256_S1x128x256_1_0_0, v1⟩
    :: ⟨Rect.unit ![0, 0, 0] ![1, 128, 256] inb_S4x128x256_S1x128x256_0_0_0, v0⟩ :: L

/-- What the scratch holds after the four stores, whatever it held. -/
theorem canon_four {v3 v2 v1 v0 : V S1x128x256 .f32} {Y : Fin 4 → Fin 128 → Fin 256 → EReal}
    (h3 : ∀ z d e, v3 (ix3 z d e) = Y 3 d e) (h2 : ∀ z d e, v2 (ix3 z d e) = Y 2 d e)
    (h1 : ∀ z d e, v1 (ix3 z d e) = Y 1 d e) (h0 : ∀ z d e, v0 (ix3 z d e) = Y 0 d e) (L : List P4)
    (hh : Fin 4) (d : Fin 128) (e : Fin 256) : View.canon (four v3 v2 v1 v0 L) (ix3 hh d e) = Y hh d e := by
  refine View.canon_append_of_pieces (fun i => Y (i 0) (i 1) (i 2)) L (four v3 v2 v1 v0 []) ?_ (ix3 hh d e) ?_
  · intro p hp
    simp only [List.mem_cons, List.not_mem_nil, or_false] at hp
    rcases hp with rfl | rfl | rfl | rfl
    · exact all3 fun z d e => (h3 z d e).trans
        (congrArg (fun i : S4x128x256.Idx => Y (i 0) (i 1) (i 2)) (emb_state 3 3 rfl inb_S4x128x256_S1x128x256_3_0_0 z d e)).symm
    · exact all3 fun z d e => (h2 z d e).trans
        (congrArg (fun i : S4x128x256.Idx => Y (i 0) (i 1) (i 2)) (emb_state 2 2 rfl inb_S4x128x256_S1x128x256_2_0_0 z d e)).symm
    · exact all3 fun z d e => (h1 z d e).trans
        (congrArg (fun i : S4x128x256.Idx => Y (i 0) (i 1) (i 2)) (emb_state 1 1 rfl inb_S4x128x256_S1x128x256_1_0_0 z d e)).symm
    · exact all3 fun z d e => (h0 z d e).trans
        (congrArg (fun i : S4x128x256.Idx => Y (i 0) (i 1) (i 2)) (emb_state 0 0 rfl inb_S4x128x256_S1x128x256_0_0_0 z d e)).symm
  · match hh with
    | 0 => exact ⟨_, List.mem_cons_of_mem _ (List.mem_cons_of_mem _ (List.mem_cons_of_mem _ List.mem_cons_self)),
        mem_state 0 0 rfl inb_S4x128x256_S1x128x256_0_0_0 d e⟩
    | 1 => exact ⟨_, List.mem_cons_of_mem _ (List.mem_cons_of_mem _ List.mem_cons_self), mem_state 1 1 rfl inb_S4x128x256_S1x128x256_1_0_0 d e⟩
    | 2 => exact ⟨_, List.mem_cons_of_mem _ List.mem_cons_self, mem_state 2 2 rfl inb_S4x128x256_S1x128x256_2_0_0 d e⟩
    | 3 => exact ⟨_, List.mem_cons_self, mem_state 3 3 rfl inb_S4x128x256_S1x128x256_3_0_0 d e⟩

/-- A load of one head's state after the four stores. -/
theorem read_four {κ : Kind} {sp : Space} (v : View sig κ sp S4x128x256 .f32) {v3 v2 v1 v0 : V S1x128x256 .f32}
    {Y : Fin 4 → Fin 128 → Fin 256 → EReal}
    (h3 : ∀ z d e, v3 (ix3 z d e) = Y 3 d e) (h2 : ∀ z d e, v2 (ix3 z d e) = Y 2 d e)
    (h1 : ∀ z d e, v1 (ix3 z d e) = Y 1 d e) (h0 : ∀ z d e, v0 (ix3 z d e) = Y 0 d e) (L : List P4)
    (hh : Fin 4) (o0 : ℕ) (ho : o0 = hh.val)
    (inb : ∀ k, (![o0, 0, 0] : Fin 3 → ℕ) k + (![1, 128, 256] : Fin 3 → ℕ) k ≤ S4x128x256.size k)
    (z : Fin 1) (d : Fin 128) (e : Fin 256) :
    v.readCov (four v3 v2 v1 v0 L) (Rect.unit (s := S4x128x256) ![o0, 0, 0] ![1, 128, 256] inb).toLoadRect (ix3 z d e)
      = Y hh d e := by
  rw [View.readCov_eq_canon']
  exact (congrArg _ (emb_state hh o0 ho inb z d e)).trans (canon_four h3 h2 h1 h0 L hh d e)

/-- A load of one head's state after the scratch is set to zero. -/
theorem read_zero {κ : Kind} {sp : Space} (v : View sig κ sp S4x128x256 .f32) (o0 : ℕ)
    (inb : ∀ k, (![o0, 0, 0] : Fin 3 → ℕ) k + (![1, 128, 256] : Fin 3 → ℕ) k ≤ S4x128x256.size k)
    (z : Fin 1) (d : Fin 128) (e : Fin 256) :
    v.readCov (Val := Elt Ideal)
        [⟨Rect.unit ![0, 0, 0] ![4, 128, 256] inb_S4x128x256_S4x128x256_0_0_0, k0_pay3 (F := Ideal)⟩]
        (Rect.unit (s := S4x128x256) ![o0, 0, 0] ![1, 128, 256] inb).toLoadRect (ix3 z d e) = (0 : EReal) := by
  rw [View.readCov_eq_canon']
  have hm : (Rect.unit (s := S4x128x256) ![o0, 0, 0] ![1, 128, 256] inb).emb (ix3 z d e)
      ∈ (Rect.unit (s := S4x128x256) ![0, 0, 0] ![4, 128, 256] inb_S4x128x256_S4x128x256_0_0_0).set := by
    refine Rect.mem_set_unit.mpr fun k => ?_
    match k with
    | ⟨0, _⟩ => exact ⟨Nat.zero_le _, (((Rect.unit (s := S4x128x256) ![o0, 0, 0] ![1, 128, 256] inb).emb (ix3 z d e)) 0).isLt⟩
    | ⟨1, _⟩ => exact ⟨Nat.zero_le _, (((Rect.unit (s := S4x128x256) ![o0, 0, 0] ![1, 128, 256] inb).emb (ix3 z d e)) 1).isLt⟩
    | ⟨2, _⟩ => exact ⟨Nat.zero_le _, (((Rect.unit (s := S4x128x256) ![o0, 0, 0] ![1, 128, 256] inb).emb (ix3 z d e)) 2).isLt⟩
  refine View.canon_apply_of_pieces (Val := Elt Ideal) (e := .f32) (fun _ => (0 : EReal)) _ ?_ _
    ⟨_, List.mem_cons_self, hm⟩
  intro p hp
  simp only [List.mem_cons, List.not_mem_nil, or_false] at hp
  subst hp
  intro x
  exact Ideal.ofBits_zero_f32

/-- The same, of a state gradient that is zero. -/
theorem from_zero {κ : Kind} {sp : Space} (v : View sig κ sp S4x128x256 .f32) (o0 : ℕ)
    (inb : ∀ k, (![o0, 0, 0] : Fin 3 → ℕ) k + (![1, 128, 256] : Fin 3 → ℕ) k ≤ S4x128x256.size k)
    {X : Fin 128 → Fin 256 → EReal} (hx : ∀ d e, (0 : EReal) = X d e) (z : Fin 1) (d : Fin 128) (e : Fin 256) :
    v.readCov (Val := Elt Ideal)
        [⟨Rect.unit ![0, 0, 0] ![4, 128, 256] inb_S4x128x256_S4x128x256_0_0_0, k0_pay3 (F := Ideal)⟩]
        (Rect.unit (s := S4x128x256) ![o0, 0, 0] ![1, 128, 256] inb).toLoadRect (ix3 z d e) = X d e :=
  (read_zero v o0 inb z d e).trans (hx d e)

/-- The state gradient that reaches the later chunk of grid point `t` … -/
theorem into_one (t : Fin 66) (h : Fin 8) : into a h (cn t 1) = grad a h (2 * (t.val % 33)) := by
  rw [cn_one, into_chunk a h _ (by omega)]

/-- … is zero at the first point of a group … -/
theorem into_first {t : Fin 66} (ht : t.val % 33 = 0) (h : Fin 8) (d : Fin 128) (e : Fin 256) : into a h (cn t 1) d e = 0 := by
  rw [into_one, ht]
  rfl

/-- … the one that reaches the earlier chunk … -/
theorem next_one (t : Fin 66) (h : Fin 8) (d : Fin 128) (e : Fin 256) :
    next a (into a h (cn t 1)) h (cn t 1) d e = into a h (cn t 0) d e := by
  rw [into_one, cn_zero, into_chunk a h _ (by omega), cn_one]
  rfl

/-- Reading back the four states that come into the first chunk. -/
theorem read_into {κ : Kind} {sp : Space} (v : View sig κ sp S4x128x256 .f32) {v3 v2 v1 v0 : V S1x128x256 .f32}
    (h3 : ∀ z d e, v3 (ix3 z d e) = into a (head t 3) (cn t 0) d e) (h2 : ∀ z d e, v2 (ix3 z d e) = into a (head t 2) (cn t 0) d e)
    (h1 : ∀ z d e, v1 (ix3 z d e) = into a (head t 1) (cn t 0) d e) (h0 : ∀ z d e, v0 (ix3 z d e) = into a (head t 0) (cn t 0) d e)
    (L : List P4) (hh : Fin 4) (o0 : ℕ) (ho : o0 = hh.val)
    (inb : ∀ k, (![o0, 0, 0] : Fin 3 → ℕ) k + (![1, 128, 256] : Fin 3 → ℕ) k ≤ S4x128x256.size k)
    (z : Fin 1) (d : Fin 128) (e : Fin 256) :
    v.readCov (four v3 v2 v1 v0 L) (Rect.unit (s := S4x128x256) ![o0, 0, 0] ![1, 128, 256] inb).toLoadRect (ix3 z d e)
      = into a (head t hh) (cn t 0) d e :=
  read_four (Y := fun hh => into a (head t hh) (cn t 0)) v h3 h2 h1 h0 L hh o0 ho inb z d e

/-! A head's second chunk: what its leaves give is the state gradient that comes into the first chunk. -/

theorem step_0 {u : V S1x64x256 .f32} {w : V S1x64x128 .bf16} {p : V S1x64x128 .bf16} {qd : V S1x64x128 .bf16} {kd : V S1x64x128 .bf16} {gl : V S1x1x1 .f32} {st : V S1x1x128x256 .bf16} {ct : V S1x64x256 .f32} {xs : V S1x128x256 .f32}
    (L : Leaves a (head t 0) (cn t 1) 1 (into a (head t 0) (cn t 1)) u w p qd kd gl st ct xs) (z : Fin 1) (d : Fin 128) (e : Fin 256) :
    k0_pay62 (k0_pay52 (k0_pay9 xs) (k0_pay21 w) (k0_pay35 (k0_pay17 ct) (k0_pay29 (k0_pay13 xs) (k0_pay17 ct) p kd)) gl qd) (ix3 z d e) = into a (head t 0) (cn t 0) d e :=
  (nx_1_0 _ _ _ _ _ _ _ _ _ L z d e).trans (next_one t _ d e)

theorem step_1 {u : V S1x64x256 .f32} {w : V S1x64x128 .bf16} {p : V S1x64x128 .bf16} {qd : V S1x64x128 .bf16} {kd : V S1x64x128 .bf16} {gl : V S1x1x1 .f32} {st : V S1x1x128x256 .bf16} {ct : V S1x64x256 .f32} {xs : V S1x128x256 .f32}
    (L : Leaves a (head t 1) (cn t 1) 1 (into a (head t 1) (cn t 1)) u w p qd kd gl st ct xs) (z : Fin 1) (d : Fin 128) (e : Fin 256) :
    k0_pay71 (k0_pay53 (k0_pay10 xs) (k0_pay22 w) (k0_pay36 (k0_pay18 ct) (k0_pay30 (k0_pay14 xs) (k0_pay18 ct) p kd)) gl qd) (ix3 z d e) = into a (head t 1) (cn t 0) d e :=
  (nx_1_1 _ _ _ _ _ _ _ _ _ L z d e).trans (next_one t _ d e)

theorem step_2 {u : V S1x64x256 .f32} {w : V S1x64x128 .bf16} {p : V S1x64x128 .bf16} {qd : V S1x64x128 .bf16} {kd : V S1x64x128 .bf16} {gl : V S1x1x1 .f32} {st : V S1x1x128x256 .bf16} {ct : V S1x64x256 .f32} {xs : V S1x128x256 .f32}
    (L : Leaves a (head t 2) (cn t 1) 1 (into a (head t 2) (cn t 1)) u w p qd kd gl st ct xs) (z : Fin 1) (d : Fin 128) (e : Fin 256) :
    k0_pay79 (k0_pay54 (k0_pay11 xs) (k0_pay23 w) (k0_pay37 (k0_pay15 xs) (k0_pay19 ct) (k0_pay31 (k0_pay19 ct) p) (k0_pay32 kd) (constant S64x256 .f32 0#32)) gl qd) (ix3 z d e) = into a (head t 2) (cn t 0) d e :=
  (nx_1_2 _ _ _ _ _ _ _ _ _ L z d e).trans (next_one t _ d e)

theorem step_3 {u : V S1x64x256 .f32} {w : V S1x64x128 .bf16} {p : V S1x64x128 .bf16} {qd : V S1x64x128 .bf16} {kd : V S1x64x128 .bf16} {gl : V S1x1x1 .f32} {st : V S1x1x128x256 .bf16} {ct : V S1x64x256 .f32} {xs : V S1x128x256 .f32}
    (L : Leaves a (head t 3) (cn t 1) 1 (into a (head t 3) (cn t 1)) u w p qd kd gl st ct xs) (z : Fin 1) (d : Fin 128) (e : Fin 256) :
    k0_pay87 (k0_pay55 (k0_pay12 xs) (k0_pay24 w) (k0_pay38 (k0_pay16 xs) (k0_pay20 ct) p kd) gl qd) (ix3 z d e) = into a (head t 3) (cn t 0) d e :=
  (nx_1_3 _ _ _ _ _ _ _ _ _ L z d e).trans (next_one t _ d e)

/-- … and the one the point leaves. -/
theorem next_zero (t : Fin 66) (h : Fin 8) (d : Fin 128) (e : Fin 256) :
    next a (into a h (cn t 0)) h (cn t 0) d e = grad a h (2 * (t.val % 33) + 2) d e := by
  rw [cn_zero, into_chunk a h _ (by omega)]
  rfl

/-- The gradient of `w` the kernel's way round: the sum negated, not its terms. -/
def dwK (a : Args) : (⟨3, ![8, 4224, 128]⟩ : Shape).Idx → EReal := fun i =>
  -∑ e : Fin 256, duAt a (i 0) (rowChunk (i 1)) (rowPos (i 1)) e * a.st (i 0) (rowChunk (i 1)) (i 2) e

/-! The six results at row `c` of chunk `n`. -/

theorem du_row (h : Fin 8) (n : Fin 66) (c : Fin 64) (e : Fin 256) :
    duOut a (ix3 h (row n c) e) = dv a (into a h n) h n c e := by
  show duAt a h (rowChunk (row n c)) (rowPos (row n c)) e = _
  rw [rowChunk_row, rowPos_row]
  rfl

theorem dw_row (h : Fin 8) (n : Fin 66) (c : Fin 64) (d : Fin 128) :
    dwK a (ix3 h (row n c) d) = -∑ e : Fin 256, dv a (into a h n) h n c e * a.st h n d e := by
  show -∑ e : Fin 256, duAt a h (rowChunk (row n c)) (rowPos (row n c)) e * a.st h (rowChunk (row n c)) d e = _
  rw [rowChunk_row, rowPos_row]
  rfl

theorem dp_row (h : Fin 8) (n : Fin 66) (c : Fin 64) (k : Fin 128) : dpOut a (ix3 h (row n c) k) = dpOf a h n c k := by
  show dpAt a h (row n c) k = _
  unfold dpAt dpOf
  rw [rowChunk_row, rowPos_row]
  have e1 : (row n c).val / 64 % 2 = n.val % 2 := by
    show (n.val * 64 + c.val) / 64 % 2 = n.val % 2
    omega
  have e2 : (row n c).val % 64 = c.val := by
    show (n.val * 64 + c.val) % 64 = c.val
    omega
  rw [e1, e2]

theorem dq_row (h : Fin 8) (n : Fin 66) (c : Fin 64) (d : Fin 128) : dqOut a (ix3 h (row n c) d) = dqAt a h n c d := by
  show dqAt a h (rowChunk (row n c)) (rowPos (row n c)) d = _
  rw [rowChunk_row, rowPos_row]

theorem dk_row (h : Fin 8) (n : Fin 66) (c : Fin 64) (d : Fin 128) :
    dkOut a (ix3 h (row n c) d) = ∑ e : Fin 256, into a h n d e * vn a h n c e := by
  show dkAt a h (rowChunk (row n c)) (rowPos (row n c)) d = _
  rw [rowChunk_row, rowPos_row]
  rfl

theorem dg_row (h : Fin 8) (n : Fin 66) (c : Fin 64) (z : Fin 1) :
    dgOut a (ix3 h (row n c) z)
      = if c.val = 63 then ∑ d : Fin 128, ∑ e : Fin 256, a.st h n d e * into a h n d e else 0 := by
  show dglAt a h (row n c) = _
  unfold dglAt
  rw [rowChunk_row]
  have e2 : (row n c).val % 64 = c.val := by
    show (n.val * 64 + c.val) % 64 = c.val
    omega
  rw [e2]
  rfl

end Cert.Scan.Kern

end
-- ==== Proof.First.lean ====
/-
  A GRID POINT'S RESULTS, the first point of a group of heads: each of its output blocks is its part of the specification's array.
-/
module

public import proofs.«01_k».proof.Proof.Names
public import proofs.«01_k».proof.Proof.Blocks

@[expose] public section

noncomputable section

namespace Cert.Scan.Kern

open Idealize.ShloMosaic Idealize.ShloMosaic.TcCoe Idealize.ShloMosaic.Tactic Cert.KernelIdeal Cert.KernelIdeal.Gen
open Idealize.SL.Sem
open scoped BigOperators

/-- The gradient of `u` at the first point of a group. -/
theorem out0_A_8_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x256.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (duOut a) y := by
  have hc := cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (duOut a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (du_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((du_row _ _ c e).symm.trans (blk_emb t (duOut a) 3 0 3 0 rfl rfl inb_S4x128x256_S1x64x256_3_0_0 z c e).symm)
  · exact all3 fun z c e => (du_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((du_row _ _ c e).symm.trans (blk_emb t (duOut a) 2 0 2 0 rfl rfl inb_S4x128x256_S1x64x256_2_0_0 z c e).symm)
  · exact all3 fun z c e => (du_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((du_row _ _ c e).symm.trans (blk_emb t (duOut a) 1 0 1 0 rfl rfl inb_S4x128x256_S1x64x256_1_0_0 z c e).symm)
  · exact all3 fun z c e => (du_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((du_row _ _ c e).symm.trans (blk_emb t (duOut a) 0 0 0 0 rfl rfl inb_S4x128x256_S1x64x256_0_0_0 z c e).symm)
  · exact all3 fun z c e => (du_1_3 _ _ _ _ _ _ _ _ _ (leaf_1_3 B (from_zero arg16.view 3 fits_3 (hx 3))) z c e).trans
      ((du_row _ _ c e).symm.trans (blk_emb t (duOut a) 3 1 3 64 rfl rfl inb_S4x128x256_S1x64x256_3_64_0 z c e).symm)
  · exact all3 fun z c e => (du_1_2 _ _ _ _ _ _ _ _ _ (leaf_1_2 B (from_zero arg16.view 2 fits_2 (hx 2))) z c e).trans
      ((du_row _ _ c e).symm.trans (blk_emb t (duOut a) 2 1 2 64 rfl rfl inb_S4x128x256_S1x64x256_2_64_0 z c e).symm)
  · exact all3 fun z c e => (du_1_1 _ _ _ _ _ _ _ _ _ (leaf_1_1 B (from_zero arg16.view 1 fits_1 (hx 1))) z c e).trans
      ((du_row _ _ c e).symm.trans (blk_emb t (duOut a) 1 1 1 64 rfl rfl inb_S4x128x256_S1x64x256_1_64_0 z c e).symm)
  · exact all3 fun z c e => (du_1_0 _ _ _ _ _ _ _ _ _ (leaf_1_0 B (from_zero arg16.view 0 fits_0 (hx 0))) z c e).trans
      ((du_row _ _ c e).symm.trans (blk_emb t (duOut a) 0 1 0 64 rfl rfl inb_S4x128x256_S1x64x256_0_64_0 z c e).symm)

/-- The gradient of `w` at the first point of a group. -/
theorem out0_A_9_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x128.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (dwK a) y := by
  have hc := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (dwK a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (dw_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((dw_row _ _ c e).symm.trans (blk_emb t (dwK a) 3 0 3 0 rfl rfl inb_S4x128x128_S1x64x128_3_0_0 z c e).symm)
  · exact all3 fun z c e => (dw_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((dw_row _ _ c e).symm.trans (blk_emb t (dwK a) 2 0 2 0 rfl rfl inb_S4x128x128_S1x64x128_2_0_0 z c e).symm)
  · exact all3 fun z c e => (dw_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((dw_row _ _ c e).symm.trans (blk_emb t (dwK a) 1 0 1 0 rfl rfl inb_S4x128x128_S1x64x128_1_0_0 z c e).symm)
  · exact all3 fun z c e => (dw_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((dw_row _ _ c e).symm.trans (blk_emb t (dwK a) 0 0 0 0 rfl rfl inb_S4x128x128_S1x64x128_0_0_0 z c e).symm)
  · exact all3 fun z c e => (dw_1_3 _ _ _ _ _ _ _ _ _ (leaf_1_3 B (from_zero arg16.view 3 fits_3 (hx 3))) z c e).trans
      ((dw_row _ _ c e).symm.trans (blk_emb t (dwK a) 3 1 3 64 rfl rfl inb_S4x128x128_S1x64x128_3_64_0 z c e).symm)
  · exact all3 fun z c e => (dw_1_2 _ _ _ _ _ _ _ _ _ (leaf_1_2 B (from_zero arg16.view 2 fits_2 (hx 2))) z c e).trans
      ((dw_row _ _ c e).symm.trans (blk_emb t (dwK a) 2 1 2 64 rfl rfl inb_S4x128x128_S1x64x128_2_64_0 z c e).symm)
  · exact all3 fun z c e => (dw_1_1 _ _ _ _ _ _ _ _ _ (leaf_1_1 B (from_zero arg16.view 1 fits_1 (hx 1))) z c e).trans
      ((dw_row _ _ c e).symm.trans (blk_emb t (dwK a) 1 1 1 64 rfl rfl inb_S4x128x128_S1x64x128_1_64_0 z c e).symm)
  · exact all3 fun z c e => (dw_1_0 _ _ _ _ _ _ _ _ _ (leaf_1_0 B (from_zero arg16.view 0 fits_0 (hx 0))) z c e).trans
      ((dw_row _ _ c e).symm.trans (blk_emb t (dwK a) 0 1 0 64 rfl rfl inb_S4x128x128_S1x64x128_0_64_0 z c e).symm)

/-- The gradient of `p` at the first point of a group. -/
theorem out0_A_10_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x128.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (dpOut a) y := by
  have hc := cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (dpOut a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (dp_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((dp_row _ _ c e).symm.trans (blk_emb t (dpOut a) 3 0 3 0 rfl rfl inb_S4x128x128_S1x64x128_3_0_0 z c e).symm)
  · exact all3 fun z c e => (dp_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((dp_row _ _ c e).symm.trans (blk_emb t (dpOut a) 2 0 2 0 rfl rfl inb_S4x128x128_S1x64x128_2_0_0 z c e).symm)
  · exact all3 fun z c e => (dp_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((dp_row _ _ c e).symm.trans (blk_emb t (dpOut a) 1 0 1 0 rfl rfl inb_S4x128x128_S1x64x128_1_0_0 z c e).symm)
  · exact all3 fun z c e => (dp_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((dp_row _ _ c e).symm.trans (blk_emb t (dpOut a) 0 0 0 0 rfl rfl inb_S4x128x128_S1x64x128_0_0_0 z c e).symm)
  · exact all3 fun z c e => (dp_1_3 _ _ _ _ _ _ _ _ _ (leaf_1_3 B (from_zero arg16.view 3 fits_3 (hx 3))) z c e).trans
      ((dp_row _ _ c e).symm.trans (blk_emb t (dpOut a) 3 1 3 64 rfl rfl inb_S4x128x128_S1x64x128_3_64_0 z c e).symm)
  · exact all3 fun z c e => (dp_1_2 _ _ _ _ _ _ _ _ _ (leaf_1_2 B (from_zero arg16.view 2 fits_2 (hx 2))) z c e).trans
      ((dp_row _ _ c e).symm.trans (blk_emb t (dpOut a) 2 1 2 64 rfl rfl inb_S4x128x128_S1x64x128_2_64_0 z c e).symm)
  · exact all3 fun z c e => (dp_1_1 _ _ _ _ _ _ _ _ _ (leaf_1_1 B (from_zero arg16.view 1 fits_1 (hx 1))) z c e).trans
      ((dp_row _ _ c e).symm.trans (blk_emb t (dpOut a) 1 1 1 64 rfl rfl inb_S4x128x128_S1x64x128_1_64_0 z c e).symm)
  · exact all3 fun z c e => (dp_1_0 _ _ _ _ _ _ _ _ _ (leaf_1_0 B (from_zero arg16.view 0 fits_0 (hx 0))) z c e).trans
      ((dp_row _ _ c e).symm.trans (blk_emb t (dpOut a) 0 1 0 64 rfl rfl inb_S4x128x128_S1x64x128_0_64_0 z c e).symm)

/-- The gradient of `qd` at the first point of a group. -/
theorem out0_A_11_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x128.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (dqOut a) y := by
  have hc := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (dqOut a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (dq_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((dq_row _ _ c e).symm.trans (blk_emb t (dqOut a) 3 0 3 0 rfl rfl inb_S4x128x128_S1x64x128_3_0_0 z c e).symm)
  · exact all3 fun z c e => (dq_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((dq_row _ _ c e).symm.trans (blk_emb t (dqOut a) 2 0 2 0 rfl rfl inb_S4x128x128_S1x64x128_2_0_0 z c e).symm)
  · exact all3 fun z c e => (dq_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((dq_row _ _ c e).symm.trans (blk_emb t (dqOut a) 1 0 1 0 rfl rfl inb_S4x128x128_S1x64x128_1_0_0 z c e).symm)
  · exact all3 fun z c e => (dq_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((dq_row _ _ c e).symm.trans (blk_emb t (dqOut a) 0 0 0 0 rfl rfl inb_S4x128x128_S1x64x128_0_0_0 z c e).symm)
  · exact all3 fun z c e => (dq_1_3 _ _ _ _ _ _ _ _ _ (leaf_1_3 B (from_zero arg16.view 3 fits_3 (hx 3))) z c e).trans
      ((dq_row _ _ c e).symm.trans (blk_emb t (dqOut a) 3 1 3 64 rfl rfl inb_S4x128x128_S1x64x128_3_64_0 z c e).symm)
  · exact all3 fun z c e => (dq_1_2 _ _ _ _ _ _ _ _ _ (leaf_1_2 B (from_zero arg16.view 2 fits_2 (hx 2))) z c e).trans
      ((dq_row _ _ c e).symm.trans (blk_emb t (dqOut a) 2 1 2 64 rfl rfl inb_S4x128x128_S1x64x128_2_64_0 z c e).symm)
  · exact all3 fun z c e => (dq_1_1 _ _ _ _ _ _ _ _ _ (leaf_1_1 B (from_zero arg16.view 1 fits_1 (hx 1))) z c e).trans
      ((dq_row _ _ c e).symm.trans (blk_emb t (dqOut a) 1 1 1 64 rfl rfl inb_S4x128x128_S1x64x128_1_64_0 z c e).symm)
  · exact all3 fun z c e => (dq_1_0 _ _ _ _ _ _ _ _ _ (leaf_1_0 B (from_zero arg16.view 0 fits_0 (hx 0))) z c e).trans
      ((dq_row _ _ c e).symm.trans (blk_emb t (dqOut a) 0 1 0 64 rfl rfl inb_S4x128x128_S1x64x128_0_64_0 z c e).symm)

/-- The gradient of `kd` at the first point of a group. -/
theorem out0_A_12_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x128.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (dkOut a) y := by
  have hc := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (dkOut a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (dk_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((dk_row _ _ c e).symm.trans (blk_emb t (dkOut a) 3 0 3 0 rfl rfl inb_S4x128x128_S1x64x128_3_0_0 z c e).symm)
  · exact all3 fun z c e => (dk_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((dk_row _ _ c e).symm.trans (blk_emb t (dkOut a) 2 0 2 0 rfl rfl inb_S4x128x128_S1x64x128_2_0_0 z c e).symm)
  · exact all3 fun z c e => (dk_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((dk_row _ _ c e).symm.trans (blk_emb t (dkOut a) 1 0 1 0 rfl rfl inb_S4x128x128_S1x64x128_1_0_0 z c e).symm)
  · exact all3 fun z c e => (dk_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((dk_row _ _ c e).symm.trans (blk_emb t (dkOut a) 0 0 0 0 rfl rfl inb_S4x128x128_S1x64x128_0_0_0 z c e).symm)
  · exact all3 fun z c e => (dk_1_3 _ _ _ _ _ _ _ _ _ (leaf_1_3 B (from_zero arg16.view 3 fits_3 (hx 3))) z c e).trans
      ((dk_row _ _ c e).symm.trans (blk_emb t (dkOut a) 3 1 3 64 rfl rfl inb_S4x128x128_S1x64x128_3_64_0 z c e).symm)
  · exact all3 fun z c e => (dk_1_2 _ _ _ _ _ _ _ _ _ (leaf_1_2 B (from_zero arg16.view 2 fits_2 (hx 2))) z c e).trans
      ((dk_row _ _ c e).symm.trans (blk_emb t (dkOut a) 2 1 2 64 rfl rfl inb_S4x128x128_S1x64x128_2_64_0 z c e).symm)
  · exact all3 fun z c e => (dk_1_1 _ _ _ _ _ _ _ _ _ (leaf_1_1 B (from_zero arg16.view 1 fits_1 (hx 1))) z c e).trans
      ((dk_row _ _ c e).symm.trans (blk_emb t (dkOut a) 1 1 1 64 rfl rfl inb_S4x128x128_S1x64x128_1_64_0 z c e).symm)
  · exact all3 fun z c e => (dk_1_0 _ _ _ _ _ _ _ _ _ (leaf_1_0 B (from_zero arg16.view 0 fits_0 (hx 0))) z c e).trans
      ((dk_row _ _ c e).symm.trans (blk_emb t (dkOut a) 0 1 0 64 rfl rfl inb_S4x128x128_S1x64x128_0_64_0 z c e).symm)

/-- The gradient of the decays at the first point of a group. -/
theorem out0_A_13_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (y : S4x128x1.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y = blk t (dgOut a) y := by
  have hc := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A at hc ⊢
  dsimp only at hc ⊢
  refine View.canon_apply_of_pieces (blk t (dgOut a)) _ ?_ _ hc
  clear hc
  sl_unfold_words
  simp only [View.readAt_eq_ld, Memref.IsWhole.read_unread]
  intro p hp
  simp only [List.mem_cons, List.not_mem_nil, or_false] at hp
  have hx : ∀ hh d e, (0 : EReal) = into a (head t hh) (cn t 1) d e := fun hh d e => (into_first ht _ d e).symm
  rcases hp with rfl | rfl | rfl | rfl | rfl | rfl | rfl | rfl
  · exact all3 fun z c e => (dg_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 3 3 rfl inb_S4x128x256_S1x128x256_3_0_0)) z c e).trans
      ((dg_row _ _ c e).symm.trans (blk_emb t (dgOut a) 3 0 3 0 rfl rfl inb_S4x128x1_S1x64x1_3_0_0 z c e).symm)
  · exact all3 fun z c e => (dg_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 2 2 rfl inb_S4x128x256_S1x128x256_2_0_0)) z c e).trans
      ((dg_row _ _ c e).symm.trans (blk_emb t (dgOut a) 2 0 2 0 rfl rfl inb_S4x128x1_S1x64x1_2_0_0 z c e).symm)
  · exact all3 fun z c e => (dg_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 1 1 rfl inb_S4x128x256_S1x128x256_1_0_0)) z c e).trans
      ((dg_row _ _ c e).symm.trans (blk_emb t (dgOut a) 1 0 1 0 rfl rfl inb_S4x128x1_S1x64x1_1_0_0 z c e).symm)
  · exact all3 fun z c e => (dg_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        [⟨Rect.unit ![0, 0, 0] ![4, 128, 256] inb_S4x128x256_S4x128x256_0_0_0, k0_pay3 (F := Ideal)⟩] 0 0 rfl inb_S4x128x256_S1x128x256_0_0_0)) z c e).trans
      ((dg_row _ _ c e).symm.trans (blk_emb t (dgOut a) 0 0 0 0 rfl rfl inb_S4x128x1_S1x64x1_0_0_0 z c e).symm)
  · exact all3 fun z c e => (dg_1_3 _ _ _ _ _ _ _ _ _ (leaf_1_3 B (from_zero arg16.view 3 fits_3 (hx 3))) z c e).trans
      ((dg_row _ _ c e).symm.trans (blk_emb t (dgOut a) 3 1 3 64 rfl rfl inb_S4x128x1_S1x64x1_3_64_0 z c e).symm)
  · exact all3 fun z c e => (dg_1_2 _ _ _ _ _ _ _ _ _ (leaf_1_2 B (from_zero arg16.view 2 fits_2 (hx 2))) z c e).trans
      ((dg_row _ _ c e).symm.trans (blk_emb t (dgOut a) 2 1 2 64 rfl rfl inb_S4x128x1_S1x64x1_2_64_0 z c e).symm)
  · exact all3 fun z c e => (dg_1_1 _ _ _ _ _ _ _ _ _ (leaf_1_1 B (from_zero arg16.view 1 fits_1 (hx 1))) z c e).trans
      ((dg_row _ _ c e).symm.trans (blk_emb t (dgOut a) 1 1 1 64 rfl rfl inb_S4x128x1_S1x64x1_1_64_0 z c e).symm)
  · exact all3 fun z c e => (dg_1_0 _ _ _ _ _ _ _ _ _ (leaf_1_0 B (from_zero arg16.view 0 fits_0 (hx 0))) z c e).trans
      ((dg_row _ _ c e).symm.trans (blk_emb t (dgOut a) 0 1 0 64 rfl rfl inb_S4x128x1_S1x64x1_0_64_0 z c e).symm)

/-- The state gradient that the first point of a group leaves. -/
theorem sout0_A_0_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) {a : Args} {t : Fin 66}
    (B : Blocks a t x0 x1 x2 x3 x4 x5 x6 x7) (ht : t.val % 33 = 0)
    (hh : Fin 4) (d : Fin 128) (e : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix3 hh d e) = grad a (head t hh) (2 * (t.val % 33) + 2) d e := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A
  dsimp only
  have hx : ∀ hh d e, (0 : EReal) = into a (head t hh) (cn t 1) d e := fun hh d e => (into_first ht _ d e).symm
  sl_unfold_words
  simp only [View.readAt_eq_ld, Memref.IsWhole.read_unread]
  refine canon_four (Y := fun hh => grad a (head t hh) (2 * (t.val % 33) + 2)) ?_ ?_ ?_ ?_ _ hh d e
  · exact fun z d e => (nx_0_3 _ _ _ _ _ _ _ _ _ (leaf_0_3 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        _ 3 3 rfl inb_S4x128x256_S1x128x256_3_0_0)) z d e).trans (next_zero t _ d e)
  · exact fun z d e => (nx_0_2 _ _ _ _ _ _ _ _ _ (leaf_0_2 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        _ 2 2 rfl inb_S4x128x256_S1x128x256_2_0_0)) z d e).trans (next_zero t _ d e)
  · exact fun z d e => (nx_0_1 _ _ _ _ _ _ _ _ _ (leaf_0_1 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        _ 1 1 rfl inb_S4x128x256_S1x128x256_1_0_0)) z d e).trans (next_zero t _ d e)
  · exact fun z d e => (nx_0_0 _ _ _ _ _ _ _ _ _ (leaf_0_0 B (read_into arg16.view
        (step_3 (leaf_1_3 B (from_zero arg16.view 3 fits_3 (hx 3))))
        (step_2 (leaf_1_2 B (from_zero arg16.view 2 fits_2 (hx 2))))
        (step_1 (leaf_1_1 B (from_zero arg16.view 1 fits_1 (hx 1))))
        (step_0 (leaf_1_0 B (from_zero arg16.view 0 fits_0 (hx 0))))
        _ 0 0 rfl inb_S4x128x256_S1x128x256_0_0_0)) z d e).trans (next_zero t _ d e)

end Cert.Scan.Kern

end
-- ==== Proof.Later.lean ====
/-
  A GRID POINT'S RESULTS, a later point of a group of heads: each of its output blocks is its part of the specification's array.
-/
module

public import proofs.«01_k».proof.Proof.Blocks

@[expose] public section

noncomputable section

namespace Cert.Scan.Kern

open Idealize.ShloMosaic Idealize.ShloMosaic.TcCoe Idealize.ShloMosaic.Tactic Cert.KernelIdeal Cert.KernelIdeal.Gen
open Idealize.SL.Sem
open scoped BigOperators

/-- The gradient of `u` at a later point of a group. -/
theorem out0_B_8_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x256.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (duOut a) y := by
  have hc := cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (duOut a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (du_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((du_row _ _ c e).symm.trans (blk_emb t (duOut a) 3 0 3 0 rfl rfl inb_S4x128x256_S1x64x256_3_0_0 z c e).symm)
  · exact all3 fun z c e => (du_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((du_row _ _ c e).symm.trans (blk_emb t (duOut a) 2 0 2 0 rfl rfl inb_S4x128x256_S1x64x256_2_0_0 z c e).symm)
  · exact all3 fun z c e => (du_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((du_row _ _ c e).symm.trans (blk_emb t (duOut a) 1 0 1 0 rfl rfl inb_S4x128x256_S1x64x256_1_0_0 z c e).symm)
  · exact all3 fun z c e => (du_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((du_row _ _ c e).symm.trans (blk_emb t (duOut a) 0 0 0 0 rfl rfl inb_S4x128x256_S1x64x256_0_0_0 z c e).symm)
  · exact all3 fun z c e => (du_1_3 _ _ _ _ _ _ _ _ _ (leaf_1_3 B (ld_state hx 3 3 rfl fits_3)) z c e).trans
      ((du_row _ _ c e).symm.trans (blk_emb t (duOut a) 3 1 3 64 rfl rfl inb_S4x128x256_S1x64x256_3_64_0 z c e).symm)
  · exact all3 fun z c e => (du_1_2 _ _ _ _ _ _ _ _ _ (leaf_1_2 B (ld_state hx 2 2 rfl fits_2)) z c e).trans
      ((du_row _ _ c e).symm.trans (blk_emb t (duOut a) 2 1 2 64 rfl rfl inb_S4x128x256_S1x64x256_2_64_0 z c e).symm)
  · exact all3 fun z c e => (du_1_1 _ _ _ _ _ _ _ _ _ (leaf_1_1 B (ld_state hx 1 1 rfl fits_1)) z c e).trans
      ((du_row _ _ c e).symm.trans (blk_emb t (duOut a) 1 1 1 64 rfl rfl inb_S4x128x256_S1x64x256_1_64_0 z c e).symm)
  · exact all3 fun z c e => (du_1_0 _ _ _ _ _ _ _ _ _ (leaf_1_0 B (ld_state hx 0 0 rfl fits_0)) z c e).trans
      ((du_row _ _ c e).symm.trans (blk_emb t (duOut a) 0 1 0 64 rfl rfl inb_S4x128x256_S1x64x256_0_64_0 z c e).symm)

/-- The gradient of `w` at a later point of a group. -/
theorem out0_B_9_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x128.Idx) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (dwK a) y := by
  have hc := cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (dwK a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (dw_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((dw_row _ _ c e).symm.trans (blk_emb t (dwK a) 3 0 3 0 rfl rfl inb_S4x128x128_S1x64x128_3_0_0 z c e).symm)
  · exact all3 fun z c e => (dw_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((dw_row _ _ c e).symm.trans (blk_emb t (dwK a) 2 0 2 0 rfl rfl inb_S4x128x128_S1x64x128_2_0_0 z c e).symm)
  · exact all3 fun z c e => (dw_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((dw_row _ _ c e).symm.trans (blk_emb t (dwK a) 1 0 1 0 rfl rfl inb_S4x128x128_S1x64x128_1_0_0 z c e).symm)
  · exact all3 fun z c e => (dw_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((dw_row _ _ c e).symm.trans (blk_emb t (dwK a) 0 0 0 0 rfl rfl inb_S4x128x128_S1x64x128_0_0_0 z c e).symm)
  · exact all3 fun z c e => (dw_1_3 _ _ _ _ _ _ _ _ _ (leaf_1_3 B (ld_state hx 3 3 rfl fits_3)) z c e).trans
      ((dw_row _ _ c e).symm.trans (blk_emb t (dwK a) 3 1 3 64 rfl rfl inb_S4x128x128_S1x64x128_3_64_0 z c e).symm)
  · exact all3 fun z c e => (dw_1_2 _ _ _ _ _ _ _ _ _ (leaf_1_2 B (ld_state hx 2 2 rfl fits_2)) z c e).trans
      ((dw_row _ _ c e).symm.trans (blk_emb t (dwK a) 2 1 2 64 rfl rfl inb_S4x128x128_S1x64x128_2_64_0 z c e).symm)
  · exact all3 fun z c e => (dw_1_1 _ _ _ _ _ _ _ _ _ (leaf_1_1 B (ld_state hx 1 1 rfl fits_1)) z c e).trans
      ((dw_row _ _ c e).symm.trans (blk_emb t (dwK a) 1 1 1 64 rfl rfl inb_S4x128x128_S1x64x128_1_64_0 z c e).symm)
  · exact all3 fun z c e => (dw_1_0 _ _ _ _ _ _ _ _ _ (leaf_1_0 B (ld_state hx 0 0 rfl fits_0)) z c e).trans
      ((dw_row _ _ c e).symm.trans (blk_emb t (dwK a) 0 1 0 64 rfl rfl inb_S4x128x128_S1x64x128_0_64_0 z c e).symm)

/-- The gradient of `p` at a later point of a group. -/
theorem out0_B_10_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x128.Idx) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (dpOut a) y := by
  have hc := cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (dpOut a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (dp_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((dp_row _ _ c e).symm.trans (blk_emb t (dpOut a) 3 0 3 0 rfl rfl inb_S4x128x128_S1x64x128_3_0_0 z c e).symm)
  · exact all3 fun z c e => (dp_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((dp_row _ _ c e).symm.trans (blk_emb t (dpOut a) 2 0 2 0 rfl rfl inb_S4x128x128_S1x64x128_2_0_0 z c e).symm)
  · exact all3 fun z c e => (dp_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((dp_row _ _ c e).symm.trans (blk_emb t (dpOut a) 1 0 1 0 rfl rfl inb_S4x128x128_S1x64x128_1_0_0 z c e).symm)
  · exact all3 fun z c e => (dp_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((dp_row _ _ c e).symm.trans (blk_emb t (dpOut a) 0 0 0 0 rfl rfl inb_S4x128x128_S1x64x128_0_0_0 z c e).symm)
  · exact all3 fun z c e => (dp_1_3 _ _ _ _ _ _ _ _ _ (leaf_1_3 B (ld_state hx 3 3 rfl fits_3)) z c e).trans
      ((dp_row _ _ c e).symm.trans (blk_emb t (dpOut a) 3 1 3 64 rfl rfl inb_S4x128x128_S1x64x128_3_64_0 z c e).symm)
  · exact all3 fun z c e => (dp_1_2 _ _ _ _ _ _ _ _ _ (leaf_1_2 B (ld_state hx 2 2 rfl fits_2)) z c e).trans
      ((dp_row _ _ c e).symm.trans (blk_emb t (dpOut a) 2 1 2 64 rfl rfl inb_S4x128x128_S1x64x128_2_64_0 z c e).symm)
  · exact all3 fun z c e => (dp_1_1 _ _ _ _ _ _ _ _ _ (leaf_1_1 B (ld_state hx 1 1 rfl fits_1)) z c e).trans
      ((dp_row _ _ c e).symm.trans (blk_emb t (dpOut a) 1 1 1 64 rfl rfl inb_S4x128x128_S1x64x128_1_64_0 z c e).symm)
  · exact all3 fun z c e => (dp_1_0 _ _ _ _ _ _ _ _ _ (leaf_1_0 B (ld_state hx 0 0 rfl fits_0)) z c e).trans
      ((dp_row _ _ c e).symm.trans (blk_emb t (dpOut a) 0 1 0 64 rfl rfl inb_S4x128x128_S1x64x128_0_64_0 z c e).symm)

/-- The gradient of `qd` at a later point of a group. -/
theorem out0_B_11_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x128.Idx) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (dqOut a) y := by
  have hc := cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (dqOut a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (dq_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((dq_row _ _ c e).symm.trans (blk_emb t (dqOut a) 3 0 3 0 rfl rfl inb_S4x128x128_S1x64x128_3_0_0 z c e).symm)
  · exact all3 fun z c e => (dq_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((dq_row _ _ c e).symm.trans (blk_emb t (dqOut a) 2 0 2 0 rfl rfl inb_S4x128x128_S1x64x128_2_0_0 z c e).symm)
  · exact all3 fun z c e => (dq_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((dq_row _ _ c e).symm.trans (blk_emb t (dqOut a) 1 0 1 0 rfl rfl inb_S4x128x128_S1x64x128_1_0_0 z c e).symm)
  · exact all3 fun z c e => (dq_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((dq_row _ _ c e).symm.trans (blk_emb t (dqOut a) 0 0 0 0 rfl rfl inb_S4x128x128_S1x64x128_0_0_0 z c e).symm)
  · exact all3 fun z c e => (dq_1_3 _ _ _ _ _ _ _ _ _ (leaf_1_3 B (ld_state hx 3 3 rfl fits_3)) z c e).trans
      ((dq_row _ _ c e).symm.trans (blk_emb t (dqOut a) 3 1 3 64 rfl rfl inb_S4x128x128_S1x64x128_3_64_0 z c e).symm)
  · exact all3 fun z c e => (dq_1_2 _ _ _ _ _ _ _ _ _ (leaf_1_2 B (ld_state hx 2 2 rfl fits_2)) z c e).trans
      ((dq_row _ _ c e).symm.trans (blk_emb t (dqOut a) 2 1 2 64 rfl rfl inb_S4x128x128_S1x64x128_2_64_0 z c e).symm)
  · exact all3 fun z c e => (dq_1_1 _ _ _ _ _ _ _ _ _ (leaf_1_1 B (ld_state hx 1 1 rfl fits_1)) z c e).trans
      ((dq_row _ _ c e).symm.trans (blk_emb t (dqOut a) 1 1 1 64 rfl rfl inb_S4x128x128_S1x64x128_1_64_0 z c e).symm)
  · exact all3 fun z c e => (dq_1_0 _ _ _ _ _ _ _ _ _ (leaf_1_0 B (ld_state hx 0 0 rfl fits_0)) z c e).trans
      ((dq_row _ _ c e).symm.trans (blk_emb t (dqOut a) 0 1 0 64 rfl rfl inb_S4x128x128_S1x64x128_0_64_0 z c e).symm)

/-- The gradient of `kd` at a later point of a group. -/
theorem out0_B_12_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x128.Idx) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (dkOut a) y := by
  have hc := cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (dkOut a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (dk_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((dk_row _ _ c e).symm.trans (blk_emb t (dkOut a) 3 0 3 0 rfl rfl inb_S4x128x128_S1x64x128_3_0_0 z c e).symm)
  · exact all3 fun z c e => (dk_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((dk_row _ _ c e).symm.trans (blk_emb t (dkOut a) 2 0 2 0 rfl rfl inb_S4x128x128_S1x64x128_2_0_0 z c e).symm)
  · exact all3 fun z c e => (dk_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((dk_row _ _ c e).symm.trans (blk_emb t (dkOut a) 1 0 1 0 rfl rfl inb_S4x128x128_S1x64x128_1_0_0 z c e).symm)
  · exact all3 fun z c e => (dk_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((dk_row _ _ c e).symm.trans (blk_emb t (dkOut a) 0 0 0 0 rfl rfl inb_S4x128x128_S1x64x128_0_0_0 z c e).symm)
  · exact all3 fun z c e => (dk_1_3 _ _ _ _ _ _ _ _ _ (leaf_1_3 B (ld_state hx 3 3 rfl fits_3)) z c e).trans
      ((dk_row _ _ c e).symm.trans (blk_emb t (dkOut a) 3 1 3 64 rfl rfl inb_S4x128x128_S1x64x128_3_64_0 z c e).symm)
  · exact all3 fun z c e => (dk_1_2 _ _ _ _ _ _ _ _ _ (leaf_1_2 B (ld_state hx 2 2 rfl fits_2)) z c e).trans
      ((dk_row _ _ c e).symm.trans (blk_emb t (dkOut a) 2 1 2 64 rfl rfl inb_S4x128x128_S1x64x128_2_64_0 z c e).symm)
  · exact all3 fun z c e => (dk_1_1 _ _ _ _ _ _ _ _ _ (leaf_1_1 B (ld_state hx 1 1 rfl fits_1)) z c e).trans
      ((dk_row _ _ c e).symm.trans (blk_emb t (dkOut a) 1 1 1 64 rfl rfl inb_S4x128x128_S1x64x128_1_64_0 z c e).symm)
  · exact all3 fun z c e => (dk_1_0 _ _ _ _ _ _ _ _ _ (leaf_1_0 B (ld_state hx 0 0 rfl fits_0)) z c e).trans
      ((dk_row _ _ c e).symm.trans (blk_emb t (dkOut a) 0 1 0 64 rfl rfl inb_S4x128x128_S1x64x128_0_64_0 z c e).symm)

/-- The gradient of the decays at a later point of a group. -/
theorem out0_B_13_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (y : S4x128x1.Idx) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y = blk t (dgOut a) y := by
  have hc := cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 y
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B at hc ⊢
  dsimp only at hc ⊢
  refine View.canon_apply_of_pieces (blk t (dgOut a)) _ ?_ _ hc
  clear hc
  sl_unfold_words
  simp only [View.readAt_eq_ld, Memref.IsWhole.read_unread]
  intro p hp
  simp only [List.mem_cons, List.not_mem_nil, or_false] at hp
  rcases hp with rfl | rfl | rfl | rfl | rfl | rfl | rfl | rfl
  · exact all3 fun z c e => (dg_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 3 3 rfl inb_S4x128x256_S1x128x256_3_0_0)) z c e).trans
      ((dg_row _ _ c e).symm.trans (blk_emb t (dgOut a) 3 0 3 0 rfl rfl inb_S4x128x1_S1x64x1_3_0_0 z c e).symm)
  · exact all3 fun z c e => (dg_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 2 2 rfl inb_S4x128x256_S1x128x256_2_0_0)) z c e).trans
      ((dg_row _ _ c e).symm.trans (blk_emb t (dgOut a) 2 0 2 0 rfl rfl inb_S4x128x1_S1x64x1_2_0_0 z c e).symm)
  · exact all3 fun z c e => (dg_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 1 1 rfl inb_S4x128x256_S1x128x256_1_0_0)) z c e).trans
      ((dg_row _ _ c e).symm.trans (blk_emb t (dgOut a) 1 0 1 0 rfl rfl inb_S4x128x1_S1x64x1_1_0_0 z c e).symm)
  · exact all3 fun z c e => (dg_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        [] 0 0 rfl inb_S4x128x256_S1x128x256_0_0_0)) z c e).trans
      ((dg_row _ _ c e).symm.trans (blk_emb t (dgOut a) 0 0 0 0 rfl rfl inb_S4x128x1_S1x64x1_0_0_0 z c e).symm)
  · exact all3 fun z c e => (dg_1_3 _ _ _ _ _ _ _ _ _ (leaf_1_3 B (ld_state hx 3 3 rfl fits_3)) z c e).trans
      ((dg_row _ _ c e).symm.trans (blk_emb t (dgOut a) 3 1 3 64 rfl rfl inb_S4x128x1_S1x64x1_3_64_0 z c e).symm)
  · exact all3 fun z c e => (dg_1_2 _ _ _ _ _ _ _ _ _ (leaf_1_2 B (ld_state hx 2 2 rfl fits_2)) z c e).trans
      ((dg_row _ _ c e).symm.trans (blk_emb t (dgOut a) 2 1 2 64 rfl rfl inb_S4x128x1_S1x64x1_2_64_0 z c e).symm)
  · exact all3 fun z c e => (dg_1_1 _ _ _ _ _ _ _ _ _ (leaf_1_1 B (ld_state hx 1 1 rfl fits_1)) z c e).trans
      ((dg_row _ _ c e).symm.trans (blk_emb t (dgOut a) 1 1 1 64 rfl rfl inb_S4x128x1_S1x64x1_1_64_0 z c e).symm)
  · exact all3 fun z c e => (dg_1_0 _ _ _ _ _ _ _ _ _ (leaf_1_0 B (ld_state hx 0 0 rfl fits_0)) z c e).trans
      ((dg_row _ _ c e).symm.trans (blk_emb t (dgOut a) 0 1 0 64 rfl rfl inb_S4x128x1_S1x64x1_0_64_0 z c e).symm)

/-- The state gradient that a later point of a group leaves. -/
theorem sout0_B_0_eq (c : Dev nD) (i : grid0.Coords) (arg2 : Memref sig .tc .vmem S4x128x256 .f32) (harg2 : arg2.IsWhole) (arg3 : Memref sig .tc .vmem S4x128x128 .bf16) (harg3 : arg3.IsWhole) (arg4 : Memref sig .tc .vmem S4x128x128 .bf16) (harg4 : arg4.IsWhole) (arg5 : Memref sig .tc .vmem S4x128x128 .bf16) (harg5 : arg5.IsWhole) (arg6 : Memref sig .tc .vmem S4x128x128 .bf16) (harg6 : arg6.IsWhole) (arg7 : Memref sig .tc .vmem S4x128x1 .f32) (harg7 : arg7.IsWhole) (arg8 : Memref sig .tc .vmem S4x2x128x256 .bf16) (harg8 : arg8.IsWhole) (arg9 : Memref sig .tc .vmem S4x128x256 .f32) (harg9 : arg9.IsWhole) (arg10 : Memref sig .tc .vmem S4x128x256 .f32) (harg10 : arg10.IsWhole) (arg11 : Memref sig .tc .vmem S4x128x128 .f32) (harg11 : arg11.IsWhole) (arg12 : Memref sig .tc .vmem S4x128x128 .f32) (harg12 : arg12.IsWhole) (arg13 : Memref sig .tc .vmem S4x128x128 .f32) (harg13 : arg13.IsWhole) (arg14 : Memref sig .tc .vmem S4x128x128 .f32) (harg14 : arg14.IsWhole) (arg15 : Memref sig .tc .vmem S4x128x1 .f32) (harg15 : arg15.IsWhole) (arg16 : Memref sig .tc .vmem S4x128x256 .f32) (harg16 : arg16.IsWhole) (hc0 : ¬cond0_0 i)
    (x0 : V S4x128x256 .f32) (x1 : V S4x128x128 .bf16) (x2 : V S4x128x128 .bf16) (x3 : V S4x128x128 .bf16) (x4 : V S4x128x128 .bf16) (x5 : V S4x128x1 .f32) (x6 : V S4x2x128x256 .bf16) (x7 : V S4x128x256 .f32) (xs0 : V S4x128x256 .f32) {a : Args} {t : Fin 66}
    (B : Blocks a t x0 x1 x2 x3 x4 x5 x6 x7) (hx : ∀ hh d e, xs0 (ix3 hh d e) = into a (head t hh) (cn t 1) d e)
    (hh : Fin 4) (d : Fin 128) (e : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 (ix3 hh d e) = grad a (head t hh) (2 * (t.val % 33) + 2) d e := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)]
  unfold kernelRun0_B
  dsimp only
  sl_unfold_words
  simp only [View.readAt_eq_ld, Memref.IsWhole.read_unread]
  refine canon_four (Y := fun hh => grad a (head t hh) (2 * (t.val % 33) + 2)) ?_ ?_ ?_ ?_ _ hh d e
  · exact fun z d e => (nx_0_3 _ _ _ _ _ _ _ _ _ (leaf_0_3 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        _ 3 3 rfl inb_S4x128x256_S1x128x256_3_0_0)) z d e).trans (next_zero t _ d e)
  · exact fun z d e => (nx_0_2 _ _ _ _ _ _ _ _ _ (leaf_0_2 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        _ 2 2 rfl inb_S4x128x256_S1x128x256_2_0_0)) z d e).trans (next_zero t _ d e)
  · exact fun z d e => (nx_0_1 _ _ _ _ _ _ _ _ _ (leaf_0_1 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        _ 1 1 rfl inb_S4x128x256_S1x128x256_1_0_0)) z d e).trans (next_zero t _ d e)
  · exact fun z d e => (nx_0_0 _ _ _ _ _ _ _ _ _ (leaf_0_0 B (read_into arg16.view
        (step_3 (leaf_1_3 B (ld_state hx 3 3 rfl fits_3)))
        (step_2 (leaf_1_2 B (ld_state hx 2 2 rfl fits_2)))
        (step_1 (leaf_1_1 B (ld_state hx 1 1 rfl fits_1)))
        (step_0 (leaf_1_0 B (ld_state hx 0 0 rfl fits_0)))
        _ 0 0 rfl inb_S4x128x256_S1x128x256_0_0_0)) z d e).trans (next_zero t _ d e)

end Cert.Scan.Kern

end
-- ==== Proof.Entry.lean ====
/-
  THE BLOCKS OF A GRID POINT, as the region finds them: each is its part of an argument, of the masked `p` or of the decays
  spread over their chunks' rows, so they hold what `Blocks` says.
-/
module

public import proofs.«01_k».proof.Proof.Names
public import proofs.«01_k».proof.Proof.Blocks
public import Idealize.ShloMosaic.Lib.StableHlo.ReadAt
public import Idealize.ShloMosaic.Lib.Pipeline.ValueKit

@[expose] public section

set_option maxRecDepth 16384

noncomputable section

namespace Cert.Scan.Kern

open Idealize.ShloMosaic Idealize.ShloMosaic.TcCoe Idealize.ShloMosaic.Tactic Cert.KernelIdeal Cert.KernelIdeal.Gen
open Idealize.SL.Sem
open scoped BigOperators

variable (m : (ℓ : Loc nD τ sig) → Buf (Elt Ideal) ℓ)

/-- A row's place among 128, as the host computes it. -/
theorem rem_word (r : Fin 4224) : Scalar.select
      (IntOp.andi
        (IntOp.cmpi CmpIPredicate.ne (IntOp.cmpi CmpIPredicate.slt (IntOp.remsi ArithUnit.host (BitVec.ofNat 32 r.val) (Scalar.select (IntOp.cmpi CmpIPredicate.eq 128#32 0#32) (1#32) 128#32)) 0#32) (IntOp.cmpi CmpIPredicate.slt (Scalar.select (IntOp.cmpi CmpIPredicate.eq 128#32 0#32) (1#32) 128#32) 0#32))
        (IntOp.cmpi CmpIPredicate.ne (IntOp.remsi ArithUnit.host (BitVec.ofNat 32 r.val) (Scalar.select (IntOp.cmpi CmpIPredicate.eq 128#32 0#32) (1#32) 128#32)) 0#32))
      (IntOp.addi (IntOp.remsi ArithUnit.host (BitVec.ofNat 32 r.val) (Scalar.select (IntOp.cmpi CmpIPredicate.eq 128#32 0#32) (1#32) 128#32)) (Scalar.select (IntOp.cmpi CmpIPredicate.eq 128#32 0#32) (1#32) 128#32)) (IntOp.remsi ArithUnit.host (BitVec.ofNat 32 r.val) (Scalar.select (IntOp.cmpi CmpIPredicate.eq 128#32 0#32) (1#32) 128#32))
      = BitVec.ofNat 32 (r.val % 128) :=
  (by decide +kernel : ∀ r : Fin 4224, Scalar.select
      (IntOp.andi
        (IntOp.cmpi CmpIPredicate.ne (IntOp.cmpi CmpIPredicate.slt (IntOp.remsi ArithUnit.host (BitVec.ofNat 32 r.val) (Scalar.select (IntOp.cmpi CmpIPredicate.eq 128#32 0#32) (1#32) 128#32)) 0#32) (IntOp.cmpi CmpIPredicate.slt (Scalar.select (IntOp.cmpi CmpIPredicate.eq 128#32 0#32) (1#32) 128#32) 0#32))
        (IntOp.cmpi CmpIPredicate.ne (IntOp.remsi ArithUnit.host (BitVec.ofNat 32 r.val) (Scalar.select (IntOp.cmpi CmpIPredicate.eq 128#32 0#32) (1#32) 128#32)) 0#32))
      (IntOp.addi (IntOp.remsi ArithUnit.host (BitVec.ofNat 32 r.val) (Scalar.select (IntOp.cmpi CmpIPredicate.eq 128#32 0#32) (1#32) 128#32)) (Scalar.select (IntOp.cmpi CmpIPredicate.eq 128#32 0#32) (1#32) 128#32)) (IntOp.remsi ArithUnit.host (BitVec.ofNat 32 r.val) (Scalar.select (IntOp.cmpi CmpIPredicate.eq 128#32 0#32) (1#32) 128#32))
      = BitVec.ofNat 32 (r.val % 128)) r

/-- Which half of 128 a place is in, as the host computes it. -/
theorem half_word (r : Fin 128) : Scalar.select
      (IntOp.andi
        (IntOp.cmpi CmpIPredicate.ne
          (if (BitVec.ofNat 32 r.val) = 0 then 0 else if (BitVec.ofNat 32 r.val).msb = true then -1 else 1 : BitVec 32)
          (if 64#32 = (0 : BitVec 32) then 0 else if (64#32).msb = true then -1 else 1))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32)
      = BitVec.ofNat 32 (r.val / 64) :=
  (by decide +kernel : ∀ r : Fin 128, Scalar.select
      (IntOp.andi
        (IntOp.cmpi CmpIPredicate.ne
          (if (BitVec.ofNat 32 r.val) = 0 then 0 else if (BitVec.ofNat 32 r.val).msb = true then -1 else 1 : BitVec 32)
          (if 64#32 = (0 : BitVec 32) then 0 else if (64#32).msb = true then -1 else 1))
        (IntOp.cmpi CmpIPredicate.ne (IntOp.remsi ArithUnit.host (BitVec.ofNat 32 r.val) 64#32) 0#32))
      (IntOp.subi (IntOp.divsi ArithUnit.host (BitVec.ofNat 32 r.val) 64#32) 1#32)
      (IntOp.divsi ArithUnit.host (BitVec.ofNat 32 r.val) 64#32)
      = BitVec.ofNat 32 (r.val / 64)) r

/-- The mask's two conditions. -/
theorem mask_bit (q k : Fin 128) :
    IntOp.andi (IntOp.cmpi CmpIPredicate.eq (BitVec.ofNat 32 (q.val / 64)) (BitVec.ofNat 32 (k.val / 64)))
      (IntOp.cmpi CmpIPredicate.sge (BitVec.ofNat 32 q.val) (BitVec.ofNat 32 k.val))
      = if k.val / 64 = q.val / 64 ∧ k.val % 64 ≤ q.val % 64 then 1#1 else 0#1 :=
  (by decide +kernel : ∀ q k : Fin 128,
    IntOp.andi (IntOp.cmpi CmpIPredicate.eq (BitVec.ofNat 32 (q.val / 64)) (BitVec.ofNat 32 (k.val / 64)))
      (IntOp.cmpi CmpIPredicate.sge (BitVec.ofNat 32 q.val) (BitVec.ofNat 32 k.val))
      = if k.val / 64 = q.val / 64 ∧ k.val % 64 ≤ q.val % 64 then 1#1 else 0#1) q k

/-- The `p` that the kernel is handed: the argument where its mask holds, zero elsewhere. -/
theorem masked (c : Dev nD) (h : Fin 8) (r : Fin 4224) (k : Fin 128) :
    Gen.V m c main_v10 (ix3 h r k)
      = (if k.val / 64 = r.val % 128 / 64 ∧ k.val % 64 ≤ r.val % 64 then (m ((c : Thread nD τ).loc main_arg2) (ix3 h r k) : EReal) else (0 : EReal)) := by
  unfold Gen.V
  after_reads_at
  generalize hd : id (constantI S_ 32 64#32) ix0 = d
  generalize hc : id (constantI S_ 32 128#32) ix0 = c'
  obtain rfl : 64#32 = d := hd
  obtain rfl : 128#32 = c' := hc
  simp only [rem_word]
  have hq : r.val % 128 < 128 := by omega
  have e : r.val % 64 = r.val % 128 % 64 := by omega
  rw [e]
  generalize r.val % 128 = q at hq
  have h1 := half_word ⟨q, hq⟩
  have h2 := half_word k
  have h3 := mask_bit ⟨q, hq⟩ k
  dsimp only at h1 h2 h3
  simp only [h1]
  refine (congrArg (fun w => Scalar.select (IntOp.andi (IntOp.cmpi CmpIPredicate.eq (BitVec.ofNat 32 (q / 64)) w)
    (IntOp.cmpi CmpIPredicate.sge (BitVec.ofNat 32 q) (BitVec.ofNat 32 k.val))) _ _) h2).trans ?_
  rw [h3]
  by_cases hp : k.val / 64 = q / 64 ∧ k.val % 64 ≤ q % 64
  · rw [if_pos hp, if_pos hp]
    rfl
  · rw [if_neg hp, if_neg hp]
    exact Ideal.ofBits_zero_f32

/-- The decays that the kernel is handed: each chunk's, on all its rows. -/
theorem decay (c : Dev nD) (h : Fin 8) (r : Fin 4224) (z : Fin 1) :
    Gen.V m c main_v13 (ix3 h r z) = m ((c : Thread nD τ).loc main_arg5) (ix2 h (rowChunk r)) := by
  unfold Gen.V
  after_reads_at
  rfl

/-! Every window's block at a grid point. -/

theorem index0 : ∀ t : Fin grid0.N, win0_0.index t = ![t.val / 33, 32 - t.val % 33, 0] := by decide +kernel
theorem index1 : ∀ t : Fin grid0.N, win0_1.index t = ![t.val / 33, 32 - t.val % 33, 0] := by decide +kernel
theorem index2 : ∀ t : Fin grid0.N, win0_2.index t = ![t.val / 33, 32 - t.val % 33, 0] := by decide +kernel
theorem index3 : ∀ t : Fin grid0.N, win0_3.index t = ![t.val / 33, 32 - t.val % 33, 0] := by decide +kernel
theorem index4 : ∀ t : Fin grid0.N, win0_4.index t = ![t.val / 33, 32 - t.val % 33, 0] := by decide +kernel
theorem index5 : ∀ t : Fin grid0.N, win0_5.index t = ![t.val / 33, 32 - t.val % 33, 0] := by decide +kernel
theorem index6 : ∀ t : Fin grid0.N, win0_6.index t = ![t.val / 33, 32 - t.val % 33, 0, 0] := by decide +kernel
theorem index7 : ∀ t : Fin grid0.N, win0_7.index t = ![t.val / 33, 32 - t.val % 33, 0] := by decide +kernel
theorem index8 : ∀ t : Fin grid0.N, win0_8.index t = ![t.val / 33, 32 - t.val % 33, 0] := by decide +kernel
theorem index9 : ∀ t : Fin grid0.N, win0_9.index t = ![t.val / 33, 32 - t.val % 33, 0] := by decide +kernel
theorem index10 : ∀ t : Fin grid0.N, win0_10.index t = ![t.val / 33, 32 - t.val % 33, 0] := by decide +kernel
theorem index11 : ∀ t : Fin grid0.N, win0_11.index t = ![t.val / 33, 32 - t.val % 33, 0] := by decide +kernel
theorem index12 : ∀ t : Fin grid0.N, win0_12.index t = ![t.val / 33, 32 - t.val % 33, 0] := by decide +kernel
theorem index13 : ∀ t : Fin grid0.N, win0_13.index t = ![t.val / 33, 32 - t.val % 33, 0] := by decide +kernel

set_option maxHeartbeats 4000000 in
/-- THE BLOCKS OF A GRID POINT hold what the specification says of the arguments. -/
theorem blocks (c : Dev nD) (t : Fin 66) :
    Blocks (Args.of (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))) t
      (iblk m c 0 t) (iblk m c 1 t) (iblk m c 2 t) (iblk m c 3 t) (iblk m c 4 t) (iblk m c 5 t) (iblk m c 6 t) (iblk m c 7 t) where
  u hh r e := by
    have key : iblk m c 0 t (ix3 hh r e) = Gen.V m c main_arg0 (ix3 (head t hh) (rowOf t r) e) := by
      unfold head rowOf
      blk_ext [iblk, index0 t]
    exact key.trans (congrFun (V_main_arg0 m c) _)
  w hh r e := by
    have key : iblk m c 1 t (ix3 hh r e) = Gen.V m c main_arg1 (ix3 (head t hh) (rowOf t r) e) := by
      unfold head rowOf
      blk_ext [iblk, index1 t]
    exact key.trans (congrFun (V_main_arg1 m c) _)
  qd hh r e := by
    have key : iblk m c 3 t (ix3 hh r e) = Gen.V m c main_arg3 (ix3 (head t hh) (rowOf t r) e) := by
      unfold head rowOf
      blk_ext [iblk, index3 t]
    exact key.trans (congrFun (V_main_arg3 m c) _)
  kd hh r e := by
    have key : iblk m c 4 t (ix3 hh r e) = Gen.V m c main_arg4 (ix3 (head t hh) (rowOf t r) e) := by
      unfold head rowOf
      blk_ext [iblk, index4 t]
    exact key.trans (congrFun (V_main_arg4 m c) _)
  ct hh r e := by
    have key : iblk m c 7 t (ix3 hh r e) = Gen.V m c main_arg7 (ix3 (head t hh) (rowOf t r) e) := by
      unfold head rowOf
      blk_ext [iblk, index7 t]
    exact key.trans (congrFun (V_main_arg7 m c) _)
  p hh r k := by
    have key : iblk m c 2 t (ix3 hh r k) = Gen.V m c main_v10 (ix3 (head t hh) (rowOf t r) k) := by
      unfold head rowOf
      blk_ext [iblk, index2 t]
    refine key.trans ((masked m c _ _ _).trans ?_)
    have e1 : (rowOf t r).val % 128 = r.val := by
      show ((32 - t.val % 33) * 128 + r.val) % 128 = r.val
      omega
    have e2 : (rowOf t r).val % 64 = r.val % 64 := by
      show ((32 - t.val % 33) * 128 + r.val) % 64 = r.val % 64
      omega
    rw [e1, e2]
    rfl
  gl hh r z b hr := by
    have key : iblk m c 5 t (ix3 hh r z) = Gen.V m c main_v13 (ix3 (head t hh) (rowOf t r) z) := by
      unfold head rowOf
      blk_ext [iblk, index5 t]
    refine key.trans ((decay m c _ _ _).trans ?_)
    have e : rowChunk (rowOf t r) = cn t b := by
      apply Fin.ext
      show ((32 - t.val % 33) * 128 + r.val) / 64 = (32 - t.val % 33) * 2 + b.val
      omega
    rw [e]
    rfl
  st hh b d e := by
    have key : iblk m c 6 t (ix4 hh b d e) = Gen.V m c main_arg6 (ix4 (head t hh) (cn t b) d e) := by
      unfold head cn
      blk_ext [iblk, index6 t]
    exact key.trans (congrFun (V_main_arg6 m c) _)

end Cert.Scan.Kern

end
-- ==== Proof.Arrays.lean ====
/-
  THE KERNEL'S SIX RESULTS AFTER ITS RUN: the scratch carries each head's state gradient from grid point to grid point, and
  every result array is the specification's.
-/
module

public import proofs.«01_k».proof.Proof.Names
public import proofs.«01_k».proof.Proof.First
public import proofs.«01_k».proof.Proof.Later
public import proofs.«01_k».proof.Proof.Entry

@[expose] public section

set_option maxRecDepth 16384

noncomputable section

namespace Cert.Scan.Kern

open Idealize.ShloMosaic Idealize.ShloMosaic.TcCoe Idealize.ShloMosaic.Tactic Cert.KernelIdeal Cert.KernelIdeal.Gen
open Idealize.SL.Sem
open scoped BigOperators

variable (m : (ℓ : Loc nD τ sig) → Buf (Elt Ideal) ℓ)

/-- The arguments a core holds. -/
def argsOf (c : Dev nD) : Args :=
  Args.of (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- THE SCRATCH AFTER A POINT holds each of its heads' state gradients after the chunks done so far. -/
theorem scratch (c : Dev nD) : ∀ (n : ℕ) (hn : n < cfg0.N) (h66 : n < 66) (hh : Fin 4) (d : Fin 128) (e : Fin 256),
    (outsAt0 m c n hn).2.2.2.2.2.2 (ix3 hh d e) = grad (argsOf m c) (head ⟨n, h66⟩ hh) (2 * (n % 33) + 2) d e := by
  intro n
  induction n with
  | zero =>
    intro hn h66 hh d e
    rw [outsAt0_A m c ⟨0, hn⟩ (by rfl)]
    dsimp only
    exact sout0_A_0_eq _ _ _ _ _ _ _ _ _ _ _ _ _ _ _ _ _ _ _ _ _ _ _ _ _ _ _ _ _ _ _ _ _ _ _ _ _ _ _ _ _
          (blocks m c ⟨0, h66⟩) rfl hh d e
  | succ n ih =>
    intro hn h66 hh d e
    by_cases h0 : (n + 1) % 33 = 0
    · rw [outsAt0_A m c ⟨n + 1, hn⟩ h0]
      dsimp only
      exact sout0_A_0_eq _ _ _ _ _ _ _ _ _ _ _ _ _ _ _ _ _ _ _ _ _ _ _ _ _ _ _ _ _ _ _ _ _ _ _ _ _ _ _ _ _
          (blocks m c ⟨n + 1, h66⟩) h0 hh d e
    · rw [outsAt0_B m c ⟨n + 1, hn⟩ h0]
      dsimp only
      refine sout0_B_0_eq _ _ _ _ _ _ _ _ _ _ _ _ _ _ _ _ _ _ _ _ _ _ _ _ _ _ _ _ _ _ _ _ _ _ _ _ _ _ _ _ _ _
          (blocks m c ⟨n + 1, h66⟩) (fun hh d e => (ih _ (by omega) hh d e).trans ?_) hh d e
      rw [into_one]
      have e1 : head ⟨n, by omega⟩ hh = head ⟨n + 1, h66⟩ hh := by
        apply Fin.ext
        show 4 * (n / 33) + hh.val = 4 * ((n + 1) / 33) + hh.val
        omega
      have e2 : 2 * (n % 33) + 2 = 2 * ((n + 1) % 33) := by omega
      rw [e1, e2]
      rfl

/-- The scratch that a later point of a group finds. -/
theorem found (c : Dev nD) (t : Fin cfg0.N) (h66 : t.val < 66) (h0 : ¬t.val % 33 = 0) (hn : t.val - 1 < cfg0.N)
    (hh : Fin 4) (d : Fin 128) (e : Fin 256) :
    (outsAt0 m c (t.val - 1) hn).2.2.2.2.2.2 (ix3 hh d e)
      = into (argsOf m c) (head ⟨t.val, h66⟩ hh) (cn ⟨t.val, h66⟩ 1) d e := by
  rw [scratch m c (t.val - 1) hn (by omega), into_one]
  have e1 : head ⟨t.val - 1, by omega⟩ hh = head ⟨t.val, h66⟩ hh := by
    apply Fin.ext
    show 4 * ((t.val - 1) / 33) + hh.val = 4 * (t.val / 33) + hh.val
    omega
  have e2 : 2 * ((t.val - 1) % 33) + 2 = 2 * (t.val % 33) := by omega
  rw [e1, e2]

/-- What a point leaves of the gradient of `u`. -/
theorem left8 (c : Dev nD) (t : Fin cfg0.N) (h66 : t.val < 66) (y : S4x128x256.Idx) :
    (outsAt0 m c t.val t.isLt).1 y = blk ⟨t.val, h66⟩ (duOut (argsOf m c)) y := by
  by_cases h0 : t.val % 33 = 0
  · rw [outsAt0_A m c t h0]
    dsimp only
    exact out0_A_8_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_8_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF `u` after the run. -/
theorem array8 (c : Dev nD) : (dats m 0 c).arrAt 8 cfg0.N = duOut (argsOf m c) := by
  refine (dats m 0 c).arrAt_eq_of_covers 8 _ (by decide +kernel) fun t hf y => ?_
  have h66 : t.val < 66 := lt_of_lt_of_eq t.isLt N_0
  have key : ((cfg0.win 8).blk t).view.emb y = ix3 (head ⟨t.val, h66⟩ (y 0)) (rowOf ⟨t.val, h66⟩ (y 1)) (y 2) := by
    unfold head rowOf
    blk_ext [index8 t]
  rw [key]
  blk_simp
  rw [after0_8]
  exact left8 m c t h66 y

/-- What a point leaves of the gradient of `w`. -/
theorem left9 (c : Dev nD) (t : Fin cfg0.N) (h66 : t.val < 66) (y : S4x128x128.Idx) :
    (outsAt0 m c t.val t.isLt).2.1 y = blk ⟨t.val, h66⟩ (dwK (argsOf m c)) y := by
  by_cases h0 : t.val % 33 = 0
  · rw [outsAt0_A m c t h0]
    dsimp only
    exact out0_A_9_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_9_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF `w` after the run. -/
theorem array9 (c : Dev nD) : (dats m 0 c).arrAt 9 cfg0.N = dwK (argsOf m c) := by
  refine (dats m 0 c).arrAt_eq_of_covers 9 _ (by decide +kernel) fun t hf y => ?_
  have h66 : t.val < 66 := lt_of_lt_of_eq t.isLt N_0
  have key : ((cfg0.win 9).blk t).view.emb y = ix3 (head ⟨t.val, h66⟩ (y 0)) (rowOf ⟨t.val, h66⟩ (y 1)) (y 2) := by
    unfold head rowOf
    blk_ext [index9 t]
  rw [key]
  blk_simp
  rw [after0_9]
  exact left9 m c t h66 y

/-- What a point leaves of the gradient of `p`. -/
theorem left10 (c : Dev nD) (t : Fin cfg0.N) (h66 : t.val < 66) (y : S4x128x128.Idx) :
    (outsAt0 m c t.val t.isLt).2.2.1 y = blk ⟨t.val, h66⟩ (dpOut (argsOf m c)) y := by
  by_cases h0 : t.val % 33 = 0
  · rw [outsAt0_A m c t h0]
    dsimp only
    exact out0_A_10_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_10_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF `p` after the run. -/
theorem array10 (c : Dev nD) : (dats m 0 c).arrAt 10 cfg0.N = dpOut (argsOf m c) := by
  refine (dats m 0 c).arrAt_eq_of_covers 10 _ (by decide +kernel) fun t hf y => ?_
  have h66 : t.val < 66 := lt_of_lt_of_eq t.isLt N_0
  have key : ((cfg0.win 10).blk t).view.emb y = ix3 (head ⟨t.val, h66⟩ (y 0)) (rowOf ⟨t.val, h66⟩ (y 1)) (y 2) := by
    unfold head rowOf
    blk_ext [index10 t]
  rw [key]
  blk_simp
  rw [after0_10]
  exact left10 m c t h66 y

/-- What a point leaves of the gradient of `qd`. -/
theorem left11 (c : Dev nD) (t : Fin cfg0.N) (h66 : t.val < 66) (y : S4x128x128.Idx) :
    (outsAt0 m c t.val t.isLt).2.2.2.1 y = blk ⟨t.val, h66⟩ (dqOut (argsOf m c)) y := by
  by_cases h0 : t.val % 33 = 0
  · rw [outsAt0_A m c t h0]
    dsimp only
    exact out0_A_11_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_11_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF `qd` after the run. -/
theorem array11 (c : Dev nD) : (dats m 0 c).arrAt 11 cfg0.N = dqOut (argsOf m c) := by
  refine (dats m 0 c).arrAt_eq_of_covers 11 _ (by decide +kernel) fun t hf y => ?_
  have h66 : t.val < 66 := lt_of_lt_of_eq t.isLt N_0
  have key : ((cfg0.win 11).blk t).view.emb y = ix3 (head ⟨t.val, h66⟩ (y 0)) (rowOf ⟨t.val, h66⟩ (y 1)) (y 2) := by
    unfold head rowOf
    blk_ext [index11 t]
  rw [key]
  blk_simp
  rw [after0_11]
  exact left11 m c t h66 y

/-- What a point leaves of the gradient of `kd`. -/
theorem left12 (c : Dev nD) (t : Fin cfg0.N) (h66 : t.val < 66) (y : S4x128x128.Idx) :
    (outsAt0 m c t.val t.isLt).2.2.2.2.1 y = blk ⟨t.val, h66⟩ (dkOut (argsOf m c)) y := by
  by_cases h0 : t.val % 33 = 0
  · rw [outsAt0_A m c t h0]
    dsimp only
    exact out0_A_12_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_12_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF `kd` after the run. -/
theorem array12 (c : Dev nD) : (dats m 0 c).arrAt 12 cfg0.N = dkOut (argsOf m c) := by
  refine (dats m 0 c).arrAt_eq_of_covers 12 _ (by decide +kernel) fun t hf y => ?_
  have h66 : t.val < 66 := lt_of_lt_of_eq t.isLt N_0
  have key : ((cfg0.win 12).blk t).view.emb y = ix3 (head ⟨t.val, h66⟩ (y 0)) (rowOf ⟨t.val, h66⟩ (y 1)) (y 2) := by
    unfold head rowOf
    blk_ext [index12 t]
  rw [key]
  blk_simp
  rw [after0_12]
  exact left12 m c t h66 y

/-- What a point leaves of the gradient of the decays. -/
theorem left13 (c : Dev nD) (t : Fin cfg0.N) (h66 : t.val < 66) (y : S4x128x1.Idx) :
    (outsAt0 m c t.val t.isLt).2.2.2.2.2.1 y = blk ⟨t.val, h66⟩ (dgOut (argsOf m c)) y := by
  by_cases h0 : t.val % 33 = 0
  · rw [outsAt0_A m c t h0]
    dsimp only
    exact out0_A_13_eq _ _ _ _ _ _ _ _ _ _ _ _ _ _ _ _ _ _ _ _ _ _ _ _ _ _ _ _ _ _ _ _ _ _ _ _ _ _ _ _ _
          (blocks m c ⟨t.val, h66⟩) h0 y
  · rw [outsAt0_B m c t h0]
    dsimp only
    exact out0_B_13_eq _ _ _ _ _ _ _ _ _ _ _ _ _ _ _ _ _ _ _ _ _ _ _ _ _ _ _ _ _ _ _ _ _ _ _ _ _ _ _ _ _ _
          (blocks m c ⟨t.val, h66⟩) (fun hh d e => found m c t h66 h0 _ hh d e) y

/-- THE GRADIENT OF THE DECAYS after the run. -/
theorem array13 (c : Dev nD) : (dats m 0 c).arrAt 13 cfg0.N = dgOut (argsOf m c) := by
  refine (dats m 0 c).arrAt_eq_of_covers 13 _ (by decide +kernel) fun t hf y => ?_
  have h66 : t.val < 66 := lt_of_lt_of_eq t.isLt N_0
  have key : ((cfg0.win 13).blk t).view.emb y = ix3 (head ⟨t.val, h66⟩ (y 0)) (rowOf ⟨t.val, h66⟩ (y 1)) (y 2) := by
    unfold head rowOf
    blk_ext [index13 t]
  rw [key]
  blk_simp
  rw [after0_13]
  exact left13 m c t h66 y

end Cert.Scan.Kern

end
-- ==== Proof.Slices.lean ====
/-
  ONE CHUNK of an array over the 66 chunks, cut out or written by its number, read at an index: the reads and writes of
  a loop over the chunks.
-/
module

public import Idealize.ShloMosaic.Lib.Pointwise

@[expose] public section

noncomputable section

namespace Cert.Scan

open Idealize.ShloMosaic

/-- One chunk of a rank-4 array over the chunks, cut out by its number, at an index. -/
theorem slice_at {a b c : ℕ} (x : (⟨4, ![66, a, b, c]⟩ : Shape).Idx → EReal) (w : Fin 4 → ℤ) (m : ℕ) (hm : m < 66) (h0 : w 0 = m) (h1 : w 1 = 0) (h2 : w 2 = 0) (h3 : w 3 = 0) (hs)
    (z : Fin 1) (h : Fin a) (d : Fin b) (e : Fin c) :
    Host.dynamicSlice ⟨4, ![1, a, b, c]⟩ x w hs (ix4 z h d e) = x (ix4 ⟨m, hm⟩ h d e) := by
  rw [Host.dynamicSlice_apply]
  have e0 : Host.clampedStart ⟨4, ![66, a, b, c]⟩ ⟨4, ![1, a, b, c]⟩ hs.1 w 0 = m :=
    Host.clampedStart_of_le _ _ _ _ h0 (by show m + 1 ≤ 66; omega)
  have e1 : Host.clampedStart ⟨4, ![66, a, b, c]⟩ ⟨4, ![1, a, b, c]⟩ hs.1 w 1 = 0 :=
    Host.clampedStart_of_le _ _ _ 0 (h1.trans rfl) (by show 0 + a ≤ a; omega)
  have e2 : Host.clampedStart ⟨4, ![66, a, b, c]⟩ ⟨4, ![1, a, b, c]⟩ hs.1 w 2 = 0 :=
    Host.clampedStart_of_le _ _ _ 0 (h2.trans rfl) (by show 0 + b ≤ b; omega)
  have e3 : Host.clampedStart ⟨4, ![66, a, b, c]⟩ ⟨4, ![1, a, b, c]⟩ hs.1 w 3 = 0 :=
    Host.clampedStart_of_le _ _ _ 0 (h3.trans rfl) (by show 0 + c ≤ c; omega)
  refine congrArg x ?_
  funext k
  match k with
  | ⟨0, _⟩ =>
    refine Fin.ext ?_
    show Host.clampedStart ⟨4, ![66, a, b, c]⟩ ⟨4, ![1, a, b, c]⟩ hs.1 w 0 + z.val = m
    rw [e0]; omega
  | ⟨1, _⟩ =>
    refine Fin.ext ?_
    show Host.clampedStart ⟨4, ![66, a, b, c]⟩ ⟨4, ![1, a, b, c]⟩ hs.1 w 1 + h.val = h.val
    rw [e1]; omega
  | ⟨2, _⟩ =>
    refine Fin.ext ?_
    show Host.clampedStart ⟨4, ![66, a, b, c]⟩ ⟨4, ![1, a, b, c]⟩ hs.1 w 2 + d.val = d.val
    rw [e2]; omega
  | ⟨3, _⟩ =>
    refine Fin.ext ?_
    show Host.clampedStart ⟨4, ![66, a, b, c]⟩ ⟨4, ![1, a, b, c]⟩ hs.1 w 3 + e.val = e.val
    rw [e3]; omega

/-- One chunk written into a rank-4 array over the chunks, at an index. -/
theorem update_at {a b c : ℕ} (x : (⟨4, ![66, a, b, c]⟩ : Shape).Idx → EReal) (u : (⟨4, ![1, a, b, c]⟩ : Shape).Idx → EReal)
    (w : Fin 4 → ℤ) (m : ℕ) (hm : m < 66) (h0 : w 0 = m) (h1 : w 1 = 0) (h2 : w 2 = 0) (h3 : w 3 = 0) (hs)
    (n : Fin 66) (h : Fin a) (d : Fin b) (e : Fin c) :
    Host.dynamicUpdateSlice x u w hs (ix4 n h d e)
      = if n.val = m then u (ix4 0 h d e) else x (ix4 n h d e) := by
  rw [Host.dynamicUpdateSlice_apply]
  have e0 : Host.clampedStart ⟨4, ![66, a, b, c]⟩ ⟨4, ![1, a, b, c]⟩ hs.1 w 0 = m :=
    Host.clampedStart_of_le _ _ _ _ h0 (by show m + 1 ≤ 66; omega)
  have e1 : Host.clampedStart ⟨4, ![66, a, b, c]⟩ ⟨4, ![1, a, b, c]⟩ hs.1 w 1 = 0 :=
    Host.clampedStart_of_le _ _ _ 0 (h1.trans rfl) (by show 0 + a ≤ a; omega)
  have e2 : Host.clampedStart ⟨4, ![66, a, b, c]⟩ ⟨4, ![1, a, b, c]⟩ hs.1 w 2 = 0 :=
    Host.clampedStart_of_le _ _ _ 0 (h2.trans rfl) (by show 0 + b ≤ b; omega)
  have e3 : Host.clampedStart ⟨4, ![66, a, b, c]⟩ ⟨4, ![1, a, b, c]⟩ hs.1 w 3 = 0 :=
    Host.clampedStart_of_le _ _ _ 0 (h3.trans rfl) (by show 0 + c ≤ c; omega)
  have key : (∀ k : Fin 4, Host.clampedStart ⟨4, ![66, a, b, c]⟩ ⟨4, ![1, a, b, c]⟩ hs.1 w k ≤ ((ix4 n h d e) k).val
      ∧ ((ix4 n h d e) k).val < Host.clampedStart ⟨4, ![66, a, b, c]⟩ ⟨4, ![1, a, b, c]⟩ hs.1 w k
          + (⟨4, ![1, a, b, c]⟩ : Shape).size (k.cast hs.1.symm)) ↔ n.val = m := by
    constructor
    · intro H
      have H0 := H 0
      rw [e0] at H0
      have : m ≤ n.val ∧ n.val < m + 1 := H0
      omega
    · intro hn k
      match k with
      | ⟨0, _⟩ =>
        show Host.clampedStart ⟨4, ![66, a, b, c]⟩ ⟨4, ![1, a, b, c]⟩ hs.1 w 0 ≤ n.val ∧ n.val < Host.clampedStart ⟨4, ![66, a, b, c]⟩ ⟨4, ![1, a, b, c]⟩ hs.1 w 0 + 1
        rw [e0]; omega
      | ⟨1, _⟩ =>
        show Host.clampedStart ⟨4, ![66, a, b, c]⟩ ⟨4, ![1, a, b, c]⟩ hs.1 w 1 ≤ h.val ∧ h.val < Host.clampedStart ⟨4, ![66, a, b, c]⟩ ⟨4, ![1, a, b, c]⟩ hs.1 w 1 + a
        rw [e1]; omega
      | ⟨2, _⟩ =>
        show Host.clampedStart ⟨4, ![66, a, b, c]⟩ ⟨4, ![1, a, b, c]⟩ hs.1 w 2 ≤ d.val ∧ d.val < Host.clampedStart ⟨4, ![66, a, b, c]⟩ ⟨4, ![1, a, b, c]⟩ hs.1 w 2 + b
        rw [e2]; omega
      | ⟨3, _⟩ =>
        show Host.clampedStart ⟨4, ![66, a, b, c]⟩ ⟨4, ![1, a, b, c]⟩ hs.1 w 3 ≤ e.val ∧ e.val < Host.clampedStart ⟨4, ![66, a, b, c]⟩ ⟨4, ![1, a, b, c]⟩ hs.1 w 3 + c
        rw [e3]; omega
  by_cases hn : n.val = m
  · rw [dif_pos (key.mpr hn), if_pos hn]
    refine congrArg u ?_
    funext k
    match k with
    | ⟨0, _⟩ =>
      refine Fin.ext ?_
      show n.val - Host.clampedStart ⟨4, ![66, a, b, c]⟩ ⟨4, ![1, a, b, c]⟩ hs.1 w 0 = 0
      rw [e0]; omega
    | ⟨1, _⟩ =>
      refine Fin.ext ?_
      show h.val - Host.clampedStart ⟨4, ![66, a, b, c]⟩ ⟨4, ![1, a, b, c]⟩ hs.1 w 1 = h.val
      rw [e1]; omega
    | ⟨2, _⟩ =>
      refine Fin.ext ?_
      show d.val - Host.clampedStart ⟨4, ![66, a, b, c]⟩ ⟨4, ![1, a, b, c]⟩ hs.1 w 2 = d.val
      rw [e2]; omega
    | ⟨3, _⟩ =>
      refine Fin.ext ?_
      show e.val - Host.clampedStart ⟨4, ![66, a, b, c]⟩ ⟨4, ![1, a, b, c]⟩ hs.1 w 3 = e.val
      rw [e3]; omega
  · rw [dif_neg (fun H => hn (key.mp H)), if_neg hn]

/-- One chunk of a rank-2 array over the chunks, cut out by its number, at an index. -/
theorem slice2_at {a : ℕ} (x : (⟨2, ![66, a]⟩ : Shape).Idx → EReal) (w : Fin 2 → ℤ) (m : ℕ) (hm : m < 66) (h0 : w 0 = m) (h1 : w 1 = 0) (hs)
    (z : Fin 1) (h : Fin a) :
    Host.dynamicSlice ⟨2, ![1, a]⟩ x w hs (ix2 z h) = x (ix2 ⟨m, hm⟩ h) := by
  rw [Host.dynamicSlice_apply]
  have e0 : Host.clampedStart ⟨2, ![66, a]⟩ ⟨2, ![1, a]⟩ hs.1 w 0 = m :=
    Host.clampedStart_of_le _ _ _ _ h0 (by show m + 1 ≤ 66; omega)
  have e1 : Host.clampedStart ⟨2, ![66, a]⟩ ⟨2, ![1, a]⟩ hs.1 w 1 = 0 :=
    Host.clampedStart_of_le _ _ _ 0 (h1.trans rfl) (by show 0 + a ≤ a; omega)
  refine congrArg x ?_
  funext k
  match k with
  | ⟨0, _⟩ =>
    refine Fin.ext ?_
    show Host.clampedStart ⟨2, ![66, a]⟩ ⟨2, ![1, a]⟩ hs.1 w 0 + z.val = m
    rw [e0]; omega
  | ⟨1, _⟩ =>
    refine Fin.ext ?_
    show Host.clampedStart ⟨2, ![66, a]⟩ ⟨2, ![1, a]⟩ hs.1 w 1 + h.val = h.val
    rw [e1]; omega

/-- One chunk written into a rank-2 array over the chunks, at an index. -/
theorem update2_at {a : ℕ} (x : (⟨2, ![66, a]⟩ : Shape).Idx → EReal) (u : (⟨2, ![1, a]⟩ : Shape).Idx → EReal)
    (w : Fin 2 → ℤ) (m : ℕ) (hm : m < 66) (h0 : w 0 = m) (h1 : w 1 = 0) (hs)
    (n : Fin 66) (h : Fin a) :
    Host.dynamicUpdateSlice x u w hs (ix2 n h)
      = if n.val = m then u (ix2 0 h) else x (ix2 n h) := by
  rw [Host.dynamicUpdateSlice_apply]
  have e0 : Host.clampedStart ⟨2, ![66, a]⟩ ⟨2, ![1, a]⟩ hs.1 w 0 = m :=
    Host.clampedStart_of_le _ _ _ _ h0 (by show m + 1 ≤ 66; omega)
  have e1 : Host.clampedStart ⟨2, ![66, a]⟩ ⟨2, ![1, a]⟩ hs.1 w 1 = 0 :=
    Host.clampedStart_of_le _ _ _ 0 (h1.trans rfl) (by show 0 + a ≤ a; omega)
  have key : (∀ k : Fin 2, Host.clampedStart ⟨2, ![66, a]⟩ ⟨2, ![1, a]⟩ hs.1 w k ≤ ((ix2 n h) k).val
      ∧ ((ix2 n h) k).val < Host.clampedStart ⟨2, ![66, a]⟩ ⟨2, ![1, a]⟩ hs.1 w k
          + (⟨2, ![1, a]⟩ : Shape).size (k.cast hs.1.symm)) ↔ n.val = m := by
    constructor
    · intro H
      have H0 := H 0
      rw [e0] at H0
      have : m ≤ n.val ∧ n.val < m + 1 := H0
      omega
    · intro hn k
      match k with
      | ⟨0, _⟩ =>
        show Host.clampedStart ⟨2, ![66, a]⟩ ⟨2, ![1, a]⟩ hs.1 w 0 ≤ n.val ∧ n.val < Host.clampedStart ⟨2, ![66, a]⟩ ⟨2, ![1, a]⟩ hs.1 w 0 + 1
        rw [e0]; omega
      | ⟨1, _⟩ =>
        show Host.clampedStart ⟨2, ![66, a]⟩ ⟨2, ![1, a]⟩ hs.1 w 1 ≤ h.val ∧ h.val < Host.clampedStart ⟨2, ![66, a]⟩ ⟨2, ![1, a]⟩ hs.1 w 1 + a
        rw [e1]; omega
  by_cases hn : n.val = m
  · rw [dif_pos (key.mpr hn), if_pos hn]
    refine congrArg u ?_
    funext k
    match k with
    | ⟨0, _⟩ =>
      refine Fin.ext ?_
      show n.val - Host.clampedStart ⟨2, ![66, a]⟩ ⟨2, ![1, a]⟩ hs.1 w 0 = 0
      rw [e0]; omega
    | ⟨1, _⟩ =>
      refine Fin.ext ?_
      show h.val - Host.clampedStart ⟨2, ![66, a]⟩ ⟨2, ![1, a]⟩ hs.1 w 1 = h.val
      rw [e1]; omega
  · rw [dif_neg (fun H => hn (key.mp H)), if_neg hn]

end Cert.Scan

end
-- ==== Proof.RefStep.lean ====
/-
  THE REFERENCE'S LOOP BODY READ AT AN INDEX: each value of one trip, in terms of the arguments and of the state gradient
  the trip starts from.
-/
module

public import proofs.«01_k».proof.Proof.Gen.ReferenceIdeal.Step
public import proofs.«01_k».proof.Proof.Spec
public import proofs.«01_k».proof.Proof.Slices

@[expose] public section

set_option maxRecDepth 16384

noncomputable section

namespace Cert.Scan.Ref

open Idealize.ShloMosaic Cert.ReferenceIdeal Cert.ReferenceIdeal.Gen Cert.ReferenceIdeal.Step
open scoped BigOperators

/-- The chunk index of a trip as the program computes it, a word, is the number `65 - j`. -/
theorem index_word (j : ℕ) (hj : j < 66) (s : State Ideal) :
    (b3 j s (Shape.Idx.first h_S_)).toInt = ((65 - j : ℕ) : ℤ) := by
  show (66#32 - BitVec.ofNat 32 j - 1#32).toInt = _
  interval_cases j <;> rfl

/-- What no trip changes: the arguments, chunk by chunk. -/
structure Consts (a : Args) (s : State Ideal) : Prop where
  st : ∀ n h d e, s.main_v37_0 (ix4 n h d e) = a.st h n d e
  u : ∀ n h c e, s.main_v37_1 (ix4 n h c e) = a.u h (row n c) e
  w : ∀ n h c d, s.main_v37_2 (ix4 n h c d) = a.w h (row n c) d
  at' : ∀ n h i k, s.main_v37_3 (ix4 n h i k) = att a h n i k
  qd : ∀ n h c d, s.main_v37_4 (ix4 n h c d) = a.qd h (row n c) d
  kd : ∀ n h c d, s.main_v37_5 (ix4 n h c d) = a.kd h (row n c) d
  gl : ∀ n h, s.main_v37_6 (ix2 n h) = a.gl h n
  ct : ∀ n h c e, s.main_v37_7 (ix4 n h c e) = a.ct h (row n c) e

section Values

variable {a : Args} {j : ℕ} (hj : j < 66) {s : State Ideal} (H : Consts a s)
include hj H

/-! The chunk's own slice of each argument. -/

theorem b7_at (z : Fin 1) (h : Fin 8) (c : Fin 128) (e : Fin 256) : b7 j s (ix4 z h c e) = a.st h (chunk j) c e :=
  (slice_at s.main_v37_0 _ (65 - j) (by omega) (index_word j hj s) rfl rfl rfl _ z h c e).trans (H.st (chunk j) h c e)
theorem b8_at (h : Fin 8) (c : Fin 128) (e : Fin 256) : b8 j s (ix3 h c e) = a.st h (chunk j) c e := by
  rw [← b7_at hj H 0]
  pointwise [b8]
theorem b12_at (z : Fin 1) (h : Fin 8) (c : Fin 64) (e : Fin 256) : b12 j s (ix4 z h c e) = a.u h (row (chunk j) c) e :=
  (slice_at s.main_v37_1 _ (65 - j) (by omega) (index_word j hj s) rfl rfl rfl _ z h c e).trans (H.u (chunk j) h c e)
theorem b13_at (h : Fin 8) (c : Fin 64) (e : Fin 256) : b13 j s (ix3 h c e) = a.u h (row (chunk j) c) e := by
  rw [← b12_at hj H 0]
  pointwise [b13]
theorem b17_at (z : Fin 1) (h : Fin 8) (c : Fin 64) (e : Fin 128) : b17 j s (ix4 z h c e) = a.w h (row (chunk j) c) e :=
  (slice_at s.main_v37_2 _ (65 - j) (by omega) (index_word j hj s) rfl rfl rfl _ z h c e).trans (H.w (chunk j) h c e)
theorem b18_at (h : Fin 8) (c : Fin 64) (e : Fin 128) : b18 j s (ix3 h c e) = a.w h (row (chunk j) c) e := by
  rw [← b17_at hj H 0]
  pointwise [b18]
theorem b22_at (z : Fin 1) (h : Fin 8) (c : Fin 64) (e : Fin 64) : b22 j s (ix4 z h c e) = att a h (chunk j) c e :=
  (slice_at s.main_v37_3 _ (65 - j) (by omega) (index_word j hj s) rfl rfl rfl _ z h c e).trans (H.at' (chunk j) h c e)
theorem b23_at (h : Fin 8) (c : Fin 64) (e : Fin 64) : b23 j s (ix3 h c e) = att a h (chunk j) c e := by
  rw [← b22_at hj H 0]
  pointwise [b23]
theorem b27_at (z : Fin 1) (h : Fin 8) (c : Fin 64) (e : Fin 128) : b27 j s (ix4 z h c e) = a.qd h (row (chunk j) c) e :=
  (slice_at s.main_v37_4 _ (65 - j) (by omega) (index_word j hj s) rfl rfl rfl _ z h c e).trans (H.qd (chunk j) h c e)
theorem b28_at (h : Fin 8) (c : Fin 64) (e : Fin 128) : b28 j s (ix3 h c e) = a.qd h (row (chunk j) c) e := by
  rw [← b27_at hj H 0]
  pointwise [b28]
theorem b32_at (z : Fin 1) (h : Fin 8) (c : Fin 64) (e : Fin 128) : b32 j s (ix4 z h c e) = a.kd h (row (chunk j) c) e :=
  (slice_at s.main_v37_5 _ (65 - j) (by omega) (index_word j hj s) rfl rfl rfl _ z h c e).trans (H.kd (chunk j) h c e)
theorem b33_at (h : Fin 8) (c : Fin 64) (e : Fin 128) : b33 j s (ix3 h c e) = a.kd h (row (chunk j) c) e := by
  rw [← b32_at hj H 0]
  pointwise [b33]
theorem b40_at (z : Fin 1) (h : Fin 8) (c : Fin 64) (e : Fin 256) : b40 j s (ix4 z h c e) = a.ct h (row (chunk j) c) e :=
  (slice_at s.main_v37_7 _ (65 - j) (by omega) (index_word j hj s) rfl rfl rfl _ z h c e).trans (H.ct (chunk j) h c e)
theorem b41_at (h : Fin 8) (c : Fin 64) (e : Fin 256) : b41 j s (ix3 h c e) = a.ct h (row (chunk j) c) e := by
  rw [← b40_at hj H 0]
  pointwise [b41]
theorem b35_at (z : Fin 1) (h : Fin 8) : b35 j s (ix2 z h) = a.gl h (chunk j) :=
  (slice2_at s.main_v37_6 _ (65 - j) (by omega) (index_word j hj s) rfl _ z h).trans (H.gl (chunk j) h)
theorem b36_at (h : Fin 8) : b36 j s (ix1 h) = a.gl h (chunk j) := by
  rw [← b35_at hj H 0]
  pointwise [b36]

/-! The chunk's results. -/

theorem b43_at (h : Fin 8) (c : Fin 64) (e : Fin 256) : b43 j s (ix3 h c e) = vn a h (chunk j) c e := by
  pointwise [b43, b42]
  simp only [b13_at hj H, b18_at hj H, b8_at hj H]
  rfl

variable {X : Fin 8 → Fin 128 → Fin 256 → EReal} (hX : ∀ h d e, s.main_v37_9 (ix3 h d e) = X h d e)
include hX

theorem b66_at (h : Fin 8) (c : Fin 64) (e : Fin 256) : b66 j s (ix3 h c e) = dv a (X h) h (chunk j) c e := by
  pointwise [b66, b53, b52, b65, b64]
  simp only [b33_at hj H, b41_at hj H, b23_at hj H, hX]
  rfl

theorem b75_at (h : Fin 8) (d : Fin 128) (e : Fin 256) : b75 j s (ix3 h d e) = next a (X h) h (chunk j) d e := by
  pointwise [b75, b70, b74, b73, b72, b69, b68, b61, b60, b47]
  simp only [b66_at hj H hX, b41_at hj H, b28_at hj H, b18_at hj H, b36_at hj H, hX]
  rfl

theorem b76_at (h : Fin 8) (c : Fin 64) (d : Fin 128) :
    b76 j s (ix3 h c d) = ∑ e : Fin 256, -dv a (X h) h (chunk j) c e * a.st h (chunk j) d e := by
  pointwise [b76, b72]
  simp only [b66_at hj H hX, b8_at hj H]

theorem b67_at (h : Fin 8) (i k : Fin 64) : b67 j s (ix3 h i k) = daAt a h (chunk j) i k := by
  pointwise [b67]
  simp only [b41_at hj H, b43_at hj H]
  rfl

theorem b71_at (h : Fin 8) (c : Fin 64) (d : Fin 128) : b71 j s (ix3 h c d) = dqAt a h (chunk j) c d := by
  pointwise [b71]
  simp only [b41_at hj H, b8_at hj H]
  rfl

theorem b55_at (h : Fin 8) (c : Fin 64) (d : Fin 128) :
    b55 j s (ix3 h c d) = ∑ e : Fin 256, X h d e * vn a h (chunk j) c e := by
  pointwise [b55, b54]
  simp only [b43_at hj H, hX]

theorem b63_at (h : Fin 8) : b63 j s (ix1 h) = ∑ d : Fin 128, ∑ e : Fin 256, a.st h (chunk j) d e * X h d e := by
  pointwise [b63, b59, b58, b56, b57, b62]
  simp only [b8_at hj H, hX]
  simp

theorem b77_at (z : Fin 1) (h : Fin 8) (c : Fin 64) (e : Fin 256) : b77 j s (ix4 z h c e) = dv a (X h) h (chunk j) c e := by
  rw [← b66_at hj H hX]
  pointwise [b77]
theorem b81_at (n : Fin 66) (h : Fin 8) (c : Fin 64) (e : Fin 256) :
    b81 j s (ix4 n h c e) = if n.val = 65 - j then dv a (X h) h (chunk j) c e else s.main_v37_10 (ix4 n h c e) := by
  rw [← b77_at hj H hX 0]
  exact update_at s.main_v37_10 _ _ (65 - j) (by omega) (index_word j hj s) rfl rfl rfl _ n h c e
theorem b82_at (z : Fin 1) (h : Fin 8) (c : Fin 64) (e : Fin 128) : b82 j s (ix4 z h c e) = ∑ e' : Fin 256, -dv a (X h) h (chunk j) c e' * a.st h (chunk j) e e' := by
  rw [← b76_at hj H hX]
  pointwise [b82]
theorem b86_at (n : Fin 66) (h : Fin 8) (c : Fin 64) (e : Fin 128) :
    b86 j s (ix4 n h c e) = if n.val = 65 - j then ∑ e' : Fin 256, -dv a (X h) h (chunk j) c e' * a.st h (chunk j) e e' else s.main_v37_11 (ix4 n h c e) := by
  rw [← b82_at hj H hX 0]
  exact update_at s.main_v37_11 _ _ (65 - j) (by omega) (index_word j hj s) rfl rfl rfl _ n h c e
theorem b87_at (z : Fin 1) (h : Fin 8) (c : Fin 64) (e : Fin 64) : b87 j s (ix4 z h c e) = daAt a h (chunk j) c e := by
  rw [← b67_at hj H hX]
  pointwise [b87]
theorem b91_at (n : Fin 66) (h : Fin 8) (c : Fin 64) (e : Fin 64) :
    b91 j s (ix4 n h c e) = if n.val = 65 - j then daAt a h (chunk j) c e else s.main_v37_12 (ix4 n h c e) := by
  rw [← b87_at hj H hX 0]
  exact update_at s.main_v37_12 _ _ (65 - j) (by omega) (index_word j hj s) rfl rfl rfl _ n h c e
theorem b92_at (z : Fin 1) (h : Fin 8) (c : Fin 64) (e : Fin 128) : b92 j s (ix4 z h c e) = dqAt a h (chunk j) c e := by
  rw [← b71_at hj H hX]
  pointwise [b92]
theorem b96_at (n : Fin 66) (h : Fin 8) (c : Fin 64) (e : Fin 128) :
    b96 j s (ix4 n h c e) = if n.val = 65 - j then dqAt a h (chunk j) c e else s.main_v37_13 (ix4 n h c e) := by
  rw [← b92_at hj H hX 0]
  exact update_at s.main_v37_13 _ _ (65 - j) (by omega) (index_word j hj s) rfl rfl rfl _ n h c e
theorem b97_at (z : Fin 1) (h : Fin 8) (c : Fin 64) (e : Fin 128) : b97 j s (ix4 z h c e) = ∑ e' : Fin 256, X h e e' * vn a h (chunk j) c e' := by
  rw [← b55_at hj H hX]
  pointwise [b97]
theorem b101_at (n : Fin 66) (h : Fin 8) (c : Fin 64) (e : Fin 128) :
    b101 j s (ix4 n h c e) = if n.val = 65 - j then ∑ e' : Fin 256, X h e e' * vn a h (chunk j) c e' else s.main_v37_14 (ix4 n h c e) := by
  rw [← b97_at hj H hX 0]
  exact update_at s.main_v37_14 _ _ (65 - j) (by omega) (index_word j hj s) rfl rfl rfl _ n h c e
theorem b102_at (z : Fin 1) (h : Fin 8) :
    b102 j s (ix2 z h) = ∑ d : Fin 128, ∑ e : Fin 256, a.st h (chunk j) d e * X h d e := by
  rw [← b63_at hj H hX]
  pointwise [b102]
theorem b104_at (n : Fin 66) (h : Fin 8) :
    b104 j s (ix2 n h) = if n.val = 65 - j then ∑ d : Fin 128, ∑ e : Fin 256, a.st h (chunk j) d e * X h d e
      else s.main_v37_15 (ix2 n h) := by
  rw [← b102_at hj H hX 0]
  exact update2_at s.main_v37_15 _ _ (65 - j) (by omega) (index_word j hj s) rfl _ n h

end Values

end Cert.Scan.Ref

end
-- ==== Proof.RefRun.lean ====
/-
  THE REFERENCE'S RESULTS: its 66 trips, by induction, and what it makes of the last state, element by element.
-/
module

public import proofs.«01_k».proof.Proof.RefStep

@[expose] public section

set_option maxRecDepth 16384

noncomputable section

namespace Cert.Scan.Ref

open Idealize.ShloMosaic Cert.ReferenceIdeal Cert.ReferenceIdeal.Gen Cert.ReferenceIdeal.Step
open scoped BigOperators

/-- The state after `j` trips: the state gradient, and the results of the last `j` chunks. -/
structure After (a : Args) (j : ℕ) (s : State Ideal) : Prop where
  consts : Consts a s
  dS : ∀ h d e, s.main_v37_9 (ix3 h d e) = grad a h j d e
  du : ∀ n h c e, 66 ≤ n.val + j → s.main_v37_10 (ix4 n h c e) = duAt a h n c e
  dw : ∀ n h c d, 66 ≤ n.val + j → s.main_v37_11 (ix4 n h c d) = dwAt a h n c d
  da : ∀ n h i k, 66 ≤ n.val + j → s.main_v37_12 (ix4 n h i k) = daAt a h n i k
  dq : ∀ n h c d, 66 ≤ n.val + j → s.main_v37_13 (ix4 n h c d) = dqAt a h n c d
  dk : ∀ n h c d, 66 ≤ n.val + j → s.main_v37_14 (ix4 n h c d) = dkAt a h n c d
  dg : ∀ n h, 66 ≤ n.val + j → s.main_v37_15 (ix2 n h) = dgAt a h n

theorem chunk_eq {n : Fin 66} {j : ℕ} (hn : n.val = 65 - j) : chunk j = n := Fin.ext hn.symm

/-- One more trip. -/
theorem After.step {a : Args} {j : ℕ} (hj : j < 66) {s : State Ideal} (H : After a j s) : After a (j + 1) (step j s) where
  consts := ⟨H.consts.st, H.consts.u, H.consts.w, H.consts.at', H.consts.qd, H.consts.kd, H.consts.gl, H.consts.ct⟩
  dS h d e := by rw [step_main_v37_9, b75_at hj H.consts H.dS]; rfl
  du n h c e hn := by
    rw [step_main_v37_10, b81_at hj H.consts H.dS]
    split
    · rename_i h1
      obtain rfl := chunk_eq h1
      unfold duAt; rw [into_chunk a h j hj]
    · exact H.du n h c e (by omega)
  dw n h c d hn := by
    rw [step_main_v37_11, b86_at hj H.consts H.dS]
    split
    · rename_i h1
      obtain rfl := chunk_eq h1
      unfold dwAt duAt; rw [into_chunk a h j hj]
    · exact H.dw n h c d (by omega)
  da n h i k hn := by
    rw [step_main_v37_12, b91_at hj H.consts H.dS]
    split
    · rename_i h1
      obtain rfl := chunk_eq h1
      rfl
    · exact H.da n h i k (by omega)
  dq n h c d hn := by
    rw [step_main_v37_13, b96_at hj H.consts H.dS]
    split
    · rename_i h1
      obtain rfl := chunk_eq h1
      rfl
    · exact H.dq n h c d (by omega)
  dk n h c d hn := by
    rw [step_main_v37_14, b101_at hj H.consts H.dS]
    split
    · rename_i h1
      obtain rfl := chunk_eq h1
      unfold dkAt; rw [into_chunk a h j hj]
    · exact H.dk n h c d (by omega)
  dg n h hn := by
    rw [step_main_v37_15, b104_at hj H.consts H.dS]
    split
    · rename_i h1
      obtain rfl := chunk_eq h1
      unfold dgAt; rw [into_chunk a h j hj]
    · exact H.dg n h (by omega)

variable (x0 : (⟨S8x4224x256, .f32⟩ : BufTy).Contents (Elt Ideal)) (x1 x2 x3 x4 : (⟨S8x4224x128, .bf16⟩ : BufTy).Contents (Elt Ideal))
  (x5 : (⟨S8x66, .f32⟩ : BufTy).Contents (Elt Ideal)) (x6 : (⟨S8x66x128x256, .bf16⟩ : BufTy).Contents (Elt Ideal))
  (x7 : (⟨S8x4224x256, .f32⟩ : BufTy).Contents (Elt Ideal))

/-- A "not below" comparison of two small numbers, as words. -/
theorem sge_word {x y : ℕ} (hx : x < 64) (hy : y < 64) :
    IntOp.cmpi CmpIPredicate.sge (IntOp.addi (BitVec.ofNat 32 x) 0#32) (BitVec.ofNat 32 y) = BitVec.ofBool (decide (y ≤ x)) := by
  have key : ∀ u v : Fin 64, IntOp.cmpi CmpIPredicate.sge (IntOp.addi (BitVec.ofNat 32 u.val) 0#32) (BitVec.ofNat 32 v.val)
      = BitVec.ofBool (decide (v.val ≤ u.val)) := by decide +kernel
  exact key ⟨x, hx⟩ ⟨y, hy⟩

/-- A select on a "not above" comparison of two small numbers, as words, is the `if` on the numbers. -/
theorem select_le {x y : ℕ} (hx : x < 64) (hy : y < 64) (p q : EReal) :
    Scalar.select (Scalar.select (IntOp.cmpi CmpIPredicate.sge (IntOp.addi (BitVec.ofNat 32 x) 0#32) (BitVec.ofNat 32 y)) 1#1 0#1) p q
      = if y ≤ x then p else q := by
  rw [sge_word hx hy]
  by_cases h : y ≤ x
  · rw [if_pos h, decide_eq_true h]; rfl
  · rw [if_neg h, decide_eq_false h]; rfl

/-- The same with a comparison of two block numbers "and"ed on. -/
theorem select_own {b b' x y : ℕ} (hb : b < 2) (hb' : b' < 2) (hx : x < 64) (hy : y < 64) (p q : EReal) :
    Scalar.select (IntOp.andi (IntOp.cmpi CmpIPredicate.eq (IntOp.addi (BitVec.ofNat 32 b) 0#32) (BitVec.ofNat 32 b'))
        (Scalar.select (IntOp.cmpi CmpIPredicate.sge (IntOp.addi (BitVec.ofNat 32 x) 0#32) (BitVec.ofNat 32 y)) 1#1 0#1)) p q
      = if b' = b ∧ y ≤ x then p else q := by
  rw [sge_word hx hy]
  interval_cases b <;> interval_cases b' <;> by_cases h : y ≤ x <;>
    simp [h, IntOp.cmpi, IntOp.addi, IntOp.andi, Scalar.select]

theorem daAt_congr {a : Args} {h : Fin 8} {n n' : Fin 66} {i i' k k' : Fin 64} (hn : n.val = n'.val) (hi : i.val = i'.val)
    (hk : k.val = k'.val) : daAt a h n i k = daAt a h n' i' k' := by
  obtain rfl := Fin.ext hn; obtain rfl := Fin.ext hi; obtain rfl := Fin.ext hk; rfl

theorem zero_const : (id (constant S_ FTy.f32 0#32) ix0 : Ideal .f32) = (0 : EReal) := Ideal.ofBits_zero_f32

theorem at_init (n : Fin 66) (h : Fin 8) (i k : Fin 64) :
    A_main_v13 x0 x1 x2 x3 x4 x5 x6 x7 (ix4 n h i k) = att (Args.of x0 x1 x2 x3 x4 x5 x6 x7) h n i k := by
  pointwise [A_main_v13, A_main_v12, A_main_v9, A_main_v8, A_main_v7, A_main_v6, A_main_v5, A_main_v4, A_main_v3, A_main_v2, A_main_v1, A_main_v0, K_main_call1_v1, K_main_v11, K_main_call0_v4, K_main_call0_v2, K_main_call0_v0, K_main_call0_v1, K_main_call0_c, K_main_call0_v3, K_main_v10, K_main_c, K_main_call0_v5, K_main_call0_c_0, K_main_call1_v2, K_main_call1_v0, K_main_cst]
  rw [zero_const, select_le i.isLt k.isLt]
  unfold att
  refine if_congr Iff.rfl ?_ rfl
  show _ = x2 (ix3 h (row n i) (col n k))
  split
  · rename_i h1
    refine congrArg x2 (congrArg₂ (ix3 h) (Fin.ext ?_) (Fin.ext ?_))
    · show n.val / 2 * 128 + i.val = n.val * 64 + i.val; omega
    · show k.val = n.val % 2 * 64 + k.val; omega
  · rename_i h1
    refine congrArg x2 (congrArg₂ (ix3 h) (Fin.ext ?_) (Fin.ext ?_))
    · show n.val / 2 * 128 + 64 + i.val = n.val * 64 + i.val; omega
    · show 64 + k.val = n.val % 2 * 64 + k.val; omega

theorem consts_init : Consts (Args.of x0 x1 x2 x3 x4 x5 x6 x7) (init x0 x1 x2 x3 x4 x5 x6 x7) where
  st n h d e := by
    show A_main_v27 x0 x1 x2 x3 x4 x5 x6 x7 _ = _
    pointwise [A_main_v27, A_main_v26]; rfl
  u n h c e := by
    show A_main_v15 x0 x1 x2 x3 x4 x5 x6 x7 _ = _
    pointwise [A_main_v15, A_main_v14]; rfl
  w n h c e := by
    show A_main_v18 x0 x1 x2 x3 x4 x5 x6 x7 _ = _
    pointwise [A_main_v18, A_main_v17, A_main_v16]; rfl
  at' n h i k := at_init x0 x1 x2 x3 x4 x5 x6 x7 n h i k
  qd n h c e := by
    show A_main_v21 x0 x1 x2 x3 x4 x5 x6 x7 _ = _
    pointwise [A_main_v21, A_main_v20, A_main_v19]; rfl
  kd n h c e := by
    show A_main_v24 x0 x1 x2 x3 x4 x5 x6 x7 _ = _
    pointwise [A_main_v24, A_main_v23, A_main_v22]; rfl
  gl n h := by
    show A_main_v25 x0 x1 x2 x3 x4 x5 x6 x7 _ = _
    pointwise [A_main_v25]; rfl
  ct n h c e := by
    show A_main_v30 x0 x1 x2 x3 x4 x5 x6 x7 _ = _
    pointwise [A_main_v30, A_main_v29]; rfl

theorem after_init : After (Args.of x0 x1 x2 x3 x4 x5 x6 x7) 0 (init x0 x1 x2 x3 x4 x5 x6 x7) where
  consts := consts_init x0 x1 x2 x3 x4 x5 x6 x7
  dS h d e := by
    show K_main_v28 (F := Ideal) (ix3 h d e) = 0
    pointwise [K_main_v28, K_main_cst_0]
  du n h c e hn := absurd hn (by omega)
  dw n h c e hn := absurd hn (by omega)
  da n h c e hn := absurd hn (by omega)
  dq n h c e hn := absurd hn (by omega)
  dk n h c e hn := absurd hn (by omega)
  dg n h hn := absurd hn (by omega)

/-- The states of the loop. -/
def state : ℕ → State Ideal
  | 0 => init x0 x1 x2 x3 x4 x5 x6 x7
  | j + 1 => step j (state j)

theorem after_state : ∀ j ≤ 66, After (Args.of x0 x1 x2 x3 x4 x5 x6 x7) j (state x0 x1 x2 x3 x4 x5 x6 x7 j)
  | 0, _ => after_init x0 x1 x2 x3 x4 x5 x6 x7
  | j + 1, hj => (after_state j (by omega)).step (by omega)

/-! The results, of any last state that holds every chunk's. -/

variable {a : Args} {s : State Ideal} (H : After a 66 s)
include H

theorem res_du : R_main_v60 s = duOut a := by
  funext i
  idx_vars i
  pointwise [R_main_v60]
  exact H.du _ _ _ _ (by omega)
theorem res_dw : R_main_v62 s = dwOut a := by
  funext i
  idx_vars i
  pointwise [R_main_v62]
  exact H.dw _ _ _ _ (by omega)
theorem res_dq : R_main_v65 s = dqOut a := by
  funext i
  idx_vars i
  pointwise [R_main_v65]
  exact H.dq _ _ _ _ (by omega)
theorem res_dk : R_main_v67 s = dkOut a := by
  funext i
  idx_vars i
  pointwise [R_main_v67]
  exact H.dk _ _ _ _ (by omega)
theorem res_dp : R_main_v63 s = dpOut a := by
  funext i
  idx_vars i
  pointwise [R_main_v63]
  rw [zero_const]
  refine (select_own (by omega) (by omega) (by omega) (by omega) _ _).trans ?_
  show _ = dpAt a i0 i1 i2
  unfold dpAt
  by_cases h3 : i2.val / 64 = i1.val / 64 % 2 ∧ i2.val % 64 ≤ i1.val % 64
  · rw [if_pos h3, if_pos h3]
    refine (H.da _ _ _ _ (Nat.le_add_left 66 _)).trans (daAt_congr ?_ rfl rfl)
    show i1.val / 128 * 2 + i1.val / 64 % 2 = i1.val / 64
    omega
  · rw [if_neg h3, if_neg h3]
theorem res_dg : R_main_v58 s = dgOut a := by
  funext i
  idx_vars i
  pointwise [R_main_v58]
  show _ = dglAt a i0 i1
  unfold dglAt
  have hdg : ∀ (n : Fin 66) (h : Fin 8), s.main_v37_15 (ix2 n h) = dgAt a h n := fun n h => H.dg n h (Nat.le_add_left 66 _)
  simp only [hdg]
  split
  · exact (if_neg (by omega)).symm
  · exact (if_pos (by omega)).symm

end Cert.Scan.Ref

end
-- ==== Proof.RefTrip.lean ====
/-
  THE REFERENCE'S RUN over its carried state: one trip of the loop takes the contents of the carried buffers to `step` of
  them, so what the run leaves is read off any sequence of states that starts at `init` and goes on by `step`.
-/
module

public import proofs.«01_k».proof.Proof.Gen.ReferenceIdeal.Run
public import proofs.«01_k».proof.Proof.Gen.ReferenceIdeal.Step

@[expose] public section

noncomputable section

namespace Cert.Scan.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The carried buffers' contents, as a state. -/
def carried (V : Valuation τ sig (Elt F)) : State F where
  main_v37_9 := V (Proc.devRef .tc main_v37_9)
  main_v37_10 := V (Proc.devRef .tc main_v37_10)
  main_v37_11 := V (Proc.devRef .tc main_v37_11)
  main_v37_12 := V (Proc.devRef .tc main_v37_12)
  main_v37_13 := V (Proc.devRef .tc main_v37_13)
  main_v37_14 := V (Proc.devRef .tc main_v37_14)
  main_v37_15 := V (Proc.devRef .tc main_v37_15)
  main_v37_0 := V (Proc.devRef .tc main_v37_0)
  main_v37_1 := V (Proc.devRef .tc main_v37_1)
  main_v37_2 := V (Proc.devRef .tc main_v37_2)
  main_v37_3 := V (Proc.devRef .tc main_v37_3)
  main_v37_4 := V (Proc.devRef .tc main_v37_4)
  main_v37_5 := V (Proc.devRef .tc main_v37_5)
  main_v37_6 := V (Proc.devRef .tc main_v37_6)
  main_v37_7 := V (Proc.devRef .tc main_v37_7)

/-- The loop's counter stands at `j`. -/
def Counts (V : Valuation τ sig (Elt F)) (j : ℕ) : Prop := V (Proc.devRef .tc main_v37_8) = constantI S_ 32 (BitVec.ofNat 32 j)

variable {V : Valuation τ sig (Elt F)} {j : ℕ}

/-! What one trip stores in each carried buffer. -/

theorem stores_9 (h : Counts V j) : Value.step_main_v37_9 V = b75 j (carried V) := by
  unfold Value.step_main_v37_9
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_10 (h : Counts V j) : Value.step_main_v37_10 V = b81 j (carried V) := by
  unfold Value.step_main_v37_10
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_11 (h : Counts V j) : Value.step_main_v37_11 V = b86 j (carried V) := by
  unfold Value.step_main_v37_11
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_12 (h : Counts V j) : Value.step_main_v37_12 V = b91 j (carried V) := by
  unfold Value.step_main_v37_12
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_13 (h : Counts V j) : Value.step_main_v37_13 V = b96 j (carried V) := by
  unfold Value.step_main_v37_13
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_14 (h : Counts V j) : Value.step_main_v37_14 V = b101 j (carried V) := by
  unfold Value.step_main_v37_14
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem stores_15 (h : Counts V j) : Value.step_main_v37_15 V = b104 j (carried V) := by
  unfold Value.step_main_v37_15
  simp only [res_main_while0b_v69, res_main_while0b_v70, res_main_while0b_v72, res_main_while0b_v73, res_main_while0b_v74, res_main_while0b_v75, res_main_while0b_v77, res_main_while0b_v79, res_main_while0b_v83, res_main_while0b_v100, res_main_while0b_v106, show V (Proc.devRef .tc main_v37_8) = _ from h]
  rfl

theorem counts_next (h : Counts V j) : Counts (STEP V) (j + 1) := by
  unfold Counts at h ⊢
  rw [STEP_main_v37_8]
  unfold step_main_v37_8
  rw [h]
  funext i
  show BitVec.ofNat 32 j + 1#32 = BitVec.ofNat 32 (j + 1)
  simp only [BitVec.ofNat_add]

/-- One trip is `step`. -/
theorem carried_next (h : Counts V j) : carried (STEP V) = step j (carried V) := by
  unfold carried
  rw [STEP_main_v37_9]
  rw [STEP_main_v37_10]
  rw [STEP_main_v37_11]
  rw [STEP_main_v37_12]
  rw [STEP_main_v37_13]
  rw [STEP_main_v37_14]
  rw [STEP_main_v37_15]
  rw [STEP_main_v37_0]
  rw [STEP_main_v37_1]
  rw [STEP_main_v37_2]
  rw [STEP_main_v37_3]
  rw [STEP_main_v37_4]
  rw [STEP_main_v37_5]
  rw [STEP_main_v37_6]
  rw [STEP_main_v37_7]
  rw [stores_9 h]
  rw [stores_10 h]
  rw [stores_11 h]
  rw [stores_12 h]
  rw [stores_13 h]
  rw [stores_14 h]
  rw [stores_15 h]
  rfl

variable (m : (ℓ : Loc nD τ sig) → Buf (Elt F) ℓ) (c : Dev nD)

/-- The state the loop starts from. -/
def first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxRecDepth 65536 in
set_option maxHeartbeats 1000000 in
theorem counts_entry : Counts (entryContents preI m c) 0 := by
  unfold Counts
  simp only [entryContents, afterL_cons, afterL_nil]
  after_reads_simp <;> rfl

set_option maxRecDepth 65536 in
set_option maxHeartbeats 1000000 in
theorem carried_entry : carried (entryContents preI m c) = first m c := by
  unfold carried
  simp only [State.mk.injEq, first, init]
  refine ⟨?_, ?_, ?_, ?_, ?_, ?_, ?_, ?_, ?_, ?_, ?_, ?_, ?_, ?_, ?_⟩ <;>
    (simp only [entryContents, afterL_cons, afterL_nil]; after_reads_simp) <;> rfl

/-- After `k` trips the buffers hold the `k`-th state. -/
theorem carried_iter (it : ℕ → State F) (h0 : it 0 = first m c) (hs : ∀ n, it (n + 1) = step n (it n)) :
    ∀ k, Counts (STEP^[k] (entryContents preI m c)) k ∧ carried (STEP^[k] (entryContents preI m c)) = it k
  | 0 => ⟨counts_entry m c, (carried_entry m c).trans h0.symm⟩
  | k + 1 => by
    obtain ⟨hn, hc⟩ := carried_iter it h0 hs k
    rw [Function.iterate_succ_apply']
    exact ⟨counts_next hn, (carried_next hn).trans ((congrArg (step k) hc).trans (hs k).symm)⟩

/-! The results, of the carried buffers. -/

theorem reads_60 (V : Valuation τ sig (Elt F)) : out_main_v60 V = R_main_v60 (carried V) := by
  unfold out_main_v60 R_main_v60 carried
  rfl
theorem reads_62 (V : Valuation τ sig (Elt F)) : out_main_v62 V = R_main_v62 (carried V) := by
  unfold out_main_v62 R_main_v62 carried
  rfl
theorem reads_63 (V : Valuation τ sig (Elt F)) : out_main_v63 V = R_main_v63 (carried V) := by
  unfold out_main_v63 R_main_v63 carried
  rfl
theorem reads_65 (V : Valuation τ sig (Elt F)) : out_main_v65 V = R_main_v65 (carried V) := by
  unfold out_main_v65 R_main_v65 carried
  rfl
theorem reads_67 (V : Valuation τ sig (Elt F)) : out_main_v67 V = R_main_v67 (carried V) := by
  unfold out_main_v67 R_main_v67 carried
  rfl
theorem reads_58 (V : Valuation τ sig (Elt F)) : out_main_v58 V = R_main_v58 (carried V) := by
  unfold out_main_v58 R_main_v58 carried
  rfl

/-- The run ends with the results read off state 66, the arguments as they were. -/
theorem run (m : (ℓ : Loc nD τ sig) → Buf (Elt F) ℓ) (ρ : Dev nD → PrngReg) (it : Dev nD → ℕ → State F)
    (h0 : ∀ c, it c 0 = first m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v60) = R_main_v60 (it c 66)
      ∧ r.2.mem ((c.tc : Thread nD τ).loc main_v62) = R_main_v62 (it c 66)
      ∧ r.2.mem ((c.tc : Thread nD τ).loc main_v63) = R_main_v63 (it c 66)
      ∧ r.2.mem ((c.tc : Thread nD τ).loc main_v65) = R_main_v65 (it c 66)
      ∧ r.2.mem ((c.tc : Thread nD τ).loc main_v67) = R_main_v67 (it c 66)
      ∧ r.2.mem ((c.tc : Thread nD τ).loc main_v58) = R_main_v58 (it c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    have hk := (carried_iter m c (it c) (h0 c) (hs c) 66).2
    obtain ⟨e0, e1, e2, e3, e4, e5, ha⟩ := h c
    exact ⟨e0.trans ((reads_60 _).trans (congrArg R_main_v60 hk)), e1.trans ((reads_62 _).trans (congrArg R_main_v62 hk)), e2.trans ((reads_63 _).trans (congrArg R_main_v63 hk)), e3.trans ((reads_65 _).trans (congrArg R_main_v65 hk)), e4.trans ((reads_67 _).trans (congrArg R_main_v67 hk)), e5.trans ((reads_58 _).trans (congrArg R_main_v58 hk)), ha⟩) (Value.run m ρ)

end Cert.Scan.Trip

end
-- ==== Proof.Finite.lean ====
/-
  FINITE ARGUMENTS: under the precondition every argument but `u` is finite, hence so is every state gradient, and the sum of
  the negated products that the reference takes for the gradient of `w` is the negated sum of the kernel.
-/
module

public import proofs.«01_k».proof.Proof.Names
public import proofs.«01_k».proof.Proof.Blocks
public import proofs.«01_k».proof.Defs
public import Idealize.ShloMosaic.Lib.Pointwise

@[expose] public section

noncomputable section

namespace Cert.Scan

open Idealize.ShloMosaic Idealize.ShloMosaic.TcCoe Idealize.ShloMosaic.Tactic
open scoped BigOperators

/-- A finite extended real. -/
def Fine (x : EReal) : Prop := ∃ r : ℝ, x = (r : EReal)

theorem Fine.zero : Fine 0 := ⟨0, rfl⟩
theorem Fine.add {x y : EReal} (hx : Fine x) (hy : Fine y) : Fine (x + y) := by
  obtain ⟨r, rfl⟩ := hx
  obtain ⟨s, rfl⟩ := hy
  exact ⟨r + s, (EReal.coe_add r s).symm⟩
theorem Fine.mul {x y : EReal} (hx : Fine x) (hy : Fine y) : Fine (x * y) := by
  obtain ⟨r, rfl⟩ := hx
  obtain ⟨s, rfl⟩ := hy
  exact ⟨r * s, (EReal.coe_mul r s).symm⟩
theorem Fine.neg {x : EReal} (hx : Fine x) : Fine (-x) := by
  obtain ⟨r, rfl⟩ := hx
  exact ⟨-r, (EReal.coe_neg r).symm⟩
theorem Fine.sum {n : ℕ} {f : Fin n → EReal} (h : ∀ k, Fine (f k)) : Fine (∑ k, f k) :=
  Finset.sum_induction f Fine (fun _ _ hx hy => hx.add hy) Fine.zero fun k _ => h k

/-- The negation of a sum of finite numbers. -/
theorem neg_sum {n : ℕ} {f : Fin n → EReal} (h : ∀ k, Fine (f k)) : -∑ k, f k = ∑ k, -f k := by
  choose r hr using h
  have e1 : ∀ k, f k = (r k : EReal) := hr
  have e2 : ∀ s : Finset (Fin n), -∑ k ∈ s, f k = ∑ k ∈ s, -f k ∧ Fine (∑ k ∈ s, f k) := by
    intro s
    induction s using Finset.induction_on with
    | empty => exact ⟨by simp, by simpa using Fine.zero⟩
    | insert k s hk ih =>
      obtain ⟨q, hq⟩ := ih.2
      rw [Finset.sum_insert hk, Finset.sum_insert hk, ← ih.1, hq, e1 k]
      refine ⟨?_, ⟨r k + q, (EReal.coe_add _ _).symm⟩⟩
      rw [← EReal.coe_add, ← EReal.coe_neg, ← EReal.coe_neg, ← EReal.coe_neg, ← EReal.coe_add, neg_add]
  exact (e2 Finset.univ).1

/-- Finite arguments: every array but `u`. -/
structure Args.Finite (a : Args) : Prop where
  w : ∀ h r d, Fine (a.w h r d)
  p : ∀ h r k, Fine (a.p h r k)
  qd : ∀ h r d, Fine (a.qd h r d)
  kd : ∀ h r d, Fine (a.kd h r d)
  gl : ∀ h n, Fine (a.gl h n)
  st : ∀ h n d e, Fine (a.st h n d e)
  ct : ∀ h r e, Fine (a.ct h r e)

variable {a : Args} (H : a.Finite)
include H

/-- The gradient of the new values is finite. -/
theorem Args.Finite.dv {X : Fin 128 → Fin 256 → EReal} (hX : ∀ d e, Fine (X d e)) (h : Fin 8) (n : Fin 66) (i : Fin 64)
    (e : Fin 256) : Fine (dv a X h n i e) := by
  refine Fine.add (Fine.sum fun d => (hX d e).mul (H.kd _ _ _)) (Fine.sum fun j => (H.ct _ _ _).mul ?_)
  unfold att
  split
  · exact H.p _ _ _
  · exact Fine.zero

/-- Every state gradient is finite. -/
theorem Args.Finite.grad (h : Fin 8) : ∀ (j : ℕ) (d : Fin 128) (e : Fin 256), Fine (grad a h j d e)
  | 0, _, _ => Fine.zero
  | j + 1, d, e =>
    Fine.add (Fine.add ((Args.Finite.grad h j d e).mul (H.gl _ _)) (Fine.sum fun c => (H.ct _ _ _).mul (H.qd _ _ _)))
      (Fine.sum fun c => (H.dv (Args.Finite.grad h j) h (chunk j) c e).neg.mul (H.w _ _ _))

/-- The gradient of `w`, either way round. -/
theorem Args.Finite.dw : Kern.dwK a = dwOut a := by
  have key : ∀ (h : Fin 8) (n : Fin 66) (c : Fin 64) (d : Fin 128),
      -∑ e : Fin 256, duAt a h n c e * a.st h n d e = ∑ e : Fin 256, -duAt a h n c e * a.st h n d e := by
    intro h n c d
    rw [neg_sum fun e => Fine.mul (show Fine (duAt a h n c e) from H.dv (H.grad _ _) _ _ _ _) (H.st _ _ _ _)]
    exact Finset.sum_congr rfl fun e _ => (EReal.neg_mul _ _).symm
  funext i
  exact key (i 0) (rowChunk (i 1)) (rowPos (i 1)) (i 2)

omit H

/-- A number whose absolute value is below infinity. -/
theorem fine_of_abs {x : EReal} (h : BitVec.ofBool (decide ((max x (-x)) < (⊤ : EReal))) = 1#1) : Fine x := by
  induction x with
  | bot => simp at h
  | top => simp at h
  | coe r => exact ⟨r, rfl⟩

/-- The word of positive infinity. -/
theorem inf_const : Idealize.ShloMosaic.Ideal.ofBits .f32 0x7F800000#32 = (⊤ : EReal) := by
  simp [Idealize.ShloMosaic.Ideal.ofBits, Idealize.ShloMosaic.Ideal.ieee]

/-- … as the comparison reads it. -/
theorem fine_of_cmp {x : EReal}
    (h : Idealize.ShloMosaic.Ideal.cmp .olt (max x (-x)) (Idealize.ShloMosaic.Ideal.ofBits .f32 0x7F800000#32) = 1#1) : Fine x := by
  rw [inf_const] at h
  exact fine_of_abs h

section Pre
open Cert.Pre_finite

/-- The precondition, array by array. -/
theorem finite_of_pre [Facts] (x0 : FVec Ideal S8x4224x256 .f32)
    (x1 x2 x3 x4 : FVec Ideal S8x4224x128 .bf16) (x5 : FVec Ideal S8x66 .f32)
    (x6 : FVec Ideal S8x66x128x256 .bf16) (x7 : FVec Ideal S8x4224x256 .f32)
    (h1 : (fn x0 x1 x2 x3 x4 x5 x6 x7).1 = fun _ => 1#1)
    (h2 : (fn x0 x1 x2 x3 x4 x5 x6 x7).2.1 = fun _ => 1#1)
    (h3 : (fn x0 x1 x2 x3 x4 x5 x6 x7).2.2.1 = fun _ => 1#1)
    (h4 : (fn x0 x1 x2 x3 x4 x5 x6 x7).2.2.2.1 = fun _ => 1#1)
    (h5 : (fn x0 x1 x2 x3 x4 x5 x6 x7).2.2.2.2.1 = fun _ => 1#1)
    (h6 : (fn x0 x1 x2 x3 x4 x5 x6 x7).2.2.2.2.2.1 = fun _ => 1#1)
    (h7 : (fn x0 x1 x2 x3 x4 x5 x6 x7).2.2.2.2.2.2 = fun _ => 1#1) :
    (Args.of x0 x1 x2 x3 x4 x5 x6 x7).Finite where
  w h r d := fine_of_cmp (congrFun h1 (ix3 h r d))
  p h r d := fine_of_cmp (congrFun h2 (ix3 h r d))
  qd h r d := fine_of_cmp (congrFun h3 (ix3 h r d))
  kd h r d := fine_of_cmp (congrFun h4 (ix3 h r d))
  gl h n := fine_of_cmp (congrFun h5 (ix2 h n))
  st h n d e := fine_of_cmp (congrFun h6 (ix4 h n d e))
  ct h r e := fine_of_cmp (congrFun h7 (ix3 h r e))

end Pre

end Cert.Scan

end
-- ==== Proof.Gram.lean ====
/-
  THE PRODUCT OF A WEIGHT GRADIENT, column by column: the sum over the 4224 rows, and the same sum taken in three parts of 1408 rows.
-/
module

public import Idealize.ShloMosaic.Lib.Pipeline.ValueKit
public import Idealize.ShloMosaic.Lib.Pointwise

@[expose] public section

noncomputable section

namespace Cert.Grad

open scoped BigOperators

/-- Entry (i, j) of the weight gradient of `x` and `y`: the sum over the rows of a column of `x` times a column of `y`. -/
def gram {M N : ℕ} (x : Fin 4224 → Fin M → EReal) (y : Fin 4224 → Fin N → EReal) (i : Fin M) (j : Fin N) : EReal :=
  ∑ r : Fin 4224, x r i * y r j

/-- Row `k` of the third `s` of the rows. -/
def third (s : ℕ) (k : Fin 1408) : Fin 4224 := ⟨s % 3 * 1408 + k.val, by omega⟩

/-- The sum of the three thirds is the sum over all the rows. -/
theorem gram_thirds {M N : ℕ} (x : Fin 4224 → Fin M → EReal) (y : Fin 4224 → Fin N → EReal) (i : Fin M) (j : Fin N) (t : ℕ) :
    ∑ s : Fin 3, ∑ k : Fin 1408, x (third (3 * t + s.val) k) i * y (third (3 * t + s.val) k) j = gram x y i j := by
  refine Fin.sum_mul_add_congr (f := fun r : Fin 4224 => x r i * y r j) fun s k hl => ?_
  have e : third (3 * t + s.val) k = ⟨s.val * 1408 + k.val, hl⟩ := Fin.ext (by
    show (3 * t + s.val) % 3 * 1408 + k.val = s.val * 1408 + k.val
    rw [Nat.mul_add_mod, Nat.mod_eq_of_lt s.isLt])
  rw [e]

/-- The product's factors may be swapped. -/
theorem gram_swap {M N : ℕ} (x : Fin 4224 → Fin M → EReal) (y : Fin 4224 → Fin N → EReal) (i : Fin M) (j : Fin N) :
    ∑ r : Fin 4224, y r j * x r i = gram x y i j :=
  Finset.sum_congr rfl fun _ _ => mul_comm _ _

end Cert.Grad

end
-- ==== Proof.DwFfnOut.lean ====
/-
  THE WEIGHT GRADIENT OF THE FEED-FORWARD OUTPUT: the kernel's sum in three parts beside the reference's one product.
-/
module

public import proofs.«01_k».proof.Proof.Names
public import proofs.«01_k».proof.Defs
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gram
public import Idealize.ShloMosaic.Lib.Pipeline.ValueKit

@[expose] public section

noncomputable section

namespace Cert.Grad.FfnOut

open Idealize.ShloMosaic Idealize.ShloMosaic.TcCoe Idealize.SL.Sem
open scoped BigOperators

section Kernel
open Cert.Kernel2Ideal Cert.Kernel2Ideal.Gen

variable (m : (ℓ : Loc nD τ sig) → Buf (Elt Ideal) ℓ)

/-- The array of zeros that the sums start from. -/
theorem zeros (j : S1408x1024.Idx) : k0_pay1 (F := Ideal) j = 0 := by
  idx_vars j
  pointwise [k0_pay1]

/-- A point's product of its two blocks. -/
def dot (x : Vec Ideal S1408x1408 .bf16) (y : Vec Ideal S1408x1024 .bf16) (j : S1408x1024.Idx) : EReal :=
  ∑ k : Fin 1408, x (ix2 k (j 0)) * y (ix2 k (j 1))

/-- A point's product is added to what was summed before it. -/
theorem adds (acc : Vec Ideal S1408x1024 .f32) (x : Vec Ideal S1408x1408 .bf16) (y : Vec Ideal S1408x1024 .bf16) (j : S1408x1024.Idx) :
    k0_pay2 acc x y j = acc j + dot x y j := by
  unfold dot
  idx_vars j
  pointwise [k0_pay2]

/-- Where the blocks of the right factor and of the result lie at a point. -/
theorem places : ∀ t : Fin cfg0.N, win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)

/-- Where the block of the left factor lies at a point. -/
theorem place : ∀ t : Fin cfg0.N, win0_0.index t (0 : Fin 2) = t.val % 3 ∧ win0_0.index t (1 : Fin 2) = t.val / 3 :=
  (by decide +kernel : ∀ t : Fin grid0.N, _)

/-- The left factor, as an array. -/
def left (c : Dev nD) (r : Fin 4224) (i : Fin 2816) : EReal := m ((c : Thread nD τ).loc main_arg0) (ix2 r i)

/-- The right factor, as an array. -/
def right (c : Dev nD) (r : Fin 4224) (i : Fin 1024) : EReal := m ((c : Thread nD τ).loc main_arg1) (ix2 r i)

/-- Column `j` of the left block of point `t`. -/
def lane (t : Fin cfg0.N) (j : Fin 1408) : Fin 2816 :=
  ⟨t.val / 3 * 1408 + j.val, by have := lt_of_lt_of_eq t.isLt (show cfg0.N = 6 from N_0); omega⟩

theorem block_left (c : Dev nD) (t : Fin cfg0.N) (k : Fin 1408) (j : Fin 1408) :
    (iblk m c 0 t : Vec Ideal S1408x1408 .bf16) (ix2 k j) = left m c (third t.val k) (lane t j) := by
  obtain ⟨e0, e1⟩ := place t
  unfold left
  blk_ext [iblk, V, e0, e1, third, lane]

theorem block_right (c : Dev nD) (t : Fin cfg0.N) (k : Fin 1408) (j : Fin 1024) :
    (iblk m c 1 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1408x1024.Idx) : EReal :=
  ∑ k : Fin 1408, left m c (third t.val k) (lane t (j 0)) * right m c (third t.val k) (j 1)

theorem term_eq (c : Dev nD) (t : Fin cfg0.N) (j : S1408x1024.Idx) : dot (iblk m c 0 t) (iblk m c 1 t) j = term m c t j :=
  Finset.sum_congr rfl fun k _ => congrArg₂ (· * ·) (block_left m c t k (j 0)) (block_right m c t k (j 1))

/-- The first point of a block starts from zero. -/
theorem first (c : Dev nD) (t : Fin cfg0.N) (h : t.val % 3 = 0) (j : S1408x1024.Idx) :
    (outsAt0 m c t.val t.isLt).2 j = 0 + term m c t j := by
  have hN := lt_of_lt_of_eq t.isLt (show cfg0.N = 6 from N_0)
  rw [outsAt0_A m c t (by omega) (by omega)]; frame_out; rw [adds, term_eq, zeros]

/-- A later point goes on from what the one before left. -/
theorem next (c : Dev nD) (t : Fin cfg0.N) (h : t.val % 3 ≠ 0) (j : S1408x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 6 from N_0)
  by_cases h1 : t.val % 3 = 2
  · rw [outsAt0_C m c t (by omega) (by omega)]; frame_out; rw [adds, term_eq]
    exact congrArg (· + _) (congrFun (Memref.IsWhole.read_unread _ _) j)
  rw [outsAt0_B m c t (by omega) (by omega)]; frame_out; rw [adds, term_eq]
  exact congrArg (· + _) (congrFun (Memref.IsWhole.read_unread _ _) j)

/-- What the scratch holds at the last point of a block. -/
theorem sums (c : Dev nD) (t : Fin cfg0.N) (hr : t.val % 3 = 2) (j : S1408x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1408 + _ = t.val / 3 * 1408 + _
    omega)
  rw [e]

/-- The last point of a block writes the sum back. -/
theorem written (c : Dev nD) (t : Fin cfg0.N) (hr : t.val % 3 = 2) (j : S1408x1024.Idx) :
    (outsAt0 m c t.val t.isLt).1 j = gram (left m c) (right m c) (lane t (j 0)) (j 1) := by
  refine Eq.trans ?_ (sums m c t hr j)
  have hN := lt_of_lt_of_eq t.isLt (show cfg0.N = 6 from N_0)
  rw [outsAt0_C m c t (by omega) (by omega)]
  frame_out
  idx_vars j
  pointwise [k0_pay3]

/-- The gradient, as an array. -/
def grad (c : Dev nD) : Vec Ideal S2816x1024 .bf16 := fun i => gram (left m c) (right m c) (i 0) (i 1)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, e0, e1⟩ := places t
  have key : ((cfg0.win 2).blk t).view.emb y = ix2 (lane t (y 0)) (y 1) := by
    unfold lane
    blk_ext [e0, e1]
  rw [key]
  blk_simp
  rw [after0_2]
  exact written m c t ((flush0_2 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference2Ideal

/-- The reference's result at an index. -/
theorem reference (x0 : Vec Ideal S4224x2816 .bf16) (y : Vec Ideal S4224x1024 .bf16) (i : Fin 2816) (j : Fin 1024) :
    Read.val_main_v6 (F := Ideal) x0 y (ix2 i j) = gram (fun r i => x0 (ix2 r i)) (fun r j => y (ix2 r j)) i j := by
  rw [← gram_swap]
  unfold Read.val_main_v6 Read.val_main_v5 Read.val_main_v4 Read.val_main_v1 Read.val_main_v0
  pointwise []

/-- The reference's result, as an array. -/
theorem result (x0 : Vec Ideal S4224x2816 .bf16) (y : Vec Ideal S4224x1024 .bf16) :
    Read.val_main_v6 (F := Ideal) x0 y = (fun i => gram (fun r i => x0 (ix2 r i)) (fun r j => y (ix2 r j)) (i 0) (i 1) : Vec Ideal S2816x1024 .bf16) := by
  funext i
  idx_vars i
  exact reference x0 y _ _

/-- The reference runs, and its arguments end unchanged. -/
theorem frame_reference : Cert.quiescent_Reference2Ideal := fun m ρ _ =>
  (θ_run defs _ _).mono (fun r h => ⟨fun c => (h c).2, sem_eq_zero_of_no_sems (by decide) r.2⟩) (Cert.Reference2Ideal.Value.run m ρ)

end Reference

/-- The kernel's gradient is the reference's. -/
theorem values : Cert.algebraic_Kernel2Ideal_Reference2Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference2Ideal.Value.run m' ρ')
    refine ⟨(h c).1.trans ?_, (h c).2⟩
    obtain ⟨a0, a1⟩ := hagree c
    rw [Cert.Reference2Ideal.Read.val_main_v6_eq, a0, a1]
    exact result _ _

end Cert.Grad.FfnOut

end
-- ==== Proof.DwFfnIn.lean ====
/-
  THE WEIGHT GRADIENT OF THE FEED-FORWARD INPUT, its rows in two pieces: the kernel's sum in three parts beside the reference's one product.
-/
module

public import proofs.«01_k».proof.Proof.Names
public import proofs.«01_k».proof.Defs
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gram
public import Idealize.ShloMosaic.Lib.Pipeline.ValueKit

@[expose] public section

noncomputable section

namespace Cert.Grad.FfnIn

open Idealize.ShloMosaic Idealize.ShloMosaic.TcCoe Idealize.SL.Sem
open scoped BigOperators

/-- The pieces beside one another. -/
def join (x0 : Fin 4224 → Fin 2816 → EReal) (x1 : Fin 4224 → Fin 2816 → EReal) (r : Fin 4224) (i : Fin 5632) : EReal :=
  if h0 : i.val < 2816 then x0 r ⟨i.val, h0⟩ else x1 r ⟨i.val - 2816, by omega⟩

section Kernel
open Cert.Kernel3Ideal Cert.Kernel3Ideal.Gen

variable (m : (ℓ : Loc nD τ sig) → Buf (Elt Ideal) ℓ)

/-- The array of zeros that the sums start from. -/
theorem zeros (j : S1408x1024.Idx) : k0_pay1 (F := Ideal) j = 0 := by
  idx_vars j
  pointwise [k0_pay1]

/-- A point's product of its two blocks. -/
def dot (x : Vec Ideal S1408x1408 .bf16) (y : Vec Ideal S1408x1024 .bf16) (j : S1408x1024.Idx) : EReal :=
  ∑ k : Fin 1408, x (ix2 k (j 0)) * y (ix2 k (j 1))

/-- A point's product is added to what was summed before it, piece 0. -/
theorem adds0 (acc : Vec Ideal S1408x1024 .f32) (x : Vec Ideal S1408x1408 .bf16) (y : Vec Ideal S1408x1024 .bf16) (j : S1408x1024.Idx) :
    k0_pay2 acc x y j = acc j + dot x y j := by
  unfold dot
  idx_vars j
  pointwise [k0_pay2]

/-- A point's product is added to what was summed before it, piece 1. -/
theorem adds1 (acc : Vec Ideal S1408x1024 .f32) (x : Vec Ideal S1408x1408 .bf16) (y : Vec Ideal S1408x1024 .bf16) (j : S1408x1024.Idx) :
    k0_pay3 acc x y j = acc j + dot x y j := by
  unfold dot
  idx_vars j
  pointwise [k0_pay3]

/-- Where the blocks of the right factor and of the result lie at a point. -/
theorem places : ∀ t : Fin cfg0.N, win0_2.index t (0 : Fin 2) = t.val % 3 ∧ win0_2.index t (1 : Fin 2) = 0
    ∧ win0_3.index t (0 : Fin 2) = t.val / 3 ∧ win0_3.index t (1 : Fin 2) = 0 :=
  (by decide +kernel : ∀ t : Fin grid0.N, _)

/-- Where the block of piece 0 lies at a point of that piece. -/
theorem place0 : ∀ t : Fin cfg0.N, 0 ≤ t.val → t.val < 6 → win0_0.index t (0 : Fin 2) = t.val % 3 ∧ win0_0.index t (1 : Fin 2) = t.val / 3 :=
  (by decide +kernel : ∀ t : Fin grid0.N, _)

/-- Where the block of piece 1 lies at a point of that piece. -/
theorem place1 : ∀ t : Fin cfg0.N, 6 ≤ t.val → t.val < 12 → win0_1.index t (0 : Fin 2) = t.val % 3 ∧ win0_1.index t (1 : Fin 2) = t.val / 3 - 2 :=
  (by decide +kernel : ∀ t : Fin grid0.N, _)

/-- The left factor, as an array: the pieces beside one another. -/
def left (c : Dev nD) : Fin 4224 → Fin 5632 → EReal :=
  join (fun r i => m ((c : Thread nD τ).loc main_arg0) (ix2 r i)) (fun r i => m ((c : Thread nD τ).loc main_arg1) (ix2 r i))

/-- The right factor, as an array. -/
def right (c : Dev nD) (r : Fin 4224) (i : Fin 1024) : EReal := m ((c : Thread nD τ).loc main_arg2) (ix2 r i)

/-- Column `j` of the left block of point `t`. -/
def lane (t : Fin cfg0.N) (j : Fin 1408) : Fin 5632 :=
  ⟨t.val / 3 * 1408 + j.val, by have := lt_of_lt_of_eq t.isLt (show cfg0.N = 12 from N_0); omega⟩

theorem block0 (c : Dev nD) (t : Fin cfg0.N) (h : 0 ≤ t.val) (h' : t.val < 6) (k : Fin 1408) (j : Fin 1408) :
    (iblk m c 0 t : Vec Ideal S1408x1408 .bf16) (ix2 k j) = left m c (third t.val k) (lane t j) := by
  obtain ⟨e0, e1⟩ := place0 t h h'
  have hv : (lane t j).val = t.val / 3 * 1408 + j.val := rfl
  unfold left join
  rw [dif_pos (by omega)]
  blk_ext [iblk, V, e0, e1, third, lane]

theorem block1 (c : Dev nD) (t : Fin cfg0.N) (h : 6 ≤ t.val) (h' : t.val < 12) (k : Fin 1408) (j : Fin 1408) :
    (iblk m c 1 t : Vec Ideal S1408x1408 .bf16) (ix2 k j) = left m c (third t.val k) (lane t j) := by
  obtain ⟨e0, e1⟩ := place1 t h h'
  have hv : (lane t j).val = t.val / 3 * 1408 + j.val := rfl
  unfold left join
  rw [dif_neg (by omega)]
  blk_ext [iblk, V, e0, e1, third, lane]

theorem block_right (c : Dev nD) (t : Fin cfg0.N) (k : Fin 1408) (j : Fin 1024) :
    (iblk m c 2 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1408x1024.Idx) : EReal :=
  ∑ k : Fin 1408, left m c (third t.val k) (lane t (j 0)) * right m c (third t.val k) (j 1)

theorem term_eq0 (c : Dev nD) (t : Fin cfg0.N) (h : 0 ≤ t.val) (h' : t.val < 6) (j : S1408x1024.Idx) :
    dot (iblk m c 0 t) (iblk m c 2 t) j = term m c t j :=
  Finset.sum_congr rfl fun k _ => congrArg₂ (· * ·) (block0 m c t h h' k (j 0)) (block_right m c t k (j 1))

theorem term_eq1 (c : Dev nD) (t : Fin cfg0.N) (h : 6 ≤ t.val) (h' : t.val < 12) (j : S1408x1024.Idx) :
    dot (iblk m c 1 t) (iblk m c 2 t) j = term m c t j :=
  Finset.sum_congr rfl fun k _ => congrArg₂ (· * ·) (block1 m c t h h' k (j 0)) (block_right m c t k (j 1))

/-- The first point of a block starts from zero. -/
theorem first (c : Dev nD) (t : Fin cfg0.N) (h : t.val % 3 = 0) (j : S1408x1024.Idx) :
    (outsAt0 m c t.val t.isLt).2 j = 0 + term m c t j := by
  have hN := lt_of_lt_of_eq t.isLt (show cfg0.N = 12 from N_0)
  by_cases g0 : t.val < 6
  · rw [outsAt0_A m c t (by omega) (by omega) (by omega) (by omega)]; frame_out; rw [adds0, term_eq0 m c t (by omega) (by omega), zeros]
  rw [outsAt0_D m c t (by omega) (by omega) (by omega) (by omega)]; frame_out; rw [adds1, term_eq1 m c t (by omega) (by omega), zeros]

/-- A later point goes on from what the one before left. -/
theorem next (c : Dev nD) (t : Fin cfg0.N) (h : t.val % 3 ≠ 0) (j : S1408x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 12 from N_0)
  by_cases h1 : t.val % 3 = 2
  · by_cases g0 : t.val < 6
    · rw [outsAt0_C m c t (by omega) (by omega) (by omega) (by omega)]; frame_out; rw [adds0, term_eq0 m c t (by omega) (by omega)]
      exact congrArg (· + _) (congrFun (Memref.IsWhole.read_unread _ _) j)
    rw [outsAt0_F m c t (by omega) (by omega) (by omega) (by omega)]; frame_out; rw [adds1, term_eq1 m c t (by omega) (by omega)]
    exact congrArg (· + _) (congrFun (Memref.IsWhole.read_unread _ _) j)
  by_cases g0 : t.val < 6
  · rw [outsAt0_B m c t (by omega) (by omega) (by omega) (by omega)]; frame_out; rw [adds0, term_eq0 m c t (by omega) (by omega)]
    exact congrArg (· + _) (congrFun (Memref.IsWhole.read_unread _ _) j)
  rw [outsAt0_E m c t (by omega) (by omega) (by omega) (by omega)]; frame_out; rw [adds1, term_eq1 m c t (by omega) (by omega)]
  exact congrArg (· + _) (congrFun (Memref.IsWhole.read_unread _ _) j)

/-- What the scratch holds at the last point of a block. -/
theorem sums (c : Dev nD) (t : Fin cfg0.N) (hr : t.val % 3 = 2) (j : S1408x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1408 + _ = t.val / 3 * 1408 + _
    omega)
  rw [e]

/-- The last point of a block writes the sum back. -/
theorem written (c : Dev nD) (t : Fin cfg0.N) (hr : t.val % 3 = 2) (j : S1408x1024.Idx) :
    (outsAt0 m c t.val t.isLt).1 j = gram (left m c) (right m c) (lane t (j 0)) (j 1) := by
  refine Eq.trans ?_ (sums m c t hr j)
  have hN := lt_of_lt_of_eq t.isLt (show cfg0.N = 12 from N_0)
  by_cases g0 : t.val < 6
  · rw [outsAt0_C m c t (by omega) (by omega) (by omega) (by omega)]
    frame_out
    idx_vars j
    pointwise [k0_pay4]
  rw [outsAt0_F m c t (by omega) (by omega) (by omega) (by omega)]
  frame_out
  idx_vars j
  pointwise [k0_pay4]

/-- The gradient, as an array. -/
def grad (c : Dev nD) : Vec Ideal S5632x1024 .bf16 := fun i => gram (left m c) (right m c) (i 0) (i 1)

/-- The array the kernel leaves is the gradient. -/
theorem array (c : Dev nD) : (dats m 0 c).arrAt 3 cfg0.N = grad m c := by
  refine (dats m 0 c).arrAt_eq_of_covers 3 _ (by decide +kernel) fun t hf y => ?_
  obtain ⟨-, -, e0, e1⟩ := places t
  have key : ((cfg0.win 3).blk t).view.emb y = ix2 (lane t (y 0)) (y 1) := by
    unfold lane
    blk_ext [e0, e1]
  rw [key]
  blk_simp
  rw [after0_3]
  exact written m c t ((flush0_3 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Kernel

section Reference
open Cert.Reference3Ideal

/-- The reference's result at an index. -/
theorem reference (x0 : Vec Ideal S4224x2816 .bf16) (x1 : Vec Ideal S4224x2816 .bf16) (y : Vec Ideal S4224x1024 .bf16) (i : Fin 5632) (j : Fin 1024) :
    Read.val_main_v8 (F := Ideal) x0 x1 y (ix2 i j) = gram (join (fun r i => x0 (ix2 r i)) (fun r i => x1 (ix2 r i))) (fun r j => y (ix2 r j)) i j := by
  unfold gram join
  unfold Read.val_main_v8 Read.val_main_v7 Read.val_main_v6 Read.val_main_v5 Read.val_main_v2 Read.val_main_v1 Read.val_main_v0
  pointwise []

/-- The reference's result, as an array. -/
theorem result (x0 : Vec Ideal S4224x2816 .bf16) (x1 : Vec Ideal S4224x2816 .bf16) (y : Vec Ideal S4224x1024 .bf16) :
    Read.val_main_v8 (F := Ideal) x0 x1 y = (fun i => gram (join (fun r i => x0 (ix2 r i)) (fun r i => x1 (ix2 r i))) (fun r j => y (ix2 r j)) (i 0) (i 1) : Vec Ideal S5632x1024 .bf16) := by
  funext i
  idx_vars i
  exact reference x0 x1 y _ _

/-- The reference runs, and its arguments end unchanged. -/
theorem frame_reference : Cert.quiescent_Reference3Ideal := fun m ρ _ =>
  (θ_run defs _ _).mono (fun r h => ⟨fun c => (h c).2, sem_eq_zero_of_no_sems (by decide) r.2⟩) (Cert.Reference3Ideal.Value.run m ρ)

end Reference

/-- The kernel's gradient is the reference's. -/
theorem values : Cert.algebraic_Kernel3Ideal_Reference3Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference3Ideal.Value.run m' ρ')
    refine ⟨(h c).1.trans ?_, (h c).2⟩
    obtain ⟨a0, a1, a2⟩ := hagree c
    rw [Cert.Reference3Ideal.Read.val_main_v8_eq, a0, a1, a2]
    exact result _ _ _

end Cert.Grad.FfnIn

end
-- ==== Proof.DwInDn.lean ====
/-
  THE WEIGHT GRADIENT OF THE DELTA-NET COLUMNS OF THE INPUT PROJECTION, its rows in four pieces: the kernel's sum in three parts beside the reference's one product.
-/
module

public import proofs.«01_k».proof.Proof.Names
public import proofs.«01_k».proof.Defs
public import proofs.«01_k».proof.Proof.Gen.Kernel4Ideal
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gram
public import Idealize.ShloMosaic.Lib.Pipeline.ValueKit

@[expose] public section

noncomputable section

namespace Cert.Grad.InDn

open Idealize.ShloMosaic Idealize.ShloMosaic.TcCoe Idealize.SL.Sem
open scoped BigOperators

/-- The pieces beside one another. -/
def join (x0 : Fin 4224 → Fin 1024 → EReal) (x1 : Fin 4224 → Fin 1024 → EReal) (x2 : Fin 4224 → Fin 2048 → EReal) (x3 : Fin 4224 → Fin 2048 → EReal) (r : Fin 4224) (i : Fin 6144) : EReal :=
  if h0 : i.val < 1024 then x0 r ⟨i.val, h0⟩ else if h1 : i.val - 1024 < 1024 then x1 r ⟨i.val - 1024, h1⟩ else if h2 : i.val - 1024 - 1024 < 2048 then x2 r ⟨i.val - 1024 - 1024, h2⟩ else x3 r ⟨i.val - 1024 - 1024 - 2048, by omega⟩

section Kernel
open Cert.Kernel4Ideal Cert.Kernel4Ideal.Gen

variable (m : (ℓ : Loc nD τ sig) → Buf (Elt Ideal) ℓ)

/-- The array of zeros that the sums start from. -/
theorem zeros (j : S1024x1024.Idx) : k0_pay1 (F := Ideal) j = 0 := by
  idx_vars j
  pointwise [k0_pay1]

/-- A point's product of its two blocks. -/
def dot (x : Vec Ideal S1408x1024 .bf16) (y : Vec Ideal S1408x1024 .bf16) (j : S1024x1024.Idx) : EReal :=
  ∑ k : Fin 1408, x (ix2 k (j 0)) * y (ix2 k (j 1))

/-- A point's product is added to what was summed before it, piece 0. -/
theorem adds0 (acc : Vec Ideal S1024x1024 .f32) (x : Vec Ideal S1408x1024 .bf16) (y : Vec Ideal S1408x1024 .bf16) (j : S1024x1024.Idx) :
    k0_pay2 acc x y j = acc j + dot x y j := by
  unfold dot
  idx_vars j
  pointwise [k0_pay2]

/-- A point's product is added to what was summed before it, piece 1. -/
theorem adds1 (acc : Vec Ideal S1024x1024 .f32) (x : Vec Ideal S1408x1024 .bf16) (y : Vec Ideal S1408x1024 .bf16) (j : S1024x1024.Idx) :
    k0_pay3 acc x y j = acc j + dot x y j := by
  unfold dot
  idx_vars j
  pointwise [k0_pay3]

/-- A point's product is added to what was summed before it, piece 2. -/
theorem adds2 (acc : Vec Ideal S1024x1024 .f32) (x : Vec Ideal S1408x1024 .bf16) (y : Vec Ideal S1408x1024 .bf16) (j : S1024x1024.Idx) :
    k0_pay4 acc x y j = acc j + dot x y j := by
  unfold dot
  idx_vars j
  pointwise [k0_pay4]

/-- A point's product is added to what was summed before it, piece 3. -/
theorem adds3 (acc : Vec Ideal S1024x1024 .f32) (x : Vec Ideal S1408x1024 .bf16) (y : Vec Ideal S1408x1024 .bf16) (j : S1024x1024.Idx) :
    k0_pay5 acc x y j = acc j + dot x y j := by
  unfold dot
  idx_vars j
  pointwise [k0_pay5]

/-- Where the blocks of the right factor and of the result lie at a point. -/
theorem places : ∀ t : Fin cfg0.N, win0_4.index t (0 : Fin 2) = t.val % 3 ∧ win0_4.index t (1 : Fin 2) = 0
    ∧ win0_5.index t (0 : Fin 2) = t.val / 3 ∧ win0_5.index t (1 : Fin 2) = 0 :=
  (by decide +kernel : ∀ t : Fin grid0.N, _)

/-- Where the block of piece 0 lies at a point of that piece. -/
theorem place0 : ∀ t : Fin cfg0.N, 0 ≤ t.val → t.val < 3 → win0_0.index t (0 : Fin 2) = t.val % 3 ∧ win0_0.index t (1 : Fin 2) = t.val / 3 :=
  (by decide +kernel : ∀ t : Fin grid0.N, _)

/-- Where the block of piece 1 lies at a point of that piece. -/
theorem place1 : ∀ t : Fin cfg0.N, 3 ≤ t.val → t.val < 6 → win0_1.index t (0 : Fin 2) = t.val % 3 ∧ win0_1.index t (1 : Fin 2) = t.val / 3 - 1 :=
  (by decide +kernel : ∀ t : Fin grid0.N, _)

/-- Where the block of piece 2 lies at a point of that piece. -/
theorem place2 : ∀ t : Fin cfg0.N, 6 ≤ t.val → t.val < 12 → win0_2.index t (0 : Fin 2) = t.val % 3 ∧ win0_2.index t (1 : Fin 2) = t.val / 3 - 2 :=
  (by decide +kernel : ∀ t : Fin grid0.N, _)

/-- Where the block of piece 3 lies at a point of that piece. -/
theorem place3 : ∀ t : Fin cfg0.N, 12 ≤ t.val → t.val < 18 → win0_3.index t (0 : Fin 2) = t.val % 3 ∧ win0_3.index t (1 : Fin 2) = t.val / 3 - 4 :=
  (by decide +kernel : ∀ t : Fin grid0.N, _)

/-- The left factor, as an array: the pieces beside one another. -/
def left (c : Dev nD) : Fin 4224 → Fin 6144 → EReal :=
  join (fun r i => m ((c : Thread nD τ).loc main_arg0) (ix2 r i)) (fun r i => m ((c : Thread nD τ).loc main_arg1) (ix2 r i)) (fun r i => m ((c : Thread nD τ).loc main_arg2) (ix2 r i)) (fun r i => m ((c : Thread nD τ).loc main_arg3) (ix2 r i))

/-- The right factor, as an array. -/
def right (c : Dev nD) (r : Fin 4224) (i : Fin 1024) : EReal := m ((c : Thread nD τ).loc main_arg4) (ix2 r i)

/-- Column `j` of the left block of point `t`. -/
def lane (t : Fin cfg0.N) (j : Fin 1024) : Fin 6144 :=
  ⟨t.val / 3 * 1024 + j.val, by have := lt_of_lt_of_eq t.isLt (show cfg0.N = 18 from N_0); omega⟩

theorem block0 (c : Dev nD) (t : Fin cfg0.N) (h : 0 ≤ t.val) (h' : t.val < 3) (k : Fin 1408) (j : Fin 1024) :
    (iblk m c 0 t : Vec Ideal S1408x1024 .bf16) (ix2 k j) = left m c (third t.val k) (lane t j) := by
  obtain ⟨e0, e1⟩ := place0 t h h'
  have hv : (lane t j).val = t.val / 3 * 1024 + j.val := rfl
  unfold left join
  rw [dif_pos (by omega)]
  blk_ext [iblk, V, e0, e1, third, lane]

theorem block1 (c : Dev nD) (t : Fin cfg0.N) (h : 3 ≤ t.val) (h' : t.val < 6) (k : Fin 1408) (j : Fin 1024) :
    (iblk m c 1 t : Vec Ideal S1408x1024 .bf16) (ix2 k j) = left m c (third t.val k) (lane t j) := by
  obtain ⟨e0, e1⟩ := place1 t h h'
  have hv : (lane t j).val = t.val / 3 * 1024 + j.val := rfl
  unfold left join
  rw [dif_neg (by omega), dif_pos (by omega)]
  blk_ext [iblk, V, e0, e1, third, lane]

theorem block2 (c : Dev nD) (t : Fin cfg0.N) (h : 6 ≤ t.val) (h' : t.val < 12) (k : Fin 1408) (j : Fin 1024) :
    (iblk m c 2 t : Vec Ideal S1408x1024 .bf16) (ix2 k j) = left m c (third t.val k) (lane t j) := by
  obtain ⟨e0, e1⟩ := place2 t h h'
  have hv : (lane t j).val = t.val / 3 * 1024 + j.val := rfl
  unfold left join
  rw [dif_neg (by omega), dif_neg (by omega), dif_pos (by omega)]
  blk_ext [iblk, V, e0, e1, third, lane]

theorem block3 (c : Dev nD) (t : Fin cfg0.N) (h : 12 ≤ t.val) (h' : t.val < 18) (k : Fin 1408) (j : Fin 1024) :
    (iblk m c 3 t : Vec Ideal S1408x1024 .bf16) (ix2 k j) = left m c (third t.val k) (lane t j) := by
  obtain ⟨e0, e1⟩ := place3 t h h'
  have hv : (lane t j).val = t.val / 3 * 1024 + j.val := rfl
  unfold left join
  rw [dif_neg (by omega), dif_neg (by omega), dif_neg (by omega)]
  blk_ext [iblk, V, e0, e1, third, lane]

theorem block_right (c : Dev nD) (t : Fin cfg0.N) (k : Fin 1408) (j : Fin 1024) :
    (iblk m c 4 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1024x1024.Idx) : EReal :=
  ∑ k : Fin 1408, left m c (third t.val k) (lane t (j 0)) * right m c (third t.val k) (j 1)

theorem term_eq0 (c : Dev nD) (t : Fin cfg0.N) (h : 0 ≤ t.val) (h' : t.val < 3) (j : S1024x1024.Idx) :
    dot (iblk m c 0 t) (iblk m c 4 t) j = term m c t j :=
  Finset.sum_congr rfl fun k _ => congrArg₂ (· * ·) (block0 m c t h h' k (j 0)) (block_right m c t k (j 1))

theorem term_eq1 (c : Dev nD) (t : Fin cfg0.N) (h : 3 ≤ t.val) (h' : t.val < 6) (j : S1024x1024.Idx) :
    dot (iblk m c 1 t) (iblk m c 4 t) j = term m c t j :=
  Finset.sum_congr rfl fun k _ => congrArg₂ (· * ·) (block1 m c t h h' k (j 0)) (block_right m c t k (j 1))

theorem term_eq2 (c : Dev nD) (t : Fin cfg0.N) (h : 6 ≤ t.val) (h' : t.val < 12) (j : S1024x1024.Idx) :
    dot (iblk m c 2 t) (iblk m c 4 t) j = term m c t j :=
  Finset.sum_congr rfl fun k _ => congrArg₂ (· * ·) (block2 m c t h h' k (j 0)) (block_right m c t k (j 1))

theorem term_eq3 (c : Dev nD) (t : Fin cfg0.N) (h : 12 ≤ t.val) (h' : t.val < 18) (j : S1024x1024.Idx) :
    dot (iblk m c 3 t) (iblk m c 4 t) j = term m c t j :=
  Finset.sum_congr rfl fun k _ => congrArg₂ (· * ·) (block3 m c t h h' k (j 0)) (block_right m c t k (j 1))

/-- The first point of a block starts from zero. -/
theorem first (c : Dev nD) (t : Fin cfg0.N) (h : t.val % 3 = 0) (j : S1024x1024.Idx) :
    (outsAt0 m c t.val t.isLt).2 j = 0 + term m c t j := by
  have hN := lt_of_lt_of_eq t.isLt (show cfg0.N = 18 from N_0)
  by_cases g0 : t.val < 3
  · rw [outsAt0_A m c t (by omega) (by omega) (by omega) (by omega) (by omega) (by omega)]; frame_out; rw [adds0, term_eq0 m c t (by omega) (by omega), zeros]
  by_cases g1 : t.val < 6
  · rw [outsAt0_D m c t (by omega) (by omega) (by omega) (by omega) (by omega) (by omega)]; frame_out; rw [adds1, term_eq1 m c t (by omega) (by omega), zeros]
  by_cases g2 : t.val < 12
  · rw [outsAt0_G m c t (by omega) (by omega) (by omega) (by omega) (by omega) (by omega)]; frame_out; rw [adds2, term_eq2 m c t (by omega) (by omega), zeros]
  rw [outsAt0_J m c t (by omega) (by omega) (by omega) (by omega) (by omega) (by omega)]; frame_out; rw [adds3, term_eq3 m c t (by omega) (by omega), zeros]

/-- A later point goes on from what the one before left. -/
theorem next (c : Dev nD) (t : Fin cfg0.N) (h : t.val % 3 ≠ 0) (j : S1024x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 18 from N_0)
  by_cases h1 : t.val % 3 = 2
  · by_cases g0 : t.val < 3
    · rw [outsAt0_C m c t (by omega) (by omega) (by omega) (by omega) (by omega) (by omega)]; frame_out; rw [adds0, term_eq0 m c t (by omega) (by omega)]
      exact congrArg (· + _) (congrFun (Memref.IsWhole.read_unread _ _) j)
    by_cases g1 : t.val < 6
    · rw [outsAt0_F m c t (by omega) (by omega) (by omega) (by omega) (by omega) (by omega)]; frame_out; rw [adds1, term_eq1 m c t (by omega) (by omega)]
      exact congrArg (· + _) (congrFun (Memref.IsWhole.read_unread _ _) j)
    by_cases g2 : t.val < 12
    · rw [outsAt0_I m c t (by omega) (by omega) (by omega) (by omega) (by omega) (by omega)]; frame_out; rw [adds2, term_eq2 m c t (by omega) (by omega)]
      exact congrArg (· + _) (congrFun (Memref.IsWhole.read_unread _ _) j)
    rw [outsAt0_L m c t (by omega) (by omega) (by omega) (by omega) (by omega) (by omega)]; frame_out; rw [adds3, term_eq3 m c t (by omega) (by omega)]
    exact congrArg (· + _) (congrFun (Memref.IsWhole.read_unread _ _) j)
  by_cases g0 : t.val < 3
  · rw [outsAt0_B m c t (by omega) (by omega) (by omega) (by omega) (by omega) (by omega)]; frame_out; rw [adds0, term_eq0 m c t (by omega) (by omega)]
    exact congrArg (· + _) (congrFun (Memref.IsWhole.read_unread _ _) j)
  by_cases g1 : t.val < 6
  · rw [outsAt0_E m c t (by omega) (by omega) (by omega) (by omega) (by omega) (by omega)]; frame_out; rw [adds1, term_eq1 m c t (by omega) (by omega)]
    exact congrArg (· + _) (congrFun (Memref.IsWhole.read_unread _ _) j)
  by_cases g2 : t.val < 12
  · rw [outsAt0_H m c t (by omega) (by omega) (by omega) (by omega) (by omega) (by omega)]; frame_out; rw [adds2, term_eq2 m c t (by omega) (by omega)]
    exact congrArg (· + _) (congrFun (Memref.IsWhole.read_unread _ _) j)
  rw [outsAt0_K m c t (by omega) (by omega) (by omega) (by omega) (by omega) (by omega)]; frame_out; rw [adds3, term_eq3 m c t (by omega) (by omega)]
  exact congrArg (· + _) (congrFun (Memref.IsWhole.read_unread _ _) j)

/-- What the scratch holds at the last point of a block. -/
theorem sums (c : Dev nD) (t : Fin cfg0.N) (hr : t.val % 3 = 2) (j : S1024x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1024 + _ = t.val / 3 * 1024 + _
    omega)
  rw [e]

/-- The last point of a block writes the sum back. -/
theorem written (c : Dev nD) (t : Fin cfg0.N) (hr : t.val % 3 = 2) (j : S1024x1024.Idx) :
    (outsAt0 m c t.val t.isLt).1 j = gram (left m c) (right m c) (lane t (j 0)) (j 1) := by
  refine Eq.trans ?_ (sums m c t hr j)
  have hN := lt_of_lt_of_eq t.isLt (show cfg0.N = 18 from N_0)
  by_cases g0 : t.val < 3
  · rw [outsAt0_C m c t (by omega) (by omega) (by omega) (by omega) (by omega) (by omega)]
    frame_out
    idx_vars j
    pointwise [k0_pay6]
  by_cases g1 : t.val < 6
  · rw [outsAt0_F m c t (by omega) (by omega) (by omega) (by omega) (by omega) (by omega)]
    frame_out
    idx_vars j
    pointwise [k0_pay6]
  by_cases g2 : t.val < 12
  · rw [outsAt0_I m c t (by omega) (by omega) (by omega) (by omega) (by omega) (by omega)]
    frame_out
    idx_vars j
    pointwise [k0_pay6]
  rw [outsAt0_L m c t (by omega) (by omega) (by omega) (by omega) (by omega) (by omega)]
  frame_out
  idx_vars j
  pointwise [k0_pay6]

/-- The gradient, as an array. -/
def grad (c : Dev nD) : Vec Ideal S6144x1024 .bf16 := fun i => gram (left m c) (right m c) (i 0) (i 1)

/-- The array the kernel leaves is the gradient. -/
theorem array (c : Dev nD) : (dats m 0 c).arrAt 5 cfg0.N = grad m c := by
  refine (dats m 0 c).arrAt_eq_of_covers 5 _ (by decide +kernel) fun t hf y => ?_
  obtain ⟨-, -, e0, e1⟩ := places t
  have key : ((cfg0.win 5).blk t).view.emb y = ix2 (lane t (y 0)) (y 1) := by
    unfold lane
    blk_ext [e0, e1]
  rw [key]
  blk_simp
  rw [after0_5]
  exact written m c t ((flush0_5 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Kernel

section Reference
open Cert.Reference4Ideal

/-- The reference's result at an index. -/
theorem reference (x0 : Vec Ideal S4224x1024 .bf16) (x1 : Vec Ideal S4224x1024 .bf16) (x2 : Vec Ideal S4224x2048 .bf16) (x3 : Vec Ideal S4224x2048 .bf16) (y : Vec Ideal S4224x1024 .bf16) (i : Fin 6144) (j : Fin 1024) :
    Read.val_main_v8 (F := Ideal) x0 x1 x2 x3 y (ix2 i j) = gram (join (fun r i => x0 (ix2 r i)) (fun r i => x1 (ix2 r i)) (fun r i => x2 (ix2 r i)) (fun r i => x3 (ix2 r i))) (fun r j => y (ix2 r j)) i j := by
  unfold gram join
  unfold Read.val_main_v8 Read.val_main_v7 Read.val_main_v6 Read.val_main_v5 Read.val_main_v2 Read.val_main_v1 Read.val_main_v0
  pointwise []

/-- The reference's result, as an array. -/
theorem result (x0 : Vec Ideal S4224x1024 .bf16) (x1 : Vec Ideal S4224x1024 .bf16) (x2 : Vec Ideal S4224x2048 .bf16) (x3 : Vec Ideal S4224x2048 .bf16) (y : Vec Ideal S4224x1024 .bf16) :
    Read.val_main_v8 (F := Ideal) x0 x1 x2 x3 y = (fun i => gram (join (fun r i => x0 (ix2 r i)) (fun r i => x1 (ix2 r i)) (fun r i => x2 (ix2 r i)) (fun r i => x3 (ix2 r i))) (fun r j => y (ix2 r j)) (i 0) (i 1) : Vec Ideal S6144x1024 .bf16) := by
  funext i
  idx_vars i
  exact reference x0 x1 x2 x3 y _ _

/-- The reference runs, and its arguments end unchanged. -/
theorem frame_reference : Cert.quiescent_Reference4Ideal := fun m ρ _ =>
  (θ_run defs _ _).mono (fun r h => ⟨fun c => (h c).2, sem_eq_zero_of_no_sems (by decide) r.2⟩) (Cert.Reference4Ideal.Value.run m ρ)

end Reference

/-- The kernel's gradient is the reference's. -/
theorem values : Cert.algebraic_Kernel4Ideal_Reference4Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference4Ideal.Value.run m' ρ')
    refine ⟨(h c).1.trans ?_, (h c).2⟩
    obtain ⟨a0, a1, a2, a3, a4⟩ := hagree c
    rw [Cert.Reference4Ideal.Read.val_main_v8_eq, a0, a1, a2, a3, a4]
    exact result _ _ _ _ _

end Cert.Grad.InDn

end
-- ==== Proof.DwInSb.lean ====
/-
  THE WEIGHT GRADIENT OF THE OTHER COLUMNS OF THE INPUT PROJECTION, its rows in five pieces: the kernel's sum in three parts beside the reference's one product.
-/
module

public import proofs.«01_k».proof.Proof.Names
public import proofs.«01_k».proof.Defs
public import proofs.«01_k».proof.Proof.Gen.Kernel5Ideal
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gram
public import Idealize.ShloMosaic.Lib.Pipeline.ValueKit

@[expose] public section

noncomputable section

namespace Cert.Grad.InSb

open Idealize.ShloMosaic Idealize.ShloMosaic.TcCoe Idealize.SL.Sem
open scoped BigOperators

/-- The pieces beside one another. -/
def join (x0 : Fin 4224 → Fin 1024 → EReal) (x1 : Fin 4224 → Fin 1024 → EReal) (x2 : Fin 4224 → Fin 1024 → EReal) (x3 : Fin 4224 → Fin 1024 → EReal) (x4 : Fin 4224 → Fin 1024 → EReal) (r : Fin 4224) (i : Fin 5120) : EReal :=
  if h0 : i.val < 1024 then x0 r ⟨i.val, h0⟩ else if h1 : i.val - 1024 < 1024 then x1 r ⟨i.val - 1024, h1⟩ else if h2 : i.val - 1024 - 1024 < 1024 then x2 r ⟨i.val - 1024 - 1024, h2⟩ else if h3 : i.val - 1024 - 1024 - 1024 < 1024 then x3 r ⟨i.val - 1024 - 1024 - 1024, h3⟩ else x4 r ⟨i.val - 1024 - 1024 - 1024 - 1024, by omega⟩

section Kernel
open Cert.Kernel5Ideal Cert.Kernel5Ideal.Gen

variable (m : (ℓ : Loc nD τ sig) → Buf (Elt Ideal) ℓ)

/-- The array of zeros that the sums start from. -/
theorem zeros (j : S1024x1024.Idx) : k0_pay1 (F := Ideal) j = 0 := by
  idx_vars j
  pointwise [k0_pay1]

/-- A point's product of its two blocks. -/
def dot (x : Vec Ideal S1408x1024 .bf16) (y : Vec Ideal S1408x1024 .bf16) (j : S1024x1024.Idx) : EReal :=
  ∑ k : Fin 1408, x (ix2 k (j 0)) * y (ix2 k (j 1))

/-- A point's product is added to what was summed before it, piece 0. -/
theorem adds0 (acc : Vec Ideal S1024x1024 .f32) (x : Vec Ideal S1408x1024 .bf16) (y : Vec Ideal S1408x1024 .bf16) (j : S1024x1024.Idx) :
    k0_pay2 acc x y j = acc j + dot x y j := by
  unfold dot
  idx_vars j
  pointwise [k0_pay2]

/-- A point's product is added to what was summed before it, piece 1. -/
theorem adds1 (acc : Vec Ideal S1024x1024 .f32) (x : Vec Ideal S1408x1024 .bf16) (y : Vec Ideal S1408x1024 .bf16) (j : S1024x1024.Idx) :
    k0_pay3 acc x y j = acc j + dot x y j := by
  unfold dot
  idx_vars j
  pointwise [k0_pay3]

/-- A point's product is added to what was summed before it, piece 2. -/
theorem adds2 (acc : Vec Ideal S1024x1024 .f32) (x : Vec Ideal S1408x1024 .bf16) (y : Vec Ideal S1408x1024 .bf16) (j : S1024x1024.Idx) :
    k0_pay4 acc x y j = acc j + dot x y j := by
  unfold dot
  idx_vars j
  pointwise [k0_pay4]

/-- A point's product is added to what was summed before it, piece 3. -/
theorem adds3 (acc : Vec Ideal S1024x1024 .f32) (x : Vec Ideal S1408x1024 .bf16) (y : Vec Ideal S1408x1024 .bf16) (j : S1024x1024.Idx) :
    k0_pay5 acc x y j = acc j + dot x y j := by
  unfold dot
  idx_vars j
  pointwise [k0_pay5]

/-- A point's product is added to what was summed before it, piece 4. -/
theorem adds4 (acc : Vec Ideal S1024x1024 .f32) (x : Vec Ideal S1408x1024 .bf16) (y : Vec Ideal S1408x1024 .bf16) (j : S1024x1024.Idx) :
    k0_pay6 acc x y j = acc j + dot x y j := by
  unfold dot
  idx_vars j
  pointwise [k0_pay6]

/-- Where the blocks of the right factor and of the result lie at a point. -/
theorem places : ∀ t : Fin cfg0.N, win0_5.index t (0 : Fin 2) = t.val % 3 ∧ win0_5.index t (1 : Fin 2) = 0
    ∧ win0_6.index t (0 : Fin 2) = t.val / 3 ∧ win0_6.index t (1 : Fin 2) = 0 :=
  (by decide +kernel : ∀ t : Fin grid0.N, _)

/-- Where the block of piece 0 lies at a point of that piece. -/
theorem place0 : ∀ t : Fin cfg0.N, 0 ≤ t.val → t.val < 3 → win0_0.index t (0 : Fin 2) = t.val % 3 ∧ win0_0.index t (1 : Fin 2) = t.val / 3 :=
  (by decide +kernel : ∀ t : Fin grid0.N, _)

/-- Where the block of piece 1 lies at a point of that piece. -/
theorem place1 : ∀ t : Fin cfg0.N, 3 ≤ t.val → t.val < 6 → win0_1.index t (0 : Fin 2) = t.val % 3 ∧ win0_1.index t (1 : Fin 2) = t.val / 3 - 1 :=
  (by decide +kernel : ∀ t : Fin grid0.N, _)

/-- Where the block of piece 2 lies at a point of that piece. -/
theorem place2 : ∀ t : Fin cfg0.N, 6 ≤ t.val → t.val < 9 → win0_2.index t (0 : Fin 2) = t.val % 3 ∧ win0_2.index t (1 : Fin 2) = t.val / 3 - 2 :=
  (by decide +kernel : ∀ t : Fin grid0.N, _)

/-- Where the block of piece 3 lies at a point of that piece. -/
theorem place3 : ∀ t : Fin cfg0.N, 9 ≤ t.val → t.val < 12 → win0_3.index t (0 : Fin 2) = t.val % 3 ∧ win0_3.index t (1 : Fin 2) = t.val / 3 - 3 :=
  (by decide +kernel : ∀ t : Fin grid0.N, _)

/-- Where the block of piece 4 lies at a point of that piece. -/
theorem place4 : ∀ t : Fin cfg0.N, 12 ≤ t.val → t.val < 15 → win0_4.index t (0 : Fin 2) = t.val % 3 ∧ win0_4.index t (1 : Fin 2) = t.val / 3 - 4 :=
  (by decide +kernel : ∀ t : Fin grid0.N, _)

/-- The left factor, as an array: the pieces beside one another. -/
def left (c : Dev nD) : Fin 4224 → Fin 5120 → EReal :=
  join (fun r i => m ((c : Thread nD τ).loc main_arg0) (ix2 r i)) (fun r i => m ((c : Thread nD τ).loc main_arg1) (ix2 r i)) (fun r i => m ((c : Thread nD τ).loc main_arg2) (ix2 r i)) (fun r i => m ((c : Thread nD τ).loc main_arg3) (ix2 r i)) (fun r i => m ((c : Thread nD τ).loc main_arg4) (ix2 r i))

/-- The right factor, as an array. -/
def right (c : Dev nD) (r : Fin 4224) (i : Fin 1024) : EReal := m ((c : Thread nD τ).loc main_arg5) (ix2 r i)

/-- Column `j` of the left block of point `t`. -/
def lane (t : Fin cfg0.N) (j : Fin 1024) : Fin 5120 :=
  ⟨t.val / 3 * 1024 + j.val, by have := lt_of_lt_of_eq t.isLt (show cfg0.N = 15 from N_0); omega⟩

theorem block0 (c : Dev nD) (t : Fin cfg0.N) (h : 0 ≤ t.val) (h' : t.val < 3) (k : Fin 1408) (j : Fin 1024) :
    (iblk m c 0 t : Vec Ideal S1408x1024 .bf16) (ix2 k j) = left m c (third t.val k) (lane t j) := by
  obtain ⟨e0, e1⟩ := place0 t h h'
  have hv : (lane t j).val = t.val / 3 * 1024 + j.val := rfl
  unfold left join
  rw [dif_pos (by omega)]
  blk_ext [iblk, V, e0, e1, third, lane]

theorem block1 (c : Dev nD) (t : Fin cfg0.N) (h : 3 ≤ t.val) (h' : t.val < 6) (k : Fin 1408) (j : Fin 1024) :
    (iblk m c 1 t : Vec Ideal S1408x1024 .bf16) (ix2 k j) = left m c (third t.val k) (lane t j) := by
  obtain ⟨e0, e1⟩ := place1 t h h'
  have hv : (lane t j).val = t.val / 3 * 1024 + j.val := rfl
  unfold left join
  rw [dif_neg (by omega), dif_pos (by omega)]
  blk_ext [iblk, V, e0, e1, third, lane]

theorem block2 (c : Dev nD) (t : Fin cfg0.N) (h : 6 ≤ t.val) (h' : t.val < 9) (k : Fin 1408) (j : Fin 1024) :
    (iblk m c 2 t : Vec Ideal S1408x1024 .bf16) (ix2 k j) = left m c (third t.val k) (lane t j) := by
  obtain ⟨e0, e1⟩ := place2 t h h'
  have hv : (lane t j).val = t.val / 3 * 1024 + j.val := rfl
  unfold left join
  rw [dif_neg (by omega), dif_neg (by omega), dif_pos (by omega)]
  blk_ext [iblk, V, e0, e1, third, lane]

theorem block3 (c : Dev nD) (t : Fin cfg0.N) (h : 9 ≤ t.val) (h' : t.val < 12) (k : Fin 1408) (j : Fin 1024) :
    (iblk m c 3 t : Vec Ideal S1408x1024 .bf16) (ix2 k j) = left m c (third t.val k) (lane t j) := by
  obtain ⟨e0, e1⟩ := place3 t h h'
  have hv : (lane t j).val = t.val / 3 * 1024 + j.val := rfl
  unfold left join
  rw [dif_neg (by omega), dif_neg (by omega), dif_neg (by omega), dif_pos (by omega)]
  blk_ext [iblk, V, e0, e1, third, lane]

theorem block4 (c : Dev nD) (t : Fin cfg0.N) (h : 12 ≤ t.val) (h' : t.val < 15) (k : Fin 1408) (j : Fin 1024) :
    (iblk m c 4 t : Vec Ideal S1408x1024 .bf16) (ix2 k j) = left m c (third t.val k) (lane t j) := by
  obtain ⟨e0, e1⟩ := place4 t h h'
  have hv : (lane t j).val = t.val / 3 * 1024 + j.val := rfl
  unfold left join
  rw [dif_neg (by omega), dif_neg (by omega), dif_neg (by omega), dif_neg (by omega)]
  blk_ext [iblk, V, e0, e1, third, lane]

theorem block_right (c : Dev nD) (t : Fin cfg0.N) (k : Fin 1408) (j : Fin 1024) :
    (iblk m c 5 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1024x1024.Idx) : EReal :=
  ∑ k : Fin 1408, left m c (third t.val k) (lane t (j 0)) * right m c (third t.val k) (j 1)

theorem term_eq0 (c : Dev nD) (t : Fin cfg0.N) (h : 0 ≤ t.val) (h' : t.val < 3) (j : S1024x1024.Idx) :
    dot (iblk m c 0 t) (iblk m c 5 t) j = term m c t j :=
  Finset.sum_congr rfl fun k _ => congrArg₂ (· * ·) (block0 m c t h h' k (j 0)) (block_right m c t k (j 1))

theorem term_eq1 (c : Dev nD) (t : Fin cfg0.N) (h : 3 ≤ t.val) (h' : t.val < 6) (j : S1024x1024.Idx) :
    dot (iblk m c 1 t) (iblk m c 5 t) j = term m c t j :=
  Finset.sum_congr rfl fun k _ => congrArg₂ (· * ·) (block1 m c t h h' k (j 0)) (block_right m c t k (j 1))

theorem term_eq2 (c : Dev nD) (t : Fin cfg0.N) (h : 6 ≤ t.val) (h' : t.val < 9) (j : S1024x1024.Idx) :
    dot (iblk m c 2 t) (iblk m c 5 t) j = term m c t j :=
  Finset.sum_congr rfl fun k _ => congrArg₂ (· * ·) (block2 m c t h h' k (j 0)) (block_right m c t k (j 1))

theorem term_eq3 (c : Dev nD) (t : Fin cfg0.N) (h : 9 ≤ t.val) (h' : t.val < 12) (j : S1024x1024.Idx) :
    dot (iblk m c 3 t) (iblk m c 5 t) j = term m c t j :=
  Finset.sum_congr rfl fun k _ => congrArg₂ (· * ·) (block3 m c t h h' k (j 0)) (block_right m c t k (j 1))

theorem term_eq4 (c : Dev nD) (t : Fin cfg0.N) (h : 12 ≤ t.val) (h' : t.val < 15) (j : S1024x1024.Idx) :
    dot (iblk m c 4 t) (iblk m c 5 t) j = term m c t j :=
  Finset.sum_congr rfl fun k _ => congrArg₂ (· * ·) (block4 m c t h h' k (j 0)) (block_right m c t k (j 1))

/-- The first point of a block starts from zero. -/
theorem first (c : Dev nD) (t : Fin cfg0.N) (h : t.val % 3 = 0) (j : S1024x1024.Idx) :
    (outsAt0 m c t.val t.isLt).2 j = 0 + term m c t j := by
  have hN := lt_of_lt_of_eq t.isLt (show cfg0.N = 15 from N_0)
  by_cases g0 : t.val < 3
  · rw [outsAt0_A m c t (by omega) (by omega) (by omega) (by omega) (by omega) (by omega) (by omega)]; frame_out; rw [adds0, term_eq0 m c t (by omega) (by omega), zeros]
  by_cases g1 : t.val < 6
  · rw [outsAt0_D m c t (by omega) (by omega) (by omega) (by omega) (by omega) (by omega) (by omega)]; frame_out; rw [adds1, term_eq1 m c t (by omega) (by omega), zeros]
  by_cases g2 : t.val < 9
  · rw [outsAt0_G m c t (by omega) (by omega) (by omega) (by omega) (by omega) (by omega) (by omega)]; frame_out; rw [adds2, term_eq2 m c t (by omega) (by omega), zeros]
  by_cases g3 : t.val < 12
  · rw [outsAt0_J m c t (by omega) (by omega) (by omega) (by omega) (by omega) (by omega) (by omega)]; frame_out; rw [adds3, term_eq3 m c t (by omega) (by omega), zeros]
  rw [outsAt0_M m c t (by omega) (by omega) (by omega) (by omega) (by omega) (by omega) (by omega)]; frame_out; rw [adds4, term_eq4 m c t (by omega) (by omega), zeros]

/-- A later point goes on from what the one before left. -/
theorem next (c : Dev nD) (t : Fin cfg0.N) (h : t.val % 3 ≠ 0) (j : S1024x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 15 from N_0)
  by_cases h1 : t.val % 3 = 2
  · by_cases g0 : t.val < 3
    · rw [outsAt0_C m c t (by omega) (by omega) (by omega) (by omega) (by omega) (by omega) (by omega)]; frame_out; rw [adds0, term_eq0 m c t (by omega) (by omega)]
      exact congrArg (· + _) (congrFun (Memref.IsWhole.read_unread _ _) j)
    by_cases g1 : t.val < 6
    · rw [outsAt0_F m c t (by omega) (by omega) (by omega) (by omega) (by omega) (by omega) (by omega)]; frame_out; rw [adds1, term_eq1 m c t (by omega) (by omega)]
      exact congrArg (· + _) (congrFun (Memref.IsWhole.read_unread _ _) j)
    by_cases g2 : t.val < 9
    · rw [outsAt0_I m c t (by omega) (by omega) (by omega) (by omega) (by omega) (by omega) (by omega)]; frame_out; rw [adds2, term_eq2 m c t (by omega) (by omega)]
      exact congrArg (· + _) (congrFun (Memref.IsWhole.read_unread _ _) j)
    by_cases g3 : t.val < 12
    · rw [outsAt0_L m c t (by omega) (by omega) (by omega) (by omega) (by omega) (by omega) (by omega)]; frame_out; rw [adds3, term_eq3 m c t (by omega) (by omega)]
      exact congrArg (· + _) (congrFun (Memref.IsWhole.read_unread _ _) j)
    rw [outsAt0_O m c t (by omega) (by omega) (by omega) (by omega) (by omega) (by omega) (by omega)]; frame_out; rw [adds4, term_eq4 m c t (by omega) (by omega)]
    exact congrArg (· + _) (congrFun (Memref.IsWhole.read_unread _ _) j)
  by_cases g0 : t.val < 3
  · rw [outsAt0_B m c t (by omega) (by omega) (by omega) (by omega) (by omega) (by omega) (by omega)]; frame_out; rw [adds0, term_eq0 m c t (by omega) (by omega)]
    exact congrArg (· + _) (congrFun (Memref.IsWhole.read_unread _ _) j)
  by_cases g1 : t.val < 6
  · rw [outsAt0_E m c t (by omega) (by omega) (by omega) (by omega) (by omega) (by omega) (by omega)]; frame_out; rw [adds1, term_eq1 m c t (by omega) (by omega)]
    exact congrArg (· + _) (congrFun (Memref.IsWhole.read_unread _ _) j)
  by_cases g2 : t.val < 9
  · rw [outsAt0_H m c t (by omega) (by omega) (by omega) (by omega) (by omega) (by omega) (by omega)]; frame_out; rw [adds2, term_eq2 m c t (by omega) (by omega)]
    exact congrArg (· + _) (congrFun (Memref.IsWhole.read_unread _ _) j)
  by_cases g3 : t.val < 12
  · rw [outsAt0_K m c t (by omega) (by omega) (by omega) (by omega) (by omega) (by omega) (by omega)]; frame_out; rw [adds3, term_eq3 m c t (by omega) (by omega)]
    exact congrArg (· + _) (congrFun (Memref.IsWhole.read_unread _ _) j)
  rw [outsAt0_N m c t (by omega) (by omega) (by omega) (by omega) (by omega) (by omega) (by omega)]; frame_out; rw [adds4, term_eq4 m c t (by omega) (by omega)]
  exact congrArg (· + _) (congrFun (Memref.IsWhole.read_unread _ _) j)

/-- What the scratch holds at the last point of a block. -/
theorem sums (c : Dev nD) (t : Fin cfg0.N) (hr : t.val % 3 = 2) (j : S1024x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1024 + _ = t.val / 3 * 1024 + _
    omega)
  rw [e]

/-- The last point of a block writes the sum back. -/
theorem written (c : Dev nD) (t : Fin cfg0.N) (hr : t.val % 3 = 2) (j : S1024x1024.Idx) :
    (outsAt0 m c t.val t.isLt).1 j = gram (left m c) (right m c) (lane t (j 0)) (j 1) := by
  refine Eq.trans ?_ (sums m c t hr j)
  have hN := lt_of_lt_of_eq t.isLt (show cfg0.N = 15 from N_0)
  by_cases g0 : t.val < 3
  · rw [outsAt0_C m c t (by omega) (by omega) (by omega) (by omega) (by omega) (by omega) (by omega)]
    frame_out
    idx_vars j
    pointwise [k0_pay7]
  by_cases g1 : t.val < 6
  · rw [outsAt0_F m c t (by omega) (by omega) (by omega) (by omega) (by omega) (by omega) (by omega)]
    frame_out
    idx_vars j
    pointwise [k0_pay7]
  by_cases g2 : t.val < 9
  · rw [outsAt0_I m c t (by omega) (by omega) (by omega) (by omega) (by omega) (by omega) (by omega)]
    frame_out
    idx_vars j
    pointwise [k0_pay7]
  by_cases g3 : t.val < 12
  · rw [outsAt0_L m c t (by omega) (by omega) (by omega) (by omega) (by omega) (by omega) (by omega)]
    frame_out
    idx_vars j
    pointwise [k0_pay7]
  rw [outsAt0_O m c t (by omega) (by omega) (by omega) (by omega) (by omega) (by omega) (by omega)]
  frame_out
  idx_vars j
  pointwise [k0_pay7]

/-- The gradient, as an array. -/
def grad (c : Dev nD) : Vec Ideal S5120x1024 .bf16 := fun i => gram (left m c) (right m c) (i 0) (i 1)

/-- The array the kernel leaves is the gradient. -/
theorem array (c : Dev nD) : (dats m 0 c).arrAt 6 cfg0.N = grad m c := by
  refine (dats m 0 c).arrAt_eq_of_covers 6 _ (by decide +kernel) fun t hf y => ?_
  obtain ⟨-, -, e0, e1⟩ := places t
  have key : ((cfg0.win 6).blk t).view.emb y = ix2 (lane t (y 0)) (y 1) := by
    unfold lane
    blk_ext [e0, e1]
  rw [key]
  blk_simp
  rw [after0_6]
  exact written m c t ((flush0_6 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Kernel

section Reference
open Cert.Reference5Ideal

/-- The reference's result at an index. -/
theorem reference (x0 : Vec Ideal S4224x1024 .bf16) (x1 : Vec Ideal S4224x1024 .bf16) (x2 : Vec Ideal S4224x1024 .bf16) (x3 : Vec Ideal S4224x1024 .bf16) (x4 : Vec Ideal S4224x1024 .bf16) (y : Vec Ideal S4224x1024 .bf16) (i : Fin 5120) (j : Fin 1024) :
    Read.val_main_v8 (F := Ideal) x0 x1 x2 x3 x4 y (ix2 i j) = gram (join (fun r i => x0 (ix2 r i)) (fun r i => x1 (ix2 r i)) (fun r i => x2 (ix2 r i)) (fun r i => x3 (ix2 r i)) (fun r i => x4 (ix2 r i))) (fun r j => y (ix2 r j)) i j := by
  unfold gram join
  unfold Read.val_main_v8 Read.val_main_v7 Read.val_main_v6 Read.val_main_v5 Read.val_main_v2 Read.val_main_v1 Read.val_main_v0
  pointwise []

/-- The reference's result, as an array. -/
theorem result (x0 : Vec Ideal S4224x1024 .bf16) (x1 : Vec Ideal S4224x1024 .bf16) (x2 : Vec Ideal S4224x1024 .bf16) (x3 : Vec Ideal S4224x1024 .bf16) (x4 : Vec Ideal S4224x1024 .bf16) (y : Vec Ideal S4224x1024 .bf16) :
    Read.val_main_v8 (F := Ideal) x0 x1 x2 x3 x4 y = (fun i => gram (join (fun r i => x0 (ix2 r i)) (fun r i => x1 (ix2 r i)) (fun r i => x2 (ix2 r i)) (fun r i => x3 (ix2 r i)) (fun r i => x4 (ix2 r i))) (fun r j => y (ix2 r j)) (i 0) (i 1) : Vec Ideal S5120x1024 .bf16) := by
  funext i
  idx_vars i
  exact reference x0 x1 x2 x3 x4 y _ _

/-- The reference runs, and its arguments end unchanged. -/
theorem frame_reference : Cert.quiescent_Reference5Ideal := fun m ρ _ =>
  (θ_run defs _ _).mono (fun r h => ⟨fun c => (h c).2, sem_eq_zero_of_no_sems (by decide) r.2⟩) (Cert.Reference5Ideal.Value.run m ρ)

end Reference

/-- The kernel's gradient is the reference's. -/
theorem values : Cert.algebraic_Kernel5Ideal_Reference5Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference5Ideal.Value.run m' ρ')
    refine ⟨(h c).1.trans ?_, (h c).2⟩
    obtain ⟨a0, a1, a2, a3, a4, a5⟩ := hagree c
    rw [Cert.Reference5Ideal.Read.val_main_v8_eq, a0, a1, a2, a3, a4, a5]
    exact result _ _ _ _ _ _

end Cert.Grad.InSb

end
-- ==== Proof.DwBranchDn.lean ====
/-
  THE WEIGHT GRADIENT OF THE DELTA-NET BRANCH'S OUTPUT: the kernel's sum in three parts beside the reference's one product.
-/
module

public import proofs.«01_k».proof.Proof.Names
public import proofs.«01_k».proof.Defs
public import proofs.«01_k».proof.Proof.Gen.Kernel6Ideal
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gram
public import Idealize.ShloMosaic.Lib.Pipeline.ValueKit

@[expose] public section

noncomputable section

namespace Cert.Grad.BranchDn

open Idealize.ShloMosaic Idealize.ShloMosaic.TcCoe Idealize.SL.Sem
open scoped BigOperators

section Kernel
open Cert.Kernel6Ideal Cert.Kernel6Ideal.Gen

variable (m : (ℓ : Loc nD τ sig) → Buf (Elt Ideal) ℓ)

/-- The array of zeros that the sums start from. -/
theorem zeros (j : S1024x1024.Idx) : k0_pay1 (F := Ideal) j = 0 := by
  idx_vars j
  pointwise [k0_pay1]

/-- A point's product of its two blocks. -/
def dot (x : Vec Ideal S1408x1024 .bf16) (y : Vec Ideal S1408x1024 .bf16) (j : S1024x1024.Idx) : EReal :=
  ∑ k : Fin 1408, x (ix2 k (j 0)) * y (ix2 k (j 1))

/-- A point's product is added to what was summed before it. -/
theorem adds (acc : Vec Ideal S1024x1024 .f32) (x : Vec Ideal S1408x1024 .bf16) (y : Vec Ideal S1408x1024 .bf16) (j : S1024x1024.Idx) :
    k0_pay2 acc x y j = acc j + dot x y j := by
  unfold dot
  idx_vars j
  pointwise [k0_pay2]

/-- Where the blocks of the right factor and of the result lie at a point. -/
theorem places : ∀ t : Fin cfg0.N, win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)

/-- Where the block of the left factor lies at a point. -/
theorem place : ∀ t : Fin cfg0.N, win0_0.index t (0 : Fin 2) = t.val % 3 ∧ win0_0.index t (1 : Fin 2) = t.val / 3 :=
  (by decide +kernel : ∀ t : Fin grid0.N, _)

/-- The left factor, as an array. -/
def left (c : Dev nD) (r : Fin 4224) (i : Fin 2048) : EReal := m ((c : Thread nD τ).loc main_arg0) (ix2 r i)

/-- The right factor, as an array. -/
def right (c : Dev nD) (r : Fin 4224) (i : Fin 1024) : EReal := m ((c : Thread nD τ).loc main_arg1) (ix2 r i)

/-- Column `j` of the left block of point `t`. -/
def lane (t : Fin cfg0.N) (j : Fin 1024) : Fin 2048 :=
  ⟨t.val / 3 * 1024 + j.val, by have := lt_of_lt_of_eq t.isLt (show cfg0.N = 6 from N_0); omega⟩

theorem block_left (c : Dev nD) (t : Fin cfg0.N) (k : Fin 1408) (j : Fin 1024) :
    (iblk m c 0 t : Vec Ideal S1408x1024 .bf16) (ix2 k j) = left m c (third t.val k) (lane t j) := by
  obtain ⟨e0, e1⟩ := place t
  unfold left
  blk_ext [iblk, V, e0, e1, third, lane]

theorem block_right (c : Dev nD) (t : Fin cfg0.N) (k : Fin 1408) (j : Fin 1024) :
    (iblk m c 1 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1024x1024.Idx) : EReal :=
  ∑ k : Fin 1408, left m c (third t.val k) (lane t (j 0)) * right m c (third t.val k) (j 1)

theorem term_eq (c : Dev nD) (t : Fin cfg0.N) (j : S1024x1024.Idx) : dot (iblk m c 0 t) (iblk m c 1 t) j = term m c t j :=
  Finset.sum_congr rfl fun k _ => congrArg₂ (· * ·) (block_left m c t k (j 0)) (block_right m c t k (j 1))

/-- The first point of a block starts from zero. -/
theorem first (c : Dev nD) (t : Fin cfg0.N) (h : t.val % 3 = 0) (j : S1024x1024.Idx) :
    (outsAt0 m c t.val t.isLt).2 j = 0 + term m c t j := by
  have hN := lt_of_lt_of_eq t.isLt (show cfg0.N = 6 from N_0)
  rw [outsAt0_A m c t (by omega) (by omega)]; frame_out; rw [adds, term_eq, zeros]

/-- A later point goes on from what the one before left. -/
theorem next (c : Dev nD) (t : Fin cfg0.N) (h : t.val % 3 ≠ 0) (j : S1024x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 6 from N_0)
  by_cases h1 : t.val % 3 = 2
  · rw [outsAt0_C m c t (by omega) (by omega)]; frame_out; rw [adds, term_eq]
    exact congrArg (· + _) (congrFun (Memref.IsWhole.read_unread _ _) j)
  rw [outsAt0_B m c t (by omega) (by omega)]; frame_out; rw [adds, term_eq]
  exact congrArg (· + _) (congrFun (Memref.IsWhole.read_unread _ _) j)

/-- What the scratch holds at the last point of a block. -/
theorem sums (c : Dev nD) (t : Fin cfg0.N) (hr : t.val % 3 = 2) (j : S1024x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1024 + _ = t.val / 3 * 1024 + _
    omega)
  rw [e]

/-- The last point of a block writes the sum back. -/
theorem written (c : Dev nD) (t : Fin cfg0.N) (hr : t.val % 3 = 2) (j : S1024x1024.Idx) :
    (outsAt0 m c t.val t.isLt).1 j = gram (left m c) (right m c) (lane t (j 0)) (j 1) := by
  refine Eq.trans ?_ (sums m c t hr j)
  have hN := lt_of_lt_of_eq t.isLt (show cfg0.N = 6 from N_0)
  rw [outsAt0_C m c t (by omega) (by omega)]
  frame_out
  idx_vars j
  pointwise [k0_pay3]

/-- The gradient, as an array. -/
def grad (c : Dev nD) : Vec Ideal S2048x1024 .bf16 := fun i => gram (left m c) (right m c) (i 0) (i 1)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, e0, e1⟩ := places t
  have key : ((cfg0.win 2).blk t).view.emb y = ix2 (lane t (y 0)) (y 1) := by
    unfold lane
    blk_ext [e0, e1]
  rw [key]
  blk_simp
  rw [after0_2]
  exact written m c t ((flush0_2 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference6Ideal

/-- The reference's result at an index. -/
theorem reference (x0 : Vec Ideal S4224x2048 .bf16) (y : Vec Ideal S4224x1024 .bf16) (i : Fin 2048) (j : Fin 1024) :
    Read.val_main_v6 (F := Ideal) x0 y (ix2 i j) = gram (fun r i => x0 (ix2 r i)) (fun r j => y (ix2 r j)) i j := by
  rw [← gram_swap]
  unfold Read.val_main_v6 Read.val_main_v5 Read.val_main_v4 Read.val_main_v1 Read.val_main_v0
  pointwise []

/-- The reference's result, as an array. -/
theorem result (x0 : Vec Ideal S4224x2048 .bf16) (y : Vec Ideal S4224x1024 .bf16) :
    Read.val_main_v6 (F := Ideal) x0 y = (fun i => gram (fun r i => x0 (ix2 r i)) (fun r j => y (ix2 r j)) (i 0) (i 1) : Vec Ideal S2048x1024 .bf16) := by
  funext i
  idx_vars i
  exact reference x0 y _ _

/-- The reference runs, and its arguments end unchanged. -/
theorem frame_reference : Cert.quiescent_Reference6Ideal := fun m ρ _ =>
  (θ_run defs _ _).mono (fun r h => ⟨fun c => (h c).2, sem_eq_zero_of_no_sems (by decide) r.2⟩) (Cert.Reference6Ideal.Value.run m ρ)

end Reference

/-- The kernel's gradient is the reference's. -/
theorem values : Cert.algebraic_Kernel6Ideal_Reference6Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference6Ideal.Value.run m' ρ')
    refine ⟨(h c).1.trans ?_, (h c).2⟩
    obtain ⟨a0, a1⟩ := hagree c
    rw [Cert.Reference6Ideal.Read.val_main_v6_eq, a0, a1]
    exact result _ _

end Cert.Grad.BranchDn

end
-- ==== Proof.DwOut.lean ====
/-
  THE WEIGHT GRADIENT OF A SQUARE PRODUCT: the mixer's output, or the other branch's: the kernel's sum in three parts beside the reference's one product.
-/
module

public import proofs.«01_k».proof.Proof.Names
public import proofs.«01_k».proof.Defs
public import proofs.«01_k».proof.Proof.Gen.Kernel7Ideal
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gram
public import Idealize.ShloMosaic.Lib.Pipeline.ValueKit

@[expose] public section

noncomputable section

namespace Cert.Grad.Out

open Idealize.ShloMosaic Idealize.ShloMosaic.TcCoe Idealize.SL.Sem
open scoped BigOperators

section Kernel
open Cert.Kernel7Ideal Cert.Kernel7Ideal.Gen

variable (m : (ℓ : Loc nD τ sig) → Buf (Elt Ideal) ℓ)

/-- The array of zeros that the sums start from. -/
theorem zeros (j : S1024x1024.Idx) : k0_pay1 (F := Ideal) j = 0 := by
  idx_vars j
  pointwise [k0_pay1]

/-- A point's product of its two blocks. -/
def dot (x : Vec Ideal S1408x1024 .bf16) (y : Vec Ideal S1408x1024 .bf16) (j : S1024x1024.Idx) : EReal :=
  ∑ k : Fin 1408, x (ix2 k (j 0)) * y (ix2 k (j 1))

/-- A point's product is added to what was summed before it. -/
theorem adds (acc : Vec Ideal S1024x1024 .f32) (x : Vec Ideal S1408x1024 .bf16) (y : Vec Ideal S1408x1024 .bf16) (j : S1024x1024.Idx) :
    k0_pay2 acc x y j = acc j + dot x y j := by
  unfold dot
  idx_vars j
  pointwise [k0_pay2]

/-- Where the blocks of the right factor and of the result lie at a point. -/
theorem places : ∀ t : Fin cfg0.N, win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)

/-- Where the block of the left factor lies at a point. -/
theorem place : ∀ t : Fin cfg0.N, win0_0.index t (0 : Fin 2) = t.val % 3 ∧ win0_0.index t (1 : Fin 2) = t.val / 3 :=
  (by decide +kernel : ∀ t : Fin grid0.N, _)

/-- The left factor, as an array. -/
def left (c : Dev nD) (r : Fin 4224) (i : Fin 1024) : EReal := m ((c : Thread nD τ).loc main_arg0) (ix2 r i)

/-- The right factor, as an array. -/
def right (c : Dev nD) (r : Fin 4224) (i : Fin 1024) : EReal := m ((c : Thread nD τ).loc main_arg1) (ix2 r i)

/-- Column `j` of the left block of point `t`. -/
def lane (t : Fin cfg0.N) (j : Fin 1024) : Fin 1024 :=
  ⟨t.val / 3 * 1024 + j.val, by have := lt_of_lt_of_eq t.isLt (show cfg0.N = 3 from N_0); omega⟩

theorem block_left (c : Dev nD) (t : Fin cfg0.N) (k : Fin 1408) (j : Fin 1024) :
    (iblk m c 0 t : Vec Ideal S1408x1024 .bf16) (ix2 k j) = left m c (third t.val k) (lane t j) := by
  obtain ⟨e0, e1⟩ := place t
  unfold left
  blk_ext [iblk, V, e0, e1, third, lane]

theorem block_right (c : Dev nD) (t : Fin cfg0.N) (k : Fin 1408) (j : Fin 1024) :
    (iblk m c 1 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S1024x1024.Idx) : EReal :=
  ∑ k : Fin 1408, left m c (third t.val k) (lane t (j 0)) * right m c (third t.val k) (j 1)

theorem term_eq (c : Dev nD) (t : Fin cfg0.N) (j : S1024x1024.Idx) : dot (iblk m c 0 t) (iblk m c 1 t) j = term m c t j :=
  Finset.sum_congr rfl fun k _ => congrArg₂ (· * ·) (block_left m c t k (j 0)) (block_right m c t k (j 1))

/-- The first point of a block starts from zero. -/
theorem first (c : Dev nD) (t : Fin cfg0.N) (h : t.val % 3 = 0) (j : S1024x1024.Idx) :
    (outsAt0 m c t.val t.isLt).2 j = 0 + term m c t j := by
  have hN := lt_of_lt_of_eq t.isLt (show cfg0.N = 3 from N_0)
  rw [outsAt0_A m c t (by omega) (by omega)]; frame_out; rw [adds, term_eq, zeros]

/-- A later point goes on from what the one before left. -/
theorem next (c : Dev nD) (t : Fin cfg0.N) (h : t.val % 3 ≠ 0) (j : S1024x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 3 from N_0)
  by_cases h1 : t.val % 3 = 2
  · rw [outsAt0_C m c t (by omega) (by omega)]; frame_out; rw [adds, term_eq]
    exact congrArg (· + _) (congrFun (Memref.IsWhole.read_unread _ _) j)
  rw [outsAt0_B m c t (by omega) (by omega)]; frame_out; rw [adds, term_eq]
  exact congrArg (· + _) (congrFun (Memref.IsWhole.read_unread _ _) j)

/-- What the scratch holds at the last point of a block. -/
theorem sums (c : Dev nD) (t : Fin cfg0.N) (hr : t.val % 3 = 2) (j : S1024x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 1024 + _ = t.val / 3 * 1024 + _
    omega)
  rw [e]

/-- The last point of a block writes the sum back. -/
theorem written (c : Dev nD) (t : Fin cfg0.N) (hr : t.val % 3 = 2) (j : S1024x1024.Idx) :
    (outsAt0 m c t.val t.isLt).1 j = gram (left m c) (right m c) (lane t (j 0)) (j 1) := by
  refine Eq.trans ?_ (sums m c t hr j)
  have hN := lt_of_lt_of_eq t.isLt (show cfg0.N = 3 from N_0)
  rw [outsAt0_C m c t (by omega) (by omega)]
  frame_out
  idx_vars j
  pointwise [k0_pay3]

/-- The gradient, as an array. -/
def grad (c : Dev nD) : Vec Ideal S1024x1024 .bf16 := fun i => gram (left m c) (right m c) (i 0) (i 1)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, e0, e1⟩ := places t
  have key : ((cfg0.win 2).blk t).view.emb y = ix2 (lane t (y 0)) (y 1) := by
    unfold lane
    blk_ext [e0, e1]
  rw [key]
  blk_simp
  rw [after0_2]
  exact written m c t ((flush0_2 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference7Ideal

/-- The reference's result at an index. -/
theorem reference (x0 : Vec Ideal S4224x1024 .bf16) (y : Vec Ideal S4224x1024 .bf16) (i : Fin 1024) (j : Fin 1024) :
    Read.val_main_v6 (F := Ideal) x0 y (ix2 i j) = gram (fun r i => x0 (ix2 r i)) (fun r j => y (ix2 r j)) i j := by
  rw [← gram_swap]
  unfold Read.val_main_v6 Read.val_main_v5 Read.val_main_v4 Read.val_main_v1 Read.val_main_v0
  pointwise []

/-- The reference's result, as an array. -/
theorem result (x0 : Vec Ideal S4224x1024 .bf16) (y : Vec Ideal S4224x1024 .bf16) :
    Read.val_main_v6 (F := Ideal) x0 y = (fun i => gram (fun r i => x0 (ix2 r i)) (fun r j => y (ix2 r j)) (i 0) (i 1) : Vec Ideal S1024x1024 .bf16) := by
  funext i
  idx_vars i
  exact reference x0 y _ _

/-- The reference runs, and its arguments end unchanged. -/
theorem frame_reference : Cert.quiescent_Reference7Ideal := fun m ρ _ =>
  (θ_run defs _ _).mono (fun r h => ⟨fun c => (h c).2, sem_eq_zero_of_no_sems (by decide) r.2⟩) (Cert.Reference7Ideal.Value.run m ρ)

end Reference

/-- The kernel's gradient is the reference's. -/
theorem values : Cert.algebraic_Kernel7Ideal_Reference7Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference7Ideal.Value.run m' ρ')
    refine ⟨(h c).1.trans ?_, (h c).2⟩
    obtain ⟨a0, a1⟩ := hagree c
    rw [Cert.Reference7Ideal.Read.val_main_v6_eq, a0, a1]
    exact result _ _

end Cert.Grad.Out

end
-- ==== Proof.DwInAb.lean ====
/-
  THE WEIGHT GRADIENT OF THE GATE COLUMNS OF THE INPUT PROJECTION: the kernel's sum in three parts beside the reference's one product.
-/
module

public import proofs.«01_k».proof.Proof.Names
public import proofs.«01_k».proof.Defs
public import proofs.«01_k».proof.Proof.Gen.Kernel8Ideal
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gram
public import Idealize.ShloMosaic.Lib.Pipeline.ValueKit

@[expose] public section

noncomputable section

namespace Cert.Grad.InAb

open Idealize.ShloMosaic Idealize.ShloMosaic.TcCoe Idealize.SL.Sem
open scoped BigOperators

section Kernel
open Cert.Kernel8Ideal Cert.Kernel8Ideal.Gen

variable (m : (ℓ : Loc nD τ sig) → Buf (Elt Ideal) ℓ)

/-- The array of zeros that the sums start from. -/
theorem zeros (j : S128x1024.Idx) : k0_pay1 (F := Ideal) j = 0 := by
  idx_vars j
  pointwise [k0_pay1]

/-- A point's product of its two blocks. -/
def dot (x : Vec Ideal S1408x128 .bf16) (y : Vec Ideal S1408x1024 .bf16) (j : S128x1024.Idx) : EReal :=
  ∑ k : Fin 1408, x (ix2 k (j 0)) * y (ix2 k (j 1))

/-- A point's product is added to what was summed before it. -/
theorem adds (acc : Vec Ideal S128x1024 .f32) (x : Vec Ideal S1408x128 .bf16) (y : Vec Ideal S1408x1024 .bf16) (j : S128x1024.Idx) :
    k0_pay2 acc x y j = acc j + dot x y j := by
  unfold dot
  idx_vars j
  pointwise [k0_pay2]

/-- Where the blocks of the right factor and of the result lie at a point. -/
theorem places : ∀ t : Fin cfg0.N, win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)

/-- Where the block of the left factor lies at a point. -/
theorem place : ∀ t : Fin cfg0.N, win0_0.index t (0 : Fin 2) = t.val % 3 ∧ win0_0.index t (1 : Fin 2) = t.val / 3 :=
  (by decide +kernel : ∀ t : Fin grid0.N, _)

/-- The left factor, as an array. -/
def left (c : Dev nD) (r : Fin 4224) (i : Fin 128) : EReal := m ((c : Thread nD τ).loc main_arg0) (ix2 r i)

/-- The right factor, as an array. -/
def right (c : Dev nD) (r : Fin 4224) (i : Fin 1024) : EReal := m ((c : Thread nD τ).loc main_arg1) (ix2 r i)

/-- Column `j` of the left block of point `t`. -/
def lane (t : Fin cfg0.N) (j : Fin 128) : Fin 128 :=
  ⟨t.val / 3 * 128 + j.val, by have := lt_of_lt_of_eq t.isLt (show cfg0.N = 3 from N_0); omega⟩

theorem block_left (c : Dev nD) (t : Fin cfg0.N) (k : Fin 1408) (j : Fin 128) :
    (iblk m c 0 t : Vec Ideal S1408x128 .bf16) (ix2 k j) = left m c (third t.val k) (lane t j) := by
  obtain ⟨e0, e1⟩ := place t
  unfold left
  blk_ext [iblk, V, e0, e1, third, lane]

theorem block_right (c : Dev nD) (t : Fin cfg0.N) (k : Fin 1408) (j : Fin 1024) :
    (iblk m c 1 t : Vec Ideal S1408x1024 .bf16) (ix2 k j) = right m c (third t.val k) j := by
  obtain ⟨e0, e1, -⟩ := places t
  unfold right
  blk_ext [iblk, V, e0, e1, third]

/-- What a point adds. -/
def term (c : Dev nD) (t : Fin cfg0.N) (j : S128x1024.Idx) : EReal :=
  ∑ k : Fin 1408, left m c (third t.val k) (lane t (j 0)) * right m c (third t.val k) (j 1)

theorem term_eq (c : Dev nD) (t : Fin cfg0.N) (j : S128x1024.Idx) : dot (iblk m c 0 t) (iblk m c 1 t) j = term m c t j :=
  Finset.sum_congr rfl fun k _ => congrArg₂ (· * ·) (block_left m c t k (j 0)) (block_right m c t k (j 1))

/-- The first point of a block starts from zero. -/
theorem first (c : Dev nD) (t : Fin cfg0.N) (h : t.val % 3 = 0) (j : S128x1024.Idx) :
    (outsAt0 m c t.val t.isLt).2 j = 0 + term m c t j := by
  have hN := lt_of_lt_of_eq t.isLt (show cfg0.N = 3 from N_0)
  rw [outsAt0_A m c t (by omega) (by omega)]; frame_out; rw [adds, term_eq, zeros]

/-- A later point goes on from what the one before left. -/
theorem next (c : Dev nD) (t : Fin cfg0.N) (h : t.val % 3 ≠ 0) (j : S128x1024.Idx) :
    (outsAt0 m c t.val t.isLt).2 j
      = (outsAt0 m c (t.val - 1) (Nat.lt_of_le_of_lt (Nat.sub_le _ _) t.isLt)).2 j + term m c t j := by
  have hN := lt_of_lt_of_eq t.isLt (show cfg0.N = 3 from N_0)
  by_cases h1 : t.val % 3 = 2
  · rw [outsAt0_C m c t (by omega) (by omega)]; frame_out; rw [adds, term_eq]
    exact congrArg (· + _) (congrFun (Memref.IsWhole.read_unread _ _) j)
  rw [outsAt0_B m c t (by omega) (by omega)]; frame_out; rw [adds, term_eq]
  exact congrArg (· + _) (congrFun (Memref.IsWhole.read_unread _ _) j)

/-- What the scratch holds at the last point of a block. -/
theorem sums (c : Dev nD) (t : Fin cfg0.N) (hr : t.val % 3 = 2) (j : S128x1024.Idx) :
    (outsAt0 m c t.val t.isLt).2 j = gram (left m c) (right m c) (lane t (j 0)) (j 1) := by
  rw [Pipeline.eq_sum_fin_of_reset_step_apply_of_flush (fun n h => (outsAt0 m c n h).2) 3 (fun _ => 0) (term m c)
    (fun t h j => first m c t h j) (fun t h j => next m c t h j) t hr j, zero_add]
  refine Eq.trans (Finset.sum_congr rfl fun s _ => ?_) (gram_thirds (left m c) (right m c) (lane t (j 0)) (j 1) (t.val / 3))
  unfold term
  refine Finset.sum_congr rfl fun k _ => ?_
  have e : lane ⟨3 * (t.val / 3) + s.val, Pipeline.run_point_lt_of_flush t hr s⟩ (j 0) = lane t (j 0) := Fin.ext (by
    show (3 * (t.val / 3) + s.val) / 3 * 128 + _ = t.val / 3 * 128 + _
    omega)
  rw [e]

/-- The last point of a block writes the sum back. -/
theorem written (c : Dev nD) (t : Fin cfg0.N) (hr : t.val % 3 = 2) (j : S128x1024.Idx) :
    (outsAt0 m c t.val t.isLt).1 j = gram (left m c) (right m c) (lane t (j 0)) (j 1) := by
  refine Eq.trans ?_ (sums m c t hr j)
  have hN := lt_of_lt_of_eq t.isLt (show cfg0.N = 3 from N_0)
  rw [outsAt0_C m c t (by omega) (by omega)]
  frame_out
  idx_vars j
  pointwise [k0_pay3]

/-- The gradient, as an array. -/
def grad (c : Dev nD) : Vec Ideal S128x1024 .bf16 := fun i => gram (left m c) (right m c) (i 0) (i 1)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, e0, e1⟩ := places t
  have key : ((cfg0.win 2).blk t).view.emb y = ix2 (lane t (y 0)) (y 1) := by
    unfold lane
    blk_ext [e0, e1]
  rw [key]
  blk_simp
  rw [after0_2]
  exact written m c t ((flush0_2 t).mp hf) y

/-- The kernel runs, leaves the gradient, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference8Ideal

/-- The reference's result at an index. -/
theorem reference (x0 : Vec Ideal S4224x128 .bf16) (y : Vec Ideal S4224x1024 .bf16) (i : Fin 128) (j : Fin 1024) :
    Read.val_main_v7 (F := Ideal) x0 y (ix2 i j) = gram (fun r i => x0 (ix2 r i)) (fun r j => y (ix2 r j)) i j := by
  unfold gram
  unfold Read.val_main_v7 Read.val_main_v6 Read.val_main_v5 Read.val_main_v4 Read.val_main_v1 Read.val_main_v0
  pointwise []

/-- The reference's result, as an array. -/
theorem result (x0 : Vec Ideal S4224x128 .bf16) (y : Vec Ideal S4224x1024 .bf16) :
    Read.val_main_v7 (F := Ideal) x0 y = (fun i => gram (fun r i => x0 (ix2 r i)) (fun r j => y (ix2 r j)) (i 0) (i 1) : Vec Ideal S128x1024 .bf16) := by
  funext i
  idx_vars i
  exact reference x0 y _ _

/-- The reference runs, and its arguments end unchanged. -/
theorem frame_reference : Cert.quiescent_Reference8Ideal := fun m ρ _ =>
  (θ_run defs _ _).mono (fun r h => ⟨fun c => (h c).2, sem_eq_zero_of_no_sems (by decide) r.2⟩) (Cert.Reference8Ideal.Value.run m ρ)

end Reference

/-- The kernel's gradient is the reference's. -/
theorem values : Cert.algebraic_Kernel8Ideal_Reference8Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference8Ideal.Value.run m' ρ')
    refine ⟨(h c).1.trans ?_, (h c).2⟩
    obtain ⟨a0, a1⟩ := hagree c
    rw [Cert.Reference8Ideal.Read.val_main_v7_eq, a0, a1]
    exact result _ _

end Cert.Grad.InAb

end
-- ==== Proof.Gates.lean ====
/-
  THE GATE of the mixer's branches, one over one plus the exponential of minus its argument, and what the merge and its gradient are made of.
-/
module

public import Idealize.ShloMosaic.Lib.Pointwise

@[expose] public section

noncomputable section

namespace Cert.Gates

open Idealize.ShloMosaic
open scoped BigOperators

/-- The gate's value at a number. -/
def gate (x : EReal) : EReal := Ideal.div 1 (1 + Ideal.exp (-x))

/-- The gate written with a difference from zero. -/
theorem gate_sub (x : EReal) : Ideal.div 1 (1 + Ideal.exp (0 - x)) = gate x := by
  rw [zero_sub]
  rfl

/-- An element of a product with a weight's rows: the sum over the columns of both. -/
def rows {R I K : ℕ} (x : Fin R → Fin K → EReal) (w : Fin I → Fin K → EReal) (r : Fin R) (i : Fin I) : EReal :=
  ∑ k : Fin K, x r k * w i k

/-- An element of a product with a weight's columns. -/
def cols {R I K : ℕ} (x : Fin R → Fin K → EReal) (w : Fin K → Fin I → EReal) (r : Fin R) (i : Fin I) : EReal :=
  ∑ k : Fin K, x r k * w k i

/-- The gradient that reaches a gated branch. -/
def branchGrad (d g : EReal) : EReal := gate g * d

/-- The gradient that reaches the gate's argument. -/
def gateGrad (d b g : EReal) : EReal := d * b * (gate g * (1 - gate g))

theorem branchGrad_eq (d g : EReal) : d * Ideal.div 1 (1 + Ideal.exp (0 - g)) = branchGrad d g := by
  rw [gate_sub, mul_comm]
  rfl

theorem gateGrad_eq (d b g : EReal) :
    d * b * Ideal.div 1 (1 + Ideal.exp (0 - g)) * (1 - Ideal.div 1 (1 + Ideal.exp (0 - g))) = gateGrad d b g := by
  rw [gate_sub, mul_assoc]
  rfl

theorem gateGrad_congr {d d' b b' g g' : EReal} (hd : d = d') (hb : b = b') (hg : g = g') : gateGrad d b g = gateGrad d' b' g' := by
  rw [hd, hb, hg]

/-- The two gated branches together. -/
def merge (gd bd gs bs : EReal) : EReal := gate gd * bd + gate gs * bs

theorem merge_eq (gd bd gs bs : EReal) :
    Ideal.div 1 (1 + Ideal.exp (0 - gd)) * bd + Ideal.div 1 (1 + Ideal.exp (0 - gs)) * bs = merge gd bd gs bs := by
  rw [gate_sub, gate_sub]
  rfl

theorem merge_congr {gd gd' bd bd' gs gs' bs bs' : EReal} (h1 : gd = gd') (h2 : bd = bd') (h3 : gs = gs') (h4 : bs = bs') :
    merge gd bd gs bs = merge gd' bd' gs' bs' := by
  rw [h1, h2, h3, h4]

end Cert.Gates

end
-- ==== Proof.Silu.lean ====
/-
  THE FEED-FORWARD GATE, a number times the gate's value at it, and its derivative in the two forms: factored, and as a sum of two terms.
-/
module

public import proofs.«01_k».proof.Proof.Gates
public import proofs.«01_k».proof.Proof.Finite

@[expose] public section

noncomputable section

namespace Cert.Gates

open Idealize.ShloMosaic Cert.Scan

theorem gate_coe (r : ℝ) : gate (r : EReal) = ((1 / (1 + Real.exp (-r)) : ℝ) : EReal) := by
  unfold gate
  have h : (1 + Real.exp (-r) : ℝ) ≠ 0 := by positivity
  rw [← EReal.coe_neg, Ideal.exp_coe, ← EReal.coe_one, ← EReal.coe_add, Ideal.div_coe h, ← EReal.coe_mul, one_mul]

theorem gate_top : gate ⊤ = 1 := by
  unfold gate Ideal.div
  simp

theorem gate_bot : gate ⊥ = 0 := by
  have h : (1 : EReal) + ⊤ = ⊤ := by
    rw [← EReal.coe_one]
    exact EReal.coe_add_top 1
  unfold gate Ideal.div
  simp [h]

/-- The feed-forward gate. -/
def silu (x : EReal) : EReal := x * gate x

/-- The gradient that reaches its argument, as a sum of two terms. -/
def siluGrad (d x : EReal) : EReal := d * gate x + x * d * (gate x * (1 - gate x))

/-- Factored it is the same, where the gradient that arrives is finite. -/
theorem siluGrad_eq {d : EReal} (hd : Fine d) (x : EReal) : d * (gate x * (1 + x * (1 - gate x))) = siluGrad d x := by
  unfold siluGrad
  obtain ⟨d, rfl⟩ := hd
  induction x with
  | bot => simp [gate_bot]
  | top =>
    have h : (1 : EReal) - 1 = 0 := by rw [← EReal.coe_one, ← EReal.coe_sub, sub_self, EReal.coe_zero]
    simp [gate_top, h]
  | coe r =>
    rw [gate_coe]
    generalize (1 / (1 + Real.exp (-r)) : ℝ) = s
    rw [← EReal.coe_one, ← EReal.coe_sub]
    simp only [← EReal.coe_mul, ← EReal.coe_add]
    exact congrArg _ (by ring)

/-- The kernel's form of it, with the gate written out. -/
theorem siluGrad_kernel {d u : EReal} (hd : Fine d) (hu : Fine u) (x : EReal) :
    d * u * (Ideal.div 1 (1 + Ideal.exp (0 - x)) * (1 + x * (1 - Ideal.div 1 (1 + Ideal.exp (0 - x))))) = siluGrad (d * u) x := by
  rw [gate_sub]
  exact siluGrad_eq (hd.mul hu) x

end Cert.Gates

end
-- ==== Proof.FfnOutBwd.lean ====
/-
  THE GRADIENTS OF THE FEED-FORWARD GATE AND OF WHAT IT MULTIPLIES, from the block's output: blocks of a product with the gate's derivative factored, beside the whole product with the derivative as two terms; for a finite product.
-/
module

public import proofs.«01_k».proof.Proof.Names
public import proofs.«01_k».proof.Defs
public import proofs.«01_k».proof.Proof.Gen.Kernel9Ideal
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gates
public import proofs.«01_k».proof.Proof.Silu
public import proofs.«01_k».proof.Proof.Gen.Pre_finite9
public import Idealize.ShloMosaic.Lib.Pointwise
public import Idealize.ShloMosaic.Lib.Pipeline.ValueKit

@[expose] public section

noncomputable section

namespace Cert.Bwd.FfnOut

open Idealize.ShloMosaic Idealize.ShloMosaic.TcCoe Idealize.SL.Sem
open Cert.Gates Cert.Scan
open scoped BigOperators

section Kernel
open Cert.Kernel9Ideal Cert.Kernel9Ideal.Gen

variable (m : (ℓ : Loc nD τ sig) → Buf (Elt Ideal) ℓ)

/-- Row `j` of the blocks of point `t`. -/
def row (t : Fin cfg0.N) (j : Fin 528) : Fin 4224 :=
  ⟨t.val / 2 * 528 + j.val, by have := lt_of_lt_of_eq t.isLt (show cfg0.N = 16 from N_0); omega⟩

/-- Column `j` of the blocks of point `t`. -/
def lane (t : Fin cfg0.N) (j : Fin 1408) : Fin 2816 :=
  ⟨t.val % 2 * 1408 + j.val, by have := lt_of_lt_of_eq t.isLt (show cfg0.N = 16 from N_0); omega⟩

/-- Where the blocks lie at a point. -/
theorem places : ∀ t : Fin cfg0.N, win0_0.index t (0 : Fin 2) = t.val / 2
    ∧ win0_0.index t (1 : Fin 2) = 0
    ∧ win0_1.index t (0 : Fin 2) = t.val % 2
    ∧ win0_1.index t (1 : Fin 2) = 0
    ∧ win0_2.index t (0 : Fin 2) = t.val / 2
    ∧ win0_2.index t (1 : Fin 2) = t.val % 2
    ∧ win0_3.index t (0 : Fin 2) = t.val / 2
    ∧ win0_3.index t (1 : Fin 2) = t.val % 2
    ∧ win0_4.index t (0 : Fin 2) = t.val / 2
    ∧ win0_4.index t (1 : Fin 2) = t.val % 2
    ∧ win0_5.index t (0 : Fin 2) = t.val / 2
    ∧ win0_5.index t (1 : Fin 2) = t.val % 2 :=
  (by decide +kernel : ∀ t : Fin grid0.N, _)

/-- The gradient that arrives, as an array. -/
def upper (c : Dev nD) (r : Fin 4224) (i : Fin 1024) : EReal := m ((c : Thread nD τ).loc main_arg0) (ix2 r i)

/-- The weight, as an array. -/
def weight (c : Dev nD) (r : Fin 2816) (i : Fin 1024) : EReal := m ((c : Thread nD τ).loc main_arg1) (ix2 r i)

/-- The gate's argument, as an array. -/
def gateArg (c : Dev nD) (r : Fin 4224) (i : Fin 2816) : EReal := m ((c : Thread nD τ).loc main_arg2) (ix2 r i)

/-- What the gate multiplies, as an array. -/
def up (c : Dev nD) (r : Fin 4224) (i : Fin 2816) : EReal := m ((c : Thread nD τ).loc main_arg3) (ix2 r i)

theorem block0 (c : Dev nD) (t : Fin cfg0.N) (j : Fin 528) (k : Fin 1024) :
    (iblk m c 0 t : Vec Ideal S528x1024 .bf16) (ix2 j k) = upper m c (row t j) k := by
  obtain ⟨e0, e1, -⟩ := places t
  unfold upper
  blk_ext [iblk, V, e0, e1, row]

theorem block1 (c : Dev nD) (t : Fin cfg0.N) (j : Fin 1408) (k : Fin 1024) :
    (iblk m c 1 t : Vec Ideal S1408x1024 .bf16) (ix2 j k) = weight m c (lane t j) k := by
  obtain ⟨-, -, e0, e1, -⟩ := places t
  unfold weight
  blk_ext [iblk, V, e0, e1, lane]

theorem block2 (c : Dev nD) (t : Fin cfg0.N) (j : Fin 528) (k : Fin 1408) :
    (iblk m c 2 t : Vec Ideal S528x1408 .f32) (ix2 j k) = gateArg m c (row t j) (lane t k) := by
  obtain ⟨-, -, -, -, e0, e1, -⟩ := places t
  unfold gateArg
  blk_ext [iblk, V, e0, e1, lane, row]

theorem block3 (c : Dev nD) (t : Fin cfg0.N) (j : Fin 528) (k : Fin 1408) :
    (iblk m c 3 t : Vec Ideal S528x1408 .f32) (ix2 j k) = up m c (row t j) (lane t k) := by
  obtain ⟨-, -, -, -, -, -, e0, e1, -⟩ := places t
  unfold up
  blk_ext [iblk, V, e0, e1, lane, row]

/-- Finite numbers everywhere but in the gate's argument. -/
structure Bounded (c : Dev nD) : Prop where
  upper : ∀ r i, Fine (upper m c r i)
  weight : ∀ r i, Fine (weight m c r i)
  up : ∀ r i, Fine (up m c r i)

/-- A block of the product with the weight. -/
def dot (x : Vec Ideal S528x1024 .bf16) (w : Vec Ideal S1408x1024 .bf16) (j : Fin 528) (k : Fin 1408) : EReal :=
  ∑ i : Fin 1024, x (ix2 j i) * w (ix2 k i)

theorem product (c : Dev nD) (t : Fin cfg0.N) (j : Fin 528) (k : Fin 1408) :
    dot (iblk m c 0 t) (iblk m c 1 t) j k = rows (upper m c) (weight m c) (row t j) (lane t k) :=
  Finset.sum_congr rfl fun i _ => congrArg₂ (· * ·) (block0 m c t j i) (block1 m c t k i)

/-- The gradient of the gate's argument, as a point computes it. -/
def factored (d x u : EReal) : EReal :=
  d * u * (Ideal.div 1 (1 + Ideal.exp (0 - x)) * (1 + x * (1 - Ideal.div 1 (1 + Ideal.exp (0 - x)))))

theorem point4 (x : Vec Ideal S528x1024 .bf16) (w : Vec Ideal S1408x1024 .bf16) (g u : Vec Ideal S528x1408 .f32) (j : S528x1408.Idx) :
    k0_pay2 x w g u j = factored (dot x w (j 0) (j 1)) (g j) (u j) := by
  unfold dot factored
  idx_vars j
  pointwise [k0_pay2, k0_pay1]

theorem point5 (x : Vec Ideal S528x1024 .bf16) (w : Vec Ideal S1408x1024 .bf16) (g : Vec Ideal S528x1408 .f32) (j : S528x1408.Idx) :
    k0_pay3 x w g j = silu (g j) * dot x w (j 0) (j 1) := by
  unfold silu
  rw [← gate_sub, mul_comm]
  unfold dot
  idx_vars j
  pointwise [k0_pay3, k0_pay1]

/-- The gradient of the gate's argument, as an array. -/
def gradGate (c : Dev nD) : Vec Ideal S4224x2816 .bf16 := fun i =>
  siluGrad (rows (upper m c) (weight m c) (i 0) (i 1) * up m c (i 0) (i 1)) (gateArg m c (i 0) (i 1))

/-- The gradient of what the gate multiplies, as an array. -/
def gradUp (c : Dev nD) : Vec Ideal S4224x2816 .bf16 := fun i =>
  silu (gateArg m c (i 0) (i 1)) * rows (upper m c) (weight m c) (i 0) (i 1)

theorem factored_congr {d d' x x' u u' : EReal} (hd : d = d') (hx : x = x') (hu : u = u') : factored d x u = factored d' x' u' := by
  rw [hd, hx, hu]

variable {m}

theorem written4 {c : Dev nD} (H : Bounded m c) (t : Fin cfg0.N) (j : S528x1408.Idx) :
    out0_4 (iblk m c 0 t) (iblk m c 1 t) (iblk m c 2 t) (iblk m c 3 t) j = gradGate m c (ix2 (row t (j 0)) (lane t (j 1))) := by
  unfold out0_4
  frame_out
  rw [point4]
  idx_vars j
  refine (factored_congr (product m c t _ _) (block2 m c t _ _) (block3 m c t _ _)).trans ?_
  exact siluGrad_kernel (Fine.sum fun i => (H.upper _ _).mul (H.weight _ _)) (H.up _ _) _

variable (m)

theorem written5 (c : Dev nD) (t : Fin cfg0.N) (j : S528x1408.Idx) :
    out0_5 (iblk m c 0 t) (iblk m c 1 t) (iblk m c 2 t) (iblk m c 3 t) j = gradUp m c (ix2 (row t (j 0)) (lane t (j 1))) := by
  unfold out0_5
  frame_out
  rw [point5]
  idx_vars j
  exact congrArg₂ (fun x d => silu x * d) (block2 m c t _ _) (product m c t _ _)

/-- The array the kernel leaves in window 4 is that. -/
theorem array4 {c : Dev nD} (H : Bounded m c) : (dats m 0 c).arrAt 4 cfg0.N = gradGate m c := by
  refine (dats m 0 c).arrAt_eq_of_covers 4 _ (by decide +kernel) fun t hf y => ?_
  obtain ⟨-, -, -, -, -, -, -, -, e0, e1, -⟩ := places t
  have key : ((cfg0.win 4).blk t).view.emb y = ix2 (row t (y 0)) (lane t (y 1)) := by
    unfold row lane
    blk_ext [e0, e1]
  rw [key]
  blk_simp
  rw [after0_4]
  exact written4 H t y

/-- The array the kernel leaves in window 5 is that. -/
theorem array5 (c : Dev nD) : (dats m 0 c).arrAt 5 cfg0.N = gradUp m c := by
  refine (dats m 0 c).arrAt_eq_of_covers 5 _ (by decide +kernel) fun t hf y => ?_
  obtain ⟨-, -, -, -, -, -, -, -, -, -, e0, e1⟩ := places t
  have key : ((cfg0.win 5).blk t).view.emb y = ix2 (row t (y 0)) (lane t (y 1)) := by
    unfold row lane
    blk_ext [e0, e1]
  rw [key]
  blk_simp
  rw [after0_5]
  exact written5 m c t y

/-- The kernel runs, leaves its results, and its arguments end unchanged. -/
theorem kernel_runs (ρ : Dev nD → PrngReg) (H : ∀ c, Bounded m c) :
    θ_run defs (onTc (τ := τ) (main (F := Ideal))) ⟨m, fun _ => 0, ρ⟩ fun r => ∀ c : Dev nD,
      r.2.mem ((c : Thread nD τ).loc main_v0_0) = gradGate m c
      ∧ r.2.mem ((c : Thread nD τ).loc main_v0_1) = gradUp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m (H c)),
      ((h c).1 5).trans (array5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Kernel

section Reference
open Cert.Reference9Ideal

theorem result4 (x0 : Vec Ideal S4224x1024 .bf16) (x1 : Vec Ideal S2816x1024 .bf16) (x2 : Vec Ideal S4224x2816 .f32) (x3 : Vec Ideal S4224x2816 .f32) :
    Read.val_main_v9 (F := Ideal) x0 x1 x2 x3 = (fun i => siluGrad (rows (fun r k => x0 (ix2 r k)) (fun r k => x1 (ix2 r k)) (i 0) (i 1) * x3 (ix2 (i 0) (i 1))) (x2 (ix2 (i 0) (i 1))) : Vec Ideal S4224x2816 .bf16) := by
  funext i
  idx_vars i
  unfold Read.val_main_v9 Read.val_main_v8 Read.val_main_call1_v2 Read.val_main_call1_v1 Read.val_main_call1_v0 Read.val_main_v7 Read.val_main_v5 Read.val_main_v4 Read.val_main_v2 Read.val_main_v0_1 Read.val_main_call0_v7 Read.val_main_call0_v6 Read.val_main_call0_cst_1 Read.val_main_v0_2 Read.val_main_call0_v4 Read.val_main_call0_cst_0 Read.val_main_call0_v3 Read.val_main_call0_v2 Read.val_main_call0_cst Read.val_main_call0_v1 Read.val_main_call0_v0
  pointwise [siluGrad, silu, gate, rows]

theorem result5 (x0 : Vec Ideal S4224x1024 .bf16) (x1 : Vec Ideal S2816x1024 .bf16) (x2 : Vec Ideal S4224x2816 .f32) :
    Read.val_main_v10 (F := Ideal) x0 x1 x2 = (fun i => silu (x2 (ix2 (i 0) (i 1))) * rows (fun r k => x0 (ix2 r k)) (fun r k => x1 (ix2 r k)) (i 0) (i 1) : Vec Ideal S4224x2816 .bf16) := by
  funext i
  idx_vars i
  unfold Read.val_main_v10 Read.val_main_v6 Read.val_main_v5 Read.val_main_v4 Read.val_main_v2 Read.val_main_v0_0 Read.val_main_v0_2 Read.val_main_call0_v4 Read.val_main_call0_cst_0 Read.val_main_call0_v3 Read.val_main_call0_v2 Read.val_main_call0_cst Read.val_main_call0_v1 Read.val_main_call0_v0
  pointwise [siluGrad, silu, gate, rows]

/-- The reference runs, and its arguments end unchanged. -/
theorem frame_reference : Cert.quiescent_Reference9Ideal := fun m ρ _ =>
  (θ_run defs _ _).mono (fun r h => ⟨fun c => (h c).2.2, sem_eq_zero_of_no_sems (by decide) r.2⟩) (Cert.Reference9Ideal.Value.run m ρ)

end Reference

section Precondition
open Cert.Kernel9Ideal Cert.Kernel9Ideal.Gen

/-- The precondition, array by array. -/
theorem bounded (m : (ℓ : Loc nD τ sig) → Buf (Elt Ideal) ℓ) (h : Cert.Pre_Kernel9Ideal_finite9 m) (c : Dev nD) :
    Bounded m c where
  upper r i := fine_of_cmp (congrFun (h c).1 (ix2 r i))
  weight r i := fine_of_cmp (congrFun (h c).2.1 (ix2 r i))
  up r i := fine_of_cmp (congrFun (h c).2.2 (ix2 r i))

end Precondition

/-- The kernel's results are the reference's. -/
theorem values : Cert.algebraic_Kernel9Ideal_Reference9Ideal_pre_finite9 := by
  intro m ρ m' ρ' hpre hagree
  refine ⟨fun c => gradGate m c, fun c => gradUp m c, ?_, ?_⟩
  · refine (θ_run _ _ _).mono (fun r h c => ?_) (kernel_runs m ρ (bounded m hpre))
    exact h c
  · refine (θ_run _ _ _).mono (fun r h c => ?_) (Cert.Reference9Ideal.Value.run m' ρ')
    obtain ⟨a0, a1, a2, a3⟩ := hagree c
    refine ⟨(h c).1.trans ?_, (h c).2.1.trans ?_, (h c).2.2⟩
    · rw [Cert.Reference9Ideal.Read.val_main_v9_eq, a0, a1, a2, a3]
      exact result4 _ _ _ _
    · rw [Cert.Reference9Ideal.Read.val_main_v10_eq, a0, a1, a2]
      exact result5 _ _ _

end Cert.Bwd.FfnOut

end
-- ==== Proof.BranchDnBwd.lean ====
/-
  THE GRADIENT OF THE DELTA BRANCH'S OUTPUT through its product: blocks of a product beside the whole product.
-/
module

public import proofs.«01_k».proof.Proof.Names
public import proofs.«01_k».proof.Defs
public import proofs.«01_k».proof.Proof.Gen.Kernel10Ideal
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pointwise
public import Idealize.ShloMosaic.Lib.Pipeline.ValueKit

@[expose] public section

noncomputable section

namespace Cert.Bwd.BranchDn

open Idealize.ShloMosaic Idealize.ShloMosaic.TcCoe Idealize.SL.Sem
open scoped BigOperators

section Kernel
open Cert.Kernel10Ideal Cert.Kernel10Ideal.Gen

variable (m : (ℓ : Loc nD τ sig) → Buf (Elt Ideal) ℓ)

/-- A point's block of the product. -/
theorem block (x : Vec Ideal S1056x1024 .bf16) (w : Vec Ideal S1024x1024 .bf16) (j : S1056x1024.Idx) :
    k0_pay1 x w j = ∑ k : Fin 1024, x (ix2 (j 0) k) * w (ix2 (j 1) k) := by
  idx_vars j
  pointwise [k0_pay1]

/-- Where the blocks lie at a point. -/
theorem places : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- Row `j` of the blocks of point `t`. -/
def row (t : Fin cfg0.N) (j : Fin 1056) : Fin 4224 :=
  ⟨t.val / 2 * 1056 + j.val, by have := lt_of_lt_of_eq t.isLt (show cfg0.N = 8 from N_0); omega⟩

/-- Column `j` of the result's block of point `t`. -/
def lane (t : Fin cfg0.N) (j : Fin 1024) : Fin 2048 :=
  ⟨t.val % 2 * 1024 + j.val, by omega⟩

/-- The left factor, as an array. -/
def left (c : Dev nD) (r : Fin 4224) (i : Fin 1024) : EReal := m ((c : Thread nD τ).loc main_arg0) (ix2 r i)

/-- The weight, as an array. -/
def weight (c : Dev nD) (r : Fin 2048) (i : Fin 1024) : EReal := m ((c : Thread nD τ).loc main_arg1) (ix2 r i)

theorem block_left (c : Dev nD) (t : Fin cfg0.N) (j : Fin 1056) (k : Fin 1024) :
    (iblk m c 0 t : Vec Ideal S1056x1024 .bf16) (ix2 j k) = left m c (row t j) k := by
  obtain ⟨e0, e1, -⟩ := places t
  unfold left
  blk_ext [iblk, V, e0, e1, row]

theorem block_weight (c : Dev nD) (t : Fin cfg0.N) (j : Fin 1024) (k : Fin 1024) :
    (iblk m c 1 t : Vec Ideal S1024x1024 .bf16) (ix2 j k) = weight m c (lane t j) k := by
  obtain ⟨-, -, e0, e1, -⟩ := places t
  unfold weight
  blk_ext [iblk, V, e0, e1, lane]

/-- The gradient, as an array. -/
def grad (c : Dev nD) : Vec Ideal S4224x2048 .f32 := fun i => ∑ k : Fin 1024, left m c (i 0) k * weight m c (i 1) k

/-- What a point writes. -/
theorem written (c : Dev nD) (t : Fin cfg0.N) (j : S1056x1024.Idx) :
    out0_2 (iblk m c 0 t) (iblk m c 1 t) j = grad m c (ix2 (row t (j 0)) (lane t (j 1))) := by
  unfold out0_2
  frame_out
  rw [block]
  exact Finset.sum_congr rfl fun k _ => congrArg₂ (· * ·) (block_left m c t (j 0) k) (block_weight m c t (j 1) k)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, -, -, e0, e1⟩ := places t
  have key : ((cfg0.win 2).blk t).view.emb y = ix2 (row t (y 0)) (lane t (y 1)) := by
    unfold row lane
    blk_ext [e0, e1]
  rw [key]
  blk_simp
  rw [after0_2]
  exact written m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference10Ideal

/-- The reference's result, as an array. -/
theorem result (x : Vec Ideal S4224x1024 .bf16) (w : Vec Ideal S2048x1024 .bf16) :
    Read.val_main_v4 (F := Ideal) x w = (fun i => ∑ k : Fin 1024, x (ix2 (i 0) k) * w (ix2 (i 1) k) : Vec Ideal S4224x2048 .f32) := by
  funext i
  idx_vars i
  unfold Read.val_main_v4 Read.val_main_v3 Read.val_main_v1
  pointwise []

/-- The reference runs, and its arguments end unchanged. -/
theorem frame_reference : Cert.quiescent_Reference10Ideal := fun m ρ _ =>
  (θ_run defs _ _).mono (fun r h => ⟨fun c => (h c).2, sem_eq_zero_of_no_sems (by decide) r.2⟩) (Cert.Reference10Ideal.Value.run m ρ)

end Reference

/-- The kernel's results are the reference's. -/
theorem values : Cert.algebraic_Kernel10Ideal_Reference10Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference10Ideal.Value.run m' ρ')
    obtain ⟨a0, a1⟩ := hagree c
    refine ⟨(h c).1.trans ?_, (h c).2⟩
    rw [Cert.Reference10Ideal.Read.val_main_v4_eq, a0, a1]
    exact result _ _

end Cert.Bwd.BranchDn

end
-- ==== Proof.BranchSbBwd.lean ====
/-
  THE GRADIENT OF THE OTHER BRANCH'S OUTPUT through its product: blocks of a product beside the whole product.
-/
module

public import proofs.«01_k».proof.Proof.Names
public import proofs.«01_k».proof.Defs
public import proofs.«01_k».proof.Proof.Gen.Kernel11Ideal
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pointwise
public import Idealize.ShloMosaic.Lib.Pipeline.ValueKit

@[expose] public section

noncomputable section

namespace Cert.Bwd.BranchSb

open Idealize.ShloMosaic Idealize.ShloMosaic.TcCoe Idealize.SL.Sem
open scoped BigOperators

section Kernel
open Cert.Kernel11Ideal Cert.Kernel11Ideal.Gen

variable (m : (ℓ : Loc nD τ sig) → Buf (Elt Ideal) ℓ)

/-- A point's block of the product. -/
theorem block (x : Vec Ideal S1056x1024 .bf16) (w : Vec Ideal S1024x1024 .bf16) (j : S1056x1024.Idx) :
    k0_pay1 x w j = ∑ k : Fin 1024, x (ix2 (j 0) k) * w (ix2 (j 1) k) := by
  idx_vars j
  pointwise [k0_pay1]

/-- Where the blocks lie at a point. -/
theorem places : ∀ t : Fin cfg0.N, win0_0.index t (0 : Fin 2) = t.val / 1 ∧ win0_0.index t (1 : Fin 2) = 0
    ∧ win0_1.index t (0 : Fin 2) = t.val % 1 ∧ win0_1.index t (1 : Fin 2) = 0
    ∧ win0_2.index t (0 : Fin 2) = t.val / 1 ∧ win0_2.index t (1 : Fin 2) = t.val % 1 :=
  (by decide +kernel : ∀ t : Fin grid0.N, _)

/-- Row `j` of the blocks of point `t`. -/
def row (t : Fin cfg0.N) (j : Fin 1056) : Fin 4224 :=
  ⟨t.val / 1 * 1056 + j.val, by have := lt_of_lt_of_eq t.isLt (show cfg0.N = 4 from N_0); omega⟩

/-- Column `j` of the result's block of point `t`. -/
def lane (t : Fin cfg0.N) (j : Fin 1024) : Fin 1024 :=
  ⟨t.val % 1 * 1024 + j.val, by omega⟩

/-- The left factor, as an array. -/
def left (c : Dev nD) (r : Fin 4224) (i : Fin 1024) : EReal := m ((c : Thread nD τ).loc main_arg0) (ix2 r i)

/-- The weight, as an array. -/
def weight (c : Dev nD) (r : Fin 1024) (i : Fin 1024) : EReal := m ((c : Thread nD τ).loc main_arg1) (ix2 r i)

theorem block_left (c : Dev nD) (t : Fin cfg0.N) (j : Fin 1056) (k : Fin 1024) :
    (iblk m c 0 t : Vec Ideal S1056x1024 .bf16) (ix2 j k) = left m c (row t j) k := by
  obtain ⟨e0, e1, -⟩ := places t
  unfold left
  blk_ext [iblk, V, e0, e1, row]

theorem block_weight (c : Dev nD) (t : Fin cfg0.N) (j : Fin 1024) (k : Fin 1024) :
    (iblk m c 1 t : Vec Ideal S1024x1024 .bf16) (ix2 j k) = weight m c (lane t j) k := by
  obtain ⟨-, -, e0, e1, -⟩ := places t
  unfold weight
  blk_ext [iblk, V, e0, e1, lane]

/-- The gradient, as an array. -/
def grad (c : Dev nD) : Vec Ideal S4224x1024 .bf16 := fun i => ∑ k : Fin 1024, left m c (i 0) k * weight m c (i 1) k

/-- What a point writes. -/
theorem written (c : Dev nD) (t : Fin cfg0.N) (j : S1056x1024.Idx) :
    out0_2 (iblk m c 0 t) (iblk m c 1 t) j = grad m c (ix2 (row t (j 0)) (lane t (j 1))) := by
  unfold out0_2
  frame_out
  rw [block]
  exact Finset.sum_congr rfl fun k _ => congrArg₂ (· * ·) (block_left m c t (j 0) k) (block_weight m c t (j 1) k)

/-- The array the kernel leaves is the gradient. -/
theorem array (c : Dev nD) : (dats m 0 c).arrAt 2 cfg0.N = grad m c := by
  refine (dats m 0 c).arrAt_eq_of_covers 2 _ (by decide +kernel) fun t hf y => ?_
  obtain ⟨-, -, -, -, e0, e1⟩ := places t
  have key : ((cfg0.win 2).blk t).view.emb y = ix2 (row t (y 0)) (lane t (y 1)) := by
    unfold row lane
    blk_ext [e0, e1]
  rw [key]
  blk_simp
  rw [after0_2]
  exact written m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = grad m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Kernel

section Reference
open Cert.Reference11Ideal

/-- The reference's result, as an array. -/
theorem result (x : Vec Ideal S4224x1024 .bf16) (w : Vec Ideal S1024x1024 .bf16) :
    Read.val_main_v5 (F := Ideal) x w = (fun i => ∑ k : Fin 1024, x (ix2 (i 0) k) * w (ix2 (i 1) k) : Vec Ideal S4224x1024 .bf16) := by
  funext i
  idx_vars i
  unfold Read.val_main_v5 Read.val_main_v4 Read.val_main_v3 Read.val_main_v1
  pointwise []

/-- The reference runs, and its arguments end unchanged. -/
theorem frame_reference : Cert.quiescent_Reference11Ideal := fun m ρ _ =>
  (θ_run defs _ _).mono (fun r h => ⟨fun c => (h c).2, sem_eq_zero_of_no_sems (by decide) r.2⟩) (Cert.Reference11Ideal.Value.run m ρ)

end Reference

/-- The kernel's results are the reference's. -/
theorem values : Cert.algebraic_Kernel11Ideal_Reference11Ideal := by
  intro m ρ m' ρ' _ hagree
  refine ⟨fun c => grad m c, ?_, ?_⟩
  · refine (θ_run _ _ _).mono (fun r h c => ?_) (kernel_runs m ρ)
    exact h c
  · refine (θ_run _ _ _).mono (fun r h c => ?_) (Cert.Reference11Ideal.Value.run m' ρ')
    obtain ⟨a0, a1⟩ := hagree c
    refine ⟨(h c).1.trans ?_, (h c).2⟩
    rw [Cert.Reference11Ideal.Read.val_main_v5_eq, a0, a1]
    exact result _ _

end Cert.Bwd.BranchSb

end
-- ==== Proof.MixOutBwd.lean ====
/-
  THE GRADIENTS OF THE TWO BRANCHES AND THEIR GATES, from the mixer's output: blocks of a product with the gates' factors applied in turn, beside the whole product with the gates' derivatives.
-/
module

public import proofs.«01_k».proof.Proof.Names
public import proofs.«01_k».proof.Defs
public import proofs.«01_k».proof.Proof.Gen.Kernel12Ideal
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gates
public import Idealize.ShloMosaic.Lib.Pointwise
public import Idealize.ShloMosaic.Lib.Pipeline.ValueKit

@[expose] public section

noncomputable section

namespace Cert.Bwd.MixOut

open Idealize.ShloMosaic Idealize.ShloMosaic.TcCoe Idealize.SL.Sem
open Cert.Gates
open scoped BigOperators

section Kernel
open Cert.Kernel12Ideal Cert.Kernel12Ideal.Gen

variable (m : (ℓ : Loc nD τ sig) → Buf (Elt Ideal) ℓ)

/-- Row `j` of the blocks of point `t`. -/
def row (t : Fin cfg0.N) (j : Fin 1056) : Fin 4224 :=
  ⟨t.val / 2 * 1056 + j.val, by have := lt_of_lt_of_eq t.isLt (show cfg0.N = 8 from N_0); omega⟩

/-- Column `j` of the blocks of point `t`. -/
def lane (t : Fin cfg0.N) (j : Fin 512) : Fin 1024 :=
  ⟨t.val % 2 * 512 + j.val, by have := lt_of_lt_of_eq t.isLt (show cfg0.N = 8 from N_0); omega⟩

/-- Where the blocks lie at a point. -/
theorem places : ∀ t : Fin cfg0.N, win0_0.index t (0 : Fin 2) = t.val / 2
    ∧ win0_0.index t (1 : Fin 2) = 0
    ∧ win0_1.index t (0 : Fin 2) = t.val % 2
    ∧ win0_1.index t (1 : Fin 2) = 0
    ∧ win0_2.index t (0 : Fin 2) = t.val / 2
    ∧ win0_2.index t (1 : Fin 2) = 18 + t.val % 2
    ∧ win0_3.index t (0 : Fin 2) = t.val / 2
    ∧ win0_3.index t (1 : Fin 2) = 20 + t.val % 2
    ∧ win0_4.index t (0 : Fin 2) = t.val / 2
    ∧ win0_4.index t (1 : Fin 2) = t.val % 2
    ∧ win0_5.index t (0 : Fin 2) = t.val / 2
    ∧ win0_5.index t (1 : Fin 2) = t.val % 2 :=
  (by decide +kernel : ∀ t : Fin grid0.N, _)

/-- Where the blocks lie at a point. -/
theorem places_out : ∀ t : Fin cfg0.N, win0_6.index t (0 : Fin 2) = t.val / 2
    ∧ win0_6.index t (1 : Fin 2) = t.val % 2
    ∧ win0_7.index t (0 : Fin 2) = t.val / 2
    ∧ win0_7.index t (1 : Fin 2) = t.val % 2
    ∧ win0_8.index t (0 : Fin 2) = t.val / 2
    ∧ win0_8.index t (1 : Fin 2) = t.val % 2
    ∧ win0_9.index t (0 : Fin 2) = t.val / 2
    ∧ win0_9.index t (1 : Fin 2) = t.val % 2 :=
  (by decide +kernel : ∀ t : Fin grid0.N, _)

/-- The gradient that arrives, as an array. -/
def upper (c : Dev nD) (r : Fin 4224) (i : Fin 1024) : EReal := m ((c : Thread nD τ).loc main_arg0) (ix2 r i)

/-- The weight, as an array. -/
def weight (c : Dev nD) (r : Fin 1024) (i : Fin 1024) : EReal := m ((c : Thread nD τ).loc main_arg1) (ix2 r i)

/-- The delta branch's gate, as an array: columns of the projection. -/
def gateDn (c : Dev nD) (r : Fin 4224) (i : Fin 1024) : EReal :=
  m ((c : Thread nD τ).loc main_arg2) (ix2 r ⟨9216 + i.val, by omega⟩)

/-- The other branch's gate, as an array: columns of the projection. -/
def gateSb (c : Dev nD) (r : Fin 4224) (i : Fin 1024) : EReal :=
  m ((c : Thread nD τ).loc main_arg2) (ix2 r ⟨10240 + i.val, by omega⟩)

/-- The delta branch, as an array. -/
def outDn (c : Dev nD) (r : Fin 4224) (i : Fin 1024) : EReal := m ((c : Thread nD τ).loc main_arg3) (ix2 r i)

/-- The other branch, as an array. -/
def outSb (c : Dev nD) (r : Fin 4224) (i : Fin 1024) : EReal := m ((c : Thread nD τ).loc main_arg4) (ix2 r i)

theorem block0 (c : Dev nD) (t : Fin cfg0.N) (j : Fin 1056) (k : Fin 1024) :
    (iblk m c 0 t : Vec Ideal S1056x1024 .bf16) (ix2 j k) = upper m c (row t j) k := by
  obtain ⟨e0, e1, -⟩ := places t
  unfold upper
  blk_ext [iblk, V, e0, e1, row]

theorem block1 (c : Dev nD) (t : Fin cfg0.N) (j : Fin 512) (k : Fin 1024) :
    (iblk m c 1 t : Vec Ideal S512x1024 .bf16) (ix2 j k) = weight m c (lane t j) k := by
  obtain ⟨-, -, e0, e1, -⟩ := places t
  unfold weight
  blk_ext [iblk, V, e0, e1, lane]

theorem block2 (c : Dev nD) (t : Fin cfg0.N) (j : Fin 1056) (k : Fin 512) :
    (iblk m c 2 t : Vec Ideal S1056x512 .f32) (ix2 j k) = gateDn m c (row t j) (lane t k) := by
  obtain ⟨-, -, -, -, e0, e1, -⟩ := places t
  unfold gateDn
  blk_ext [iblk, V, e0, e1, lane, row]

theorem block3 (c : Dev nD) (t : Fin cfg0.N) (j : Fin 1056) (k : Fin 512) :
    (iblk m c 3 t : Vec Ideal S1056x512 .f32) (ix2 j k) = gateSb m c (row t j) (lane t k) := by
  obtain ⟨-, -, -, -, -, -, e0, e1, -⟩ := places t
  unfold gateSb
  blk_ext [iblk, V, e0, e1, lane, row]

theorem block4 (c : Dev nD) (t : Fin cfg0.N) (j : Fin 1056) (k : Fin 512) :
    (iblk m c 4 t : Vec Ideal S1056x512 .f32) (ix2 j k) = outDn m c (row t j) (lane t k) := by
  obtain ⟨-, -, -, -, -, -, -, -, e0, e1, -⟩ := places t
  unfold outDn
  blk_ext [iblk, V, e0, e1, lane, row]

theorem block5 (c : Dev nD) (t : Fin cfg0.N) (j : Fin 1056) (k : Fin 512) :
    (iblk m c 5 t : Vec Ideal S1056x512 .f32) (ix2 j k) = outSb m c (row t j) (lane t k) := by
  obtain ⟨-, -, -, -, -, -, -, -, -, -, e0, e1⟩ := places t
  unfold outSb
  blk_ext [iblk, V, e0, e1, lane, row]

/-- A block of the product with the weight. -/
def dot (x : Vec Ideal S1056x1024 .bf16) (w : Vec Ideal S512x1024 .bf16) (j : Fin 1056) (k : Fin 512) : EReal :=
  ∑ i : Fin 1024, x (ix2 j i) * w (ix2 k i)

/-- A point's block of the product with the weight. -/
theorem product (c : Dev nD) (t : Fin cfg0.N) (j : Fin 1056) (k : Fin 512) :
    dot (iblk m c 0 t) (iblk m c 1 t) j k = rows (upper m c) (weight m c) (row t j) (lane t k) :=
  Finset.sum_congr rfl fun i _ => congrArg₂ (· * ·) (block0 m c t j i) (block1 m c t k i)

/-- The gradient of the delta branch, as an array. -/
def branchDn (c : Dev nD) : Vec Ideal S4224x1024 .bf16 := fun i =>
  branchGrad (rows (upper m c) (weight m c) (i 0) (i 1)) (gateDn m c (i 0) (i 1))

/-- What a point computes of it. -/
theorem point6 (x : Vec Ideal S1056x1024 .bf16) (w : Vec Ideal S512x1024 .bf16) (g : Vec Ideal S1056x512 .f32) (j : S1056x512.Idx) :
    k0_pay5 x w g j = branchGrad (dot x w (j 0) (j 1)) (g j) := by
  rw [← branchGrad_eq]
  unfold dot
  idx_vars j
  pointwise [k0_pay5, k0_pay2, k0_pay3]

theorem written6 (c : Dev nD) (t : Fin cfg0.N) (j : S1056x512.Idx) :
    out0_6 (iblk m c 0 t) (iblk m c 1 t) (iblk m c 2 t) (iblk m c 3 t) (iblk m c 4 t) (iblk m c 5 t) j = branchDn m c (ix2 (row t (j 0)) (lane t (j 1))) := by
  unfold out0_6
  frame_out
  rw [point6]
  idx_vars j
  exact congrArg₂ branchGrad (product m c t _ _) (block2 m c t _ _)

/-- The gradient of the other branch, as an array. -/
def branchSb (c : Dev nD) : Vec Ideal S4224x1024 .bf16 := fun i =>
  branchGrad (rows (upper m c) (weight m c) (i 0) (i 1)) (gateSb m c (i 0) (i 1))

/-- What a point computes of it. -/
theorem point7 (x : Vec Ideal S1056x1024 .bf16) (w : Vec Ideal S512x1024 .bf16) (g : Vec Ideal S1056x512 .f32) (j : S1056x512.Idx) :
    k0_pay6 x w g j = branchGrad (dot x w (j 0) (j 1)) (g j) := by
  rw [← branchGrad_eq]
  unfold dot
  idx_vars j
  pointwise [k0_pay6, k0_pay2, k0_pay4]

theorem written7 (c : Dev nD) (t : Fin cfg0.N) (j : S1056x512.Idx) :
    out0_7 (iblk m c 0 t) (iblk m c 1 t) (iblk m c 2 t) (iblk m c 3 t) (iblk m c 4 t) (iblk m c 5 t) j = branchSb m c (ix2 (row t (j 0)) (lane t (j 1))) := by
  unfold out0_7
  frame_out
  rw [point7]
  idx_vars j
  exact congrArg₂ branchGrad (product m c t _ _) (block3 m c t _ _)

/-- The gradient of the delta branch's gate, as an array. -/
def gradDn (c : Dev nD) : Vec Ideal S4224x1024 .bf16 := fun i =>
  gateGrad (rows (upper m c) (weight m c) (i 0) (i 1)) (outDn m c (i 0) (i 1)) (gateDn m c (i 0) (i 1))

/-- What a point computes of it. -/
theorem point8 (x : Vec Ideal S1056x1024 .bf16) (w : Vec Ideal S512x1024 .bf16) (g : Vec Ideal S1056x512 .f32) (b : Vec Ideal S1056x512 .f32) (j : S1056x512.Idx) :
    k0_pay7 x w g b j = gateGrad (dot x w (j 0) (j 1)) (b j) (g j) := by
  rw [← gateGrad_eq]
  unfold dot
  idx_vars j
  pointwise [k0_pay7, k0_pay2, k0_pay3]

theorem written8 (c : Dev nD) (t : Fin cfg0.N) (j : S1056x512.Idx) :
    out0_8 (iblk m c 0 t) (iblk m c 1 t) (iblk m c 2 t) (iblk m c 3 t) (iblk m c 4 t) (iblk m c 5 t) j = gradDn m c (ix2 (row t (j 0)) (lane t (j 1))) := by
  unfold out0_8
  frame_out
  rw [point8]
  idx_vars j
  exact gateGrad_congr (product m c t _ _) (block4 m c t _ _) (block2 m c t _ _)

/-- The gradient of the other branch's gate, as an array. -/
def gradSb (c : Dev nD) : Vec Ideal S4224x1024 .bf16 := fun i =>
  gateGrad (rows (upper m c) (weight m c) (i 0) (i 1)) (outSb m c (i 0) (i 1)) (gateSb m c (i 0) (i 1))

/-- What a point computes of it. -/
theorem point9 (x : Vec Ideal S1056x1024 .bf16) (w : Vec Ideal S512x1024 .bf16) (g : Vec Ideal S1056x512 .f32) (b : Vec Ideal S1056x512 .f32) (j : S1056x512.Idx) :
    k0_pay1 (k0_pay2 x w) (k0_pay4 g) b j = gateGrad (dot x w (j 0) (j 1)) (b j) (g j) := by
  rw [← gateGrad_eq]
  unfold dot
  idx_vars j
  pointwise [k0_pay1, k0_pay2, k0_pay4]

theorem written9 (c : Dev nD) (t : Fin cfg0.N) (j : S1056x512.Idx) :
    out0_9 (iblk m c 0 t) (iblk m c 1 t) (iblk m c 2 t) (iblk m c 3 t) (iblk m c 4 t) (iblk m c 5 t) j = gradSb m c (ix2 (row t (j 0)) (lane t (j 1))) := by
  unfold out0_9
  frame_out
  rw [point9]
  idx_vars j
  exact gateGrad_congr (product m c t _ _) (block5 m c t _ _) (block3 m c t _ _)

/-- The array the kernel leaves in window 6 is that. -/
theorem array6 (c : Dev nD) : (dats m 0 c).arrAt 6 cfg0.N = branchDn m c := by
  refine (dats m 0 c).arrAt_eq_of_covers 6 _ (by decide +kernel) fun t hf y => ?_
  obtain ⟨e0, e1, -⟩ := places_out t
  have key : ((cfg0.win 6).blk t).view.emb y = ix2 (row t (y 0)) (lane t (y 1)) := by
    unfold row lane
    blk_ext [e0, e1]
  rw [key]
  blk_simp
  rw [after0_6]
  exact written6 m c t y

/-- The array the kernel leaves in window 7 is that. -/
theorem array7 (c : Dev nD) : (dats m 0 c).arrAt 7 cfg0.N = branchSb m c := by
  refine (dats m 0 c).arrAt_eq_of_covers 7 _ (by decide +kernel) fun t hf y => ?_
  obtain ⟨-, -, e0, e1, -⟩ := places_out t
  have key : ((cfg0.win 7).blk t).view.emb y = ix2 (row t (y 0)) (lane t (y 1)) := by
    unfold row lane
    blk_ext [e0, e1]
  rw [key]
  blk_simp
  rw [after0_7]
  exact written7 m c t y

/-- The array the kernel leaves in window 8 is that. -/
theorem array8 (c : Dev nD) : (dats m 0 c).arrAt 8 cfg0.N = gradDn m c := by
  refine (dats m 0 c).arrAt_eq_of_covers 8 _ (by decide +kernel) fun t hf y => ?_
  obtain ⟨-, -, -, -, e0, e1, -⟩ := places_out t
  have key : ((cfg0.win 8).blk t).view.emb y = ix2 (row t (y 0)) (lane t (y 1)) := by
    unfold row lane
    blk_ext [e0, e1]
  rw [key]
  blk_simp
  rw [after0_8]
  exact written8 m c t y

/-- The array the kernel leaves in window 9 is that. -/
theorem array9 (c : Dev nD) : (dats m 0 c).arrAt 9 cfg0.N = gradSb m c := by
  refine (dats m 0 c).arrAt_eq_of_covers 9 _ (by decide +kernel) fun t hf y => ?_
  obtain ⟨-, -, -, -, -, -, e0, e1⟩ := places_out t
  have key : ((cfg0.win 9).blk t).view.emb y = ix2 (row t (y 0)) (lane t (y 1)) := by
    unfold row lane
    blk_ext [e0, e1]
  rw [key]
  blk_simp
  rw [after0_9]
  exact written9 m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = branchDn m c
      ∧ r.2.mem ((c : Thread nD τ).loc main_v0_1) = branchSb m c
      ∧ r.2.mem ((c : Thread nD τ).loc main_v0_2) = gradDn m c
      ∧ r.2.mem ((c : Thread nD τ).loc main_v0_3) = gradSb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (array6 m c),
      ((h c).1 7).trans (array7 m c),
      ((h c).1 8).trans (array8 m c),
      ((h c).1 9).trans (array9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩) (run_main m ρ)

end Kernel

section Reference
open Cert.Reference12Ideal

/-- The gradient of the delta branch, as the reference has it. -/
theorem result6 (x0 : Vec Ideal S4224x1024 .bf16) (x1 : Vec Ideal S1024x1024 .bf16) (x2 : Vec Ideal S4224x11264 .f32) :
    Read.val_main_v33 (F := Ideal) x0 x1 x2 = (fun i => branchGrad (rows (fun r k => x0 (ix2 r k)) (fun r k => x1 (ix2 r k)) (i 0) (i 1))
      (x2 (ix2 (i 0) ⟨9216 + (i 1).val, by have := (i 1).isLt; simp at this; omega⟩)) : Vec Ideal S4224x1024 .bf16) := by
  funext i
  idx_vars i
  unfold Read.val_main_v33 Read.val_main_v30 Read.val_main_v26 Read.val_main_v25 Read.val_main_v23 Read.val_main_v7 Read.val_main_v6 Read.val_main_cst_0 Read.val_main_v5 Read.val_main_v4 Read.val_main_cst Read.val_main_v3 Read.val_main_v2 Read.val_main_v0
  pointwise [branchGrad, gate, rows]

/-- The gradient of the other branch, as the reference has it. -/
theorem result7 (x0 : Vec Ideal S4224x1024 .bf16) (x1 : Vec Ideal S1024x1024 .bf16) (x2 : Vec Ideal S4224x11264 .f32) :
    Read.val_main_v34 (F := Ideal) x0 x1 x2 = (fun i => branchGrad (rows (fun r k => x0 (ix2 r k)) (fun r k => x1 (ix2 r k)) (i 0) (i 1))
      (x2 (ix2 (i 0) ⟨10240 + (i 1).val, by have := (i 1).isLt; simp at this; omega⟩)) : Vec Ideal S4224x1024 .bf16) := by
  funext i
  idx_vars i
  unfold Read.val_main_v34 Read.val_main_v27 Read.val_main_v26 Read.val_main_v25 Read.val_main_v23 Read.val_main_v17 Read.val_main_v16 Read.val_main_cst_3 Read.val_main_v15 Read.val_main_v14 Read.val_main_cst_2 Read.val_main_v13 Read.val_main_v12 Read.val_main_v1
  pointwise [branchGrad, gate, rows]

/-- The gradient of the delta branch's gate, as the reference has it. -/
theorem result8 (x0 : Vec Ideal S4224x1024 .bf16) (x1 : Vec Ideal S1024x1024 .bf16) (x2 : Vec Ideal S4224x11264 .f32) (x3 : Vec Ideal S4224x1024 .f32) :
    Read.val_main_v35 (F := Ideal) x0 x1 x2 x3 = (fun i => gateGrad (rows (fun r k => x0 (ix2 r k)) (fun r k => x1 (ix2 r k)) (i 0) (i 1)) (x3 (ix2 (i 0) (i 1)))
      (x2 (ix2 (i 0) ⟨9216 + (i 1).val, by have := (i 1).isLt; simp at this; omega⟩)) : Vec Ideal S4224x1024 .bf16) := by
  funext i
  idx_vars i
  unfold Read.val_main_v35 Read.val_main_v32 Read.val_main_v31 Read.val_main_v26 Read.val_main_v25 Read.val_main_v23 Read.val_main_v10 Read.val_main_v9 Read.val_main_v8 Read.val_main_cst_1 Read.val_main_v7 Read.val_main_v6 Read.val_main_cst_0 Read.val_main_v5 Read.val_main_v4 Read.val_main_cst Read.val_main_v3 Read.val_main_v2 Read.val_main_v0
  pointwise [gateGrad, gate, rows]

/-- The gradient of the other branch's gate, as the reference has it. -/
theorem result9 (x0 : Vec Ideal S4224x1024 .bf16) (x1 : Vec Ideal S1024x1024 .bf16) (x2 : Vec Ideal S4224x11264 .f32) (x4 : Vec Ideal S4224x1024 .f32) :
    Read.val_main_v36 (F := Ideal) x0 x1 x2 x4 = (fun i => gateGrad (rows (fun r k => x0 (ix2 r k)) (fun r k => x1 (ix2 r k)) (i 0) (i 1)) (x4 (ix2 (i 0) (i 1)))
      (x2 (ix2 (i 0) ⟨10240 + (i 1).val, by have := (i 1).isLt; simp at this; omega⟩)) : Vec Ideal S4224x1024 .bf16) := by
  funext i
  idx_vars i
  unfold Read.val_main_v36 Read.val_main_v29 Read.val_main_v28 Read.val_main_v26 Read.val_main_v25 Read.val_main_v23 Read.val_main_v20 Read.val_main_v19 Read.val_main_v18 Read.val_main_cst_4 Read.val_main_v17 Read.val_main_v16 Read.val_main_cst_3 Read.val_main_v15 Read.val_main_v14 Read.val_main_cst_2 Read.val_main_v13 Read.val_main_v12 Read.val_main_v1
  pointwise [gateGrad, gate, rows]

/-- The reference runs, and its arguments end unchanged. -/
theorem frame_reference : Cert.quiescent_Reference12Ideal := fun m ρ _ =>
  (θ_run defs _ _).mono (fun r h => ⟨fun c => (h c).2.2.2.2, sem_eq_zero_of_no_sems (by decide) r.2⟩) (Cert.Reference12Ideal.Value.run m ρ)

end Reference

/-- The kernel's results are the reference's. -/
theorem values : Cert.algebraic_Kernel12Ideal_Reference12Ideal := by
  intro m ρ m' ρ' _ hagree
  refine ⟨fun c => branchDn m c, fun c => branchSb m c, fun c => gradDn m c, fun c => gradSb m c, ?_, ?_⟩
  · refine (θ_run _ _ _).mono (fun r h c => ?_) (kernel_runs m ρ)
    exact h c
  · refine (θ_run _ _ _).mono (fun r h c => ?_) (Cert.Reference12Ideal.Value.run m' ρ')
    obtain ⟨a0, a1, a2, a3, a4⟩ := hagree c
    refine ⟨(h c).1.trans ?_, (h c).2.1.trans ?_, (h c).2.2.1.trans ?_, (h c).2.2.2.1.trans ?_, (h c).2.2.2.2⟩
    · rw [Cert.Reference12Ideal.Read.val_main_v33_eq, a0, a1, a2]
      exact result6 _ _ _
    · rw [Cert.Reference12Ideal.Read.val_main_v34_eq, a0, a1, a2]
      exact result7 _ _ _
    · rw [Cert.Reference12Ideal.Read.val_main_v35_eq, a0, a1, a2, a3]
      exact result8 _ _ _ _
    · rw [Cert.Reference12Ideal.Read.val_main_v36_eq, a0, a1, a2, a4]
      exact result9 _ _ _ _

end Cert.Bwd.MixOut

end
-- ==== Proof.MixOut.lean ====
/-
  THE MIXER'S OUTPUT ADDED TO ITS INPUT: blocks of a product beside the whole product.
-/
module

public import proofs.«01_k».proof.Proof.Names
public import proofs.«01_k».proof.Defs
public import proofs.«01_k».proof.Proof.Gen.Kernel13Ideal
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gates
public import Idealize.ShloMosaic.Lib.Pointwise
public import Idealize.ShloMosaic.Lib.Pipeline.ValueKit

@[expose] public section

noncomputable section

namespace Cert.Fwd.MixOut

open Idealize.ShloMosaic Idealize.ShloMosaic.TcCoe Idealize.SL.Sem
open Cert.Gates
open scoped BigOperators

section Kernel
open Cert.Kernel13Ideal Cert.Kernel13Ideal.Gen

variable (m : (ℓ : Loc nD τ sig) → Buf (Elt Ideal) ℓ)

/-- Row `j` of the blocks of point `t`. -/
def row (t : Fin cfg0.N) (j : Fin 1056) : Fin 4224 :=
  ⟨t.val * 1056 + j.val, by have := lt_of_lt_of_eq t.isLt (show cfg0.N = 4 from N_0); omega⟩

/-- Where the blocks lie at a point. -/
theorem places : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The input, as an array. -/
def input (c : Dev nD) (r : Fin 4224) (i : Fin 1024) : EReal := m ((c : Thread nD τ).loc main_arg0) (ix2 r i)

/-- The merged branches, as an array. -/
def merged (c : Dev nD) (r : Fin 4224) (i : Fin 1024) : EReal := m ((c : Thread nD τ).loc main_arg1) (ix2 r i)

/-- The weight, as an array. -/
def weight (c : Dev nD) (r : Fin 1024) (i : Fin 1024) : EReal := m ((c : Thread nD τ).loc main_arg2) (ix2 r i)

theorem block0 (c : Dev nD) (t : Fin cfg0.N) (j : Fin 1056) (k : Fin 1024) :
    (iblk m c 0 t : Vec Ideal S1056x1024 .f32) (ix2 j k) = input m c (row t j) k := by
  obtain ⟨e0, e1, -⟩ := places t
  unfold input
  blk_ext [iblk, V, e0, e1, row]

theorem block1 (c : Dev nD) (t : Fin cfg0.N) (j : Fin 1056) (k : Fin 1024) :
    (iblk m c 1 t : Vec Ideal S1056x1024 .bf16) (ix2 j k) = merged m c (row t j) k := by
  obtain ⟨-, -, e0, e1, -⟩ := places t
  unfold merged
  blk_ext [iblk, V, e0, e1, row]

theorem block2 (c : Dev nD) (t : Fin cfg0.N) (j : Fin 1024) (k : Fin 1024) :
    (iblk m c 2 t : Vec Ideal S1024x1024 .bf16) (ix2 j k) = weight m c j k := by
  obtain ⟨-, -, -, -, e0, e1, -⟩ := places t
  unfold weight
  blk_ext [iblk, V, e0, e1]

/-- What a point computes of its blocks. -/
def dot (h : Vec Ideal S1056x1024 .f32) (x : Vec Ideal S1056x1024 .bf16) (w : Vec Ideal S1024x1024 .bf16) (j : Fin 1056) (k : Fin 1024) : EReal :=
  h (ix2 j k) + ∑ i : Fin 1024, x (ix2 j i) * w (ix2 i k)

theorem point (h : Vec Ideal S1056x1024 .f32) (x : Vec Ideal S1056x1024 .bf16) (w : Vec Ideal S1024x1024 .bf16) (j : S1056x1024.Idx) :
    k0_pay1 h x w j = dot h x w (j 0) (j 1) := by
  unfold dot
  idx_vars j
  pointwise [k0_pay1]

/-- The result, as an array. -/
def sum (c : Dev nD) : Vec Ideal S4224x1024 .f32 := fun i => input m c (i 0) (i 1) + cols (merged m c) (weight m c) (i 0) (i 1)

theorem written3 (c : Dev nD) (t : Fin cfg0.N) (j : S1056x1024.Idx) :
    out0_3 (iblk m c 0 t) (iblk m c 1 t) (iblk m c 2 t) j = sum m c (ix2 (row t (j 0)) (j 1)) := by
  unfold out0_3
  frame_out
  rw [point]
  exact congrArg₂ (· + ·) (block0 m c t _ _) (Finset.sum_congr rfl fun i _ => congrArg₂ (· * ·) (block1 m c t _ i) (block2 m c t i _))

/-- The array the kernel leaves in window 3 is that. -/
theorem array3 (c : Dev nD) : (dats m 0 c).arrAt 3 cfg0.N = sum m c := by
  refine (dats m 0 c).arrAt_eq_of_covers 3 _ (by decide +kernel) fun t hf y => ?_
  obtain ⟨-, -, -, -, -, -, e0, e1⟩ := places t
  have key : ((cfg0.win 3).blk t).view.emb y = ix2 (row t (y 0)) (y 1) := by
    unfold row
    blk_ext [e0, e1]
  rw [key]
  blk_simp
  rw [after0_3]
  exact written3 m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0) = sum m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (array3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Kernel

section Reference
open Cert.Reference13Ideal

/-- The reference's result, as an array. -/
theorem result (x0 : Vec Ideal S4224x1024 .f32) (x1 : Vec Ideal S4224x1024 .bf16) (x2 : Vec Ideal S1024x1024 .bf16) :
    Read.val_main_v3 (F := Ideal) x0 x1 x2 = (fun i => x0 (ix2 (i 0) (i 1)) + cols (fun r k => x1 (ix2 r k)) (fun r k => x2 (ix2 r k)) (i 0) (i 1)
      : Vec Ideal S4224x1024 .f32) := by
  funext i
  idx_vars i
  unfold Read.val_main_v3 Read.val_main_v2 Read.val_main_v1 Read.val_main_v0
  pointwise [cols]

/-- The reference runs, and its arguments end unchanged. -/
theorem frame_reference : Cert.quiescent_Reference13Ideal := fun m ρ _ =>
  (θ_run defs _ _).mono (fun r h => ⟨fun c => (h c).2, sem_eq_zero_of_no_sems (by decide) r.2⟩) (Cert.Reference13Ideal.Value.run m ρ)

end Reference

/-- The kernel's results are the reference's. -/
theorem values : Cert.algebraic_Kernel13Ideal_Reference13Ideal := by
  intro m ρ m' ρ' _ hagree
  refine ⟨fun c => sum m c, ?_, ?_⟩
  · refine (θ_run _ _ _).mono (fun r h c => ?_) (kernel_runs m ρ)
    exact h c
  · refine (θ_run _ _ _).mono (fun r h c => ?_) (Cert.Reference13Ideal.Value.run m' ρ')
    obtain ⟨a0, a1, a2⟩ := hagree c
    refine ⟨(h c).1.trans ?_, (h c).2⟩
    rw [Cert.Reference13Ideal.Read.val_main_v3_eq, a0, a1, a2]
    exact result _ _ _

end Cert.Fwd.MixOut

end
-- ==== Proof.Merge.lean ====
/-
  THE TWO BRANCHES' OUTPUT PRODUCTS AND THEIR GATED SUM: blocks of two products beside the whole products.
-/
module

public import proofs.«01_k».proof.Proof.Names
public import proofs.«01_k».proof.Defs
public import proofs.«01_k».proof.Proof.Gen.Kernel14Ideal
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gates
public import Idealize.ShloMosaic.Lib.Pointwise
public import Idealize.ShloMosaic.Lib.Pipeline.ValueKit

@[expose] public section

noncomputable section

namespace Cert.Fwd.Merge

open Idealize.ShloMosaic Idealize.ShloMosaic.TcCoe Idealize.SL.Sem
open Cert.Gates
open scoped BigOperators

section Kernel
open Cert.Kernel14Ideal Cert.Kernel14Ideal.Gen

variable (m : (ℓ : Loc nD τ sig) → Buf (Elt Ideal) ℓ)

/-- Row `j` of the blocks of point `t`. -/
def row (t : Fin cfg0.N) (j : Fin 1056) : Fin 4224 :=
  ⟨t.val / 2 * 1056 + j.val, by have := lt_of_lt_of_eq t.isLt (show cfg0.N = 8 from N_0); omega⟩

/-- Column `j` of the blocks of point `t`. -/
def lane (t : Fin cfg0.N) (j : Fin 512) : Fin 1024 :=
  ⟨t.val % 2 * 512 + j.val, by have := lt_of_lt_of_eq t.isLt (show cfg0.N = 8 from N_0); omega⟩

/-- Where the blocks lie at a point. -/
theorem places : ∀ t : Fin cfg0.N, win0_0.index t (0 : Fin 2) = t.val / 2
    ∧ win0_0.index t (1 : Fin 2) = 0
    ∧ win0_1.index t (0 : Fin 2) = t.val / 2
    ∧ win0_1.index t (1 : Fin 2) = 0
    ∧ win0_2.index t (0 : Fin 2) = 0
    ∧ win0_2.index t (1 : Fin 2) = t.val % 2
    ∧ win0_3.index t (0 : Fin 2) = 0
    ∧ win0_3.index t (1 : Fin 2) = t.val % 2
    ∧ win0_4.index t (0 : Fin 2) = t.val / 2
    ∧ win0_4.index t (1 : Fin 2) = 18 + t.val % 2
    ∧ win0_5.index t (0 : Fin 2) = t.val / 2
    ∧ win0_5.index t (1 : Fin 2) = 20 + t.val % 2 :=
  (by decide +kernel : ∀ t : Fin grid0.N, _)

/-- Where the blocks lie at a point. -/
theorem places_out : ∀ t : Fin cfg0.N, win0_6.index t (0 : Fin 2) = t.val / 2
    ∧ win0_6.index t (1 : Fin 2) = t.val % 2
    ∧ win0_7.index t (0 : Fin 2) = t.val / 2
    ∧ win0_7.index t (1 : Fin 2) = t.val % 2
    ∧ win0_8.index t (0 : Fin 2) = t.val / 2
    ∧ win0_8.index t (1 : Fin 2) = t.val % 2 :=
  (by decide +kernel : ∀ t : Fin grid0.N, _)

/-- The delta branch before its product, as an array. -/
def outDn (c : Dev nD) (r : Fin 4224) (i : Fin 2048) : EReal := m ((c : Thread nD τ).loc main_arg0) (ix2 r i)

/-- The other branch before its product, as an array. -/
def outSb (c : Dev nD) (r : Fin 4224) (i : Fin 1024) : EReal := m ((c : Thread nD τ).loc main_arg1) (ix2 r i)

/-- The delta branch's weight, as an array. -/
def weightDn (c : Dev nD) (r : Fin 2048) (i : Fin 1024) : EReal := m ((c : Thread nD τ).loc main_arg2) (ix2 r i)

/-- The other branch's weight, as an array. -/
def weightSb (c : Dev nD) (r : Fin 1024) (i : Fin 1024) : EReal := m ((c : Thread nD τ).loc main_arg3) (ix2 r i)

/-- The delta branch's gate, as an array: columns of the projection. -/
def gateDn (c : Dev nD) (r : Fin 4224) (i : Fin 1024) : EReal :=
  m ((c : Thread nD τ).loc main_arg4) (ix2 r ⟨9216 + i.val, by omega⟩)

/-- The other branch's gate, as an array: columns of the projection. -/
def gateSb (c : Dev nD) (r : Fin 4224) (i : Fin 1024) : EReal :=
  m ((c : Thread nD τ).loc main_arg4) (ix2 r ⟨10240 + i.val, by omega⟩)

theorem block0 (c : Dev nD) (t : Fin cfg0.N) (j : Fin 1056) (k : Fin 2048) :
    (iblk m c 0 t : Vec Ideal S1056x2048 .bf16) (ix2 j k) = outDn m c (row t j) k := by
  obtain ⟨e0, e1, -⟩ := places t
  unfold outDn
  blk_ext [iblk, V, e0, e1, row]

theorem block1 (c : Dev nD) (t : Fin cfg0.N) (j : Fin 1056) (k : Fin 1024) :
    (iblk m c 1 t : Vec Ideal S1056x1024 .bf16) (ix2 j k) = outSb m c (row t j) k := by
  obtain ⟨-, -, e0, e1, -⟩ := places t
  unfold outSb
  blk_ext [iblk, V, e0, e1, row]

theorem block2 (c : Dev nD) (t : Fin cfg0.N) (j : Fin 2048) (k : Fin 512) :
    (iblk m c 2 t : Vec Ideal S2048x512 .bf16) (ix2 j k) = weightDn m c j (lane t k) := by
  obtain ⟨-, -, -, -, e0, e1, -⟩ := places t
  unfold weightDn
  blk_ext [iblk, V, e0, e1, lane]

theorem block3 (c : Dev nD) (t : Fin cfg0.N) (j : Fin 1024) (k : Fin 512) :
    (iblk m c 3 t : Vec Ideal S1024x512 .bf16) (ix2 j k) = weightSb m c j (lane t k) := by
  obtain ⟨-, -, -, -, -, -, e0, e1, -⟩ := places t
  unfold weightSb
  blk_ext [iblk, V, e0, e1, lane]

theorem block4 (c : Dev nD) (t : Fin cfg0.N) (j : Fin 1056) (k : Fin 512) :
    (iblk m c 4 t : Vec Ideal S1056x512 .f32) (ix2 j k) = gateDn m c (row t j) (lane t k) := by
  obtain ⟨-, -, -, -, -, -, -, -, e0, e1, -⟩ := places t
  unfold gateDn
  blk_ext [iblk, V, e0, e1, lane, row]

theorem block5 (c : Dev nD) (t : Fin cfg0.N) (j : Fin 1056) (k : Fin 512) :
    (iblk m c 5 t : Vec Ideal S1056x512 .f32) (ix2 j k) = gateSb m c (row t j) (lane t k) := by
  obtain ⟨-, -, -, -, -, -, -, -, -, -, e0, e1⟩ := places t
  unfold gateSb
  blk_ext [iblk, V, e0, e1, lane, row]

/-- A block of a branch's product. -/
def dotDn (x : Vec Ideal S1056x2048 .bf16) (w : Vec Ideal S2048x512 .bf16) (j : Fin 1056) (k : Fin 512) : EReal :=
  ∑ i : Fin 2048, x (ix2 j i) * w (ix2 i k)

theorem point_dotDn (x : Vec Ideal S1056x2048 .bf16) (w : Vec Ideal S2048x512 .bf16) (j : S1056x512.Idx) :
    k0_pay1 x w j = dotDn x w (j 0) (j 1) := by
  unfold dotDn
  idx_vars j
  pointwise [k0_pay1]

theorem product_dotDn (c : Dev nD) (t : Fin cfg0.N) (j : Fin 1056) (k : Fin 512) :
    dotDn (iblk m c 0 t) (iblk m c 2 t) j k = cols (outDn m c) (weightDn m c) (row t j) (lane t k) :=
  Finset.sum_congr rfl fun i _ => congrArg₂ (· * ·) (block0 m c t j i) (block2 m c t i k)

/-- A block of a branch's product. -/
def dotSb (x : Vec Ideal S1056x1024 .bf16) (w : Vec Ideal S1024x512 .bf16) (j : Fin 1056) (k : Fin 512) : EReal :=
  ∑ i : Fin 1024, x (ix2 j i) * w (ix2 i k)

theorem point_dotSb (x : Vec Ideal S1056x1024 .bf16) (w : Vec Ideal S1024x512 .bf16) (j : S1056x512.Idx) :
    k0_pay2 x w j = dotSb x w (j 0) (j 1) := by
  unfold dotSb
  idx_vars j
  pointwise [k0_pay2]

theorem product_dotSb (c : Dev nD) (t : Fin cfg0.N) (j : Fin 1056) (k : Fin 512) :
    dotSb (iblk m c 1 t) (iblk m c 3 t) j k = cols (outSb m c) (weightSb m c) (row t j) (lane t k) :=
  Finset.sum_congr rfl fun i _ => congrArg₂ (· * ·) (block1 m c t j i) (block3 m c t i k)

/-- The gated sum of two blocks. -/
theorem point_merge (x : Vec Ideal S1056x2048 .bf16) (w : Vec Ideal S2048x512 .bf16) (y : Vec Ideal S1056x1024 .bf16) (v : Vec Ideal S1024x512 .bf16)
    (g h : Vec Ideal S1056x512 .f32) (j : S1056x512.Idx) :
    k0_pay3 x w y v g h j = merge (g j) (dotDn x w (j 0) (j 1)) (h j) (dotSb y v (j 0) (j 1)) := by
  rw [← merge_eq]
  unfold dotDn dotSb
  idx_vars j
  pointwise [k0_pay3, k0_pay1, k0_pay2]

/-- The delta branch's product, as an array. -/
def branchDn (c : Dev nD) : Vec Ideal S4224x1024 .f32 := fun i => cols (outDn m c) (weightDn m c) (i 0) (i 1)

/-- The other branch's product, as an array. -/
def branchSb (c : Dev nD) : Vec Ideal S4224x1024 .f32 := fun i => cols (outSb m c) (weightSb m c) (i 0) (i 1)

/-- The gated sum, as an array. -/
def merged (c : Dev nD) : Vec Ideal S4224x1024 .bf16 := fun i =>
  merge (gateDn m c (i 0) (i 1)) (cols (outDn m c) (weightDn m c) (i 0) (i 1)) (gateSb m c (i 0) (i 1)) (cols (outSb m c) (weightSb m c) (i 0) (i 1))

theorem written6 (c : Dev nD) (t : Fin cfg0.N) (j : S1056x512.Idx) :
    out0_6 (iblk m c 0 t) (iblk m c 1 t) (iblk m c 2 t) (iblk m c 3 t) (iblk m c 4 t) (iblk m c 5 t) j = merged m c (ix2 (row t (j 0)) (lane t (j 1))) := by
  unfold out0_6
  frame_out
  rw [point_merge]
  idx_vars j
  exact merge_congr (block4 m c t _ _) (product_dotDn m c t _ _) (block5 m c t _ _) (product_dotSb m c t _ _)

theorem written7 (c : Dev nD) (t : Fin cfg0.N) (j : S1056x512.Idx) :
    out0_7 (iblk m c 0 t) (iblk m c 1 t) (iblk m c 2 t) (iblk m c 3 t) (iblk m c 4 t) (iblk m c 5 t) j = branchDn m c (ix2 (row t (j 0)) (lane t (j 1))) := by
  unfold out0_7
  frame_out
  rw [point_dotDn]
  idx_vars j
  exact product_dotDn m c t _ _

theorem written8 (c : Dev nD) (t : Fin cfg0.N) (j : S1056x512.Idx) :
    out0_8 (iblk m c 0 t) (iblk m c 1 t) (iblk m c 2 t) (iblk m c 3 t) (iblk m c 4 t) (iblk m c 5 t) j = branchSb m c (ix2 (row t (j 0)) (lane t (j 1))) := by
  unfold out0_8
  frame_out
  rw [point_dotSb]
  idx_vars j
  exact product_dotSb m c t _ _

/-- The array the kernel leaves in window 6 is that. -/
theorem array6 (c : Dev nD) : (dats m 0 c).arrAt 6 cfg0.N = merged m c := by
  refine (dats m 0 c).arrAt_eq_of_covers 6 _ (by decide +kernel) fun t hf y => ?_
  obtain ⟨e0, e1, -⟩ := places_out t
  have key : ((cfg0.win 6).blk t).view.emb y = ix2 (row t (y 0)) (lane t (y 1)) := by
    unfold row lane
    blk_ext [e0, e1]
  rw [key]
  blk_simp
  rw [after0_6]
  exact written6 m c t y

/-- The array the kernel leaves in window 7 is that. -/
theorem array7 (c : Dev nD) : (dats m 0 c).arrAt 7 cfg0.N = branchDn m c := by
  refine (dats m 0 c).arrAt_eq_of_covers 7 _ (by decide +kernel) fun t hf y => ?_
  obtain ⟨-, -, e0, e1, -⟩ := places_out t
  have key : ((cfg0.win 7).blk t).view.emb y = ix2 (row t (y 0)) (lane t (y 1)) := by
    unfold row lane
    blk_ext [e0, e1]
  rw [key]
  blk_simp
  rw [after0_7]
  exact written7 m c t y

/-- The array the kernel leaves in window 8 is that. -/
theorem array8 (c : Dev nD) : (dats m 0 c).arrAt 8 cfg0.N = branchSb m c := by
  refine (dats m 0 c).arrAt_eq_of_covers 8 _ (by decide +kernel) fun t hf y => ?_
  obtain ⟨-, -, -, -, e0, e1⟩ := places_out t
  have key : ((cfg0.win 8).blk t).view.emb y = ix2 (row t (y 0)) (lane t (y 1)) := by
    unfold row lane
    blk_ext [e0, e1]
  rw [key]
  blk_simp
  rw [after0_8]
  exact written8 m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = merged m c
      ∧ r.2.mem ((c : Thread nD τ).loc main_v0_1) = branchDn m c
      ∧ r.2.mem ((c : Thread nD τ).loc main_v0_2) = branchSb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (array6 m c),
      ((h c).1 7).trans (array7 m c),
      ((h c).1 8).trans (array8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Kernel

section Reference
open Cert.Reference14Ideal

theorem result6 (x0 : Vec Ideal S4224x2048 .bf16) (x1 : Vec Ideal S4224x1024 .bf16) (x2 : Vec Ideal S2048x1024 .bf16) (x3 : Vec Ideal S1024x1024 .bf16) (x4 : Vec Ideal S4224x11264 .f32) :
    Read.val_main_v23 (F := Ideal) x0 x1 x2 x3 x4 = (fun i => merge (x4 (ix2 (i 0) ⟨9216 + (i 1).val, by have := (i 1).isLt; simp at this; omega⟩)) (cols (fun r k => x0 (ix2 r k)) (fun r k => x2 (ix2 r k)) (i 0) (i 1))
      (x4 (ix2 (i 0) ⟨10240 + (i 1).val, by have := (i 1).isLt; simp at this; omega⟩)) (cols (fun r k => x1 (ix2 r k)) (fun r k => x3 (ix2 r k)) (i 0) (i 1)) : Vec Ideal S4224x1024 .bf16) := by
  funext i
  idx_vars i
  unfold Read.val_main_v23 Read.val_main_v22 Read.val_main_v21 Read.val_main_v20 Read.val_main_v19 Read.val_main_cst_2 Read.val_main_v18 Read.val_main_v17 Read.val_main_cst_1 Read.val_main_v16 Read.val_main_v15 Read.val_main_v14 Read.val_main_v13 Read.val_main_v12 Read.val_main_cst_0 Read.val_main_v11 Read.val_main_v10 Read.val_main_cst Read.val_main_v9 Read.val_main_v8 Read.val_main_v7 Read.val_main_v6 Read.val_main_v5 Read.val_main_v4 Read.val_main_v3 Read.val_main_v2 Read.val_main_v1 Read.val_main_v0
  pointwise [merge, gate, cols]

theorem result7 (x0 : Vec Ideal S4224x2048 .bf16) (x2 : Vec Ideal S2048x1024 .bf16) :
    Read.val_main_v4 (F := Ideal) x0 x2 = (fun i => cols (fun r k => x0 (ix2 r k)) (fun r k => x2 (ix2 r k)) (i 0) (i 1) : Vec Ideal S4224x1024 .f32) := by
  funext i
  idx_vars i
  unfold Read.val_main_v4 Read.val_main_v3 Read.val_main_v2
  pointwise [cols]

theorem result8 (x1 : Vec Ideal S4224x1024 .bf16) (x3 : Vec Ideal S1024x1024 .bf16) :
    Read.val_main_v7 (F := Ideal) x1 x3 = (fun i => cols (fun r k => x1 (ix2 r k)) (fun r k => x3 (ix2 r k)) (i 0) (i 1) : Vec Ideal S4224x1024 .f32) := by
  funext i
  idx_vars i
  unfold Read.val_main_v7 Read.val_main_v6 Read.val_main_v5
  pointwise [cols]

/-- The reference runs, and its arguments end unchanged. -/
theorem frame_reference : Cert.quiescent_Reference14Ideal := fun m ρ _ =>
  (θ_run defs _ _).mono (fun r h => ⟨fun c => (h c).2.2.2, sem_eq_zero_of_no_sems (by decide) r.2⟩) (Cert.Reference14Ideal.Value.run m ρ)

end Reference

/-- The kernel's results are the reference's. -/
theorem values : Cert.algebraic_Kernel14Ideal_Reference14Ideal := by
  intro m ρ m' ρ' _ hagree
  refine ⟨fun c => merged m c, fun c => branchDn m c, fun c => branchSb m c, ?_, ?_⟩
  · refine (θ_run _ _ _).mono (fun r h c => ?_) (kernel_runs m ρ)
    exact h c
  · refine (θ_run _ _ _).mono (fun r h c => ?_) (Cert.Reference14Ideal.Value.run m' ρ')
    obtain ⟨a0, a1, a2, a3, a4⟩ := hagree c
    refine ⟨(h c).1.trans ?_, (h c).2.1.trans ?_, (h c).2.2.1.trans ?_, (h c).2.2.2⟩
    · rw [Cert.Reference14Ideal.Read.val_main_v23_eq, a0, a1, a2, a3, a4]
      exact result6 _ _ _ _ _
    · rw [Cert.Reference14Ideal.Read.val_main_v4_eq, a0, a2]
      exact result7 _ _
    · rw [Cert.Reference14Ideal.Read.val_main_v7_eq, a1, a3]
      exact result8 _ _

end Cert.Fwd.Merge

end
-- ==== Proof.ProjFrameIdeal.lean ====
/-
  THE RUN OF THE INPUT PROJECTION (ideal form). A tile of rows is normed at its first point, and the normed rows stay in their output block, read again at the
  ten points that follow and written back after the last. What the block holds is therefore said by the tile alone: at every point the
  normed rows of the point's tile, which is what its first point stored.
-/
module

public import proofs.«01_k».proof.Proof.Gen.Kernel16Ideal.Frame
public import Idealize.ShloMosaic.Lib.Pipeline.FrameBody
public import Idealize.ShloMosaic.Lib.Pipeline.TableIdle
public import Idealize.ShloMosaic.Lib.Claim

@[expose] public section

set_option maxRecDepth 16384

noncomputable section

namespace Cert.Kernel16Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal Cert.Kernel16Ideal.Gen

variable {F : FTy → Type} [FloatOps F]

variable (m : (ℓ : Loc nD τ sig) → Buf (Elt F) ℓ) (ρ : Dev nD → PrngReg)

/-! ## What the body computes -/

/-- The normed rows of a block, narrowed. -/
def normed (h : Vec F S1056x1024 .f32) (g : Vec F S1x1024 .f32) : FVec F S1056x1024 .bf16 :=
  let sq := multiReduction .add [1] S1056 (mulf h h : FVec F S1056x1024 .f32) 0x00000000#32 reduces_S1056x1024_S1056 (.inl rfl) rfl
  let mean := divf (shapeCast S1056x1 sq shapeCasts_S1056_S1056x1) (broadcast S1056x1 (Scalar.ofBits .f32 0x44800000#32 : F .f32))
  let scale := rsqrt (addf mean (broadcast S1056x1 (Scalar.ofBits .f32 0x358637BD#32 : F .f32)))
  truncf .bf16 (mulf (mulf h (broadcastTo S1056x1024 scale broadcasts_S1056x1_S1056x1024)) (broadcastTo S1056x1024 g broadcasts_S1x1024_S1056x1024)) bitsLt_bf16_f32

/-- A block of the product. -/
def product (x : Vec F S1056x1024 .bf16) (w : Vec F S1024x1024 .bf16) : FVec F S1056x1024 .f32 :=
  matmul dot_S1056x1024_S1024x1024_S1056x1024_1_1_0_0_n_n none (shapeCast S1056x1024 x shapeCasts_S1056x1024_S1056x1024) w
    (constant S1056x1024 .f32 0x00000000#32)

/-- The whole of a block. -/
abbrev rows : Rect S1056x1024 := Rect.unit (s := S1056x1024) ![0, 0] S1056x1024.size inb_S1056x1024_S1056x1024_0_0
abbrev gains : Rect S1x1024 := Rect.unit (s := S1x1024) ![0, 0] S1x1024.size inb_S1x1024_S1x1024_0_0
abbrev weights : Rect S1024x1024 := Rect.unit (s := S1024x1024) ![0, 0] S1024x1024.size inb_S1024x1024_S1024x1024_0_0

/-- What the block of normed rows holds. -/
def leftNorm (h : Vec F S1056x1024 .f32) (g : Vec F S1x1024 .f32) : Vec F S1056x1024 .bf16 :=
  View.canon [⟨rows, normed (View.ld h rows) (View.ld g gains)⟩]

/-- What the block of the product holds. -/
def leftProd (x : Vec F S1056x1024 .bf16) (w : Vec F S1024x1024 .bf16) : Vec F S1056x1024 .f32 :=
  View.canon [⟨rows, product (View.ld x rows) (View.ld w weights)⟩]

theorem covers {e : EltTy} (p : Vec F S1056x1024 e) (y : S1056x1024.Idx) :
    ∃ pc ∈ ([⟨rows, p⟩] : List (View.Piece (Elt F) S1056x1024 e)), y ∈ pc.1.set :=
  View.cover_of_tiled [⟨rows, p⟩] S1056x1024.size (by rfl) y

/-! ## The body's run -/

set_option maxHeartbeats 1000000 in
/-- At a tile's first point. -/
theorem run_first (c : Dev nD) (E : Set ℕ) (i : grid0.Coords) (hc : k0_cond1 i = 1#1) (arg2 : Memref sig .tc .vmem S1056x1024 .f32) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1056x1024 .f32) (harg5 : arg5.IsWhole) (arg6 : Memref sig .tc .vmem S1056x1024 .bf16) (harg6 : arg6.IsWhole)
    (x0 : Vec F S1056x1024 .f32) (x1 : Vec F S1x1024 .f32) (x2 : Vec F S1024x1024 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (leftProd (leftNorm x0 x1) x2) ∗ owns (c : Thread nD τ) arg6 fullShare (leftNorm x0 x1)) -∗ K ⟨⟩))
      ⊢ wp frame (wpE (defs₀ (F := F)) Variants.none c none) E (cc0_proj i arg2 harg2 arg3 harg3 arg4 harg4 arg5 harg5 arg6 harg6) K := by
  unfold cc0_proj
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  rw [dif_pos hc]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (covers _)).trans ?_
    unfold leftProd
    refine congrArg (fun v => View.canon [⟨rows, v⟩]) ?_
    delta run_first.sl.v6 run_first.sl.v4
    exact congrArg (fun v => product v _) (View.readCov_eq_canon_ld arg6.view _ rows (covers _))
  iexists _; isplitr
  swap; · iexact H4
  ipureintro
  exact View.read_writes_eq_canon _ _ _ (covers _)

set_option maxHeartbeats 1000000 in
/-- At a later point of the tile. -/
theorem run_later (c : Dev nD) (E : Set ℕ) (i : grid0.Coords) (hc : ¬k0_cond1 i = 1#1) (arg2 : Memref sig .tc .vmem S1056x1024 .f32) (harg2 : arg2.IsWhole)
    (arg3 : Memref sig .tc .vmem S1x1024 .f32) (harg3 : arg3.IsWhole) (arg4 : Memref sig .tc .vmem S1024x1024 .bf16) (harg4 : arg4.IsWhole)
    (arg5 : Memref sig .tc .vmem S1056x1024 .f32) (harg5 : arg5.IsWhole) (arg6 : Memref sig .tc .vmem S1056x1024 .bf16) (harg6 : arg6.IsWhole)
    (x2 : Vec F S1024x1024 .bf16) (y : Vec F S1056x1024 .bf16) (K : PUnit → sProp (MT nD τ sig Unit (Elt F) ℕ (UR sig nD τ) ℕ)) :
    iprop(owns (c : Thread nD τ) arg4 fullShare x2 ∗ (∃ d, owns (c : Thread nD τ) arg5 fullShare d) ∗ owns (c : Thread nD τ) arg6 fullShare y
        ∗ (iprop(owns (c : Thread nD τ) arg4 fullShare x2 ∗ owns (c : Thread nD τ) arg5 fullShare (leftProd y x2) ∗ owns (c : Thread nD τ) arg6 fullShare y) -∗ K ⟨⟩))
      ⊢ wp frame (wpE (defs₀ (F := F)) Variants.none c none) E (cc0_proj i arg2 harg2 arg3 harg3 arg4 harg4 arg5 harg5 arg6 harg6) K := by
  unfold cc0_proj
  unfold owns
  iintro ⟨⟨%f2, %hf2, H2⟩, ⟨%d3, %f3, -, H3⟩, ⟨%f4, %hf4, H4⟩, Hk⟩
  subst hf2 hf4
  rw [dif_neg hc]
  sl_exec
  sl_step
  iapply Hk
  isplitl [H2]
  · iexists f2; isplitr; · ipureintro; rfl
    iexact H2
  isplitl [H3]
  · iexists _; isplitr
    swap; · iexact H3
    ipureintro
    exact View.read_writes_eq_canon _ _ _ (covers _)
  iexists f4; isplitr; · ipureintro; rfl
  iexact H4

/-! ## The pipeline's data -/

/-- The arrays as found; each argument's block left in place; each result's block as computed from its point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => leftProd (leftNorm (iblk m c 0 t) (iblk m c 1 t)) (iblk m c 2 t)
    | ⟨4, _⟩ => leftNorm (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = leftProd (leftNorm (iblk m c 0 t) (iblk m c 1 t)) (iblk m c 2 t) := by dsimp only [dats]
theorem after_4 (c : Dev nD) (t : Fin cfg0.N) : (dats m 0 c).after 4 t = leftNorm (iblk m c 0 t) (iblk m c 1 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body stores the normed rows at a tile's first point. -/
theorem stores_iff : ∀ t : Fin cfg0.N, k0_cond1 (grid0.coords t) = 1#1 ↔ t.val % 11 = 0 := by decide +kernel

/-- Nothing is stored in the block of normed rows at the other points. -/
theorem idle_iff : ∀ t : Fin cfg0.N, cfg0.idle 4 (grid0.coords t) = !decide (t.val % 11 = 0) := by decide +kernel

/-- The block is a new one at a tile's first point. -/
theorem fresh_iff (t : Fin cfg0.N) : cfg0.fresh 4 t.val = decide (t.val % 11 = 0) :=
  Pipeline.Cfg.fresh_tab cfg0 4 (fun n => decide (n % 11 = 0)) rfl (by decide +kernel) t.val (Nat.le_of_lt t.isLt)

/-- The points of a tile have the same rows. -/
theorem same_rows (c : Dev nD) (t : Fin cfg0.N) (h : ¬t.val % 11 = 0) :
    iblk m c 0 t = iblk m c 0 ⟨t.val - 1, Nat.lt_of_le_of_lt (Nat.sub_le _ _) t.isLt⟩ :=
  (before_0 m c t (iblk m c 0 t)).symm.trans ((Dat.before_unfetched_in (dats m 0 c) 0 rfl t
    (eq_false_of_ne_true fun e => h ((fetch0_0 t).mp e)) (fun _ => rfl) _).trans (by unfold Dat.kept; dsimp only [dats]; rfl))

/-- All points have the same gain. -/
theorem same_gain (c : Dev nD) (t : Fin cfg0.N) (h : ¬t.val % 11 = 0) :
    iblk m c 1 t = iblk m c 1 ⟨t.val - 1, Nat.lt_of_le_of_lt (Nat.sub_le _ _) t.isLt⟩ :=
  (before_1 m c t (iblk m c 1 t)).symm.trans ((Dat.before_unfetched_in (dats m 0 c) 1 rfl t
    (eq_false_of_ne_true fun e => h (by have := (fetch0_1 t).mp e; omega)) (fun _ => rfl) _).trans (by unfold Dat.kept; dsimp only [dats]; rfl))

theorem carries (c : Dev nD) (t : Fin cfg0.N) (h : ¬t.val % 11 = 0) :
    (dats m 0 c).after 4 t = (dats m 0 c).after 4 ⟨t.val - 1, Nat.lt_of_le_of_lt (Nat.sub_le _ _) t.isLt⟩ := by
  rw [after_4, after_4, same_rows m c t h, same_gain m c t h]

/-- After a tile's first point the block holds the normed rows of the tile. -/
theorem before_4 (c : Dev nD) (t : Fin cfg0.N) (h : ¬t.val % 11 = 0) (d) : (dats m 0 c).before 4 t d = leftNorm (iblk m c 0 t) (iblk m c 1 t) := by
  rw [Dat.before_out_traj _ 4 rfl (fun _ _ => rfl) (fun t _ hi _ => carries m c t fun e => by
      rw [show cfg0.idle 4 (cfg0.grid.coords t) = _ from idle_iff t, decide_eq_true e] at hi
      exact Bool.false_ne_true hi) t.val t rfl d,
    if_neg (by rw [fresh_iff, decide_eq_false h]; exact Bool.false_ne_true), ← carries m c t h, after_4]

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The normed rows are in their block at the end of every point, whether they are written back there or kept. -/
theorem leaves_4 (c : Dev nD) (t : Fin cfg0.N) :
    owns (c : Thread nD τ) (st0_4 t) fullShare (leftNorm (iblk m c 0 t) (iblk m c 1 t)) ⊢ (dats m 0 c).leavesExact 4 t := by
  rw [← after_4 m c t]
  by_cases h : t.val % 11 = 0
  · have hi : cfg0.idle 4 (cfg0.grid.coords t) = false := by rw [show cfg0.idle 4 (cfg0.grid.coords t) = _ from idle_iff t, decide_eq_true h]; rfl
    unfold Dat.leavesExact
    rw [hi]
  · have hi : cfg0.idle 4 (cfg0.grid.coords t) = true := by rw [show cfg0.idle 4 (cfg0.grid.coords t) = _ from idle_iff t, decide_eq_false h]; rfl
    by_cases hf : (cfg0.win 4).flush t = true
    · unfold Dat.leavesExact
      rw [hi, hf]
    · rw [Dat.leavesExact_idle (dats m 0 c) 4 t hi (eq_false_of_ne_true hf)]
      iintro H
      iexists ((dats m 0 c).after 4 t)
      rw [before_4 m c t h, after_4]
      iexact H

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  by_cases h : t.val % 11 = 0
  · iintro ⟨HΦ, Ho, ⟨%d0, H0⟩, ⟨%d1, H1⟩, ⟨%d2, H2⟩, ⟨%d3, H3⟩, ⟨%d4, H4⟩⟩
    iapply (run_first c Set.univ (grid0.coords t) ((stores_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4
  · simp only [before_4 m c t h]
    iintro ⟨HΦ, Ho, ⟨%d0, H0⟩, ⟨%d1, H1⟩, ⟨%d2, H2⟩, ⟨%d3, H3⟩, ⟨%d4, H4⟩⟩
    iapply (run_later c Set.univ (grid0.coords t) (fun e => h ((stores_iff t).mp e)) _ _ _ _ _ _ _ _ _ _ (iblk m c 2 t) (leftNorm (iblk m c 0 t) (iblk m c 1 t)) _)
    isplitl [H2]; · iexact H2
    isplitl [H3]; · iexists _; iexact H3
    isplitl [H4]; · iexact H4
    iintro ⟨H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends, with the arrays at what the data say and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_quiescent m ρ))

end Cert.Kernel16Ideal.Run

end
-- ==== Proof.ProjFrame.lean ====
/-
  THE RUN OF THE INPUT PROJECTION at the kernel's own numbers. The two programs have the same text, and the run is written once, for any numbers.
-/
module

public import proofs.«01_k».proof.Defs
public import proofs.«01_k».proof.Proof.Gen.Kernel16
public import proofs.«01_k».proof.Proof.ProjFrameIdeal

@[expose] public section

namespace Cert.Kernel16.Run

open Idealize.ShloMosaic Idealize.SL.Sem

/-- The two programs have the same body table. -/
theorem bodies : Cert.Kernel16.defs₀ (F := Bits) = Cert.Kernel16Ideal.defs₀ (F := Bits) := by
  unfold Cert.Kernel16.defs₀ Cert.Kernel16Ideal.defs₀
  congr 1
  funext x y
  match x, y with
  | 0, (t, s) => rfl

theorem tables : Cert.Kernel16.defs (F := Bits) = Cert.Kernel16Ideal.defs (F := Bits) := congrArg (Pipeline.defs _) bodies

theorem frame : Cert.quiescent_Kernel16 := fun m ρ _ => by
  have h := Cert.Kernel16Ideal.Run.frame (F := Bits) m ρ
  rw [← tables] at h
  exact h

end Cert.Kernel16.Run

end
-- ==== Proof.Rms.lean ====
/-
  THE GRADIENT OF A ROOT-MEAN-SQUARE NORM: one row of numbers, the norm's scale, and the two ways of writing what a row of
  upper gradients gives for the row; they agree on finite numbers. And the gain's gradient, a sum over the rows.
-/
module

public import proofs.«01_k».proof.Proof.Finite

@[expose] public section

noncomputable section

namespace Cert.Rms

open Idealize.ShloMosaic Cert.Scan
open scoped BigOperators

/-- The length of a row, 1024, as the programs write it. -/
def len : EReal := Ideal.ofBits .f32 0x44800000#32

/-- What is added to the mean of the squares. -/
def small : EReal := Ideal.ofBits .f32 897988541#32

/-- Minus one half, as the reference's derivative of the root writes it. -/
def minusHalf : EReal := Ideal.ofBits .f32 0xBF000000#32

theorem len_eq : len = ((1024 : ℝ) : EReal) := by
  unfold len
  simp [Ideal.ofBits, Ideal.ieee, -EReal.coe_mul]
  norm_num

theorem minusHalf_eq : minusHalf = ((-(1 / 2) : ℝ) : EReal) := by
  unfold minusHalf
  simp [Ideal.ofBits, Ideal.ieee, -EReal.coe_mul]
  norm_num

theorem small_eq : small = ((8796093 / 2 ^ 43 : ℝ) : EReal) := by
  unfold small
  simp [Ideal.ofBits, Ideal.ieee, -EReal.coe_mul]
  norm_num

/-- A sum of real numbers, as an extended real. -/
theorem sum_real {n : ℕ} (f : Fin n → ℝ) : ∑ k, ((f k : ℝ) : EReal) = ((∑ k, f k : ℝ) : EReal) := by
  have e : ∀ s : Finset (Fin n), ∑ k ∈ s, ((f k : ℝ) : EReal) = ((∑ k ∈ s, f k : ℝ) : EReal) := by
    intro s
    induction s using Finset.induction_on with
    | empty => simp
    | insert k s hk ih => rw [Finset.sum_insert hk, Finset.sum_insert hk, ih, EReal.coe_add]
  exact e Finset.univ

/-- The mean of a row's squares, and a little more. -/
def square {n : ℕ} (h : Fin n → EReal) : EReal := Ideal.div (∑ k, h k * h k) len + small

/-- The norm's scale of a row. -/
def scale {n : ℕ} (h : Fin n → EReal) : EReal := Ideal.rsqrt (square h)

/-- The row's gradient from the upper gradients `d`, written with the cube of the scale. -/
def cubed {n : ℕ} (h g d : Fin n → EReal) (j : Fin n) : EReal :=
  scale h * (d j * g j) - h j * (scale h * scale h * scale h) * Ideal.div (∑ k, d k * g k * h k) len

/-- What one square of the row gets of the gradient. -/
def share {n : ℕ} (h g d : Fin n → EReal) : EReal :=
  Ideal.div ((∑ k, h k * (d k * g k)) * (minusHalf * Ideal.div (scale h) (square h))) len

/-- The row's gradient from the upper gradients `d`, step by step back through the norm. -/
def stepped {n : ℕ} (h g d : Fin n → EReal) (j : Fin n) : EReal :=
  d j * g j * scale h + h j * share h g d + share h g d * h j

/-- On finite numbers the two are the same. -/
theorem cubed_eq {n : ℕ} {h g d : Fin n → EReal} (hh : ∀ k, Fine (h k)) (hg : ∀ k, Fine (g k)) (hd : ∀ k, Fine (d k)) (j : Fin n) :
    cubed h g d j = stepped h g d j := by
  choose a ha using hh
  choose b hb using hg
  choose c hc using hd
  obtain rfl : h = fun k => (a k : EReal) := funext ha
  obtain rfl : g = fun k => (b k : EReal) := funext hb
  obtain rfl : d = fun k => (c k : EReal) := funext hc
  have hlen : (1024 : ℝ) ≠ 0 := by norm_num
  have e1 : ∑ k, (a k : EReal) * (a k : EReal) = ((∑ k, a k * a k : ℝ) : EReal) := by
    rw [← sum_real]
    exact Finset.sum_congr rfl fun k _ => (EReal.coe_mul _ _).symm
  have e2 : ∑ k, (c k : EReal) * (b k : EReal) * (a k : EReal) = ((∑ k, c k * b k * a k : ℝ) : EReal) := by
    rw [← sum_real]
    exact Finset.sum_congr rfl fun k _ => by rw [EReal.coe_mul, EReal.coe_mul]
  have e3 : ∑ k, (a k : EReal) * ((c k : EReal) * (b k : EReal)) = ((∑ k, c k * b k * a k : ℝ) : EReal) := by
    rw [← e2]
    exact Finset.sum_congr rfl fun k _ => mul_comm _ _
  have hpos : 0 < (∑ k, a k * a k) * (1 / 1024) + 8796093 / 2 ^ 43 := by
    have : 0 ≤ ∑ k, a k * a k := Finset.sum_nonneg fun k _ => mul_self_nonneg _
    positivity
  obtain ⟨q, hq, hv⟩ : ∃ q : ℝ, 0 < q ∧ (∑ k, a k * a k) * (1 / 1024) + 8796093 / 2 ^ 43 = q * q :=
    ⟨Real.sqrt _, Real.sqrt_pos.mpr hpos, (Real.mul_self_sqrt hpos.le).symm⟩
  have e4 : square (fun k => (a k : EReal)) = ((q * q : ℝ) : EReal) := by
    unfold square
    rw [e1, len_eq, small_eq, Ideal.div_coe hlen, ← EReal.coe_mul, ← EReal.coe_add, hv]
  have hqq : (0 : ℝ) < q * q := mul_pos hq hq
  have e5 : scale (fun k => (a k : EReal)) = ((q⁻¹ : ℝ) : EReal) := by
    unfold scale
    rw [e4, Ideal.rsqrt_coe, if_neg (not_lt.mpr hqq.le), if_neg hqq.ne', Real.sqrt_mul_self hq.le]
  unfold cubed stepped share
  simp only [e2, e3, e4, e5, len_eq, minusHalf_eq, Ideal.div_coe hlen, Ideal.div_coe hqq.ne']
  simp only [← EReal.coe_mul, ← EReal.coe_add, ← EReal.coe_sub]
  refine congrArg _ ?_
  field_simp
  ring

/-- The gradient of the gain: over the rows, the normed row times the upper gradient. -/
def gainGrad {R n : ℕ} (h d : Fin R → Fin n → EReal) (j : Fin n) : EReal := ∑ r, h r j * scale (h r) * d r j

/-- The same with the factors in another order. -/
theorem gainGrad_eq {R n : ℕ} (h d : Fin R → Fin n → EReal) (j : Fin n) : ∑ r, d r j * h r j * scale (h r) = gainGrad h d j :=
  Finset.sum_congr rfl fun r _ => by rw [mul_comm (d r j), mul_right_comm]

end Cert.Rms

end
-- ==== Proof.ProjFwd.lean ====
/-
  THE NORM BEFORE THE MIXING BLOCK, AND THE PRODUCT WITH THE INPUT WEIGHT: four tiles of rows by eleven of columns, the rows normed once
  for each tile; beside the norm and the product of whole arrays.
-/
module

public import proofs.«01_k».proof.Proof.Names
public import proofs.«01_k».proof.Defs
public import proofs.«01_k».proof.Proof.Gen.Kernel16Ideal
public import proofs.«01_k».proof.Proof.ProjFrameIdeal
public import proofs.«01_k».proof.Proof.Gen.Reference16Ideal.Run
public import proofs.«01_k».proof.Proof.Gen.Reference16Ideal.Read
public import proofs.«01_k».proof.Proof.Rms
public import Idealize.ShloMosaic.Lib.Pointwise
public import Idealize.ShloMosaic.Lib.Pipeline.ValueKit

@[expose] public section

noncomputable section

namespace Cert.Fwd.Proj

open Idealize.ShloMosaic Idealize.ShloMosaic.TcCoe Idealize.SL.Sem
open Cert.Rms Cert.Scan
open scoped BigOperators

section Kernel
open Cert.Kernel16Ideal Cert.Kernel16Ideal.Gen Cert.Kernel16Ideal.Run

variable (m : (ℓ : Loc nD τ sig) → Buf (Elt Ideal) ℓ)

/-- Row `j` of the blocks of point `t`. -/
def row (t : Fin cfg0.N) (j : Fin 1056) : Fin 4224 :=
  ⟨t.val / 11 * 1056 + j.val, by have := lt_of_lt_of_eq t.isLt (show cfg0.N = 44 from N_0); omega⟩

/-- Column `j` of the product's block of point `t`. -/
def lane (t : Fin cfg0.N) (j : Fin 1024) : Fin 11264 :=
  ⟨t.val % 11 * 1024 + j.val, by have := lt_of_lt_of_eq t.isLt (show cfg0.N = 44 from N_0); omega⟩

/-- Where the blocks lie at a point. -/
theorem places : ∀ t : Fin cfg0.N, win0_0.index t (0 : Fin 2) = t.val / 11
    ∧ win0_0.index t (1 : Fin 2) = 0
    ∧ win0_1.index t (0 : Fin 2) = 0
    ∧ win0_1.index t (1 : Fin 2) = 0
    ∧ win0_2.index t (0 : Fin 2) = t.val % 11
    ∧ win0_2.index t (1 : Fin 2) = 0
    ∧ win0_3.index t (0 : Fin 2) = t.val / 11
    ∧ win0_3.index t (1 : Fin 2) = t.val % 11
    ∧ win0_4.index t (0 : Fin 2) = t.val / 11
    ∧ win0_4.index t (1 : Fin 2) = 0 :=
  (by decide +kernel : ∀ t : Fin grid0.N, _)

/-- What is normed, as an array. -/
def stream (c : Dev nD) (r : Fin 4224) (i : Fin 1024) : EReal := m ((c : Thread nD τ).loc main_arg0) (ix2 r i)

/-- The norm's gain, as an array. -/
def gain (c : Dev nD) (r : Fin 1) (i : Fin 1024) : EReal := m ((c : Thread nD τ).loc main_arg1) (ix2 r i)

/-- The weight, a row for each column of the product, as an array. -/
def weight (c : Dev nD) (r : Fin 11264) (i : Fin 1024) : EReal := m ((c : Thread nD τ).loc main_arg2) (ix2 r i)

theorem block0 (c : Dev nD) (t : Fin cfg0.N) (j : Fin 1056) (k : Fin 1024) :
    (iblk m c 0 t : Vec Ideal S1056x1024 .f32) (ix2 j k) = stream m c (row t j) k := by
  obtain ⟨e0, e1, -⟩ := places t
  unfold stream
  blk_ext [iblk, V, e0, e1, row]

theorem block1 (c : Dev nD) (t : Fin cfg0.N) (j : Fin 1) (k : Fin 1024) :
    (iblk m c 1 t : Vec Ideal S1x1024 .f32) (ix2 j k) = gain m c j k := by
  obtain ⟨-, -, e0, e1, -⟩ := places t
  unfold gain
  blk_ext [iblk, V, e0, e1]

theorem block2 (c : Dev nD) (t : Fin cfg0.N) (j : Fin 1024) (k : Fin 1024) :
    (iblk m c 2 t : Vec Ideal S1024x1024 .bf16) (ix2 j k) = weight m c (lane t j) k := by
  obtain ⟨-, -, -, -, e0, e1, -⟩ := places t
  unfold weight
  blk_ext [iblk, V, e0, e1, lane]

/-- A normed row. -/
def norm (h g : Fin 1024 → EReal) (k : Fin 1024) : EReal := h k * scale h * g k

/-- One row of a block. -/
def line (x : Vec Ideal S1056x1024 .f32) (j : Fin 1056) (k : Fin 1024) : EReal := x (ix2 j k)

theorem normed_at (h : Vec Ideal S1056x1024 .f32) (g : Vec Ideal S1x1024 .f32) (j : S1056x1024.Idx) :
    normed h g j = norm (line h (j 0)) (fun k => g (ix2 0 k)) (j 1) := by
  unfold norm scale square line len small
  idx_vars j
  pointwise [normed]

theorem product_at (x : Vec Ideal S1056x1024 .bf16) (w : Vec Ideal S1024x1024 .bf16) (j : S1056x1024.Idx) :
    product x w j = ∑ k : Fin 1024, x (ix2 (j 0) k) * w (ix2 (j 1) k) := by
  idx_vars j
  pointwise [product]

theorem leftNorm_eq (h : Vec Ideal S1056x1024 .f32) (g : Vec Ideal S1x1024 .f32) : leftNorm h g = normed h g := by
  unfold leftNorm
  frame_out

theorem leftProd_eq (x : Vec Ideal S1056x1024 .bf16) (w : Vec Ideal S1024x1024 .bf16) : leftProd x w = product x w := by
  unfold leftProd
  frame_out

/-- A normed row of the whole array. -/
def normRow (c : Dev nD) (r : Fin 4224) : Fin 1024 → EReal := norm (stream m c r) (gain m c 0)

theorem norm_block (c : Dev nD) (t : Fin cfg0.N) (j : S1056x1024.Idx) :
    leftNorm (iblk m c 0 t) (iblk m c 1 t) j = normRow m c (row t (j 0)) (j 1) := by
  rw [leftNorm_eq, normed_at]
  exact congrFun (congrArg₂ norm (funext fun k => block0 m c t (j 0) k) (funext fun k => block1 m c t 0 k)) (j 1)

/-- The normed rows, as an array. -/
def rowsNormed (c : Dev nD) : Vec Ideal S4224x1024 .bf16 := fun i => normRow m c (i 0) (i 1)

/-- The product, as an array. -/
def projected (c : Dev nD) : Vec Ideal S4224x11264 .f32 := fun i => ∑ k : Fin 1024, normRow m c (i 0) k * weight m c (i 1) k

theorem written4 (c : Dev nD) (t : Fin cfg0.N) (j : S1056x1024.Idx) :
    leftNorm (iblk m c 0 t) (iblk m c 1 t) j = rowsNormed m c (ix2 (row t (j 0)) (j 1)) := norm_block m c t j

theorem written3 (c : Dev nD) (t : Fin cfg0.N) (j : S1056x1024.Idx) :
    leftProd (leftNorm (iblk m c 0 t) (iblk m c 1 t)) (iblk m c 2 t) j = projected m c (ix2 (row t (j 0)) (lane t (j 1))) := by
  rw [leftProd_eq, product_at]
  exact Finset.sum_congr rfl fun k _ => congrArg₂ (· * ·) (norm_block m c t (ix2 (j 0) k)) (block2 m c t (j 1) k)

/-- The array the kernel leaves in window 3 is that. -/
theorem array3 (c : Dev nD) : (dats m 0 c).arrAt 3 cfg0.N = projected m c := by
  refine (dats m 0 c).arrAt_eq_of_covers 3 _ (by decide +kernel) fun t hf y => ?_
  obtain ⟨-, -, -, -, -, -, e0, e1, -⟩ := places t
  have key : ((cfg0.win 3).blk t).view.emb y = ix2 (row t (y 0)) (lane t (y 1)) := by
    unfold row lane
    blk_ext [e0, e1]
  rw [key]
  blk_simp
  rw [after_3]
  exact written3 m c t y

/-- The array the kernel leaves in window 4 is that. -/
theorem array4 (c : Dev nD) : (dats m 0 c).arrAt 4 cfg0.N = rowsNormed m c := by
  refine (dats m 0 c).arrAt_eq_of_covers 4 _ (by decide +kernel) fun t hf y => ?_
  obtain ⟨-, -, -, -, -, -, -, -, e0, e1⟩ := places t
  have key : ((cfg0.win 4).blk t).view.emb y = ix2 (row t (y 0)) (y 1) := by
    unfold row
    blk_ext [e0, e1]
  rw [key]
  blk_simp
  rw [after_4]
  exact written4 m c t y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = projected m c
      ∧ r.2.mem ((c : Thread nD τ).loc main_v0_1) = rowsNormed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (array3 m c),
      ((h c).1 4).trans (array4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run m ρ)

end Kernel

section Reference
open Cert.Reference16Ideal

theorem result4 (x0 : Vec Ideal S4224x1024 .f32) (x1 : Vec Ideal S1x1024 .f32) :
    Read.val_main_v12 (F := Ideal) x0 x1 = (fun i => norm (fun k => x0 (ix2 (i 0) k)) (fun k => x1 (ix2 0 k)) (i 1) : Vec Ideal S4224x1024 .bf16) := by
  funext i
  idx_vars i
  unfold Read.val_main_v12 Read.val_main_v11 Read.val_main_v10 Read.val_main_v9 Read.val_main_v8 Read.val_main_v7 Read.val_main_v6 Read.val_main_v5 Read.val_main_cst_1 Read.val_main_v4 Read.val_main_v3 Read.val_main_cst_0 Read.val_main_v2 Read.val_main_v1 Read.val_main_cst Read.val_main_v0
  pointwise [norm, scale, square, len, small]

theorem result3 (x0 : Vec Ideal S4224x1024 .f32) (x1 : Vec Ideal S1x1024 .f32) (x2 : Vec Ideal S11264x1024 .bf16) :
    Read.val_main_v16 (F := Ideal) x0 x1 x2 = (fun i => ∑ k : Fin 1024, norm (fun k => x0 (ix2 (i 0) k)) (fun k => x1 (ix2 0 k)) k * x2 (ix2 (i 1) k) : Vec Ideal S4224x11264 .f32) := by
  funext i
  idx_vars i
  unfold Read.val_main_v16 Read.val_main_v15 Read.val_main_v14 Read.val_main_v13
  rw [result4]
  pointwise

/-- The reference runs, and its arguments end unchanged. -/
theorem frame_reference : Cert.quiescent_Reference16Ideal := fun m ρ _ =>
  (θ_run defs _ _).mono (fun r h => ⟨fun c => (h c).2.2, sem_eq_zero_of_no_sems (by decide) r.2⟩) (Cert.Reference16Ideal.Value.run m ρ)

end Reference

/-- The kernel's results are the reference's. -/
theorem values : Cert.algebraic_Kernel16Ideal_Reference16Ideal := by
  intro m ρ m' ρ' _ hagree
  refine ⟨fun c => projected m c, fun c => rowsNormed m c, ?_, ?_⟩
  · refine (θ_run _ _ _).mono (fun r h c => ?_) (kernel_runs m ρ)
    exact h c
  · refine (θ_run _ _ _).mono (fun r h c => ?_) (Cert.Reference16Ideal.Value.run m' ρ')
    obtain ⟨a0, a1, a2⟩ := hagree c
    refine ⟨(h c).1.trans ?_, (h c).2.1.trans ?_, (h c).2.2⟩
    · rw [Cert.Reference16Ideal.Read.val_main_v16_eq, a0, a1, a2]
      exact result3 _ _ _
    · rw [Cert.Reference16Ideal.Read.val_main_v12_eq, a0, a1]
      exact result4 _ _

end Cert.Fwd.Proj

end
-- ==== Proof.Loss.lean ====
/-
  THE OUTPUT OF THE FEED-FORWARD BLOCK AND THE LOSS'S GRADIENT: eight tiles of rows, the first and last sixty-four rows of all masked, the
  squares of the misses gathered column by column over the tiles; beside the loss's derivative on the rows that count, padded with zeros.
-/
module

public import proofs.«01_k».proof.Proof.Names
public import proofs.«01_k».proof.Defs
public import proofs.«01_k».proof.Proof.Gen.Kernel17Ideal
public import proofs.«01_k».proof.Proof.Gen.Kernel17Ideal.Frame
public import proofs.«01_k».proof.Proof.Gen.Reference17Ideal.Run
public import proofs.«01_k».proof.Proof.Gen.Reference17Ideal.Read
public import proofs.«01_k».proof.Proof.Rms
public import Idealize.ShloMosaic.Lib.Pointwise
public import Idealize.ShloMosaic.Lib.WordCmp
public import Idealize.ShloMosaic.Lib.Pipeline.ValueKit

@[expose] public section

noncomputable section

namespace Cert.Fwd.Loss

open Idealize.ShloMosaic Idealize.ShloMosaic.TcCoe Idealize.SL.Sem
open Cert.Rms Cert.Scan
open scoped BigOperators

/-! ## Numbers -/

/-- The derivative's factor as the reference writes it: one half of one, over the length of a row, and twice a miss. -/
def doubled (e : EReal) : EReal :=
  Ideal.div (Ideal.ofBits .f32 0x3F000000#32 * Ideal.ofBits .f32 0x3F800000#32) len * (Ideal.ofBits .f32 0x40000000#32 * e)

/-- It is the miss over the length of a row. -/
theorem doubled_eq (e : EReal) : doubled e = Ideal.div e len := by
  have h1 : Ideal.ofBits .f32 0x3F000000#32 = (((1 / 2 : ℝ)) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  unfold doubled
  rw [h1, h2, h3, len_eq, ← EReal.coe_mul, Ideal.div_coe (by norm_num), Ideal.div_coe (by norm_num), ← mul_assoc, ← EReal.coe_mul, ← EReal.coe_mul, mul_comm e]
  refine congrArg (fun x : ℝ => (x : EReal) * e) ?_
  norm_num

/-- Nothing missed, nothing over the length of a row. -/
theorem none_missed : Ideal.div 0 len = 0 := by
  rw [len_eq, Ideal.div_coe (by norm_num), zero_mul]

/-- The rows that count. -/
def Counts (r : ℕ) : Prop := 64 ≤ r ∧ r < 4160

instance (r : ℕ) : Decidable (Counts r) := inferInstanceAs (Decidable (_ ∧ _))

/-- A sum over all rows of what is nothing where a row does not count. -/
theorem sum_counts (f : Fin 4224 → EReal) (h : ∀ r : Fin 4224, ¬Counts r.val → f r = 0) :
    ∑ r, f r = ∑ q : Fin 4096, f ⟨64 + q.val, by omega⟩ := by
  have g : ∀ n (hn : n < 4224), (fun n => if h : n < 4224 then f ⟨n, h⟩ else 0) n = f ⟨n, hn⟩ := fun n hn => dif_pos hn
  have e : ∑ r, f r = ∑ n ∈ Finset.range (64 + 4096 + 64), (fun n => if h : n < 4224 then f ⟨n, h⟩ else 0) n := by
    rw [Finset.sum_range]
    exact Finset.sum_congr rfl fun r _ => (g r.val r.isLt).symm
  rw [e, Finset.sum_range_add, Finset.sum_range_add, Finset.sum_eq_zero, zero_add, Finset.sum_eq_zero (s := Finset.range 64), add_zero, Finset.sum_range]
  · exact Finset.sum_congr rfl fun q _ => g (64 + q.val) (by omega)
  · intro n hn
    have := Finset.mem_range.mp hn
    exact (g (64 + 4096 + n) (by omega)).trans (h _ (by unfold Counts; show ¬(64 ≤ 64 + 4096 + n ∧ 64 + 4096 + n < 4160); omega))
  · intro n hn
    have := Finset.mem_range.mp hn
    exact (g n (by omega)).trans (h _ (by unfold Counts; show ¬(64 ≤ n ∧ n < 4160); omega))

section Kernel
open Cert.Kernel17Ideal Cert.Kernel17Ideal.Gen

variable (m : (ℓ : Loc nD τ sig) → Buf (Elt Ideal) ℓ)

/-- Row `j` of the blocks of point `t`. -/
def row (t : Fin cfg0.N) (j : Fin 528) : Fin 4224 :=
  ⟨t.val * 528 + j.val, by have := lt_of_lt_of_eq t.isLt (show cfg0.N = 8 from N_0); omega⟩

/-- Where the blocks lie at a point. -/
theorem places : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Where the blocks lie at a point. -/
theorem places_out : ∀ t : Fin cfg0.N, win0_4.index t (0 : Fin 2) = t.val
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0 :=
  (by decide +kernel : ∀ t : Fin grid0.N, _)

/-- What the block is added to, as an array. -/
def stream (c : Dev nD) (r : Fin 4224) (i : Fin 1024) : EReal := m ((c : Thread nD τ).loc main_arg0) (ix2 r i)

/-- What the gate let pass, as an array. -/
def active (c : Dev nD) (r : Fin 4224) (i : Fin 2816) : EReal := m ((c : Thread nD τ).loc main_arg1) (ix2 r i)

/-- The weight, as an array. -/
def weight (c : Dev nD) (r : Fin 2816) (i : Fin 1024) : EReal := m ((c : Thread nD τ).loc main_arg2) (ix2 r i)

/-- The targets, as an array. -/
def target (c : Dev nD) (r : Fin 4224) (i : Fin 1024) : EReal := m ((c : Thread nD τ).loc main_arg3) (ix2 r i)

theorem block0 (c : Dev nD) (t : Fin cfg0.N) (j : Fin 528) (k : Fin 1024) :
    (iblk m c 0 t : Vec Ideal S528x1024 .f32) (ix2 j k) = stream m c (row t j) k := by
  obtain ⟨e0, e1, -⟩ := places t
  unfold stream
  blk_ext [iblk, V, e0, e1, row]

theorem block1 (c : Dev nD) (t : Fin cfg0.N) (j : Fin 528) (k : Fin 2816) :
    (iblk m c 1 t : Vec Ideal S528x2816 .bf16) (ix2 j k) = active m c (row t j) k := by
  obtain ⟨-, -, e0, e1, -⟩ := places t
  unfold active
  blk_ext [iblk, V, e0, e1, row]

theorem block2 (c : Dev nD) (t : Fin cfg0.N) (j : Fin 2816) (k : Fin 1024) :
    (iblk m c 2 t : Vec Ideal S2816x1024 .bf16) (ix2 j k) = weight m c j k := by
  obtain ⟨-, -, -, -, e0, e1, -⟩ := places t
  unfold weight
  blk_ext [iblk, V, e0, e1]

theorem block3 (c : Dev nD) (t : Fin cfg0.N) (j : Fin 528) (k : Fin 1024) :
    (iblk m c 3 t : Vec Ideal S528x1024 .f32) (ix2 j k) = target m c (row t j) k := by
  obtain ⟨-, -, -, -, -, -, e0, e1⟩ := places t
  unfold target
  blk_ext [iblk, V, e0, e1, row]

/-- What a row misses its target by. -/
def miss (h : EReal) (x w : Fin 2816 → EReal) (g : EReal) : EReal := h + ∑ i, x i * w i - g

theorem miss_congr {h h' : EReal} {x x' w w' : Fin 2816 → EReal} {g g' : EReal} (eh : h = h') (ex : x = x') (ew : w = w') (eg : g = g') :
    miss h x w g = miss h' x' w' g' := by
  rw [eh, ex, ew, eg]

/-- The mask of the rows that count. -/
theorem counts_word (n : Fin 8) (a : Fin 528) (p : EReal) :
    Scalar.select (IntOp.andi (IntOp.cmpi CmpIPredicate.sge (IntOp.addi (Scalar.muli (BitVec.ofNat 32 n.val) 528#32) (BitVec.ofNat 32 a.val)) 64#32)
        (IntOp.cmpi CmpIPredicate.slt (IntOp.addi (Scalar.muli (BitVec.ofNat 32 n.val) 528#32) (BitVec.ofNat 32 a.val)) 4160#32)) p 0
      = if Counts (n.val * 528 + a.val) then p else 0 := by
  have hn := n.isLt
  have ha := a.isLt
  have e : IntOp.addi (Scalar.muli (BitVec.ofNat 32 n.val) 528#32) (BitVec.ofNat 32 a.val) = BitVec.ofNat 32 (n.val * 528 + a.val) := by
    show BitVec.ofNat 32 n.val * BitVec.ofNat 32 528 + BitVec.ofNat 32 a.val = _
    rw [← BitVec.ofNat_mul, ← BitVec.ofNat_add]
  rw [e]
  unfold Counts
  word_cmp
  exact if_congr Iff.rfl rfl rfl

theorem missed (i : grid0.Coords) (h : Vec Ideal S528x1024 .f32) (x : Vec Ideal S528x2816 .bf16) (w : Vec Ideal S2816x1024 .bf16) (g : Vec Ideal S528x1024 .f32) (j : S528x1024.Idx) :
    k0_pay2 i h x w g j = if Counts ((i 0).val * 528 + (j 0).val) then miss (h j) (fun l => x (ix2 (j 0) l)) (fun l => w (ix2 l (j 1))) (g j) else 0 := by
  refine Eq.trans ?_ (counts_word (i 0) (j 0) _)
  unfold miss
  idx_vars j
  pointwise [k0_pay2]

/-- What the point's row misses by, of the whole arrays. -/
def error (c : Dev nD) (r : Fin 4224) (k : Fin 1024) : EReal :=
  if Counts r.val then miss (stream m c r k) (active m c r) (fun l => weight m c l k) (target m c r k) else 0

theorem point (t : Fin cfg0.N) : ((grid0.coords t) 0).val = t.val := by
  revert t
  exact (by decide +kernel : ∀ t : Fin grid0.N, ((grid0.coords t) 0).val = t.val)

theorem error_block (c : Dev nD) (t : Fin cfg0.N) (j : S528x1024.Idx) :
    k0_pay2 (grid0.coords t) (iblk m c 0 t) (iblk m c 1 t) (iblk m c 2 t) (iblk m c 3 t) j = error m c (row t (j 0)) (j 1) := by
  idx_vars j
  rw [missed, point]
  exact congrArg (fun e => if Counts (row t _).val then e else 0)
    (miss_congr (block0 m c t _ _) (funext fun l => block1 m c t _ l) (funext fun l => block2 m c t l _) (block3 m c t _ _))

/-- An entry of the gradient. -/
def entry (c : Dev nD) (r : Fin 4224) (k : Fin 1024) : EReal := Ideal.div (error m c r k) len

theorem point4 (i : grid0.Coords) (h : Vec Ideal S528x1024 .f32) (x : Vec Ideal S528x2816 .bf16) (w : Vec Ideal S2816x1024 .bf16) (g : Vec Ideal S528x1024 .f32) (j : S528x1024.Idx) : k0_pay3 i h x w g j = Ideal.div (k0_pay2 i h x w g j) len := rfl

theorem point5 (i : grid0.Coords) (h : Vec Ideal S528x1024 .f32) (x : Vec Ideal S528x2816 .bf16) (w : Vec Ideal S2816x1024 .bf16) (g : Vec Ideal S528x1024 .f32) (j : S528x1024.Idx) : k0_pay4 i h x w g j = Ideal.div (k0_pay2 i h x w g j) len := rfl

/-- The sum of a column's squares. -/
def squares (e : Vec Ideal S528x1024 .f32) (k : Fin 1024) : EReal := ∑ r : Fin 528, e (ix2 r k) * e (ix2 r k)

theorem point6 (i : grid0.Coords) (h : Vec Ideal S528x1024 .f32) (x : Vec Ideal S528x2816 .bf16) (w : Vec Ideal S2816x1024 .bf16) (g : Vec Ideal S528x1024 .f32) (v : Vec Ideal S1x1024 .f32) (j : S1x1024.Idx) :
    k0_pay5 i h x w g v j = v j + squares (k0_pay2 i h x w g) (j 1) := by
  unfold squares k0_pay5
  generalize k0_pay2 i h x w g = e
  idx_vars j
  pointwise

/-- The row of zeros that the squares start from. -/
theorem zero_row (j : S1x1024.Idx) : k0_pay1 (F := Ideal) j = 0 := by
  idx_vars j
  pointwise [k0_pay1]

/-- The gradient, as an array. -/
def grad (c : Dev nD) : Vec Ideal S4224x1024 .f32 := fun i => entry m c (i 0) (i 1)

/-- The gradient narrowed, as an array. -/
def gradNarrow (c : Dev nD) : Vec Ideal S4224x1024 .bf16 := fun i => entry m c (i 0) (i 1)

/-- The columns' squares, as an array. -/
def columns (c : Dev nD) : Vec Ideal S1x1024 .f32 := fun i => ∑ r : Fin 4224, error m c r (i 1) * error m c r (i 1)

theorem written4 (c : Dev nD) (t : Fin cfg0.N) (j : S528x1024.Idx) : (outsAt0 m c t.val t.isLt).1 j = grad m c (ix2 (row t (j 0)) (j 1)) := by
  by_cases h : t.val % 8 = 0
  · rw [outsAt0_A m c t h]; frame_out; rw [point4, error_block]; rfl
  · rw [outsAt0_B m c t h]; frame_out; rw [point4, error_block]; rfl

theorem written5 (c : Dev nD) (t : Fin cfg0.N) (j : S528x1024.Idx) : (outsAt0 m c t.val t.isLt).2.1 j = gradNarrow m c (ix2 (row t (j 0)) (j 1)) := by
  by_cases h : t.val % 8 = 0
  · rw [outsAt0_A m c t h]; frame_out; rw [point5, error_block]; rfl
  · rw [outsAt0_B m c t h]; frame_out; rw [point5, error_block]; rfl

/-- What a tile of rows gives for the columns' squares. -/
def tile (c : Dev nD) (s : ℕ) (k : Fin 1024) : EReal :=
  ∑ r : Fin 528, error m c ⟨s % 8 * 528 + r.val, by omega⟩ k * error m c ⟨s % 8 * 528 + r.val, by omega⟩ k

theorem tile_block (c : Dev nD) (t : Fin cfg0.N) (k : Fin 1024) :
    squares (k0_pay2 (grid0.coords t) (iblk m c 0 t) (iblk m c 1 t) (iblk m c 2 t) (iblk m c 3 t)) k = tile m c t.val k := by
  have hN := lt_of_lt_of_eq t.isLt (show cfg0.N = 8 from N_0)
  refine Finset.sum_congr rfl fun r _ => ?_
  have er : row t r = ⟨t.val % 8 * 528 + r.val, by omega⟩ := Fin.ext (by
    show t.val * 528 + r.val = t.val % 8 * 528 + r.val
    omega)
  rw [← er]
  exact congrArg₂ (· * ·) (error_block m c t (ix2 r k)) (error_block m c t (ix2 r k))

/-- The first point starts the sum. -/
theorem starts (c : Dev nD) (t : Fin cfg0.N) (h : t.val % 8 = 0) (j : S1x1024.Idx) : (outsAt0 m c t.val t.isLt).2.2 j = tile m c t.val (j 1) := by
  rw [outsAt0_A m c t h]
  frame_out
  rw [point6]
  exact (congrArg₂ (· + ·) (zero_row j) (tile_block m c t (j 1))).trans (zero_add _)

/-- A later point adds to it. -/
theorem gathers (c : Dev nD) (t : Fin cfg0.N) (h : ¬t.val % 8 = 0) (j : S1x1024.Idx) :
    (outsAt0 m c t.val t.isLt).2.2 j
      = (outsAt0 m c (t.val - 1) (Nat.lt_of_le_of_lt (Nat.sub_le _ _) t.isLt)).2.2 j + tile m c t.val (j 1) := by
  rw [outsAt0_B m c t h]
  frame_out
  rw [point6]
  exact congrArg (_ + ·) (tile_block m c t (j 1))

/-- What has been gathered after some tiles. -/
theorem gathered (c : Dev nD) (j : S1x1024.Idx) : ∀ (n : ℕ) (hn : n < cfg0.N), (outsAt0 m c n hn).2.2 j = ∑ q ∈ Finset.range (n + 1), tile m c q (j 1)
  | 0, hn => by
    refine (starts m c ⟨0, hn⟩ rfl j).trans ?_
    rw [Finset.sum_range_one]
  | n + 1, hn => by
    have hN := lt_of_lt_of_eq hn (show cfg0.N = 8 from N_0)
    refine (gathers m c ⟨n + 1, hn⟩ (by show ¬(n + 1) % 8 = 0; omega) j).trans ?_
    rw [Finset.sum_range_succ]
    exact congrArg (· + _) (gathered c j n (Nat.lt_of_succ_lt hn))

theorem written6 (c : Dev nD) (t : Fin cfg0.N) (h : t.val % 8 = 7) (j : S1x1024.Idx) : (outsAt0 m c t.val t.isLt).2.2 j = columns m c j := by
  have hN := lt_of_lt_of_eq t.isLt (show cfg0.N = 8 from N_0)
  refine (gathered m c j t.val t.isLt).trans ?_
  rw [show t.val + 1 = 8 by omega, Finset.sum_range]
  refine Fin.sum_mul_add_congr (S := 8) (n := 528) (f := fun r : Fin 4224 => error m c r (j 1) * error m c r (j 1)) fun s k hl => ?_
  have e : (⟨s.val % 8 * 528 + k.val, by omega⟩ : Fin 4224) = ⟨s.val * 528 + k.val, hl⟩ := Fin.ext (by
    show s.val % 8 * 528 + k.val = s.val * 528 + k.val
    rw [Nat.mod_eq_of_lt s.isLt])
  rw [e]

/-- The array the kernel leaves in window 4 is that. -/
theorem array4 (c : Dev nD) : (dats m 0 c).arrAt 4 cfg0.N = grad m c := by
  refine (dats m 0 c).arrAt_eq_of_covers 4 _ (by decide +kernel) fun t hf y => ?_
  obtain ⟨e0, e1, -⟩ := places_out t
  have key : ((cfg0.win 4).blk t).view.emb y = ix2 (row t (y 0)) (y 1) := by
    unfold row
    blk_ext [e0, e1]
  rw [key]
  blk_simp
  rw [after0_4]
  exact written4 m c t y

/-- The array the kernel leaves in window 5 is that. -/
theorem array5 (c : Dev nD) : (dats m 0 c).arrAt 5 cfg0.N = gradNarrow m c := by
  refine (dats m 0 c).arrAt_eq_of_covers 5 _ (by decide +kernel) fun t hf y => ?_
  obtain ⟨-, -, e0, e1, -⟩ := places_out t
  have key : ((cfg0.win 5).blk t).view.emb y = ix2 (row t (y 0)) (y 1) := by
    unfold row
    blk_ext [e0, e1]
  rw [key]
  blk_simp
  rw [after0_5]
  exact written5 m c t y

/-- The array the kernel leaves in window 6 is that. -/
theorem array6 (c : Dev nD) : (dats m 0 c).arrAt 6 cfg0.N = columns m c := by
  refine (dats m 0 c).arrAt_eq_of_covers 6 _ (by decide +kernel) fun t hf y => ?_
  obtain ⟨-, -, -, -, e0, e1⟩ := places_out t
  have key : ((cfg0.win 6).blk t).view.emb y = y := by
    blk_ext [e0, e1]
  rw [key]
  blk_simp
  rw [after0_6]
  exact written6 m c t ((flush0_6 t).mp hf) y

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = gradNarrow m c
      ∧ r.2.mem ((c : Thread nD τ).loc main_v0_2) = columns m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m c),
      ((h c).1 5).trans (array5 m c),
      ((h c).1 6).trans (array6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Kernel

section Reference
open Cert.Reference17Ideal

/-- What a row misses by, from the reference's arguments. -/
def given (x0 : Vec Ideal S4224x1024 .f32) (x1 : Vec Ideal S4224x2816 .bf16) (x2 : Vec Ideal S2816x1024 .bf16) (x3 : Vec Ideal S4224x1024 .f32) (r : Fin 4224) (k : Fin 1024) : EReal :=
  miss (x0 (ix2 r k)) (fun l => x1 (ix2 r l)) (fun l => x2 (ix2 l k)) (x3 (ix2 r k))

/-- The gradient on the rows that count. -/
theorem inner (x0 : Vec Ideal S4224x1024 .f32) (x1 : Vec Ideal S4224x2816 .bf16) (x2 : Vec Ideal S2816x1024 .bf16) (x3 : Vec Ideal S4224x1024 .f32) (r : Fin 4096) (k : Fin 1024) :
    Read.val_main_v20 (F := Ideal) x0 x1 x2 x3 (ix2 r k) = doubled (given x0 x1 x2 x3 ⟨64 + r.val, by omega⟩ k) := by
  unfold Read.val_main_v20 Read.val_main_v19 Read.val_main_v18 Read.val_main_v17 Read.val_main_cst_6 Read.val_main_v16 Read.val_main_v15 Read.val_main_cst_5 Read.val_main_cst_4 Read.val_main_v9 Read.val_main_v8 Read.val_main_cst Read.val_main_v6 Read.val_main_v5 Read.val_main_v4 Read.val_main_v3 Read.val_main_v2 Read.val_main_v1 Read.val_main_v0
  pointwise [doubled, given, miss, len]

theorem result4 (x0 : Vec Ideal S4224x1024 .f32) (x1 : Vec Ideal S4224x2816 .bf16) (x2 : Vec Ideal S2816x1024 .bf16) (x3 : Vec Ideal S4224x1024 .f32) :
    Read.val_main_v21 (F := Ideal) x0 x1 x2 x3 = (fun i => Ideal.div (if Counts (i 0).val then given x0 x1 x2 x3 (i 0) (i 1) else 0) len : Vec Ideal S4224x1024 .f32) := by
  funext i
  idx_vars i
  unfold Read.val_main_v21 Read.val_main_cst_7
  pointwise
  by_cases h : Counts i0.val
  · have h' : 64 ≤ i0.val ∧ i0.val - 64 < 4096 := ⟨h.1, by have := h.2; omega⟩
    refine (dif_pos h').trans (((inner _ _ _ _ _ _).trans (doubled_eq _)).trans (Eq.trans ?_ (congrArg (Ideal.div · len) (if_pos h)).symm))
    exact congrArg (fun r => Ideal.div (given x0 x1 x2 x3 r i1) len) (Fin.ext (by show 64 + (i0.val - 64) = i0.val; omega))
  · refine (dif_neg fun h' => h ⟨h'.1, by have := h'.2; have := h'.1; omega⟩).trans (Eq.trans ?_ (congrArg (Ideal.div · len) (if_neg h)).symm)
    exact none_missed.symm

theorem result5 (x0 : Vec Ideal S4224x1024 .f32) (x1 : Vec Ideal S4224x2816 .bf16) (x2 : Vec Ideal S2816x1024 .bf16) (x3 : Vec Ideal S4224x1024 .f32) :
    Read.val_main_v26 (F := Ideal) x0 x1 x2 x3 = (fun i => Ideal.div (if Counts (i 0).val then given x0 x1 x2 x3 (i 0) (i 1) else 0) len : Vec Ideal S4224x1024 .bf16) := by
  unfold Read.val_main_v26
  rw [result4]
  funext i
  idx_vars i
  pointwise

theorem result6 (x0 : Vec Ideal S4224x1024 .f32) (x1 : Vec Ideal S4224x2816 .bf16) (x2 : Vec Ideal S2816x1024 .bf16) (x3 : Vec Ideal S4224x1024 .f32) :
    Read.val_main_v28 (F := Ideal) x0 x1 x2 x3 = (fun i => ∑ q : Fin 4096, given x0 x1 x2 x3 ⟨64 + q.val, by omega⟩ (i 1) * given x0 x1 x2 x3 ⟨64 + q.val, by omega⟩ (i 1) : Vec Ideal S1x1024 .f32) := by
  funext i
  idx_vars i
  unfold Read.val_main_v28 Read.val_main_v27 Read.val_main_cst_8 Read.val_main_v25 Read.val_main_v24 Read.val_main_v23 Read.val_main_v22 Read.val_main_v3 Read.val_main_v2 Read.val_main_v1 Read.val_main_v0
  pointwise [given, miss]

/-- The reference runs, and its arguments end unchanged. -/
theorem frame_reference : Cert.quiescent_Reference17Ideal := fun m ρ _ =>
  (θ_run defs _ _).mono (fun r h => ⟨fun c => (h c).2.2.2, sem_eq_zero_of_no_sems (by decide) r.2⟩) (Cert.Reference17Ideal.Value.run m ρ)

end Reference

section Kernel
open Cert.Kernel17Ideal Cert.Kernel17Ideal.Gen

/-- The columns' squares are sums over the rows that count. -/
theorem columns_eq (m : (ℓ : Loc nD τ sig) → Buf (Elt Ideal) ℓ) (c : Dev nD) :
    columns m c = (fun i => ∑ q : Fin 4096,
      miss (stream m c ⟨64 + q.val, by omega⟩ (i 1)) (active m c ⟨64 + q.val, by omega⟩) (fun l => weight m c l (i 1)) (target m c ⟨64 + q.val, by omega⟩ (i 1))
        * miss (stream m c ⟨64 + q.val, by omega⟩ (i 1)) (active m c ⟨64 + q.val, by omega⟩) (fun l => weight m c l (i 1)) (target m c ⟨64 + q.val, by omega⟩ (i 1)) :
      Vec Ideal S1x1024 .f32) := by
  funext i
  unfold columns
  refine (sum_counts _ fun r hr => ?_).trans (Finset.sum_congr rfl fun q _ => ?_)
  · unfold error
    rw [if_neg hr, zero_mul]
  · unfold error
    rw [if_pos (show Counts (64 + q.val) from ⟨by omega, by omega⟩)]

end Kernel

/-- The kernel's results are the reference's. -/
theorem values : Cert.algebraic_Kernel17Ideal_Reference17Ideal := by
  intro m ρ m' ρ' _ hagree
  refine ⟨fun c => grad m c, fun c => gradNarrow m c, fun c => columns m c, ?_, ?_⟩
  · refine (θ_run _ _ _).mono (fun r h c => ?_) (kernel_runs m ρ)
    exact h c
  · refine (θ_run _ _ _).mono (fun r h c => ?_) (Cert.Reference17Ideal.Value.run m' ρ')
    obtain ⟨a0, a1, a2, a3⟩ := hagree c
    refine ⟨(h c).1.trans ?_, (h c).2.1.trans ?_, (h c).2.2.1.trans ?_, (h c).2.2.2⟩
    · rw [Cert.Reference17Ideal.Read.val_main_v21_eq, a0, a1, a2, a3]
      exact result4 _ _ _ _
    · rw [Cert.Reference17Ideal.Read.val_main_v26_eq, a0, a1, a2, a3]
      exact result5 _ _ _ _
    · rw [Cert.Reference17Ideal.Read.val_main_v28_eq, a0, a1, a2, a3]
      exact (result6 _ _ _ _).trans (columns_eq m c).symm

end Cert.Fwd.Loss

end
-- ==== Proof.FfnInBwd.lean ====
/-
  THE GRADIENT OF THE RESIDUAL STREAM BEFORE THE FEED-FORWARD BLOCK, AND OF THE NORM'S GAIN: two products summed over two
  halves of their columns, carried back through the root-mean-square norm, and the gain's gradient gathered over eight tiles
  of rows; beside the whole products and the norm's derivative step by step. For finite numbers.
-/
module

public import proofs.«01_k».proof.Proof.Names
public import proofs.«01_k».proof.Defs
public import proofs.«01_k».proof.Proof.Gen.Kernel18Ideal
public import proofs.«01_k».proof.Proof.Gen.Kernel18Ideal.Frame
public import proofs.«01_k».proof.Proof.Gen.Reference18Ideal.Run
public import proofs.«01_k».proof.Proof.Gen.Reference18Ideal.Read
public import proofs.«01_k».proof.Proof.Rms
public import proofs.«01_k».proof.Proof.Gen.Pre_finite18
public import Idealize.ShloMosaic.Lib.Pointwise
public import Idealize.ShloMosaic.Lib.Pipeline.ValueKit

@[expose] public section

noncomputable section

namespace Cert.Bwd.FfnIn

open Idealize.ShloMosaic Idealize.ShloMosaic.TcCoe Idealize.SL.Sem
open Cert.Rms Cert.Scan
open scoped BigOperators

section Kernel
open Cert.Kernel18Ideal Cert.Kernel18Ideal.Gen

variable (m : (ℓ : Loc nD τ sig) → Buf (Elt Ideal) ℓ)

/-- Row `j` of the blocks of point `t`. -/
def row (t : Fin cfg0.N) (j : Fin 528) : Fin 4224 :=
  ⟨t.val / 2 * 528 + j.val, by have := lt_of_lt_of_eq t.isLt (show cfg0.N = 16 from N_0); omega⟩

/-- Column `j` of the blocks of point `t`. -/
def lane (t : Fin cfg0.N) (j : Fin 1408) : Fin 2816 :=
  ⟨t.val % 2 * 1408 + j.val, by have := lt_of_lt_of_eq t.isLt (show cfg0.N = 16 from N_0); omega⟩

/-- Where the blocks lie at a point. -/
theorem places : ∀ t : Fin cfg0.N, win0_0.index t (0 : Fin 2) = t.val / 2
    ∧ win0_0.index t (1 : Fin 2) = t.val % 2
    ∧ win0_1.index t (0 : Fin 2) = t.val % 2
    ∧ win0_1.index t (1 : Fin 2) = 0
    ∧ win0_2.index t (0 : Fin 2) = t.val / 2
    ∧ win0_2.index t (1 : Fin 2) = t.val % 2
    ∧ win0_3.index t (0 : Fin 2) = t.val % 2
    ∧ win0_3.index t (1 : Fin 2) = 0 :=
  (by decide +kernel : ∀ t : Fin grid0.N, _)

/-- Where the blocks lie at a point. -/
theorem places_row : ∀ t : Fin cfg0.N, win0_4.index t (0 : Fin 2) = t.val / 2
    ∧ win0_4.index t (1 : Fin 2) = 0
    ∧ win0_5.index t (0 : Fin 2) = 0
    ∧ win0_5.index t (1 : Fin 2) = 0
    ∧ win0_6.index t (0 : Fin 2) = t.val / 2
    ∧ win0_6.index t (1 : Fin 2) = 0 :=
  (by decide +kernel : ∀ t : Fin grid0.N, _)

/-- Where the blocks lie at a point. -/
theorem places_out : ∀ t : Fin cfg0.N, win0_7.index t (0 : Fin 2) = t.val / 2
    ∧ win0_7.index t (1 : Fin 2) = 0
    ∧ win0_8.index t (0 : Fin 2) = t.val / 2
    ∧ win0_8.index t (1 : Fin 2) = 0
    ∧ win0_9.index t (0 : Fin 2) = 0
    ∧ win0_9.index t (1 : Fin 2) = 0 :=
  (by decide +kernel : ∀ t : Fin grid0.N, _)

/-- The gradient of the gate's argument, as an array. -/
def gateGrad (c : Dev nD) (r : Fin 4224) (i : Fin 2816) : EReal := m ((c : Thread nD τ).loc main_arg0) (ix2 r i)

/-- The gradient of what the gate multiplies, as an array. -/
def upGrad (c : Dev nD) (r : Fin 4224) (i : Fin 2816) : EReal := m ((c : Thread nD τ).loc main_arg1) (ix2 r i)

/-- The gate's weight, as an array. -/
def gateWeight (c : Dev nD) (r : Fin 2816) (i : Fin 1024) : EReal := m ((c : Thread nD τ).loc main_arg2) (ix2 r i)

/-- The other weight, as an array. -/
def upWeight (c : Dev nD) (r : Fin 2816) (i : Fin 1024) : EReal := m ((c : Thread nD τ).loc main_arg3) (ix2 r i)

/-- What is normed, as an array. -/
def stream (c : Dev nD) (r : Fin 4224) (i : Fin 1024) : EReal := m ((c : Thread nD τ).loc main_arg4) (ix2 r i)

/-- The norm's gain, as an array. -/
def gain (c : Dev nD) (r : Fin 1) (i : Fin 1024) : EReal := m ((c : Thread nD τ).loc main_arg5) (ix2 r i)

/-- The gradient that passes the block by, as an array. -/
def past (c : Dev nD) (r : Fin 4224) (i : Fin 1024) : EReal := m ((c : Thread nD τ).loc main_arg6) (ix2 r i)

theorem block0 (c : Dev nD) (t : Fin cfg0.N) (j : Fin 528) (k : Fin 1408) :
    (iblk m c 0 t : Vec Ideal S528x1408 .bf16) (ix2 j k) = gateGrad m c (row t j) (lane t k) := by
  obtain ⟨e0, e1, -⟩ := places t
  unfold gateGrad
  blk_ext [iblk, V, e0, e1, lane, row]

theorem block1 (c : Dev nD) (t : Fin cfg0.N) (j : Fin 1408) (k : Fin 1024) :
    (iblk m c 1 t : Vec Ideal S1408x1024 .bf16) (ix2 j k) = gateWeight m c (lane t j) k := by
  obtain ⟨-, -, e0, e1, -⟩ := places t
  unfold gateWeight
  blk_ext [iblk, V, e0, e1, lane]

theorem block2 (c : Dev nD) (t : Fin cfg0.N) (j : Fin 528) (k : Fin 1408) :
    (iblk m c 2 t : Vec Ideal S528x1408 .bf16) (ix2 j k) = upGrad m c (row t j) (lane t k) := by
  obtain ⟨-, -, -, -, e0, e1, -⟩ := places t
  unfold upGrad
  blk_ext [iblk, V, e0, e1, lane, row]

theorem block3 (c : Dev nD) (t : Fin cfg0.N) (j : Fin 1408) (k : Fin 1024) :
    (iblk m c 3 t : Vec Ideal S1408x1024 .bf16) (ix2 j k) = upWeight m c (lane t j) k := by
  obtain ⟨-, -, -, -, -, -, e0, e1⟩ := places t
  unfold upWeight
  blk_ext [iblk, V, e0, e1, lane]

theorem block4 (c : Dev nD) (t : Fin cfg0.N) (j : Fin 528) (k : Fin 1024) :
    (iblk m c 4 t : Vec Ideal S528x1024 .f32) (ix2 j k) = stream m c (row t j) k := by
  obtain ⟨e0, e1, -⟩ := places_row t
  unfold stream
  blk_ext [iblk, V, e0, e1, row]

theorem block5 (c : Dev nD) (t : Fin cfg0.N) (j : Fin 1) (k : Fin 1024) :
    (iblk m c 5 t : Vec Ideal S1x1024 .f32) (ix2 j k) = gain m c j k := by
  obtain ⟨-, -, e0, e1, -⟩ := places_row t
  unfold gain
  blk_ext [iblk, V, e0, e1]

theorem block6 (c : Dev nD) (t : Fin cfg0.N) (j : Fin 528) (k : Fin 1024) :
    (iblk m c 6 t : Vec Ideal S528x1024 .f32) (ix2 j k) = past m c (row t j) k := by
  obtain ⟨-, -, -, -, e0, e1⟩ := places_row t
  unfold past
  blk_ext [iblk, V, e0, e1, row]

/-- The array of zeros that the products start from. -/
theorem zeros (j : S528x1024.Idx) : k0_pay2 (F := Ideal) j = 0 := by
  idx_vars j
  pointwise [k0_pay2]

/-- The row of zeros that the gain's gradient starts from. -/
theorem zero_row (j : S1x1024.Idx) : k0_pay1 (F := Ideal) j = 0 := by
  idx_vars j
  pointwise [k0_pay1]

/-- A block of a product. -/
def dot (x : Vec Ideal S528x1408 .bf16) (w : Vec Ideal S1408x1024 .bf16) (j : S528x1024.Idx) : EReal :=
  ∑ i : Fin 1408, x (ix2 (j 0) i) * w (ix2 i (j 1))

/-- A point adds its two products to what was summed before it. -/
theorem adds (x : Vec Ideal S528x1408 .bf16) (w : Vec Ideal S1408x1024 .bf16) (y : Vec Ideal S528x1408 .bf16) (u : Vec Ideal S1408x1024 .bf16) (acc : Vec Ideal S528x1024 .f32) (j : S528x1024.Idx) :
    k0_pay3 x w y u acc j = acc j + (dot x w j + dot y u j) := by
  unfold dot
  idx_vars j
  pointwise [k0_pay3]

/-- A half of one product at a row and a column. -/
def half (x : Fin 4224 → Fin 2816 → EReal) (w : Fin 2816 → Fin 1024 → EReal) (t : Fin cfg0.N) (j : S528x1024.Idx) : EReal :=
  ∑ i : Fin 1408, x (row t (j 0)) (lane t i) * w (lane t i) (j 1)

theorem half_gate (c : Dev nD) (t : Fin cfg0.N) (j : S528x1024.Idx) : dot (iblk m c 0 t) (iblk m c 1 t) j = half (gateGrad m c) (gateWeight m c) t j :=
  Finset.sum_congr rfl fun i _ => congrArg₂ (· * ·) (block0 m c t (j 0) i) (block1 m c t i (j 1))

theorem half_up (c : Dev nD) (t : Fin cfg0.N) (j : S528x1024.Idx) : dot (iblk m c 2 t) (iblk m c 3 t) j = half (upGrad m c) (upWeight m c) t j :=
  Finset.sum_congr rfl fun i _ => congrArg₂ (· * ·) (block2 m c t (j 0) i) (block3 m c t i (j 1))

/-- What a point adds. -/
def term (c : Dev nD) (t : Fin cfg0.N) (j : S528x1024.Idx) : EReal :=
  half (gateGrad m c) (gateWeight m c) t j + half (upGrad m c) (upWeight m c) t j

/-- The first point of a tile starts from zero. -/
theorem first (c : Dev nD) (t : Fin cfg0.N) (h : t.val % 2 = 0) (j : S528x1024.Idx) :
    (outsAt0 m c t.val t.isLt).2.2.2 j = term m c t j := by
  by_cases h0 : t.val % 16 = 0
  · rw [outsAt0_A m c t h0 h (by omega)]; frame_out; rw [adds, half_gate, half_up, zeros, zero_add]; rfl
  · rw [outsAt0_C m c t h0 h (by omega)]; frame_out; rw [adds, half_gate, half_up, zeros, zero_add]; rfl

/-- The two products, whole. -/
def product (x : Fin 4224 → Fin 2816 → EReal) (w : Fin 2816 → Fin 1024 → EReal) (r : Fin 4224) (k : Fin 1024) : EReal :=
  ∑ i : Fin 2816, x r i * w i k

/-- The two halves of a product make the whole. -/
theorem halves (x : Fin 4224 → Fin 2816 → EReal) (w : Fin 2816 → Fin 1024 → EReal) (s t : Fin cfg0.N) (hs : s.val + 1 = t.val) (ht : t.val % 2 = 1) (j : S528x1024.Idx) :
    half x w s j + half x w t j = product x w (row t (j 0)) (j 1) := by
  have er : row s (j 0) = row t (j 0) := Fin.ext (by
    show s.val / 2 * 528 + _ = t.val / 2 * 528 + _
    omega)
  have e : ∑ q : Fin 2, ∑ i : Fin 1408, x (row t (j 0)) ⟨q.val * 1408 + i.val, by omega⟩ * w ⟨q.val * 1408 + i.val, by omega⟩ (j 1)
      = product x w (row t (j 0)) (j 1) := Fin.sum_mul_add_congr (f := fun i : Fin 2816 => x (row t (j 0)) i * w i (j 1)) fun _ _ _ => rfl
  refine Eq.trans ?_ e
  rw [Fin.sum_univ_two]
  unfold half
  rw [er]
  have l0 : ∀ i, lane s i = ⟨(0 : Fin 2).val * 1408 + i.val, by omega⟩ := fun i => Fin.ext (by
    show s.val % 2 * 1408 + i.val = 0 * 1408 + i.val
    omega)
  have l1 : ∀ i, lane t i = ⟨(1 : Fin 2).val * 1408 + i.val, by omega⟩ := fun i => Fin.ext (by
    show t.val % 2 * 1408 + i.val = 1 * 1408 + i.val
    omega)
  simp only [l0, l1]

/-- The gradient of the normed rows. -/
def upper (c : Dev nD) (r : Fin 4224) (k : Fin 1024) : EReal :=
  product (upGrad m c) (upWeight m c) r k + product (gateGrad m c) (gateWeight m c) r k

/-- Where the array of what the point before left is read. -/
abbrev before (c : Dev nD) (t : Fin cfg0.N) : Vec Ideal S528x1024 .f32 :=
  (outsAt0 m c (t.val - 1) (Nat.lt_of_le_of_lt (Nat.sub_le _ _) t.isLt)).2.2.2

/-- The second point of a tile completes it. -/
theorem completes (c : Dev nD) (t : Fin cfg0.N) (h : t.val % 2 = 1) (j : S528x1024.Idx) :
    before m c t j + term m c t j = upper m c (row t (j 0)) (j 1) := by
  have e := first m c ⟨t.val - 1, Nat.lt_of_le_of_lt (Nat.sub_le _ _) t.isLt⟩ (by show (t.val - 1) % 2 = 0; omega) j
  refine (congrArg (· + term m c t j) e).trans ?_
  unfold term upper
  rw [add_add_add_comm, halves _ _ _ t (by show t.val - 1 + 1 = t.val; omega) h, halves _ _ _ t (by show t.val - 1 + 1 = t.val; omega) h, add_comm]

/-- One row of a block. -/
def line (x : Vec Ideal S528x1024 .f32) (j : Fin 528) (k : Fin 1024) : EReal := x (ix2 j k)

/-- The row's gradient as a point computes it. -/
theorem point7 (h : Vec Ideal S528x1024 .f32) (g : Vec Ideal S1x1024 .f32) (d r : Vec Ideal S528x1024 .f32) (j : S528x1024.Idx) :
    k0_pay6 h g d r j = cubed (line h (j 0)) (fun k => g (ix2 0 k)) (line d (j 0)) (j 1) + r j := by
  unfold cubed scale square line len small
  idx_vars j
  pointwise [k0_pay6, k0_pay5]

theorem point8 (h : Vec Ideal S528x1024 .f32) (g : Vec Ideal S1x1024 .f32) (d r : Vec Ideal S528x1024 .f32) (j : S528x1024.Idx) :
    k0_pay7 h g d r j = cubed (line h (j 0)) (fun k => g (ix2 0 k)) (line d (j 0)) (j 1) + r j := by
  unfold cubed scale square line len small
  idx_vars j
  pointwise [k0_pay7, k0_pay6, k0_pay5]

theorem point9 (g : Vec Ideal S1x1024 .f32) (h d : Vec Ideal S528x1024 .f32) (j : S1x1024.Idx) :
    k0_pay4 (k0_pay8 g) (k0_pay9 h d) j = g j + ∑ r : Fin 528, line d r (j 1) * line h r (j 1) * scale (line h r) := by
  unfold scale square line len small
  idx_vars j
  pointwise [k0_pay4, k0_pay8, k0_pay9, k0_pay5]

/-- The gradients of the normed rows of a tile, at the tile's last point. -/
theorem upper_line (c : Dev nD) (t : Fin cfg0.N) (h : t.val % 2 = 1) {acc : Vec Ideal S528x1024 .f32} (e : acc = before m c t) (r : Fin 528) :
    line (k0_pay3 (iblk m c 0 t) (iblk m c 1 t) (iblk m c 2 t) (iblk m c 3 t) acc) r = upper m c (row t r) := by
  funext k
  unfold line
  rw [adds, half_gate, half_up, e]
  exact completes m c t h (ix2 r k)

theorem stream_line (c : Dev nD) (t : Fin cfg0.N) (r : Fin 528) : line (iblk m c 4 t) r = stream m c (row t r) :=
  funext fun k => block4 m c t r k

theorem cubed_congr {h h' g g' d d' : Fin 1024 → EReal} (eh : h = h') (eg : g = g') (ed : d = d') (j : Fin 1024) :
    cubed h g d j = cubed h' g' d' j := by
  rw [eh, eg, ed]

/-- Finite numbers everywhere but in the gradient that passes the block by. -/
structure Bounded (c : Dev nD) : Prop where
  gateGrad : ∀ r i, Fine (gateGrad m c r i)
  upGrad : ∀ r i, Fine (upGrad m c r i)
  gateWeight : ∀ r i, Fine (gateWeight m c r i)
  upWeight : ∀ r i, Fine (upWeight m c r i)
  stream : ∀ r i, Fine (stream m c r i)
  gain : ∀ r i, Fine (gain m c r i)

variable {m}

theorem Bounded.upper {c : Dev nD} (H : Bounded m c) (r : Fin 4224) (k : Fin 1024) : Fine (upper m c r k) :=
  (Fine.sum fun _ => (H.upGrad _ _).mul (H.upWeight _ _)).add (Fine.sum fun _ => (H.gateGrad _ _).mul (H.gateWeight _ _))

variable (m)

/-- An entry of the stream's gradient. -/
def entry (c : Dev nD) (r : Fin 4224) (k : Fin 1024) : EReal :=
  stepped (stream m c r) (gain m c 0) (upper m c r) k + past m c r k

/-- The stream's gradient, as an array. -/
def gradStream (c : Dev nD) : Vec Ideal S4224x1024 .f32 := fun i => entry m c (i 0) (i 1)

/-- The stream's gradient narrowed, as an array. -/
def gradNarrow (c : Dev nD) : Vec Ideal S4224x1024 .bf16 := fun i => entry m c (i 0) (i 1)

/-- The gain's gradient, as an array. -/
def gradGain (c : Dev nD) : Vec Ideal S1x1024 .f32 := fun i => gainGrad (stream m c) (upper m c) (i 1)

variable {m}

theorem entry_eq {c : Dev nD} (H : Bounded m c) (t : Fin cfg0.N) (h : t.val % 2 = 1) {acc : Vec Ideal S528x1024 .f32} (e : acc = before m c t) (a : Fin 528) (b : Fin 1024) :
    cubed (line (iblk m c 4 t) a) (fun k => (iblk m c 5 t : Vec Ideal S1x1024 .f32) (ix2 0 k)) (line (k0_pay3 (iblk m c 0 t) (iblk m c 1 t) (iblk m c 2 t) (iblk m c 3 t) acc) a) b
      + (iblk m c 6 t : Vec Ideal S528x1024 .f32) (ix2 a b) = entry m c (row t a) b := by
  refine (congrArg₂ (· + ·) (cubed_congr (stream_line m c t a) (funext fun k => block5 m c t 0 k) (upper_line m c t h e a) b) (block6 m c t a b)).trans ?_
  exact congrArg (· + _) (cubed_eq (H.stream _) (H.gain _) (H.upper _) b)

theorem written7 {c : Dev nD} (H : Bounded m c) (t : Fin cfg0.N) (h : t.val % 2 = 1) (j : S528x1024.Idx) :
    (outsAt0 m c t.val t.isLt).1 j = gradStream m c (ix2 (row t (j 0)) (j 1)) := by
  rw [outsAt0_B m c t (by omega) (by omega) h]
  frame_out
  rw [point7]
  idx_vars j
  exact entry_eq H t h (Memref.IsWhole.read_unread _ _) _ _

theorem written8 {c : Dev nD} (H : Bounded m c) (t : Fin cfg0.N) (h : t.val % 2 = 1) (j : S528x1024.Idx) :
    (outsAt0 m c t.val t.isLt).2.1 j = gradNarrow m c (ix2 (row t (j 0)) (j 1)) := by
  rw [outsAt0_B m c t (by omega) (by omega) h]
  frame_out
  rw [point8]
  idx_vars j
  exact entry_eq H t h (Memref.IsWhole.read_unread _ _) _ _

variable (m)

/-- What a tile of rows gives for the gain. -/
def tile (c : Dev nD) (s : ℕ) (k : Fin 1024) : EReal :=
  ∑ r : Fin 528, upper m c ⟨s % 8 * 528 + r.val, by omega⟩ k * stream m c ⟨s % 8 * 528 + r.val, by omega⟩ k * scale (stream m c ⟨s % 8 * 528 + r.val, by omega⟩)

/-- A tile's last point adds what the tile gives. -/
theorem gathers (c : Dev nD) (t : Fin cfg0.N) (h : t.val % 2 = 1) (j : S1x1024.Idx) :
    (outsAt0 m c t.val t.isLt).2.2.1 j
      = (outsAt0 m c (t.val - 1) (Nat.lt_of_le_of_lt (Nat.sub_le _ _) t.isLt)).2.2.1 j + tile m c (t.val / 2) (j 1) := by
  have hN := lt_of_lt_of_eq t.isLt (show cfg0.N = 16 from N_0)
  rw [outsAt0_B m c t (by omega) (by omega) h]
  frame_out
  rw [point9]
  refine congrArg (_ + ·) (Finset.sum_congr rfl fun r _ => ?_)
  have er : row t r = ⟨t.val / 2 % 8 * 528 + r.val, by omega⟩ := Fin.ext (by
    show t.val / 2 * 528 + r.val = t.val / 2 % 8 * 528 + r.val
    omega)
  rw [← er]
  exact congrArg₂ (· * ·) (congrArg₂ (· * ·) (congrFun (upper_line m c t h (Memref.IsWhole.read_unread _ _) r) _) (congrFun (stream_line m c t r) _))
    (congrArg scale (stream_line m c t r))

/-- The first point of all sets the gain's gradient to zero. -/
theorem clears (c : Dev nD) (t : Fin cfg0.N) (h : t.val % 16 = 0) (j : S1x1024.Idx) : (outsAt0 m c t.val t.isLt).2.2.1 j = 0 := by
  rw [outsAt0_A m c t h (by omega) (by omega)]
  frame_out
  exact zero_row j

/-- A later tile's first point keeps it. -/
theorem keeps (c : Dev nD) (t : Fin cfg0.N) (h : t.val % 2 = 0) (h' : ¬t.val % 16 = 0) (j : S1x1024.Idx) :
    (outsAt0 m c t.val t.isLt).2.2.1 j = (outsAt0 m c (t.val - 1) (Nat.lt_of_le_of_lt (Nat.sub_le _ _) t.isLt)).2.2.1 j := by
  rw [outsAt0_C m c t h' h (by omega)]
  dsimp only
  unfold out0_C_9
  frame_out

/-- What has been gathered after some tiles. -/
theorem gathered (c : Dev nD) (j : S1x1024.Idx) (s : ℕ) : ∀ (n : ℕ) (hn : n < cfg0.N), n = 2 * s + 1 →
    (outsAt0 m c n hn).2.2.1 j = ∑ q ∈ Finset.range (s + 1), tile m c q (j 1) := by
  induction s with
  | zero =>
    intro n hn e
    refine (gathers m c ⟨n, hn⟩ (by show n % 2 = 1; omega) j).trans ?_
    rw [Finset.sum_range_one]
    refine (congrArg₂ (· + ·) (clears m c ⟨n - 1, by omega⟩ (by show (n - 1) % 16 = 0; omega) j) (congrArg (fun s => tile m c s (j 1)) (by show n / 2 = 0; omega))).trans ?_
    exact zero_add _
  | succ s ih =>
    intro n hn e
    have hN := lt_of_lt_of_eq hn (show cfg0.N = 16 from N_0)
    refine (gathers m c ⟨n, hn⟩ (by show n % 2 = 1; omega) j).trans ?_
    rw [Finset.sum_range_succ]
    refine congrArg₂ (· + ·) ?_ (congrArg (fun s => tile m c s (j 1)) (by show n / 2 = s + 1; omega))
    refine (keeps m c ⟨n - 1, by omega⟩ (by show (n - 1) % 2 = 0; omega) (by show ¬(n - 1) % 16 = 0; omega) j).trans ?_
    exact ih (n - 1 - 1) _ (by omega)

theorem written9 (c : Dev nD) (t : Fin cfg0.N) (h : t.val % 16 = 15) (j : S1x1024.Idx) :
    (outsAt0 m c t.val t.isLt).2.2.1 j = gradGain m c j := by
  have hN := lt_of_lt_of_eq t.isLt (show cfg0.N = 16 from N_0)
  refine (gathered m c j 7 t.val t.isLt (by omega)).trans ?_
  rw [Finset.sum_range]
  refine Eq.trans ?_ (gainGrad_eq (stream m c) (upper m c) (j 1))
  refine Fin.sum_mul_add_congr (S := 8) (n := 528) (f := fun r : Fin 4224 => upper m c r (j 1) * stream m c r (j 1) * scale (stream m c r)) fun s k hl => ?_
  have e : (⟨s.val % 8 * 528 + k.val, by omega⟩ : Fin 4224) = ⟨s.val * 528 + k.val, hl⟩ := Fin.ext (by
    show s.val % 8 * 528 + k.val = s.val * 528 + k.val
    rw [Nat.mod_eq_of_lt s.isLt])
  rw [e]

/-- The array the kernel leaves in window 7 is that. -/
theorem array7 {c : Dev nD} (H : Bounded m c) : (dats m 0 c).arrAt 7 cfg0.N = gradStream m c := by
  refine (dats m 0 c).arrAt_eq_of_covers 7 _ (by decide +kernel) fun t hf y => ?_
  obtain ⟨e0, e1, -⟩ := places_out t
  have key : ((cfg0.win 7).blk t).view.emb y = ix2 (row t (y 0)) (y 1) := by
    unfold row
    blk_ext [e0, e1]
  rw [key]
  blk_simp
  rw [after0_7]
  exact written7 H t ((flush0_7 t).mp hf) y

/-- The array the kernel leaves in window 8 is that. -/
theorem array8 {c : Dev nD} (H : Bounded m c) : (dats m 0 c).arrAt 8 cfg0.N = gradNarrow m c := by
  refine (dats m 0 c).arrAt_eq_of_covers 8 _ (by decide +kernel) fun t hf y => ?_
  obtain ⟨-, -, e0, e1, -⟩ := places_out t
  have key : ((cfg0.win 8).blk t).view.emb y = ix2 (row t (y 0)) (y 1) := by
    unfold row
    blk_ext [e0, e1]
  rw [key]
  blk_simp
  rw [after0_8]
  exact written8 H t ((flush0_8 t).mp hf) y

/-- The array the kernel leaves in window 9 is that. -/
theorem array9 (c : Dev nD) : (dats m 0 c).arrAt 9 cfg0.N = gradGain m c := by
  refine (dats m 0 c).arrAt_eq_of_covers 9 _ (by decide +kernel) fun t hf y => ?_
  obtain ⟨-, -, -, -, e0, e1⟩ := places_out t
  have key : ((cfg0.win 9).blk t).view.emb y = y := by
    blk_ext [e0, e1]
  rw [key]
  blk_simp
  rw [after0_9]
  exact written9 m c t ((flush0_9 t).mp hf) y

/-- The kernel runs, leaves its results, and its arguments end unchanged. -/
theorem kernel_runs (ρ : Dev nD → PrngReg) (H : ∀ c, Bounded m c) :
    θ_run defs (onTc (τ := τ) (main (F := Ideal))) ⟨m, fun _ => 0, ρ⟩ fun r => ∀ c : Dev nD,
      r.2.mem ((c : Thread nD τ).loc main_v0_0) = gradStream m c
      ∧ r.2.mem ((c : Thread nD τ).loc main_v0_1) = gradNarrow m c
      ∧ r.2.mem ((c : Thread nD τ).loc main_v0_2) = gradGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (array7 m (H c)),
      ((h c).1 8).trans (array8 m (H c)),
      ((h c).1 9).trans (array9 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Kernel

section Reference
open Cert.Reference18Ideal

/-- The gradient of the normed rows, from the reference's arguments. -/
def given (x0 : Vec Ideal S4224x2816 .bf16) (x1 : Vec Ideal S4224x2816 .bf16) (x2 : Vec Ideal S2816x1024 .bf16) (x3 : Vec Ideal S2816x1024 .bf16) (r : Fin 4224) (k : Fin 1024) : EReal :=
  product (fun r i => x1 (ix2 r i)) (fun r i => x3 (ix2 r i)) r k + product (fun r i => x0 (ix2 r i)) (fun r i => x2 (ix2 r i)) r k

theorem result7 (x0 : Vec Ideal S4224x2816 .bf16) (x1 : Vec Ideal S4224x2816 .bf16) (x2 : Vec Ideal S2816x1024 .bf16) (x3 : Vec Ideal S2816x1024 .bf16) (x4 : Vec Ideal S4224x1024 .f32) (x5 : Vec Ideal S1x1024 .f32) (x6 : Vec Ideal S4224x1024 .f32) :
    Read.val_main_v45 (F := Ideal) x0 x1 x2 x3 x4 x5 x6 = (fun i => stepped (fun k => x4 (ix2 (i 0) k)) (fun k => x5 (ix2 0 k)) (given x0 x1 x2 x3 (i 0)) (i 1) + x6 (ix2 (i 0) (i 1)) : Vec Ideal S4224x1024 .f32) := by
  funext i
  idx_vars i
  unfold Read.val_main_v45 Read.val_main_v44 Read.val_main_v43 Read.val_main_v42 Read.val_main_v41 Read.val_main_v40 Read.val_main_v39 Read.val_main_cst_6 Read.val_main_v38 Read.val_main_v37 Read.val_main_cst_5 Read.val_main_v36 Read.val_main_v35 Read.val_main_v34 Read.val_main_v33 Read.val_main_v32 Read.val_main_cst_4 Read.val_main_v31 Read.val_main_v30 Read.val_main_v29 Read.val_main_v25 Read.val_main_v24 Read.val_main_v23 Read.val_main_v22 Read.val_main_v21 Read.val_main_v19 Read.val_main_v18 Read.val_main_v16 Read.val_main_v15 Read.val_main_v10 Read.val_main_v9 Read.val_main_cst_2 Read.val_main_v8 Read.val_main_v7 Read.val_main_v6 Read.val_main_v5 Read.val_main_cst_1 Read.val_main_v4 Read.val_main_v3 Read.val_main_cst_0 Read.val_main_v2 Read.val_main_v1 Read.val_main_cst Read.val_main_v0
  pointwise [stepped, share, scale, square, given, product, len, small, minusHalf]
  simp only [Finset.univ_unique, Finset.sum_singleton]

theorem result8 (x0 : Vec Ideal S4224x2816 .bf16) (x1 : Vec Ideal S4224x2816 .bf16) (x2 : Vec Ideal S2816x1024 .bf16) (x3 : Vec Ideal S2816x1024 .bf16) (x4 : Vec Ideal S4224x1024 .f32) (x5 : Vec Ideal S1x1024 .f32) (x6 : Vec Ideal S4224x1024 .f32) :
    Read.val_main_v46 (F := Ideal) x0 x1 x2 x3 x4 x5 x6 = (fun i => stepped (fun k => x4 (ix2 (i 0) k)) (fun k => x5 (ix2 0 k)) (given x0 x1 x2 x3 (i 0)) (i 1) + x6 (ix2 (i 0) (i 1)) : Vec Ideal S4224x1024 .bf16) := by
  unfold Read.val_main_v46
  rw [result7]
  funext i
  idx_vars i
  pointwise

theorem result9 (x0 : Vec Ideal S4224x2816 .bf16) (x1 : Vec Ideal S4224x2816 .bf16) (x2 : Vec Ideal S2816x1024 .bf16) (x3 : Vec Ideal S2816x1024 .bf16) (x4 : Vec Ideal S4224x1024 .f32) :
    Read.val_main_v28 (F := Ideal) x0 x1 x2 x3 x4 = (fun i => gainGrad (fun r k => x4 (ix2 r k)) (given x0 x1 x2 x3) (i 1) : Vec Ideal S1x1024 .f32) := by
  funext i
  idx_vars i
  unfold Read.val_main_v28 Read.val_main_v27 Read.val_main_cst_3 Read.val_main_v26 Read.val_main_v25 Read.val_main_v24 Read.val_main_v23 Read.val_main_v22 Read.val_main_v21 Read.val_main_v19 Read.val_main_v18 Read.val_main_v16 Read.val_main_v15 Read.val_main_v12 Read.val_main_v11 Read.val_main_v7 Read.val_main_v6 Read.val_main_v5 Read.val_main_cst_1 Read.val_main_v4 Read.val_main_v3 Read.val_main_cst_0 Read.val_main_v2 Read.val_main_v1 Read.val_main_cst Read.val_main_v0
  pointwise [gainGrad, scale, square, given, product, len, small]

/-- The reference runs, and its arguments end unchanged. -/
theorem frame_reference : Cert.quiescent_Reference18Ideal := fun m ρ _ =>
  (θ_run defs _ _).mono (fun r h => ⟨fun c => (h c).2.2.2, sem_eq_zero_of_no_sems (by decide) r.2⟩) (Cert.Reference18Ideal.Value.run m ρ)

end Reference

section Precondition
open Cert.Kernel18Ideal Cert.Kernel18Ideal.Gen

/-- The precondition, array by array. -/
theorem bounded (m : (ℓ : Loc nD τ sig) → Buf (Elt Ideal) ℓ) (h : Cert.Pre_Kernel18Ideal_finite18 m) (c : Dev nD) :
    Bounded m c where
  gateGrad r i := fine_of_cmp (congrFun (h c).1 (ix2 r i))
  upGrad r i := fine_of_cmp (congrFun (h c).2.1 (ix2 r i))
  gateWeight r i := fine_of_cmp (congrFun (h c).2.2.1 (ix2 r i))
  upWeight r i := fine_of_cmp (congrFun (h c).2.2.2.1 (ix2 r i))
  stream r i := fine_of_cmp (congrFun (h c).2.2.2.2.1 (ix2 r i))
  gain r i := fine_of_cmp (congrFun (h c).2.2.2.2.2 (ix2 r i))

end Precondition

/-- The kernel's results are the reference's. -/
theorem values : Cert.algebraic_Kernel18Ideal_Reference18Ideal_pre_finite18 := by
  intro m ρ m' ρ' hpre hagree
  refine ⟨fun c => gradStream m c, fun c => gradNarrow m c, fun c => gradGain m c, ?_, ?_⟩
  · refine (θ_run _ _ _).mono (fun r h c => ?_) (kernel_runs m ρ (bounded m hpre))
    exact h c
  · refine (θ_run _ _ _).mono (fun r h c => ?_) (Cert.Reference18Ideal.Value.run m' ρ')
    obtain ⟨a0, a1, a2, a3, a4, a5, a6⟩ := hagree c
    refine ⟨(h c).1.trans ?_, (h c).2.1.trans ?_, (h c).2.2.1.trans ?_, (h c).2.2.2⟩
    · rw [Cert.Reference18Ideal.Read.val_main_v45_eq, a0, a1, a2, a3, a4, a5, a6]
      exact result7 _ _ _ _ _ _ _
    · rw [Cert.Reference18Ideal.Read.val_main_v46_eq, a0, a1, a2, a3, a4, a5, a6]
      exact result8 _ _ _ _ _ _ _
    · rw [Cert.Reference18Ideal.Read.val_main_v28_eq, a0, a1, a2, a3, a4]
      exact result9 _ _ _ _ _

end Cert.Bwd.FfnIn

end
-- ==== Proof.ProjBwd.lean ====
/-
  THE GRADIENT OF THE RESIDUAL STREAM BEFORE THE PROJECTIONS, AND OF THE FIRST NORM'S GAIN: the small product first, then nine
  arrays side by side times the weight, summed over eleven blocks of columns, carried back through the root-mean-square norm;
  beside the nine arrays joined, two whole products, and the norm's derivative step by step. For finite numbers.
-/
module

public import proofs.«01_k».proof.Proof.Names
public import proofs.«01_k».proof.Defs
public import proofs.«01_k».proof.Proof.Gen.Kernel19Ideal
public import proofs.«01_k».proof.Proof.Gen.Kernel19Ideal.Frame
public import proofs.«01_k».proof.Proof.Gen.Reference19Ideal.Run
public import proofs.«01_k».proof.Proof.Gen.Reference19Ideal.Read
public import proofs.«01_k».proof.Proof.Rms
public import proofs.«01_k».proof.Proof.Gen.Pre_finite19
public import Idealize.ShloMosaic.Lib.Pointwise
public import Idealize.ShloMosaic.Lib.Pipeline.ValueKit

@[expose] public section

noncomputable section

namespace Cert.Bwd.Proj

open Idealize.ShloMosaic Idealize.ShloMosaic.TcCoe Idealize.SL.Sem
open Cert.Rms Cert.Scan
open scoped BigOperators

/-- The nine arrays side by side, in blocks of 1024 columns: block, row, column in the block. -/
def piece (a0 a1 : Fin 4224 → Fin 1024 → EReal) (a2 a3 : Fin 4224 → Fin 2048 → EReal) (a4 a5 a6 a7 a8 : Fin 4224 → Fin 1024 → EReal) :
    ℕ → Fin 4224 → Fin 1024 → EReal
  | 0, r, i => a0 r i
  | 1, r, i => a1 r i
  | 2, r, i => a2 r ⟨i.val, by omega⟩
  | 3, r, i => a2 r ⟨1024 + i.val, by omega⟩
  | 4, r, i => a3 r ⟨i.val, by omega⟩
  | 5, r, i => a3 r ⟨1024 + i.val, by omega⟩
  | 6, r, i => a4 r i
  | 7, r, i => a5 r i
  | 8, r, i => a6 r i
  | 9, r, i => a7 r i
  | _, r, i => a8 r i

/-- Such pieces are finite where the arrays are. -/
theorem piece_fine {a0 a1 : Fin 4224 → Fin 1024 → EReal} {a2 a3 : Fin 4224 → Fin 2048 → EReal} {a4 a5 a6 a7 a8 : Fin 4224 → Fin 1024 → EReal}
    (h0 : ∀ r i, Fine (a0 r i)) (h1 : ∀ r i, Fine (a1 r i)) (h2 : ∀ r i, Fine (a2 r i)) (h3 : ∀ r i, Fine (a3 r i)) (h4 : ∀ r i, Fine (a4 r i))
    (h5 : ∀ r i, Fine (a5 r i)) (h6 : ∀ r i, Fine (a6 r i)) (h7 : ∀ r i, Fine (a7 r i)) (h8 : ∀ r i, Fine (a8 r i)) (s : ℕ) (r : Fin 4224) (i : Fin 1024) :
    Fine (piece a0 a1 a2 a3 a4 a5 a6 a7 a8 s r i) := by
  unfold piece
  split
  exacts [h0 _ _, h1 _ _, h2 _ _, h2 _ _, h3 _ _, h3 _ _, h4 _ _, h5 _ _, h6 _ _, h7 _ _, h8 _ _]

/-- What one block of columns gives. -/
def part (p : ℕ → Fin 4224 → Fin 1024 → EReal) (w : Fin 11264 → Fin 1024 → EReal) (s : ℕ) (r : Fin 4224) (k : Fin 1024) : EReal :=
  ∑ i : Fin 1024, p (s % 11) r i * w ⟨s % 11 * 1024 + i.val, by omega⟩ k

/-- The product with the small weight. -/
def small (x : Fin 4224 → Fin 128 → EReal) (w : Fin 128 → Fin 1024 → EReal) (r : Fin 4224) (k : Fin 1024) : EReal :=
  ∑ i : Fin 128, x r i * w i k

/-- The gradient of the normed rows. -/
def both (x : Fin 4224 → Fin 128 → EReal) (u : Fin 128 → Fin 1024 → EReal) (p : ℕ → Fin 4224 → Fin 1024 → EReal) (w : Fin 11264 → Fin 1024 → EReal)
    (r : Fin 4224) (k : Fin 1024) : EReal :=
  small x u r k + ∑ s ∈ Finset.range 11, part p w s r k

section Kernel
open Cert.Kernel19Ideal Cert.Kernel19Ideal.Gen

variable (m : (ℓ : Loc nD τ sig) → Buf (Elt Ideal) ℓ)

/-- Row `j` of the blocks of point `t`. -/
def row (t : Fin cfg0.N) (j : Fin 528) : Fin 4224 :=
  ⟨t.val / 11 * 528 + j.val, by have := lt_of_lt_of_eq t.isLt (show cfg0.N = 88 from N_0); omega⟩

/-- Row `j` of the weight's block at point `t`. -/
def lane (t : Fin cfg0.N) (j : Fin 1024) : Fin 11264 :=
  ⟨t.val % 11 * 1024 + j.val, by have := lt_of_lt_of_eq t.isLt (show cfg0.N = 88 from N_0); omega⟩

/-- Where the blocks lie at a point. -/
theorem places_left : ∀ t : Fin cfg0.N, win0_0.index t (0 : Fin 2) = t.val / 11
    ∧ win0_0.index t (1 : Fin 2) = 0
    ∧ win0_1.index t (0 : Fin 2) = t.val / 11
    ∧ win0_1.index t (1 : Fin 2) = 0
    ∧ win0_2.index t (0 : Fin 2) = t.val / 11
    ∧ win0_2.index t (1 : Fin 2) = min (t.val % 11 - 2) 1
    ∧ win0_3.index t (0 : Fin 2) = t.val / 11
    ∧ win0_3.index t (1 : Fin 2) = min (t.val % 11 - 4) 1 :=
  (by decide +kernel : ∀ t : Fin grid0.N, _)

/-- Where the blocks lie at a point. -/
theorem places_right : ∀ t : Fin cfg0.N, win0_4.index t (0 : Fin 2) = t.val / 11
    ∧ win0_4.index t (1 : Fin 2) = 0
    ∧ win0_5.index t (0 : Fin 2) = t.val / 11
    ∧ win0_5.index t (1 : Fin 2) = 0
    ∧ win0_6.index t (0 : Fin 2) = t.val / 11
    ∧ win0_6.index t (1 : Fin 2) = 0
    ∧ win0_7.index t (0 : Fin 2) = t.val / 11
    ∧ win0_7.index t (1 : Fin 2) = 0
    ∧ win0_8.index t (0 : Fin 2) = t.val / 11
    ∧ win0_8.index t (1 : Fin 2) = 0 :=
  (by decide +kernel : ∀ t : Fin grid0.N, _)

/-- Where the blocks lie at a point. -/
theorem places_row : ∀ t : Fin cfg0.N, win0_9.index t (0 : Fin 2) = t.val % 11
    ∧ win0_9.index t (1 : Fin 2) = 0
    ∧ win0_10.index t (0 : Fin 2) = t.val / 11
    ∧ win0_10.index t (1 : Fin 2) = 0
    ∧ win0_11.index t (0 : Fin 2) = 0
    ∧ win0_11.index t (1 : Fin 2) = 0
    ∧ win0_12.index t (0 : Fin 2) = t.val / 11
    ∧ win0_12.index t (1 : Fin 2) = 0
    ∧ win0_13.index t (0 : Fin 2) = 0
    ∧ win0_13.index t (1 : Fin 2) = 0
    ∧ win0_14.index t (0 : Fin 2) = t.val / 11
    ∧ win0_14.index t (1 : Fin 2) = 0 :=
  (by decide +kernel : ∀ t : Fin grid0.N, _)

/-- Where the blocks lie at a point. -/
theorem places_out : ∀ t : Fin cfg0.N, win0_15.index t (0 : Fin 2) = t.val / 11
    ∧ win0_15.index t (1 : Fin 2) = 0
    ∧ win0_16.index t (0 : Fin 2) = t.val / 11
    ∧ win0_16.index t (1 : Fin 2) = 0
    ∧ win0_17.index t (0 : Fin 2) = 0
    ∧ win0_17.index t (1 : Fin 2) = 0 :=
  (by decide +kernel : ∀ t : Fin grid0.N, _)

/-- The gradient of the first query's projection, as an array. -/
def gradQ (c : Dev nD) (r : Fin 4224) (i : Fin 1024) : EReal := m ((c : Thread nD τ).loc main_arg0) (ix2 r i)

/-- The gradient of the first key's projection, as an array. -/
def gradK (c : Dev nD) (r : Fin 4224) (i : Fin 1024) : EReal := m ((c : Thread nD τ).loc main_arg1) (ix2 r i)

/-- The gradient of the first value's projection, as an array. -/
def gradV (c : Dev nD) (r : Fin 4224) (i : Fin 2048) : EReal := m ((c : Thread nD τ).loc main_arg2) (ix2 r i)

/-- The gradient of the output gate's projection, as an array. -/
def gradZ (c : Dev nD) (r : Fin 4224) (i : Fin 2048) : EReal := m ((c : Thread nD τ).loc main_arg3) (ix2 r i)

/-- The gradient of the second query's projection, as an array. -/
def gradSq (c : Dev nD) (r : Fin 4224) (i : Fin 1024) : EReal := m ((c : Thread nD τ).loc main_arg4) (ix2 r i)

/-- The gradient of the second key's projection, as an array. -/
def gradSk (c : Dev nD) (r : Fin 4224) (i : Fin 1024) : EReal := m ((c : Thread nD τ).loc main_arg5) (ix2 r i)

/-- The gradient of the second value's projection, as an array. -/
def gradSv (c : Dev nD) (r : Fin 4224) (i : Fin 1024) : EReal := m ((c : Thread nD τ).loc main_arg6) (ix2 r i)

/-- The gradient of the first branch's gate's projection, as an array. -/
def gradGd (c : Dev nD) (r : Fin 4224) (i : Fin 1024) : EReal := m ((c : Thread nD τ).loc main_arg7) (ix2 r i)

/-- The gradient of the second branch's gate's projection, as an array. -/
def gradGs (c : Dev nD) (r : Fin 4224) (i : Fin 1024) : EReal := m ((c : Thread nD τ).loc main_arg8) (ix2 r i)

/-- The large weight, as an array. -/
def weight (c : Dev nD) (r : Fin 11264) (i : Fin 1024) : EReal := m ((c : Thread nD τ).loc main_arg9) (ix2 r i)

/-- The gradient of the small projection, as an array. -/
def gradAb (c : Dev nD) (r : Fin 4224) (i : Fin 128) : EReal := m ((c : Thread nD τ).loc main_arg10) (ix2 r i)

/-- The small weight, as an array. -/
def weightAb (c : Dev nD) (r : Fin 128) (i : Fin 1024) : EReal := m ((c : Thread nD τ).loc main_arg11) (ix2 r i)

/-- What is normed, as an array. -/
def stream (c : Dev nD) (r : Fin 4224) (i : Fin 1024) : EReal := m ((c : Thread nD τ).loc main_arg12) (ix2 r i)

/-- The norm's gain, as an array. -/
def gain (c : Dev nD) (r : Fin 1) (i : Fin 1024) : EReal := m ((c : Thread nD τ).loc main_arg13) (ix2 r i)

/-- The gradient that passes the projections by, as an array. -/
def past (c : Dev nD) (r : Fin 4224) (i : Fin 1024) : EReal := m ((c : Thread nD τ).loc main_arg14) (ix2 r i)

/-- The nine gradients side by side. -/
def pieces (c : Dev nD) : ℕ → Fin 4224 → Fin 1024 → EReal :=
  piece (gradQ m c) (gradK m c) (gradV m c) (gradZ m c) (gradSq m c) (gradSk m c) (gradSv m c) (gradGd m c) (gradGs m c)

theorem block_0 (c : Dev nD) (t : Fin cfg0.N) (h : t.val % 11 = 0) (j : Fin 528) (k : Fin 1024) :
    (iblk m c 0 t : Vec Ideal S528x1024 .bf16) (ix2 j k) = pieces m c 0 (row t j) k := by
  obtain ⟨e0, e1, -⟩ := places_left t
  show _ = gradQ m c (row t j) k
  unfold gradQ
  blk_ext [iblk, V, e0, e1, row]

theorem block_1 (c : Dev nD) (t : Fin cfg0.N) (h : t.val % 11 = 1) (j : Fin 528) (k : Fin 1024) :
    (iblk m c 1 t : Vec Ideal S528x1024 .bf16) (ix2 j k) = pieces m c 1 (row t j) k := by
  obtain ⟨-, -, e0, e1, -⟩ := places_left t
  show _ = gradK m c (row t j) k
  unfold gradK
  blk_ext [iblk, V, e0, e1, row]

theorem block_2 (c : Dev nD) (t : Fin cfg0.N) (h : t.val % 11 = 2) (j : Fin 528) (k : Fin 1024) :
    (iblk m c 2 t : Vec Ideal S528x1024 .bf16) (ix2 j k) = pieces m c 2 (row t j) k := by
  obtain ⟨-, -, -, -, e0, e1, -⟩ := places_left t
  show _ = gradV m c (row t j) ⟨k.val, _⟩
  unfold gradV
  have e2 : min (t.val % 11 - 2) 1 = 0 := by omega
  rw [e2] at e1
  blk_ext [iblk, V, e0, e1, row]

theorem block_3 (c : Dev nD) (t : Fin cfg0.N) (h : t.val % 11 = 3) (j : Fin 528) (k : Fin 1024) :
    (iblk m c 2 t : Vec Ideal S528x1024 .bf16) (ix2 j k) = pieces m c 3 (row t j) k := by
  obtain ⟨-, -, -, -, e0, e1, -⟩ := places_left t
  show _ = gradV m c (row t j) ⟨1024 + k.val, _⟩
  unfold gradV
  have e2 : min (t.val % 11 - 2) 1 = 1 := by omega
  rw [e2] at e1
  blk_ext [iblk, V, e0, e1, row]

theorem block_4 (c : Dev nD) (t : Fin cfg0.N) (h : t.val % 11 = 4) (j : Fin 528) (k : Fin 1024) :
    (iblk m c 3 t : Vec Ideal S528x1024 .bf16) (ix2 j k) = pieces m c 4 (row t j) k := by
  obtain ⟨-, -, -, -, -, -, e0, e1⟩ := places_left t
  show _ = gradZ m c (row t j) ⟨k.val, _⟩
  unfold gradZ
  have e2 : min (t.val % 11 - 4) 1 = 0 := by omega
  rw [e2] at e1
  blk_ext [iblk, V, e0, e1, row]

theorem block_5 (c : Dev nD) (t : Fin cfg0.N) (h : t.val % 11 = 5) (j : Fin 528) (k : Fin 1024) :
    (iblk m c 3 t : Vec Ideal S528x1024 .bf16) (ix2 j k) = pieces m c 5 (row t j) k := by
  obtain ⟨-, -, -, -, -, -, e0, e1⟩ := places_left t
  show _ = gradZ m c (row t j) ⟨1024 + k.val, _⟩
  unfold gradZ
  have e2 : min (t.val % 11 - 4) 1 = 1 := by omega
  rw [e2] at e1
  blk_ext [iblk, V, e0, e1, row]

theorem block_6 (c : Dev nD) (t : Fin cfg0.N) (h : t.val % 11 = 6) (j : Fin 528) (k : Fin 1024) :
    (iblk m c 4 t : Vec Ideal S528x1024 .bf16) (ix2 j k) = pieces m c 6 (row t j) k := by
  obtain ⟨e0, e1, -⟩ := places_right t
  show _ = gradSq m c (row t j) k
  unfold gradSq
  blk_ext [iblk, V, e0, e1, row]

theorem block_7 (c : Dev nD) (t : Fin cfg0.N) (h : t.val % 11 = 7) (j : Fin 528) (k : Fin 1024) :
    (iblk m c 5 t : Vec Ideal S528x1024 .bf16) (ix2 j k) = pieces m c 7 (row t j) k := by
  obtain ⟨-, -, e0, e1, -⟩ := places_right t
  show _ = gradSk m c (row t j) k
  unfold gradSk
  blk_ext [iblk, V, e0, e1, row]

theorem block_8 (c : Dev nD) (t : Fin cfg0.N) (h : t.val % 11 = 8) (j : Fin 528) (k : Fin 1024) :
    (iblk m c 6 t : Vec Ideal S528x1024 .bf16) (ix2 j k) = pieces m c 8 (row t j) k := by
  obtain ⟨-, -, -, -, e0, e1, -⟩ := places_right t
  show _ = gradSv m c (row t j) k
  unfold gradSv
  blk_ext [iblk, V, e0, e1, row]

theorem block_9 (c : Dev nD) (t : Fin cfg0.N) (h : t.val % 11 = 9) (j : Fin 528) (k : Fin 1024) :
    (iblk m c 7 t : Vec Ideal S528x1024 .bf16) (ix2 j k) = pieces m c 9 (row t j) k := by
  obtain ⟨-, -, -, -, -, -, e0, e1, -⟩ := places_right t
  show _ = gradGd m c (row t j) k
  unfold gradGd
  blk_ext [iblk, V, e0, e1, row]

theorem block_10 (c : Dev nD) (t : Fin cfg0.N) (h : t.val % 11 = 10) (j : Fin 528) (k : Fin 1024) :
    (iblk m c 8 t : Vec Ideal S528x1024 .bf16) (ix2 j k) = pieces m c 10 (row t j) k := by
  obtain ⟨-, -, -, -, -, -, -, -, e0, e1⟩ := places_right t
  show _ = gradGs m c (row t j) k
  unfold gradGs
  blk_ext [iblk, V, e0, e1, row]

theorem block9 (c : Dev nD) (t : Fin cfg0.N) (j : Fin 1024) (k : Fin 1024) :
    (iblk m c 9 t : Vec Ideal S1024x1024 .bf16) (ix2 j k) = weight m c (lane t j) k := by
  obtain ⟨e0, e1, -⟩ := places_row t
  unfold weight
  blk_ext [iblk, V, e0, e1, lane]

theorem block10 (c : Dev nD) (t : Fin cfg0.N) (j : Fin 528) (k : Fin 128) :
    (iblk m c 10 t : Vec Ideal S528x128 .bf16) (ix2 j k) = gradAb m c (row t j) k := by
  obtain ⟨-, -, e0, e1, -⟩ := places_row t
  unfold gradAb
  blk_ext [iblk, V, e0, e1, row]

theorem block11 (c : Dev nD) (t : Fin cfg0.N) (j : Fin 128) (k : Fin 1024) :
    (iblk m c 11 t : Vec Ideal S128x1024 .bf16) (ix2 j k) = weightAb m c j k := by
  obtain ⟨-, -, -, -, e0, e1, -⟩ := places_row t
  unfold weightAb
  blk_ext [iblk, V, e0, e1]

theorem block12 (c : Dev nD) (t : Fin cfg0.N) (j : Fin 528) (k : Fin 1024) :
    (iblk m c 12 t : Vec Ideal S528x1024 .f32) (ix2 j k) = stream m c (row t j) k := by
  obtain ⟨-, -, -, -, -, -, e0, e1, -⟩ := places_row t
  unfold stream
  blk_ext [iblk, V, e0, e1, row]

theorem block13 (c : Dev nD) (t : Fin cfg0.N) (j : Fin 1) (k : Fin 1024) :
    (iblk m c 13 t : Vec Ideal S1x1024 .f32) (ix2 j k) = gain m c j k := by
  obtain ⟨-, -, -, -, -, -, -, -, e0, e1, -⟩ := places_row t
  unfold gain
  blk_ext [iblk, V, e0, e1]

theorem block14 (c : Dev nD) (t : Fin cfg0.N) (j : Fin 528) (k : Fin 1024) :
    (iblk m c 14 t : Vec Ideal S528x1024 .f32) (ix2 j k) = past m c (row t j) k := by
  obtain ⟨-, -, -, -, -, -, -, -, -, -, e0, e1⟩ := places_row t
  unfold past
  blk_ext [iblk, V, e0, e1, row]

/-- The row of zeros that the gain's gradient starts from. -/
theorem zero_row (j : S1x1024.Idx) : k0_pay12 (F := Ideal) j = 0 := by
  idx_vars j
  pointwise [k0_pay12]

/-- A block of a product. -/
def dot (x : Vec Ideal S528x1024 .bf16) (w : Vec Ideal S1024x1024 .bf16) (j : S528x1024.Idx) : EReal := ∑ i : Fin 1024, x (ix2 (j 0) i) * w (ix2 i (j 1))

/-- A block of the small product. -/
def dotAb (x : Vec Ideal S528x128 .bf16) (w : Vec Ideal S128x1024 .bf16) (j : S528x1024.Idx) : EReal := ∑ i : Fin 128, x (ix2 (j 0) i) * w (ix2 i (j 1))

/-- The small product is what the sum starts from. -/
theorem starts (x : Vec Ideal S528x128 .bf16) (w : Vec Ideal S128x1024 .bf16) (j : S528x1024.Idx) : k0_pay13 x w j = dotAb x w j := by
  unfold dotAb
  idx_vars j
  pointwise [k0_pay13]

theorem adds_14 (acc : Vec Ideal S528x1024 .f32) (x : Vec Ideal S528x1024 .bf16) (w : Vec Ideal S1024x1024 .bf16) (j : S528x1024.Idx) : k0_pay14 acc x w j = acc j + dot x w j := by
  unfold dot
  idx_vars j
  pointwise [k0_pay14]

theorem adds_15 (acc : Vec Ideal S528x1024 .f32) (x : Vec Ideal S528x1024 .bf16) (w : Vec Ideal S1024x1024 .bf16) (j : S528x1024.Idx) : k0_pay15 acc x w j = acc j + dot x w j := by
  unfold dot
  idx_vars j
  pointwise [k0_pay15]

theorem adds_16 (acc : Vec Ideal S528x1024 .f32) (x : Vec Ideal S528x1024 .bf16) (w : Vec Ideal S1024x1024 .bf16) (j : S528x1024.Idx) : k0_pay16 acc x w j = acc j + dot x w j := by
  unfold dot
  idx_vars j
  pointwise [k0_pay16]

theorem adds_17 (acc : Vec Ideal S528x1024 .f32) (x : Vec Ideal S528x1024 .bf16) (w : Vec Ideal S1024x1024 .bf16) (j : S528x1024.Idx) : k0_pay17 acc x w j = acc j + dot x w j := by
  unfold dot
  idx_vars j
  pointwise [k0_pay17]

theorem adds_1 (acc : Vec Ideal S528x1024 .f32) (x : Vec Ideal S528x1024 .bf16) (w : Vec Ideal S1024x1024 .bf16) (j : S528x1024.Idx) : k0_pay1 acc x w j = acc j + dot x w j := by
  unfold dot
  idx_vars j
  pointwise [k0_pay1]

theorem adds_2 (acc : Vec Ideal S528x1024 .f32) (x : Vec Ideal S528x1024 .bf16) (w : Vec Ideal S1024x1024 .bf16) (j : S528x1024.Idx) : k0_pay2 acc x w j = acc j + dot x w j := by
  unfold dot
  idx_vars j
  pointwise [k0_pay2]

theorem adds_3 (acc : Vec Ideal S528x1024 .f32) (x : Vec Ideal S528x1024 .bf16) (w : Vec Ideal S1024x1024 .bf16) (j : S528x1024.Idx) : k0_pay3 acc x w j = acc j + dot x w j := by
  unfold dot
  idx_vars j
  pointwise [k0_pay3]

theorem adds_4 (acc : Vec Ideal S528x1024 .f32) (x : Vec Ideal S528x1024 .bf16) (w : Vec Ideal S1024x1024 .bf16) (j : S528x1024.Idx) : k0_pay4 acc x w j = acc j + dot x w j := by
  unfold dot
  idx_vars j
  pointwise [k0_pay4]

theorem adds_5 (acc : Vec Ideal S528x1024 .f32) (x : Vec Ideal S528x1024 .bf16) (w : Vec Ideal S1024x1024 .bf16) (j : S528x1024.Idx) : k0_pay5 acc x w j = acc j + dot x w j := by
  unfold dot
  idx_vars j
  pointwise [k0_pay5]

theorem small_eq (c : Dev nD) (t : Fin cfg0.N) (j : S528x1024.Idx) : dotAb (iblk m c 10 t) (iblk m c 11 t) j = small (gradAb m c) (weightAb m c) (row t (j 0)) (j 1) :=
  Finset.sum_congr rfl fun i _ => congrArg₂ (· * ·) (block10 m c t (j 0) i) (block11 m c t i (j 1))

/-- A product of two blocks is what its block of columns gives. -/
theorem part_of (c : Dev nD) (t : Fin cfg0.N) (x : Vec Ideal S528x1024 .bf16) (q : ℕ) (h : t.val % 11 = q) (e : ∀ j k, x (ix2 j k) = pieces m c q (row t j) k) (j : S528x1024.Idx) :
    dot x (iblk m c 9 t) j = part (pieces m c) (weight m c) (t.val % 11) (row t (j 0)) (j 1) := by
  unfold part
  refine Finset.sum_congr rfl fun i _ => congrArg₂ (· * ·) ((e (j 0) i).trans ?_) ((block9 m c t i (j 1)).trans ?_)
  · rw [Nat.mod_mod, h]
  · exact congrArg (fun r => weight m c r (j 1)) (Fin.ext (by
      show t.val % 11 * 1024 + i.val = t.val % 11 % 11 * 1024 + i.val
      omega))

/-- The first point of a tile: the small product, and the first block of columns. -/
theorem first (c : Dev nD) (t : Fin cfg0.N) (h : t.val % 11 = 0) (j : S528x1024.Idx) :
    (outsAt0 m c t.val t.isLt).2.2.2 j
      = small (gradAb m c) (weightAb m c) (row t (j 0)) (j 1) + part (pieces m c) (weight m c) (t.val % 11) (row t (j 0)) (j 1) := by
  by_cases h0 : t.val % 88 = 0
  · rw [outsAt0_A m c t (by omega) (by omega) (by omega) (by omega) (by omega) (by omega) (by omega) (by omega) (by omega) (by omega) (by omega) (by omega)]
    frame_out
    rw [adds_14, starts, small_eq, part_of m c t _ 0 h (block_0 m c t h)]
  · rw [outsAt0_J m c t (by omega) (by omega) (by omega) (by omega) (by omega) (by omega) (by omega) (by omega) (by omega) (by omega) (by omega) (by omega)]
    frame_out
    rw [adds_14, starts, small_eq, part_of m c t _ 0 h (block_0 m c t h)]

/-- What the point before left in the sum. -/
abbrev before (c : Dev nD) (t : Fin cfg0.N) : Vec Ideal S528x1024 .f32 :=
  (outsAt0 m c (t.val - 1) (Nat.lt_of_le_of_lt (Nat.sub_le _ _) t.isLt)).2.2.2

/-- A later point goes on from there with its block of columns. -/
theorem next (c : Dev nD) (t : Fin cfg0.N) (h : t.val % 11 ≠ 0) (j : S528x1024.Idx) :
    (outsAt0 m c t.val t.isLt).2.2.2 j = before m c t j + part (pieces m c) (weight m c) (t.val % 11) (row t (j 0)) (j 1) := by
  have hN := lt_of_lt_of_eq t.isLt (show cfg0.N = 88 from N_0)
  have hq : t.val % 11 = 1 ∨ t.val % 11 = 2 ∨ t.val % 11 = 3 ∨ t.val % 11 = 4 ∨ t.val % 11 = 5 ∨ t.val % 11 = 6 ∨ t.val % 11 = 7 ∨ t.val % 11 = 8 ∨ t.val % 11 = 9 ∨ t.val % 11 = 10 := by omega
  rcases hq with h | h | h | h | h | h | h | h | h | h
  · rw [outsAt0_B m c t (by omega) (by omega) (by omega) (by omega) (by omega) (by omega) (by omega) (by omega) (by omega) (by omega) (by omega) (by omega)]
    frame_out
    rw [adds_15, part_of m c t _ 1 h (block_1 m c t h)]
    exact congrArg (· + _) (congrFun (Memref.IsWhole.read_unread _ _) j)
  · rw [outsAt0_C m c t (by omega) (by omega) (by omega) (by omega) (by omega) (by omega) (by omega) (by omega) (by omega) (by omega) (by omega) (by omega)]
    frame_out
    rw [adds_16, part_of m c t _ 2 h (block_2 m c t h)]
    exact congrArg (· + _) (congrFun (Memref.IsWhole.read_unread _ _) j)
  · rw [outsAt0_C m c t (by omega) (by omega) (by omega) (by omega) (by omega) (by omega) (by omega) (by omega) (by omega) (by omega) (by omega) (by omega)]
    frame_out
    rw [adds_16, part_of m c t _ 3 h (block_3 m c t h)]
    exact congrArg (· + _) (congrFun (Memref.IsWhole.read_unread _ _) j)
  · rw [outsAt0_D m c t (by omega) (by omega) (by omega) (by omega) (by omega) (by omega) (by omega) (by omega) (by omega) (by omega) (by omega) (by omega)]
    frame_out
    rw [adds_17, part_of m c t _ 4 h (block_4 m c t h)]
    exact congrArg (· + _) (congrFun (Memref.IsWhole.read_unread _ _) j)
  · rw [outsAt0_D m c t (by omega) (by omega) (by omega) (by omega) (by omega) (by omega) (by omega) (by omega) (by omega) (by omega) (by omega) (by omega)]
    frame_out
    rw [adds_17, part_of m c t _ 5 h (block_5 m c t h)]
    exact congrArg (· + _) (congrFun (Memref.IsWhole.read_unread _ _) j)
  · rw [outsAt0_E m c t (by omega) (by omega) (by omega) (by omega) (by omega) (by omega) (by omega) (by omega) (by omega) (by omega) (by omega) (by omega)]
    frame_out
    rw [adds_1, part_of m c t _ 6 h (block_6 m c t h)]
    exact congrArg (· + _) (congrFun (Memref.IsWhole.read_unread _ _) j)
  · rw [outsAt0_F m c t (by omega) (by omega) (by omega) (by omega) (by omega) (by omega) (by omega) (by omega) (by omega) (by omega) (by omega) (by omega)]
    frame_out
    rw [adds_2, part_of m c t _ 7 h (block_7 m c t h)]
    exact congrArg (· + _) (congrFun (Memref.IsWhole.read_unread _ _) j)
  · rw [outsAt0_G m c t (by omega) (by omega) (by omega) (by omega) (by omega) (by omega) (by omega) (by omega) (by omega) (by omega) (by omega) (by omega)]
    frame_out
    rw [adds_3, part_of m c t _ 8 h (block_8 m c t h)]
    exact congrArg (· + _) (congrFun (Memref.IsWhole.read_unread _ _) j)
  · rw [outsAt0_H m c t (by omega) (by omega) (by omega) (by omega) (by omega) (by omega) (by omega) (by omega) (by omega) (by omega) (by omega) (by omega)]
    frame_out
    rw [adds_4, part_of m c t _ 9 h (block_9 m c t h)]
    exact congrArg (· + _) (congrFun (Memref.IsWhole.read_unread _ _) j)
  · rw [outsAt0_I m c t (by omega) (by omega) (by omega) (by omega) (by omega) (by omega) (by omega) (by omega) (by omega) (by omega) (by omega) (by omega)]
    frame_out
    rw [adds_5, part_of m c t _ 10 h (block_10 m c t h)]
    exact congrArg (· + _) (congrFun (Memref.IsWhole.read_unread _ _) j)

/-- What the sum holds after some blocks of columns. -/
theorem summed (c : Dev nD) (j : S528x1024.Idx) (s : ℕ) : ∀ (t : Fin cfg0.N), t.val % 11 = s →
    (outsAt0 m c t.val t.isLt).2.2.2 j
      = small (gradAb m c) (weightAb m c) (row t (j 0)) (j 1) + ∑ q ∈ Finset.range (s + 1), part (pieces m c) (weight m c) q (row t (j 0)) (j 1) := by
  induction s with
  | zero =>
    intro t h
    rw [first m c t h j, h, Finset.sum_range_one]
  | succ s ih =>
    intro t h
    have e := ih ⟨t.val - 1, Nat.lt_of_le_of_lt (Nat.sub_le _ _) t.isLt⟩ (by show (t.val - 1) % 11 = s; omega)
    have er : row ⟨t.val - 1, Nat.lt_of_le_of_lt (Nat.sub_le _ _) t.isLt⟩ (j 0) = row t (j 0) := Fin.ext (by
      show (t.val - 1) / 11 * 528 + _ = t.val / 11 * 528 + _
      omega)
    rw [er] at e
    refine (next m c t (by omega) j).trans ((congrArg (· + _) e).trans ?_)
    rw [h, add_assoc, ← Finset.sum_range_succ]

/-- The gradient of the normed rows. -/
def upper (c : Dev nD) : Fin 4224 → Fin 1024 → EReal := both (gradAb m c) (weightAb m c) (pieces m c) (weight m c)

/-- One row of a block. -/
def line (x : Vec Ideal S528x1024 .f32) (j : Fin 528) (k : Fin 1024) : EReal := x (ix2 j k)

/-- The row's gradient as a point computes it. -/
theorem point15 (h : Vec Ideal S528x1024 .f32) (g : Vec Ideal S1x1024 .f32) (d r : Vec Ideal S528x1024 .f32) (j : S528x1024.Idx) :
    k0_pay8 h g d r j = cubed (line h (j 0)) (fun k => g (ix2 0 k)) (line d (j 0)) (j 1) + r j := by
  unfold cubed scale square line len Rms.small
  idx_vars j
  pointwise [k0_pay8, k0_pay7]

theorem point16 (h : Vec Ideal S528x1024 .f32) (g : Vec Ideal S1x1024 .f32) (d r : Vec Ideal S528x1024 .f32) (j : S528x1024.Idx) :
    k0_pay9 h g d r j = cubed (line h (j 0)) (fun k => g (ix2 0 k)) (line d (j 0)) (j 1) + r j := by
  unfold cubed scale square line len Rms.small
  idx_vars j
  pointwise [k0_pay9, k0_pay8, k0_pay7]

theorem point17 (g : Vec Ideal S1x1024 .f32) (h d : Vec Ideal S528x1024 .f32) (j : S1x1024.Idx) :
    k0_pay6 (k0_pay10 g) (k0_pay11 h d) j = g j + ∑ r : Fin 528, line d r (j 1) * line h r (j 1) * scale (line h r) := by
  unfold scale square line len Rms.small
  idx_vars j
  pointwise [k0_pay6, k0_pay10, k0_pay11, k0_pay7]

/-- The gradients of the normed rows of a tile, at the tile's last point. -/
theorem upper_line (c : Dev nD) (t : Fin cfg0.N) (h : t.val % 11 = 10) {acc : Vec Ideal S528x1024 .f32} (e : acc = before m c t) (r : Fin 528) :
    line (k0_pay5 acc (iblk m c 8 t) (iblk m c 9 t)) r = upper m c (row t r) := by
  funext k
  unfold line upper both
  rw [adds_5, part_of m c t _ 10 h (block_10 m c t h), e]
  exact (next m c t (by omega) (ix2 r k)).symm.trans (summed m c (ix2 r k) 10 t h)

theorem stream_line (c : Dev nD) (t : Fin cfg0.N) (r : Fin 528) : line (iblk m c 12 t) r = stream m c (row t r) :=
  funext fun k => block12 m c t r k

theorem cubed_congr {h h' g g' d d' : Fin 1024 → EReal} (eh : h = h') (eg : g = g') (ed : d = d') (j : Fin 1024) :
    cubed h g d j = cubed h' g' d' j := by
  rw [eh, eg, ed]

/-- Finite numbers everywhere but in the gradient that passes the projections by. -/
structure Bounded (c : Dev nD) : Prop where
  gradQ : ∀ r i, Fine (gradQ m c r i)
  gradK : ∀ r i, Fine (gradK m c r i)
  gradV : ∀ r i, Fine (gradV m c r i)
  gradZ : ∀ r i, Fine (gradZ m c r i)
  gradSq : ∀ r i, Fine (gradSq m c r i)
  gradSk : ∀ r i, Fine (gradSk m c r i)
  gradSv : ∀ r i, Fine (gradSv m c r i)
  gradGd : ∀ r i, Fine (gradGd m c r i)
  gradGs : ∀ r i, Fine (gradGs m c r i)
  weight : ∀ r i, Fine (weight m c r i)
  gradAb : ∀ r i, Fine (gradAb m c r i)
  weightAb : ∀ r i, Fine (weightAb m c r i)
  stream : ∀ r i, Fine (stream m c r i)
  gain : ∀ r i, Fine (gain m c r i)

variable {m}

theorem Bounded.upper {c : Dev nD} (H : Bounded m c) (r : Fin 4224) (k : Fin 1024) : Fine (upper m c r k) := by
  refine (Fine.sum fun _ => (H.gradAb _ _).mul (H.weightAb _ _)).add (Finset.sum_induction _ Fine (fun _ _ hx hy => hx.add hy) Fine.zero fun s _ => ?_)
  exact Fine.sum fun _ => (piece_fine H.gradQ H.gradK H.gradV H.gradZ H.gradSq H.gradSk H.gradSv H.gradGd H.gradGs _ _ _).mul (H.weight _ _)

variable (m)

/-- An entry of the stream's gradient. -/
def entry (c : Dev nD) (r : Fin 4224) (k : Fin 1024) : EReal :=
  stepped (stream m c r) (gain m c 0) (upper m c r) k + past m c r k

/-- The stream's gradient, as an array. -/
def gradStream (c : Dev nD) : Vec Ideal S4224x1024 .f32 := fun i => entry m c (i 0) (i 1)

/-- The stream's gradient narrowed, as an array. -/
def gradNarrow (c : Dev nD) : Vec Ideal S4224x1024 .bf16 := fun i => entry m c (i 0) (i 1)

/-- The gain's gradient, as an array. -/
def gradGain (c : Dev nD) : Vec Ideal S1x1024 .f32 := fun i => gainGrad (stream m c) (upper m c) (i 1)

variable {m}

theorem entry_eq {c : Dev nD} (H : Bounded m c) (t : Fin cfg0.N) (h : t.val % 11 = 10) {acc : Vec Ideal S528x1024 .f32} (e : acc = before m c t) (a : Fin 528) (b : Fin 1024) :
    cubed (line (iblk m c 12 t) a) (fun k => (iblk m c 13 t : Vec Ideal S1x1024 .f32) (ix2 0 k)) (line (k0_pay5 acc (iblk m c 8 t) (iblk m c 9 t)) a) b
      + (iblk m c 14 t : Vec Ideal S528x1024 .f32) (ix2 a b) = entry m c (row t a) b := by
  refine (congrArg₂ (· + ·) (cubed_congr (stream_line m c t a) (funext fun k => block13 m c t 0 k) (upper_line m c t h e a) b) (block14 m c t a b)).trans ?_
  exact congrArg (· + _) (cubed_eq (H.stream _) (H.gain _) (H.upper _) b)

theorem written15 {c : Dev nD} (H : Bounded m c) (t : Fin cfg0.N) (h : t.val % 11 = 10) (j : S528x1024.Idx) :
    (outsAt0 m c t.val t.isLt).1 j = gradStream m c (ix2 (row t (j 0)) (j 1)) := by
  rw [outsAt0_I m c t (by omega) (by omega) (by omega) (by omega) (by omega) (by omega) (by omega) (by omega) (by omega) (by omega) (by omega) (by omega)]
  frame_out
  rw [point15]
  idx_vars j
  exact entry_eq H t h (Memref.IsWhole.read_unread _ _) _ _

theorem written16 {c : Dev nD} (H : Bounded m c) (t : Fin cfg0.N) (h : t.val % 11 = 10) (j : S528x1024.Idx) :
    (outsAt0 m c t.val t.isLt).2.1 j = gradNarrow m c (ix2 (row t (j 0)) (j 1)) := by
  rw [outsAt0_I m c t (by omega) (by omega) (by omega) (by omega) (by omega) (by omega) (by omega) (by omega) (by omega) (by omega) (by omega) (by omega)]
  frame_out
  rw [point16]
  idx_vars j
  exact entry_eq H t h (Memref.IsWhole.read_unread _ _) _ _

variable (m)

/-- What a tile of rows gives for the gain. -/
def tile (c : Dev nD) (s : ℕ) (k : Fin 1024) : EReal :=
  ∑ r : Fin 528, upper m c ⟨s % 8 * 528 + r.val, by omega⟩ k * stream m c ⟨s % 8 * 528 + r.val, by omega⟩ k * scale (stream m c ⟨s % 8 * 528 + r.val, by omega⟩)

/-- What the point before left of the gain's gradient. -/
abbrev earlier (c : Dev nD) (t : Fin cfg0.N) : Vec Ideal S1x1024 .f32 :=
  (outsAt0 m c (t.val - 1) (Nat.lt_of_le_of_lt (Nat.sub_le _ _) t.isLt)).2.2.1

/-- A tile's last point adds what the tile gives. -/
theorem gathers (c : Dev nD) (t : Fin cfg0.N) (h : t.val % 11 = 10) (j : S1x1024.Idx) :
    (outsAt0 m c t.val t.isLt).2.2.1 j = earlier m c t j + tile m c (t.val / 11) (j 1) := by
  have hN := lt_of_lt_of_eq t.isLt (show cfg0.N = 88 from N_0)
  rw [outsAt0_I m c t (by omega) (by omega) (by omega) (by omega) (by omega) (by omega) (by omega) (by omega) (by omega) (by omega) (by omega) (by omega)]
  frame_out
  rw [point17]
  refine congrArg (_ + ·) (Finset.sum_congr rfl fun r _ => ?_)
  have er : row t r = ⟨t.val / 11 % 8 * 528 + r.val, by omega⟩ := Fin.ext (by
    show t.val / 11 * 528 + r.val = t.val / 11 % 8 * 528 + r.val
    omega)
  rw [← er]
  exact congrArg₂ (· * ·) (congrArg₂ (· * ·) (congrFun (upper_line m c t h (Memref.IsWhole.read_unread _ _) r) _) (congrFun (stream_line m c t r) _))
    (congrArg scale (stream_line m c t r))

/-- The first point of all sets the gain's gradient to zero. -/
theorem clears (c : Dev nD) (t : Fin cfg0.N) (h : t.val % 88 = 0) (j : S1x1024.Idx) : (outsAt0 m c t.val t.isLt).2.2.1 j = 0 := by
  rw [outsAt0_A m c t (by omega) (by omega) (by omega) (by omega) (by omega) (by omega) (by omega) (by omega) (by omega) (by omega) (by omega) (by omega)]
  frame_out
  exact zero_row j

/-- The other points keep it. -/
theorem keeps (c : Dev nD) (t : Fin cfg0.N) (h : t.val % 11 ≠ 10) (h' : ¬t.val % 88 = 0) (j : S1x1024.Idx) :
    (outsAt0 m c t.val t.isLt).2.2.1 j = earlier m c t j := by
  have hq : t.val % 11 = 0 ∨ t.val % 11 = 1 ∨ t.val % 11 = 2 ∨ t.val % 11 = 3 ∨ t.val % 11 = 4 ∨ t.val % 11 = 5 ∨ t.val % 11 = 6 ∨ t.val % 11 = 7 ∨ t.val % 11 = 8 ∨ t.val % 11 = 9 := by omega
  rcases hq with h | h | h | h | h | h | h | h | h | h
  · rw [outsAt0_J m c t (by omega) (by omega) (by omega) (by omega) (by omega) (by omega) (by omega) (by omega) (by omega) (by omega) (by omega) (by omega)]
    dsimp only
    unfold out0_J_17
    frame_out
  · rw [outsAt0_B m c t (by omega) (by omega) (by omega) (by omega) (by omega) (by omega) (by omega) (by omega) (by omega) (by omega) (by omega) (by omega)]
    dsimp only
    unfold out0_B_17
    frame_out
  · rw [outsAt0_C m c t (by omega) (by omega) (by omega) (by omega) (by omega) (by omega) (by omega) (by omega) (by omega) (by omega) (by omega) (by omega)]
    dsimp only
    unfold out0_C_17
    frame_out
  · rw [outsAt0_C m c t (by omega) (by omega) (by omega) (by omega) (by omega) (by omega) (by omega) (by omega) (by omega) (by omega) (by omega) (by omega)]
    dsimp only
    unfold out0_C_17
    frame_out
  · rw [outsAt0_D m c t (by omega) (by omega) (by omega) (by omega) (by omega) (by omega) (by omega) (by omega) (by omega) (by omega) (by omega) (by omega)]
    dsimp only
    unfold out0_D_17
    frame_out
  · rw [outsAt0_D m c t (by omega) (by omega) (by omega) (by omega) (by omega) (by omega) (by omega) (by omega) (by omega) (by omega) (by omega) (by omega)]
    dsimp only
    unfold out0_D_17
    frame_out
  · rw [outsAt0_E m c t (by omega) (by omega) (by omega) (by omega) (by omega) (by omega) (by omega) (by omega) (by omega) (by omega) (by omega) (by omega)]
    dsimp only
    unfold out0_E_17
    frame_out
  · rw [outsAt0_F m c t (by omega) (by omega) (by omega) (by omega) (by omega) (by omega) (by omega) (by omega) (by omega) (by omega) (by omega) (by omega)]
    dsimp only
    unfold out0_F_17
    frame_out
  · rw [outsAt0_G m c t (by omega) (by omega) (by omega) (by omega) (by omega) (by omega) (by omega) (by omega) (by omega) (by omega) (by omega) (by omega)]
    dsimp only
    unfold out0_G_17
    frame_out
  · rw [outsAt0_H m c t (by omega) (by omega) (by omega) (by omega) (by omega) (by omega) (by omega) (by omega) (by omega) (by omega) (by omega) (by omega)]
    dsimp only
    unfold out0_H_17
    frame_out

/-- What has been gathered after a point. -/
theorem gathered (c : Dev nD) (j : S1x1024.Idx) (n : ℕ) : ∀ (hn : n < cfg0.N),
    (outsAt0 m c n hn).2.2.1 j = ∑ q ∈ Finset.range ((n + 1) / 11), tile m c q (j 1) := by
  induction n using Nat.strong_induction_on with
  | _ n ih =>
  intro hn
  have hN := lt_of_lt_of_eq hn (show cfg0.N = 88 from N_0)
  by_cases h : n % 11 = 10
  · refine (gathers m c ⟨n, hn⟩ h j).trans ?_
    have e : (n + 1) / 11 = n / 11 + 1 := by omega
    have e' : (n - 1 + 1) / 11 = n / 11 := by omega
    rw [e, Finset.sum_range_succ, ← e']
    exact congrArg (· + _) (ih (n - 1) (by omega) _)
  · by_cases h0 : n % 88 = 0
    · have e : (n + 1) / 11 = 0 := by omega
      rw [e, Finset.sum_range_zero]
      exact clears m c ⟨n, hn⟩ h0 j
    · have e : (n + 1) / 11 = (n - 1 + 1) / 11 := by omega
      rw [e]
      exact (keeps m c ⟨n, hn⟩ h h0 j).trans (ih (n - 1) (by omega) _)

theorem written17 (c : Dev nD) (t : Fin cfg0.N) (h : t.val % 88 = 87) (j : S1x1024.Idx) :
    (outsAt0 m c t.val t.isLt).2.2.1 j = gradGain m c j := by
  have hN := lt_of_lt_of_eq t.isLt (show cfg0.N = 88 from N_0)
  have e : (t.val + 1) / 11 = 8 := by omega
  rw [gathered m c j t.val t.isLt, e, Finset.sum_range]
  refine Eq.trans ?_ (gainGrad_eq (stream m c) (upper m c) (j 1))
  refine Fin.sum_mul_add_congr (S := 8) (n := 528) (f := fun r : Fin 4224 => upper m c r (j 1) * stream m c r (j 1) * scale (stream m c r)) fun s k hl => ?_
  have e : (⟨s.val % 8 * 528 + k.val, by omega⟩ : Fin 4224) = ⟨s.val * 528 + k.val, hl⟩ := Fin.ext (by
    show s.val % 8 * 528 + k.val = s.val * 528 + k.val
    rw [Nat.mod_eq_of_lt s.isLt])
  rw [e]

/-- The array the kernel leaves in window 15 is that. -/
theorem array15 {c : Dev nD} (H : Bounded m c) : (dats m 0 c).arrAt 15 cfg0.N = gradStream m c := by
  refine (dats m 0 c).arrAt_eq_of_covers 15 _ (by decide +kernel) fun t hf y => ?_
  obtain ⟨e0, e1, -⟩ := places_out t
  have key : ((cfg0.win 15).blk t).view.emb y = ix2 (row t (y 0)) (y 1) := by
    unfold row
    blk_ext [e0, e1]
  rw [key]
  blk_simp
  rw [after0_15]
  exact written15 H t ((flush0_15 t).mp hf) y

/-- The array the kernel leaves in window 16 is that. -/
theorem array16 {c : Dev nD} (H : Bounded m c) : (dats m 0 c).arrAt 16 cfg0.N = gradNarrow m c := by
  refine (dats m 0 c).arrAt_eq_of_covers 16 _ (by decide +kernel) fun t hf y => ?_
  obtain ⟨-, -, e0, e1, -⟩ := places_out t
  have key : ((cfg0.win 16).blk t).view.emb y = ix2 (row t (y 0)) (y 1) := by
    unfold row
    blk_ext [e0, e1]
  rw [key]
  blk_simp
  rw [after0_16]
  exact written16 H t ((flush0_16 t).mp hf) y

/-- The array the kernel leaves in window 17 is that. -/
theorem array17 (c : Dev nD) : (dats m 0 c).arrAt 17 cfg0.N = gradGain m c := by
  refine (dats m 0 c).arrAt_eq_of_covers 17 _ (by decide +kernel) fun t hf y => ?_
  obtain ⟨-, -, -, -, e0, e1⟩ := places_out t
  have key : ((cfg0.win 17).blk t).view.emb y = y := by
    blk_ext [e0, e1]
  rw [key]
  blk_simp
  rw [after0_17]
  exact written17 m c t ((flush0_17 t).mp hf) y

set_option maxHeartbeats 2000000 in
/-- The kernel runs, leaves its results, and its arguments end unchanged. -/
theorem kernel_runs (ρ : Dev nD → PrngReg) (H : ∀ c, Bounded m c) :
    θ_run defs (onTc (τ := τ) (main (F := Ideal))) ⟨m, fun _ => 0, ρ⟩ fun r => ∀ c : Dev nD,
      r.2.mem ((c : Thread nD τ).loc main_v0_0) = gradStream m c
      ∧ r.2.mem ((c : Thread nD τ).loc main_v0_1) = gradNarrow m c
      ∧ r.2.mem ((c : Thread nD τ).loc main_v0_2) = gradGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨((h c).1 15).trans (array15 m (H c)),
      ((h c).1 16).trans (array16 m (H c)),
      ((h c).1 17).trans (array17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩) (run_main m ρ)

end Kernel

section Reference
open Cert.Reference19Ideal

theorem column_0 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨0 * 1024 + i.val, by omega⟩) = x0 (ix2 r i) := by
  unfold Read.val_main_v0
  pointwise

theorem column_1 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨1 * 1024 + i.val, by omega⟩) = x1 (ix2 r i) := by
  unfold Read.val_main_v0
  pointwise

theorem column_2 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨2 * 1024 + i.val, by omega⟩) = x2 (ix2 r ⟨i.val, by omega⟩) := by
  unfold Read.val_main_v0
  pointwise
  rw [dif_neg (by omega)]
  rw [dif_neg (by omega)]
  rw [dif_pos (by omega)]
  exact congrArg (fun c => x2 (ix2 r c)) (Fin.ext (by dsimp only; omega))

theorem column_3 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨3 * 1024 + i.val, by omega⟩) = x2 (ix2 r ⟨1024 + i.val, by omega⟩) := by
  unfold Read.val_main_v0
  pointwise
  rw [dif_neg (by omega)]
  rw [dif_neg (by omega)]
  rw [dif_pos (by omega)]
  exact congrArg (fun c => x2 (ix2 r c)) (Fin.ext (by dsimp only; omega))

theorem column_4 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨4 * 1024 + i.val, by omega⟩) = x3 (ix2 r ⟨i.val, by omega⟩) := by
  unfold Read.val_main_v0
  pointwise
  rw [dif_neg (by omega)]
  rw [dif_neg (by omega)]
  rw [dif_neg (by omega)]
  rw [dif_pos (by omega)]
  exact congrArg (fun c => x3 (ix2 r c)) (Fin.ext (by dsimp only; omega))

theorem column_5 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨5 * 1024 + i.val, by omega⟩) = x3 (ix2 r ⟨1024 + i.val, by omega⟩) := by
  unfold Read.val_main_v0
  pointwise
  rw [dif_neg (by omega)]
  rw [dif_neg (by omega)]
  rw [dif_neg (by omega)]
  rw [dif_pos (by omega)]
  exact congrArg (fun c => x3 (ix2 r c)) (Fin.ext (by dsimp only; omega))

theorem column_6 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨6 * 1024 + i.val, by omega⟩) = x4 (ix2 r i) := by
  unfold Read.val_main_v0
  pointwise
  rw [dif_neg (by omega)]
  rw [dif_neg (by omega)]
  rw [dif_neg (by omega)]
  rw [dif_neg (by omega)]
  rw [dif_pos (by omega)]
  exact congrArg (fun c => x4 (ix2 r c)) (Fin.ext (by dsimp only; omega))

theorem column_7 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨7 * 1024 + i.val, by omega⟩) = x5 (ix2 r i) := by
  unfold Read.val_main_v0
  pointwise
  rw [dif_neg (by omega)]
  rw [dif_neg (by omega)]
  rw [dif_neg (by omega)]
  rw [dif_neg (by omega)]
  rw [dif_neg (by omega)]
  rw [dif_pos (by omega)]
  exact congrArg (fun c => x5 (ix2 r c)) (Fin.ext (by dsimp only; omega))

theorem column_8 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨8 * 1024 + i.val, by omega⟩) = x6 (ix2 r i) := by
  unfold Read.val_main_v0
  pointwise
  rw [dif_neg (by omega)]
  rw [dif_neg (by omega)]
  rw [dif_neg (by omega)]
  rw [dif_neg (by omega)]
  rw [dif_neg (by omega)]
  rw [dif_neg (by omega)]
  rw [dif_pos (by omega)]
  exact congrArg (fun c => x6 (ix2 r c)) (Fin.ext (by dsimp only; omega))

theorem column_9 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨9 * 1024 + i.val, by omega⟩) = x7 (ix2 r i) := by
  unfold Read.val_main_v0
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun c => x7 (ix2 r c)) (Fin.ext (by dsimp only; omega))

theorem column_10 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (i : Fin 1024) :
    Read.val_main_v0 (F := Ideal) x0 x1 x2 x3 x4 x5 x6 x7 x8 (ix2 r ⟨10 * 1024 + i.val, by omega⟩) = x8 (ix2 r i) := by
  unfold Read.val_main_v0
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg (fun c => x8 (ix2 r c)) (Fin.ext (by dsimp only; omega))

/-- The arrays joined, column by column. -/
theorem columns (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (r : Fin 4224) (s : Fin 11) (i : Fin 1024) :
    Read.val_main_v0 (F := Ideal) x0 x1 x2 x3 x4 x5 x6 x7 x8 (ix2 r ⟨s.val * 1024 + i.val, by omega⟩) = piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i)) s.val r i := by
  obtain ⟨s, hs⟩ := s
  match s, hs with
  | 0, _ => exact column_0 x0 x1 x2 x3 x4 x5 x6 x7 x8 r i
  | 1, _ => exact column_1 x0 x1 x2 x3 x4 x5 x6 x7 x8 r i
  | 2, _ => exact column_2 x0 x1 x2 x3 x4 x5 x6 x7 x8 r i
  | 3, _ => exact column_3 x0 x1 x2 x3 x4 x5 x6 x7 x8 r i
  | 4, _ => exact column_4 x0 x1 x2 x3 x4 x5 x6 x7 x8 r i
  | 5, _ => exact column_5 x0 x1 x2 x3 x4 x5 x6 x7 x8 r i
  | 6, _ => exact column_6 x0 x1 x2 x3 x4 x5 x6 x7 x8 r i
  | 7, _ => exact column_7 x0 x1 x2 x3 x4 x5 x6 x7 x8 r i
  | 8, _ => exact column_8 x0 x1 x2 x3 x4 x5 x6 x7 x8 r i
  | 9, _ => exact column_9 x0 x1 x2 x3 x4 x5 x6 x7 x8 r i
  | 10, _ => exact column_10 x0 x1 x2 x3 x4 x5 x6 x7 x8 r i

/-- The gradient of the normed rows, from the joined arrays. -/
def given (y : Vec Ideal S4224x11264 .bf16) (x9 : Vec Ideal S11264x1024 .bf16) (x10 : Vec Ideal S4224x128 .bf16) (x11 : Vec Ideal S128x1024 .bf16) (r : Fin 4224) (k : Fin 1024) : EReal :=
  small (fun r i => x10 (ix2 r i)) (fun r i => x11 (ix2 r i)) r k + ∑ l : Fin 11264, y (ix2 r l) * x9 (ix2 l k)

theorem given_eq (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (x9 : Vec Ideal S11264x1024 .bf16) (x10 : Vec Ideal S4224x128 .bf16) (x11 : Vec Ideal S128x1024 .bf16) :
    given (Read.val_main_v0 (F := Ideal) x0 x1 x2 x3 x4 x5 x6 x7 x8) x9 x10 x11 = (both (fun r i => x10 (ix2 r i)) (fun r i => x11 (ix2 r i)) (piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i))) (fun r i => x9 (ix2 r i))) := by
  funext r k
  unfold given both
  refine congrArg (_ + ·) ?_
  rw [Finset.sum_range]
  refine (Fin.sum_mul_add_congr (S := 11) (n := 1024) (f := fun l : Fin 11264 => Read.val_main_v0 (F := Ideal) x0 x1 x2 x3 x4 x5 x6 x7 x8 (ix2 r l) * x9 (ix2 l k)) fun s i hl => ?_).symm
  refine congrArg₂ (· * ·) ((congrArg (fun q => piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i)) q r i) (Nat.mod_eq_of_lt s.isLt)).trans (columns x0 x1 x2 x3 x4 x5 x6 x7 x8 r s i).symm) ?_
  exact congrArg (fun l => x9 (ix2 l k)) (Fin.ext (by
    show s.val % 11 * 1024 + i.val = s.val * 1024 + i.val
    rw [Nat.mod_eq_of_lt s.isLt]))

theorem result15 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (x9 : Vec Ideal S11264x1024 .bf16) (x10 : Vec Ideal S4224x128 .bf16) (x11 : Vec Ideal S128x1024 .bf16) (x12 : Vec Ideal S4224x1024 .f32) (x13 : Vec Ideal S1x1024 .f32) (x14 : Vec Ideal S4224x1024 .f32) :
    Read.val_main_v46 (F := Ideal) x0 x1 x2 x3 x4 x5 x6 x7 x8 x9 x10 x11 x12 x13 x14 = (fun i => stepped (fun k => x12 (ix2 (i 0) k)) (fun k => x13 (ix2 0 k)) ((both (fun r i => x10 (ix2 r i)) (fun r i => x11 (ix2 r i)) (piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i))) (fun r i => x9 (ix2 r i))) (i 0)) (i 1) + x14 (ix2 (i 0) (i 1)) : Vec Ideal S4224x1024 .f32) := by
  rw [← given_eq]
  unfold Read.val_main_v46 Read.val_main_v45 Read.val_main_v44 Read.val_main_v43 Read.val_main_v42 Read.val_main_v41 Read.val_main_v40 Read.val_main_cst_6 Read.val_main_v39 Read.val_main_v38 Read.val_main_cst_5 Read.val_main_v37 Read.val_main_v36 Read.val_main_v35 Read.val_main_v34 Read.val_main_v33 Read.val_main_cst_4 Read.val_main_v32 Read.val_main_v31 Read.val_main_v30 Read.val_main_v26 Read.val_main_v25 Read.val_main_v24 Read.val_main_v23 Read.val_main_v22 Read.val_main_v20 Read.val_main_v19 Read.val_main_v17 Read.val_main_v16 Read.val_main_v11 Read.val_main_v10 Read.val_main_cst_2 Read.val_main_v9 Read.val_main_v8 Read.val_main_v7 Read.val_main_v6 Read.val_main_cst_1 Read.val_main_v5 Read.val_main_v4 Read.val_main_cst_0 Read.val_main_v3 Read.val_main_v2 Read.val_main_cst Read.val_main_v1
  generalize Read.val_main_v0 (F := Ideal) x0 x1 x2 x3 x4 x5 x6 x7 x8 = y
  funext i
  idx_vars i
  pointwise [stepped, share, scale, square, given, small, len, Rms.small, minusHalf]
  simp only [Finset.univ_unique, Finset.sum_singleton]

theorem result16 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (x9 : Vec Ideal S11264x1024 .bf16) (x10 : Vec Ideal S4224x128 .bf16) (x11 : Vec Ideal S128x1024 .bf16) (x12 : Vec Ideal S4224x1024 .f32) (x13 : Vec Ideal S1x1024 .f32) (x14 : Vec Ideal S4224x1024 .f32) :
    Read.val_main_v47 (F := Ideal) x0 x1 x2 x3 x4 x5 x6 x7 x8 x9 x10 x11 x12 x13 x14 = (fun i => stepped (fun k => x12 (ix2 (i 0) k)) (fun k => x13 (ix2 0 k)) ((both (fun r i => x10 (ix2 r i)) (fun r i => x11 (ix2 r i)) (piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i))) (fun r i => x9 (ix2 r i))) (i 0)) (i 1) + x14 (ix2 (i 0) (i 1)) : Vec Ideal S4224x1024 .bf16) := by
  unfold Read.val_main_v47
  rw [result15]
  funext i
  idx_vars i
  pointwise

theorem result17 (x0 : Vec Ideal S4224x1024 .bf16) (x1 : Vec Ideal S4224x1024 .bf16) (x2 : Vec Ideal S4224x2048 .bf16) (x3 : Vec Ideal S4224x2048 .bf16) (x4 : Vec Ideal S4224x1024 .bf16) (x5 : Vec Ideal S4224x1024 .bf16) (x6 : Vec Ideal S4224x1024 .bf16) (x7 : Vec Ideal S4224x1024 .bf16) (x8 : Vec Ideal S4224x1024 .bf16) (x9 : Vec Ideal S11264x1024 .bf16) (x10 : Vec Ideal S4224x128 .bf16) (x11 : Vec Ideal S128x1024 .bf16) (x12 : Vec Ideal S4224x1024 .f32) :
    Read.val_main_v29 (F := Ideal) x0 x1 x2 x3 x4 x5 x6 x7 x8 x9 x10 x11 x12 = (fun i => gainGrad (fun r k => x12 (ix2 r k)) (both (fun r i => x10 (ix2 r i)) (fun r i => x11 (ix2 r i)) (piece (fun r i => x0 (ix2 r i)) (fun r i => x1 (ix2 r i)) (fun r i => x2 (ix2 r i)) (fun r i => x3 (ix2 r i)) (fun r i => x4 (ix2 r i)) (fun r i => x5 (ix2 r i)) (fun r i => x6 (ix2 r i)) (fun r i => x7 (ix2 r i)) (fun r i => x8 (ix2 r i))) (fun r i => x9 (ix2 r i))) (i 1) : Vec Ideal S1x1024 .f32) := by
  rw [← given_eq]
  unfold Read.val_main_v29 Read.val_main_v28 Read.val_main_cst_3 Read.val_main_v27 Read.val_main_v26 Read.val_main_v25 Read.val_main_v24 Read.val_main_v23 Read.val_main_v22 Read.val_main_v20 Read.val_main_v19 Read.val_main_v17 Read.val_main_v16 Read.val_main_v13 Read.val_main_v12 Read.val_main_v8 Read.val_main_v7 Read.val_main_v6 Read.val_main_cst_1 Read.val_main_v5 Read.val_main_v4 Read.val_main_cst_0 Read.val_main_v3 Read.val_main_v2 Read.val_main_cst Read.val_main_v1
  generalize Read.val_main_v0 (F := Ideal) x0 x1 x2 x3 x4 x5 x6 x7 x8 = y
  funext i
  idx_vars i
  pointwise [gainGrad, scale, square, given, small, len, Rms.small]

/-- The reference runs, and its arguments end unchanged. -/
theorem frame_reference : Cert.quiescent_Reference19Ideal := fun m ρ _ =>
  (θ_run defs _ _).mono (fun r h => ⟨fun c => (h c).2.2.2, sem_eq_zero_of_no_sems (by decide) r.2⟩) (Cert.Reference19Ideal.Value.run m ρ)

end Reference

section Precondition
open Cert.Kernel19Ideal Cert.Kernel19Ideal.Gen

/-- The precondition, array by array. -/
theorem bounded (m : (ℓ : Loc nD τ sig) → Buf (Elt Ideal) ℓ) (h : Cert.Pre_Kernel19Ideal_finite19 m) (c : Dev nD) :
    Bounded m c where
  gradQ r i := fine_of_cmp (congrFun (h c).1 (ix2 r i))
  gradK r i := fine_of_cmp (congrFun (h c).2.1 (ix2 r i))
  gradV r i := fine_of_cmp (congrFun (h c).2.2.1 (ix2 r i))
  gradZ r i := fine_of_cmp (congrFun (h c).2.2.2.1 (ix2 r i))
  gradSq r i := fine_of_cmp (congrFun (h c).2.2.2.2.1 (ix2 r i))
  gradSk r i := fine_of_cmp (congrFun (h c).2.2.2.2.2.1 (ix2 r i))
  gradSv r i := fine_of_cmp (congrFun (h c).2.2.2.2.2.2.1 (ix2 r i))
  gradGd r i := fine_of_cmp (congrFun (h c).2.2.2.2.2.2.2.1 (ix2 r i))
  gradGs r i := fine_of_cmp (congrFun (h c).2.2.2.2.2.2.2.2.1 (ix2 r i))
  weight r i := fine_of_cmp (congrFun (h c).2.2.2.2.2.2.2.2.2.1 (ix2 r i))
  gradAb r i := fine_of_cmp (congrFun (h c).2.2.2.2.2.2.2.2.2.2.1 (ix2 r i))
  weightAb r i := fine_of_cmp (congrFun (h c).2.2.2.2.2.2.2.2.2.2.2.1 (ix2 r i))
  stream r i := fine_of_cmp (congrFun (h c).2.2.2.2.2.2.2.2.2.2.2.2.1 (ix2 r i))
  gain r i := fine_of_cmp (congrFun (h c).2.2.2.2.2.2.2.2.2.2.2.2.2 (ix2 r i))

end Precondition

/-- The kernel's results are the reference's. -/
theorem values : Cert.algebraic_Kernel19Ideal_Reference19Ideal_pre_finite19 := by
  intro m ρ m' ρ' hpre hagree
  refine ⟨fun c => gradStream m c, fun c => gradNarrow m c, fun c => gradGain m c, ?_, ?_⟩
  · refine (θ_run _ _ _).mono (fun r h c => ?_) (kernel_runs m ρ (bounded m hpre))
    exact h c
  · refine (θ_run _ _ _).mono (fun r h c => ?_) (Cert.Reference19Ideal.Value.run m' ρ')
    obtain ⟨a0, a1, a2, a3, a4, a5, a6, a7, a8, a9, a10, a11, a12, a13, a14⟩ := hagree c
    refine ⟨(h c).1.trans ?_, (h c).2.1.trans ?_, (h c).2.2.1.trans ?_, (h c).2.2.2⟩
    · rw [Cert.Reference19Ideal.Read.val_main_v46_eq, a0, a1, a2, a3, a4, a5, a6, a7, a8, a9, a10, a11, a12, a13, a14]
      exact result15 _ _ _ _ _ _ _ _ _ _ _ _ _ _ _
    · rw [Cert.Reference19Ideal.Read.val_main_v47_eq, a0, a1, a2, a3, a4, a5, a6, a7, a8, a9, a10, a11, a12, a13, a14]
      exact result16 _ _ _ _ _ _ _ _ _ _ _ _ _ _ _
    · rw [Cert.Reference19Ideal.Read.val_main_v29_eq, a0, a1, a2, a3, a4, a5, a6, a7, a8, a9, a10, a11, a12]
      exact result17 _ _ _ _ _ _ _ _ _ _ _ _ _

end Cert.Bwd.Proj

end
-- ==== Proof.Adam.lean ====
/-
  THE OPTIMISER'S STEP: what it makes of a gradient, a weight and the two moments, for one number and then for arrays, with one gradient or with
  the devices' gradients to be added. Every constant is the float32 number that both programs have.
-/
module

public import proofs.«01_k».proof.Proof.Names
public import Idealize.ShloMosaic.PureOps.Ideal
public import Idealize.ShloMosaic.Lib.Pipeline.ValueKit

@[expose] public section

noncomputable section

namespace Cert.Adam

open Idealize.ShloMosaic
open scoped BigOperators

/-- The float32 number of these bits. -/
abbrev num (b : BitVec 32) : EReal := Idealize.ShloMosaic.Ideal.ofBits .f32 b

/-- The new first moment: nine tenths of the old one and a tenth of the gradient. -/
def mean (g m : EReal) : EReal := num 0x3F666666#32 * m + num 0x3DCCCCCD#32 * g

/-- The new second moment, from the gradient's square. -/
def square (g v : EReal) : EReal := num 0x3F7FBE77#32 * v + num 0x3A83126F#32 * (g * g)

/-- The weight's change: the mean over the root of the mean square, both corrected for the steps taken, and the weight's decay. -/
def step (g w m v : EReal) : EReal :=
  num 0xBA83126F#32 *
    (Idealize.ShloMosaic.Ideal.div (Idealize.ShloMosaic.Ideal.div (mean g m) (num 0x3F26BD02#32))
        (Idealize.ShloMosaic.Ideal.sqrt (Idealize.ShloMosaic.Ideal.div (square g v) (num 0x3C231ACC#32)) + num 0x322BCC77#32)
      + num 0x3C23D70A#32 * w)

/-- A float32 array. -/
abbrev Arr (s : Shape) := Vec Ideal s .f32

/-- The devices' gradients of a matrix. -/
abbrev Slabs (r n : Nat) := Vec Ideal ⟨3, ![8, r, n]⟩ .bf16

/-- The step at every entry. -/
def steps {s : Shape} (g w m v : Arr s) : Arr s := fun i => step (g i) (w i) (m i) (v i)

/-- The first moment at every entry. -/
def means {s : Shape} (g m : Arr s) : Arr s := fun i => mean (g i) (m i)

/-- The second moment at every entry. -/
def squares {s : Shape} (g v : Arr s) : Arr s := fun i => square (g i) (v i)

variable {r n : Nat}

/-- The sum of the devices' gradients. -/
def grad (x : Slabs r n) : Arr ⟨2, ![r, n]⟩ := fun i => ∑ p : Fin 8, x (ix3 p (i 0) (i 1))

/-- The step of every entry, of the summed gradient. -/
def change (x : Slabs r n) (w m v : Arr ⟨2, ![r, n]⟩) : Arr ⟨2, ![r, n]⟩ := steps (grad x) w m v

/-- The first moment of every entry, of the summed gradient. -/
def first (x : Slabs r n) (m : Arr ⟨2, ![r, n]⟩) : Arr ⟨2, ![r, n]⟩ := means (grad x) m

/-- The second moment of every entry, of the summed gradient. -/
def second (x : Slabs r n) (v : Arr ⟨2, ![r, n]⟩) : Arr ⟨2, ![r, n]⟩ := squares (grad x) v

/-- Eight numbers added one after another are their sum. -/
theorem eight (f : Fin 8 → EReal) : f 0 + f 1 + f 2 + f 3 + f 4 + f 5 + f 6 + f 7 = ∑ p, f p := by
  simp only [Fin.sum_univ_eight]

end Cert.Adam

end
-- ==== Proof.Small.lean ====
/-
  THE OPTIMISER'S STEP FOR THE SMALL WEIGHTS: one block each, every entry on its own.
-/
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise

@[expose] public section

noncomputable section

namespace Cert.Small

open Idealize.ShloMosaic Idealize.ShloMosaic.TcCoe Idealize.SL.Sem
open Cert.Adam

section Shape20
open Cert.Kernel20Ideal Cert.Reference20Ideal.Read

theorem frame_reference20 : Cert.quiescent_Reference20Ideal := fun m ρ _ =>
  (θ_run _ _ _).mono (fun r h => ⟨fun c => (h c).2.2.2, sem_eq_zero_of_no_sems (by decide) r.2⟩) (Cert.Reference20Ideal.Value.run m ρ)

/-- Of shape 16 by 128: the kernel's three arrays are the reference's, the step and the moments of every entry. -/
theorem values20 : Cert.algebraic_Kernel20Ideal_Reference20Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference20Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape20

section Shape21
open Cert.Kernel21Ideal Cert.Reference21Ideal.Read

theorem frame_reference21 : Cert.quiescent_Reference21Ideal := fun m ρ _ =>
  (θ_run _ _ _).mono (fun r h => ⟨fun c => (h c).2.2.2, sem_eq_zero_of_no_sems (by decide) r.2⟩) (Cert.Reference21Ideal.Value.run m ρ)

/-- Of shape 1 by 1024: the kernel's three arrays are the reference's, the step and the moments of every entry. -/
theorem values21 : Cert.algebraic_Kernel21Ideal_Reference21Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference21Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape21

section Shape22
open Cert.Kernel22Ideal Cert.Reference22Ideal.Read

theorem frame_reference22 : Cert.quiescent_Reference22Ideal := fun m ρ _ =>
  (θ_run _ _ _).mono (fun r h => ⟨fun c => (h c).2.2.2, sem_eq_zero_of_no_sems (by decide) r.2⟩) (Cert.Reference22Ideal.Value.run m ρ)

/-- Of shape 4 by 128: the kernel's three arrays are the reference's, the step and the moments of every entry. -/
theorem values22 : Cert.algebraic_Kernel22Ideal_Reference22Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference22Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape22

section Shape23
open Cert.Kernel23Ideal Cert.Reference23Ideal.Read

theorem frame_reference23 : Cert.quiescent_Reference23Ideal := fun m ρ _ =>
  (θ_run _ _ _).mono (fun r h => ⟨fun c => (h c).2.2.2, sem_eq_zero_of_no_sems (by decide) r.2⟩) (Cert.Reference23Ideal.Value.run m ρ)

/-- Of shape 4 by 256: the kernel's three arrays are the reference's, the step and the moments of every entry. -/
theorem values23 : Cert.algebraic_Kernel23Ideal_Reference23Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference23Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape23

section Shape24
open Cert.Kernel24Ideal Cert.Reference24Ideal.Read

theorem frame_reference24 : Cert.quiescent_Reference24Ideal := fun m ρ _ =>
  (θ_run _ _ _).mono (fun r h => ⟨fun c => (h c).2.2.2, sem_eq_zero_of_no_sems (by decide) r.2⟩) (Cert.Reference24Ideal.Value.run m ρ)

/-- Of shape 1 by 8: the kernel's three arrays are the reference's, the step and the moments of every entry. -/
theorem values24 : Cert.algebraic_Kernel24Ideal_Reference24Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference24Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape24

section Shape25
open Cert.Kernel25Ideal Cert.Reference25Ideal.Read

theorem frame_reference25 : Cert.quiescent_Reference25Ideal := fun m ρ _ =>
  (θ_run _ _ _).mono (fun r h => ⟨fun c => (h c).2.2.2, sem_eq_zero_of_no_sems (by decide) r.2⟩) (Cert.Reference25Ideal.Value.run m ρ)

/-- Of shape 1 by 256: the kernel's three arrays are the reference's, the step and the moments of every entry. -/
theorem values25 : Cert.algebraic_Kernel25Ideal_Reference25Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference25Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape25

section Shape26
open Cert.Kernel26Ideal Cert.Reference26Ideal.Read

theorem frame_reference26 : Cert.quiescent_Reference26Ideal := fun m ρ _ =>
  (θ_run _ _ _).mono (fun r h => ⟨fun c => (h c).2.2.2, sem_eq_zero_of_no_sems (by decide) r.2⟩) (Cert.Reference26Ideal.Value.run m ρ)

/-- Of shape 1 by 128: the kernel's three arrays are the reference's, the step and the moments of every entry. -/
theorem values26 : Cert.algebraic_Kernel26Ideal_Reference26Ideal := by
  intro m ρ m' ρ' _ hagree
  let at0 (c : Dev nD) := m ((c : Thread nD τ).loc main_arg0)
  let at2 (c : Dev nD) := m ((c : Thread nD τ).loc main_arg2)
  let at3 (c : Dev nD) := m ((c : Thread nD τ).loc main_arg3)
  refine ⟨fun c => steps (at0 c) (m ((c : Thread nD τ).loc main_arg1)) (at2 c) (at3 c), fun c => means (at0 c) (at2 c), fun c => squares (at0 c) (at3 c),
    Value.run m ρ, (θ_run _ _ _).mono (fun r h c => ?_) (Cert.Reference26Ideal.Value.run m' ρ')⟩
  obtain ⟨a0, a1, a2, a3⟩ := hagree c
  refine ⟨(h c).1.trans ?_, (h c).2.1.trans ?_, (h c).2.2.1.trans ?_, (h c).2.2.2⟩
  · rw [val_main_v23_eq, a0, a1, a2, a3]; rfl
  · rw [val_main_v4_eq, a0, a2]; rfl
  · rw [val_main_v10_eq, a0, a3]; rfl

end Shape26

end Cert.Small

end
-- ==== Proof.UpdateOut.lean ====
/-
  THE OPTIMISER'S STEP FOR w_out AND w_branch_sb: the devices' gradients added, and the step of every entry, in one block.
-/
module

public import proofs.«01_k».proof.Proof.Names
public import proofs.«01_k».proof.Defs
public import proofs.«01_k».proof.Proof.Adam
public import proofs.«01_k».proof.Proof.Gen.Kernel27Ideal
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Lib.Pipeline.ValueKit

@[expose] public section

noncomputable section

namespace Cert.Update.Out

open Idealize.ShloMosaic Idealize.ShloMosaic.TcCoe Idealize.SL.Sem
open Cert.Adam
open scoped BigOperators

section Kernel
open Cert.Kernel27Ideal Cert.Kernel27Ideal.Gen Cert.Kernel27Ideal.Value

variable (m : (ℓ : Loc nD τ sig) → Buf (Elt Ideal) ℓ)

theorem total (x0 : Slabs 128 1024) (x1 x2 x3 : Arr S128x1024) : k0_pay5 x0 x1 x2 x3 = grad x0 := by
  funext i
  refine (congrArg _ (ix2_eta i).symm).trans ?_
  unfold grad
  rw [← eight]
  pointwise [k0_pay5, k0_pay4]

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad (m ((c : Thread nD τ).loc main_arg0))
      ∧ r.2.mem ((c : Thread nD τ).loc main_v0_1) = change (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = first (m ((c : Thread nD τ).loc main_arg0)) (m ((c : Thread nD τ).loc main_arg2))
      ∧ r.2.mem ((c : Thread nD τ).loc main_v0_3) = second (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (total _ _ _ _), (h c).2.1.trans (by unfold change; rw [← total]; rfl),
      (h c).2.2.1.trans (by unfold first; rw [← total]; rfl), (h c).2.2.2.1.trans (by unfold second; rw [← total]; rfl),
      (h c).2.2.2.2⟩) (Value.run m ρ)

end Kernel

section Reference
open Cert.Reference27Ideal

theorem result4 (x0 : Slabs 128 1024) : Read.val_main_v1 (F := Ideal) x0 = grad x0 := by
  funext i
  refine (Read.val_main_v1_apply x0 i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x0 (funext fun a => match a with | ⟨0, _⟩ => rfl | ⟨1, _⟩ => rfl | ⟨2, _⟩ => rfl)

theorem frame_reference : Cert.quiescent_Reference27Ideal := fun m ρ _ =>
  (θ_run defs _ _).mono (fun r h => ⟨fun c => (h c).2.2.2.2, sem_eq_zero_of_no_sems (by decide) r.2⟩) (Value.run m ρ)

end Reference

/-- The kernel's results are the reference's. -/
theorem values : Cert.algebraic_Kernel27Ideal_Reference27Ideal := by
  intro m ρ m' ρ' _ hagree
  refine ⟨fun c => grad _, fun c => change _ _ _ _, fun c => first _ _, fun c => second _ _, kernel_runs m ρ, ?_⟩
  refine (θ_run _ _ _).mono (fun r h c => ?_) (Cert.Reference27Ideal.Value.run m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference27Ideal.Read.val_main_v1_eq, a0]; exact result4 _
  · rw [Cert.Reference27Ideal.Read.val_main_v25_eq, a0, a1, a2, a3]; show _ = steps (grad _) _ _ _; rw [← result4]; rfl
  · rw [Cert.Reference27Ideal.Read.val_main_v6_eq, a0, a2]; show _ = means (grad _) _; rw [← result4]; rfl
  · rw [Cert.Reference27Ideal.Read.val_main_v12_eq, a0, a3]; show _ = squares (grad _) _; rw [← result4]; rfl

end Cert.Update.Out

end
-- ==== Proof.UpdateBranchDn.lean ====
/-
  THE OPTIMISER'S STEP FOR w_branch_dn: the devices' gradients added, and the step of every entry, block by block.
-/
module

public import proofs.«01_k».proof.Proof.Names
public import proofs.«01_k».proof.Defs
public import proofs.«01_k».proof.Proof.Adam
public import proofs.«01_k».proof.Proof.Gen.Kernel28Ideal
public import proofs.«01_k».proof.Proof.Gen.Kernel28Ideal.Frame
public import proofs.«01_k».proof.Proof.Gen.Reference28Ideal.Run
public import proofs.«01_k».proof.Proof.Gen.Reference28Ideal.Read
public import Idealize.ShloMosaic.Lib.Pointwise
public import Idealize.ShloMosaic.Lib.Pipeline.ValueKit

@[expose] public section

noncomputable section

namespace Cert.Update.BranchDn

open Idealize.ShloMosaic Idealize.ShloMosaic.TcCoe Idealize.SL.Sem
open Cert.Adam
open scoped BigOperators

section Kernel
open Cert.Kernel28Ideal Cert.Kernel28Ideal.Gen

variable (m : (ℓ : Loc nD τ sig) → Buf (Elt Ideal) ℓ)

/-- Row `j` of the blocks of point `t`. -/
def row (t : Fin cfg0.N) (j : Fin 128) : Fin 256 :=
  ⟨t.val * 128 + j.val, by have := lt_of_lt_of_eq t.isLt (show cfg0.N = 2 from N_0); omega⟩

/-- Where the blocks lie at a point. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

variable (c : Dev nD) (t : Fin cfg0.N) (j : Fin 128) (k : Fin 1024)

theorem block0 (p : Fin 8) : (iblk m c 0 t : Slabs 128 1024) (ix3 p j k) = V m c main_arg0 (ix3 p (row t j) k) := by
  obtain ⟨⟨e0, e1, e2⟩, -⟩ := places t
  blk_ext [iblk, V, e0, e1, e2, row]

theorem block1 : (iblk m c 1 t : Arr S128x1024) (ix2 j k) = V m c main_arg1 (ix2 (row t j) k) := by
  obtain ⟨-, ⟨e0, e1⟩, -⟩ := places t
  blk_ext [iblk, V, e0, e1, row]

theorem block2 : (iblk m c 2 t : Arr S128x1024) (ix2 j k) = V m c main_arg2 (ix2 (row t j) k) := by
  obtain ⟨-, -, ⟨e0, e1⟩, -⟩ := places t
  blk_ext [iblk, V, e0, e1, row]

theorem block3 : (iblk m c 3 t : Arr S128x1024) (ix2 j k) = V m c main_arg3 (ix2 (row t j) k) := by
  obtain ⟨-, -, -, ⟨e0, e1⟩, -⟩ := places t
  blk_ext [iblk, V, e0, e1, row]

theorem total (x0 : Slabs 128 1024) (x1 x2 x3 : Arr S128x1024) : k0_pay5 x0 x1 x2 x3 (ix2 j k) = ∑ p : Fin 8, x0 (ix3 p j k) := by
  rw [← eight]
  pointwise [k0_pay5, k0_pay4]

/-- A block's sum is the sum's block. -/
theorem total_block :
    k0_pay5 (iblk m c 0 t) (iblk m c 1 t) (iblk m c 2 t) (iblk m c 3 t) (ix2 j k) = grad (V m c main_arg0) (ix2 (row t j) k) :=
  (total j k _ _ _ _).trans (Finset.sum_congr rfl fun p _ => block0 m c t j k p)

theorem array4 : (dats m 0 c).arrAt 4 cfg0.N = grad (V m c main_arg0) := by
  refine (dats m 0 c).arrAt_eq_of_covers 4 _ (by decide +kernel) fun t hf y => ?_
  obtain ⟨-, -, -, -, ⟨e0, e1⟩, -⟩ := places t
  have key : ((cfg0.win 4).blk t).view.emb y = ix2 (row t (y 0)) (y 1) := by
    unfold row
    blk_ext [e0, e1]
  rw [key]
  blk_simp
  rw [after0_4]
  refine (congrArg _ (ix2_eta y).symm).trans ?_
  unfold out0_4
  frame_out
  exact total_block m c t (y 0) (y 1)

theorem array5 : (dats m 0 c).arrAt 5 cfg0.N = change (V m c main_arg0) (V m c main_arg1) (V m c main_arg2) (V m c main_arg3) := by
  refine (dats m 0 c).arrAt_eq_of_covers 5 _ (by decide +kernel) fun t hf y => ?_
  obtain ⟨-, -, -, -, -, ⟨e0, e1⟩, -⟩ := places t
  have key : ((cfg0.win 5).blk t).view.emb y = ix2 (row t (y 0)) (y 1) := by
    unfold row
    blk_ext [e0, e1]
  rw [key]
  blk_simp
  rw [after0_5]
  refine (congrArg _ (ix2_eta y).symm).trans ?_
  unfold out0_5
  frame_out
  exact congr (congr (congr (congrArg step (total_block m c t (y 0) (y 1))) (block1 m c t (y 0) (y 1))) (block2 m c t (y 0) (y 1))) (block3 m c t (y 0) (y 1))

theorem array6 : (dats m 0 c).arrAt 6 cfg0.N = first (V m c main_arg0) (V m c main_arg2) := by
  refine (dats m 0 c).arrAt_eq_of_covers 6 _ (by decide +kernel) fun t hf y => ?_
  obtain ⟨-, -, -, -, -, -, ⟨e0, e1⟩, -⟩ := places t
  have key : ((cfg0.win 6).blk t).view.emb y = ix2 (row t (y 0)) (y 1) := by
    unfold row
    blk_ext [e0, e1]
  rw [key]
  blk_simp
  rw [after0_6]
  refine (congrArg _ (ix2_eta y).symm).trans ?_
  unfold out0_6
  frame_out
  exact congrArg₂ mean (total_block m c t (y 0) (y 1)) (block2 m c t (y 0) (y 1))

theorem array7 : (dats m 0 c).arrAt 7 cfg0.N = second (V m c main_arg0) (V m c main_arg3) := by
  refine (dats m 0 c).arrAt_eq_of_covers 7 _ (by decide +kernel) fun t hf y => ?_
  obtain ⟨-, -, -, -, -, -, -, ⟨e0, e1⟩⟩ := places t
  have key : ((cfg0.win 7).blk t).view.emb y = ix2 (row t (y 0)) (y 1) := by
    unfold row
    blk_ext [e0, e1]
  rw [key]
  blk_simp
  rw [after0_7]
  refine (congrArg _ (ix2_eta y).symm).trans ?_
  unfold out0_7
  frame_out
  exact congrArg₂ square (total_block m c t (y 0) (y 1)) (block3 m c t (y 0) (y 1))

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad (V m c main_arg0)
      ∧ r.2.mem ((c : Thread nD τ).loc main_v0_1) = change (V m c main_arg0) (V m c main_arg1) (V m c main_arg2) (V m c main_arg3)
      ∧ r.2.mem ((c : Thread nD τ).loc main_v0_2) = first (V m c main_arg0) (V m c main_arg2)
      ∧ r.2.mem ((c : Thread nD τ).loc main_v0_3) = second (V m c main_arg0) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m c), ((h c).1 5).trans (array5 m c), ((h c).1 6).trans (array6 m c), ((h c).1 7).trans (array7 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Kernel

section Reference
open Cert.Reference28Ideal

theorem result4 (x0 : Slabs 256 1024) : Read.val_main_v1 (F := Ideal) x0 = grad x0 := by
  funext i
  refine (Read.val_main_v1_apply x0 i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x0 (funext fun a => match a with | ⟨0, _⟩ => rfl | ⟨1, _⟩ => rfl | ⟨2, _⟩ => rfl)

theorem frame_reference : Cert.quiescent_Reference28Ideal := fun m ρ _ =>
  (θ_run defs _ _).mono (fun r h => ⟨fun c => (h c).2.2.2.2, sem_eq_zero_of_no_sems (by decide) r.2⟩) (Value.run m ρ)

end Reference

/-- The kernel's results are the reference's. -/
theorem values : Cert.algebraic_Kernel28Ideal_Reference28Ideal := by
  intro m ρ m' ρ' _ hagree
  refine ⟨fun c => grad _, fun c => change _ _ _ _, fun c => first _ _, fun c => second _ _, kernel_runs m ρ, ?_⟩
  refine (θ_run _ _ _).mono (fun r h c => ?_) (Cert.Reference28Ideal.Value.run m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference28Ideal.Read.val_main_v1_eq, a0]; exact result4 _
  · rw [Cert.Reference28Ideal.Read.val_main_v25_eq, a0, a1, a2, a3]; show _ = steps (grad _) _ _ _; rw [← result4]; rfl
  · rw [Cert.Reference28Ideal.Read.val_main_v6_eq, a0, a2]; show _ = means (grad _) _; rw [← result4]; rfl
  · rw [Cert.Reference28Ideal.Read.val_main_v12_eq, a0, a3]; show _ = squares (grad _) _; rw [← result4]; rfl

end Cert.Update.BranchDn

end
-- ==== Proof.UpdateFfnOut.lean ====
/-
  THE OPTIMISER'S STEP FOR w_ffn_out: the devices' gradients added, and the step of every entry, block by block.
-/
module

public import proofs.«01_k».proof.Proof.Names
public import proofs.«01_k».proof.Defs
public import proofs.«01_k».proof.Proof.Adam
public import proofs.«01_k».proof.Proof.Gen.Kernel29Ideal
public import proofs.«01_k».proof.Proof.Gen.Kernel29Ideal.Frame
public import proofs.«01_k».proof.Proof.Gen.Reference29Ideal.Run
public import proofs.«01_k».proof.Proof.Gen.Reference29Ideal.Read
public import Idealize.ShloMosaic.Lib.Pointwise
public import Idealize.ShloMosaic.Lib.Pipeline.ValueKit

@[expose] public section

noncomputable section

namespace Cert.Update.FfnOut

open Idealize.ShloMosaic Idealize.ShloMosaic.TcCoe Idealize.SL.Sem
open Cert.Adam
open scoped BigOperators

section Kernel
open Cert.Kernel29Ideal Cert.Kernel29Ideal.Gen

variable (m : (ℓ : Loc nD τ sig) → Buf (Elt Ideal) ℓ)

/-- Row `j` of the blocks of point `t`. -/
def row (t : Fin cfg0.N) (j : Fin 176) : Fin 352 :=
  ⟨t.val * 176 + j.val, by have := lt_of_lt_of_eq t.isLt (show cfg0.N = 2 from N_0); omega⟩

/-- Where the blocks lie at a point. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

variable (c : Dev nD) (t : Fin cfg0.N) (j : Fin 176) (k : Fin 1024)

theorem block0 (p : Fin 8) : (iblk m c 0 t : Slabs 176 1024) (ix3 p j k) = V m c main_arg0 (ix3 p (row t j) k) := by
  obtain ⟨⟨e0, e1, e2⟩, -⟩ := places t
  blk_ext [iblk, V, e0, e1, e2, row]

theorem block1 : (iblk m c 1 t : Arr S176x1024) (ix2 j k) = V m c main_arg1 (ix2 (row t j) k) := by
  obtain ⟨-, ⟨e0, e1⟩, -⟩ := places t
  blk_ext [iblk, V, e0, e1, row]

theorem block2 : (iblk m c 2 t : Arr S176x1024) (ix2 j k) = V m c main_arg2 (ix2 (row t j) k) := by
  obtain ⟨-, -, ⟨e0, e1⟩, -⟩ := places t
  blk_ext [iblk, V, e0, e1, row]

theorem block3 : (iblk m c 3 t : Arr S176x1024) (ix2 j k) = V m c main_arg3 (ix2 (row t j) k) := by
  obtain ⟨-, -, -, ⟨e0, e1⟩, -⟩ := places t
  blk_ext [iblk, V, e0, e1, row]

theorem total (x0 : Slabs 176 1024) (x1 x2 x3 : Arr S176x1024) : k0_pay5 x0 x1 x2 x3 (ix2 j k) = ∑ p : Fin 8, x0 (ix3 p j k) := by
  rw [← eight]
  pointwise [k0_pay5, k0_pay4]

/-- A block's sum is the sum's block. -/
theorem total_block :
    k0_pay5 (iblk m c 0 t) (iblk m c 1 t) (iblk m c 2 t) (iblk m c 3 t) (ix2 j k) = grad (V m c main_arg0) (ix2 (row t j) k) :=
  (total j k _ _ _ _).trans (Finset.sum_congr rfl fun p _ => block0 m c t j k p)

theorem array4 : (dats m 0 c).arrAt 4 cfg0.N = grad (V m c main_arg0) := by
  refine (dats m 0 c).arrAt_eq_of_covers 4 _ (by decide +kernel) fun t hf y => ?_
  obtain ⟨-, -, -, -, ⟨e0, e1⟩, -⟩ := places t
  have key : ((cfg0.win 4).blk t).view.emb y = ix2 (row t (y 0)) (y 1) := by
    unfold row
    blk_ext [e0, e1]
  rw [key]
  blk_simp
  rw [after0_4]
  refine (congrArg _ (ix2_eta y).symm).trans ?_
  unfold out0_4
  frame_out
  exact total_block m c t (y 0) (y 1)

theorem array5 : (dats m 0 c).arrAt 5 cfg0.N = change (V m c main_arg0) (V m c main_arg1) (V m c main_arg2) (V m c main_arg3) := by
  refine (dats m 0 c).arrAt_eq_of_covers 5 _ (by decide +kernel) fun t hf y => ?_
  obtain ⟨-, -, -, -, -, ⟨e0, e1⟩, -⟩ := places t
  have key : ((cfg0.win 5).blk t).view.emb y = ix2 (row t (y 0)) (y 1) := by
    unfold row
    blk_ext [e0, e1]
  rw [key]
  blk_simp
  rw [after0_5]
  refine (congrArg _ (ix2_eta y).symm).trans ?_
  unfold out0_5
  frame_out
  exact congr (congr (congr (congrArg step (total_block m c t (y 0) (y 1))) (block1 m c t (y 0) (y 1))) (block2 m c t (y 0) (y 1))) (block3 m c t (y 0) (y 1))

theorem array6 : (dats m 0 c).arrAt 6 cfg0.N = first (V m c main_arg0) (V m c main_arg2) := by
  refine (dats m 0 c).arrAt_eq_of_covers 6 _ (by decide +kernel) fun t hf y => ?_
  obtain ⟨-, -, -, -, -, -, ⟨e0, e1⟩, -⟩ := places t
  have key : ((cfg0.win 6).blk t).view.emb y = ix2 (row t (y 0)) (y 1) := by
    unfold row
    blk_ext [e0, e1]
  rw [key]
  blk_simp
  rw [after0_6]
  refine (congrArg _ (ix2_eta y).symm).trans ?_
  unfold out0_6
  frame_out
  exact congrArg₂ mean (total_block m c t (y 0) (y 1)) (block2 m c t (y 0) (y 1))

theorem array7 : (dats m 0 c).arrAt 7 cfg0.N = second (V m c main_arg0) (V m c main_arg3) := by
  refine (dats m 0 c).arrAt_eq_of_covers 7 _ (by decide +kernel) fun t hf y => ?_
  obtain ⟨-, -, -, -, -, -, -, ⟨e0, e1⟩⟩ := places t
  have key : ((cfg0.win 7).blk t).view.emb y = ix2 (row t (y 0)) (y 1) := by
    unfold row
    blk_ext [e0, e1]
  rw [key]
  blk_simp
  rw [after0_7]
  refine (congrArg _ (ix2_eta y).symm).trans ?_
  unfold out0_7
  frame_out
  exact congrArg₂ square (total_block m c t (y 0) (y 1)) (block3 m c t (y 0) (y 1))

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad (V m c main_arg0)
      ∧ r.2.mem ((c : Thread nD τ).loc main_v0_1) = change (V m c main_arg0) (V m c main_arg1) (V m c main_arg2) (V m c main_arg3)
      ∧ r.2.mem ((c : Thread nD τ).loc main_v0_2) = first (V m c main_arg0) (V m c main_arg2)
      ∧ r.2.mem ((c : Thread nD τ).loc main_v0_3) = second (V m c main_arg0) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m c), ((h c).1 5).trans (array5 m c), ((h c).1 6).trans (array6 m c), ((h c).1 7).trans (array7 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Kernel

section Reference
open Cert.Reference29Ideal

theorem result4 (x0 : Slabs 352 1024) : Read.val_main_v1 (F := Ideal) x0 = grad x0 := by
  funext i
  refine (Read.val_main_v1_apply x0 i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x0 (funext fun a => match a with | ⟨0, _⟩ => rfl | ⟨1, _⟩ => rfl | ⟨2, _⟩ => rfl)

theorem frame_reference : Cert.quiescent_Reference29Ideal := fun m ρ _ =>
  (θ_run defs _ _).mono (fun r h => ⟨fun c => (h c).2.2.2.2, sem_eq_zero_of_no_sems (by decide) r.2⟩) (Value.run m ρ)

end Reference

/-- The kernel's results are the reference's. -/
theorem values : Cert.algebraic_Kernel29Ideal_Reference29Ideal := by
  intro m ρ m' ρ' _ hagree
  refine ⟨fun c => grad _, fun c => change _ _ _ _, fun c => first _ _, fun c => second _ _, kernel_runs m ρ, ?_⟩
  refine (θ_run _ _ _).mono (fun r h c => ?_) (Cert.Reference29Ideal.Value.run m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference29Ideal.Read.val_main_v1_eq, a0]; exact result4 _
  · rw [Cert.Reference29Ideal.Read.val_main_v25_eq, a0, a1, a2, a3]; show _ = steps (grad _) _ _ _; rw [← result4]; rfl
  · rw [Cert.Reference29Ideal.Read.val_main_v6_eq, a0, a2]; show _ = means (grad _) _; rw [← result4]; rfl
  · rw [Cert.Reference29Ideal.Read.val_main_v12_eq, a0, a3]; show _ = squares (grad _) _; rw [← result4]; rfl

end Cert.Update.FfnOut

end
-- ==== Proof.UpdateFfnIn.lean ====
/-
  THE OPTIMISER'S STEP FOR w_ffn_in: the devices' gradients added, and the step of every entry, block by block.
-/
module

public import proofs.«01_k».proof.Proof.Names
public import proofs.«01_k».proof.Defs
public import proofs.«01_k».proof.Proof.Adam
public import proofs.«01_k».proof.Proof.Gen.Kernel30Ideal
public import proofs.«01_k».proof.Proof.Gen.Kernel30Ideal.Frame
public import proofs.«01_k».proof.Proof.Gen.Reference30Ideal.Run
public import proofs.«01_k».proof.Proof.Gen.Reference30Ideal.Read
public import Idealize.ShloMosaic.Lib.Pointwise
public import Idealize.ShloMosaic.Lib.Pipeline.ValueKit

@[expose] public section

noncomputable section

namespace Cert.Update.FfnIn

open Idealize.ShloMosaic Idealize.ShloMosaic.TcCoe Idealize.SL.Sem
open Cert.Adam
open scoped BigOperators

section Kernel
open Cert.Kernel30Ideal Cert.Kernel30Ideal.Gen

variable (m : (ℓ : Loc nD τ sig) → Buf (Elt Ideal) ℓ)

/-- Row `j` of the blocks of point `t`. -/
def row (t : Fin cfg0.N) (j : Fin 176) : Fin 704 :=
  ⟨t.val * 176 + j.val, by have := lt_of_lt_of_eq t.isLt (show cfg0.N = 4 from N_0); omega⟩

/-- Where the blocks lie at a point. -/
theorem places : ∀ t : Fin cfg0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

variable (c : Dev nD) (t : Fin cfg0.N) (j : Fin 176) (k : Fin 1024)

theorem block0 (p : Fin 8) : (iblk m c 0 t : Slabs 176 1024) (ix3 p j k) = V m c main_arg0 (ix3 p (row t j) k) := by
  obtain ⟨⟨e0, e1, e2⟩, -⟩ := places t
  blk_ext [iblk, V, e0, e1, e2, row]

theorem block1 : (iblk m c 1 t : Arr S176x1024) (ix2 j k) = V m c main_arg1 (ix2 (row t j) k) := by
  obtain ⟨-, ⟨e0, e1⟩, -⟩ := places t
  blk_ext [iblk, V, e0, e1, row]

theorem block2 : (iblk m c 2 t : Arr S176x1024) (ix2 j k) = V m c main_arg2 (ix2 (row t j) k) := by
  obtain ⟨-, -, ⟨e0, e1⟩, -⟩ := places t
  blk_ext [iblk, V, e0, e1, row]

theorem block3 : (iblk m c 3 t : Arr S176x1024) (ix2 j k) = V m c main_arg3 (ix2 (row t j) k) := by
  obtain ⟨-, -, -, ⟨e0, e1⟩, -⟩ := places t
  blk_ext [iblk, V, e0, e1, row]

theorem total (x0 : Slabs 176 1024) (x1 x2 x3 : Arr S176x1024) : k0_pay5 x0 x1 x2 x3 (ix2 j k) = ∑ p : Fin 8, x0 (ix3 p j k) := by
  rw [← eight]
  pointwise [k0_pay5, k0_pay4]

/-- A block's sum is the sum's block. -/
theorem total_block :
    k0_pay5 (iblk m c 0 t) (iblk m c 1 t) (iblk m c 2 t) (iblk m c 3 t) (ix2 j k) = grad (V m c main_arg0) (ix2 (row t j) k) :=
  (total j k _ _ _ _).trans (Finset.sum_congr rfl fun p _ => block0 m c t j k p)

theorem array4 : (dats m 0 c).arrAt 4 cfg0.N = grad (V m c main_arg0) := by
  refine (dats m 0 c).arrAt_eq_of_covers 4 _ (by decide +kernel) fun t hf y => ?_
  obtain ⟨-, -, -, -, ⟨e0, e1⟩, -⟩ := places t
  have key : ((cfg0.win 4).blk t).view.emb y = ix2 (row t (y 0)) (y 1) := by
    unfold row
    blk_ext [e0, e1]
  rw [key]
  blk_simp
  rw [after0_4]
  refine (congrArg _ (ix2_eta y).symm).trans ?_
  unfold out0_4
  frame_out
  exact total_block m c t (y 0) (y 1)

theorem array5 : (dats m 0 c).arrAt 5 cfg0.N = change (V m c main_arg0) (V m c main_arg1) (V m c main_arg2) (V m c main_arg3) := by
  refine (dats m 0 c).arrAt_eq_of_covers 5 _ (by decide +kernel) fun t hf y => ?_
  obtain ⟨-, -, -, -, -, ⟨e0, e1⟩, -⟩ := places t
  have key : ((cfg0.win 5).blk t).view.emb y = ix2 (row t (y 0)) (y 1) := by
    unfold row
    blk_ext [e0, e1]
  rw [key]
  blk_simp
  rw [after0_5]
  refine (congrArg _ (ix2_eta y).symm).trans ?_
  unfold out0_5
  frame_out
  exact congr (congr (congr (congrArg step (total_block m c t (y 0) (y 1))) (block1 m c t (y 0) (y 1))) (block2 m c t (y 0) (y 1))) (block3 m c t (y 0) (y 1))

theorem array6 : (dats m 0 c).arrAt 6 cfg0.N = first (V m c main_arg0) (V m c main_arg2) := by
  refine (dats m 0 c).arrAt_eq_of_covers 6 _ (by decide +kernel) fun t hf y => ?_
  obtain ⟨-, -, -, -, -, -, ⟨e0, e1⟩, -⟩ := places t
  have key : ((cfg0.win 6).blk t).view.emb y = ix2 (row t (y 0)) (y 1) := by
    unfold row
    blk_ext [e0, e1]
  rw [key]
  blk_simp
  rw [after0_6]
  refine (congrArg _ (ix2_eta y).symm).trans ?_
  unfold out0_6
  frame_out
  exact congrArg₂ mean (total_block m c t (y 0) (y 1)) (block2 m c t (y 0) (y 1))

theorem array7 : (dats m 0 c).arrAt 7 cfg0.N = second (V m c main_arg0) (V m c main_arg3) := by
  refine (dats m 0 c).arrAt_eq_of_covers 7 _ (by decide +kernel) fun t hf y => ?_
  obtain ⟨-, -, -, -, -, -, -, ⟨e0, e1⟩⟩ := places t
  have key : ((cfg0.win 7).blk t).view.emb y = ix2 (row t (y 0)) (y 1) := by
    unfold row
    blk_ext [e0, e1]
  rw [key]
  blk_simp
  rw [after0_7]
  refine (congrArg _ (ix2_eta y).symm).trans ?_
  unfold out0_7
  frame_out
  exact congrArg₂ square (total_block m c t (y 0) (y 1)) (block3 m c t (y 0) (y 1))

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad (V m c main_arg0)
      ∧ r.2.mem ((c : Thread nD τ).loc main_v0_1) = change (V m c main_arg0) (V m c main_arg1) (V m c main_arg2) (V m c main_arg3)
      ∧ r.2.mem ((c : Thread nD τ).loc main_v0_2) = first (V m c main_arg0) (V m c main_arg2)
      ∧ r.2.mem ((c : Thread nD τ).loc main_v0_3) = second (V m c main_arg0) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m c), ((h c).1 5).trans (array5 m c), ((h c).1 6).trans (array6 m c), ((h c).1 7).trans (array7 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Kernel

section Reference
open Cert.Reference30Ideal

theorem result4 (x0 : Slabs 704 1024) : Read.val_main_v1 (F := Ideal) x0 = grad x0 := by
  funext i
  refine (Read.val_main_v1_apply x0 i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x0 (funext fun a => match a with | ⟨0, _⟩ => rfl | ⟨1, _⟩ => rfl | ⟨2, _⟩ => rfl)

theorem frame_reference : Cert.quiescent_Reference30Ideal := fun m ρ _ =>
  (θ_run defs _ _).mono (fun r h => ⟨fun c => (h c).2.2.2.2, sem_eq_zero_of_no_sems (by decide) r.2⟩) (Value.run m ρ)

end Reference

/-- The kernel's results are the reference's. -/
theorem values : Cert.algebraic_Kernel30Ideal_Reference30Ideal := by
  intro m ρ m' ρ' _ hagree
  refine ⟨fun c => grad _, fun c => change _ _ _ _, fun c => first _ _, fun c => second _ _, kernel_runs m ρ, ?_⟩
  refine (θ_run _ _ _).mono (fun r h c => ?_) (Cert.Reference30Ideal.Value.run m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference30Ideal.Read.val_main_v1_eq, a0]; exact result4 _
  · rw [Cert.Reference30Ideal.Read.val_main_v25_eq, a0, a1, a2, a3]; show _ = steps (grad _) _ _ _; rw [← result4]; rfl
  · rw [Cert.Reference30Ideal.Read.val_main_v6_eq, a0, a2]; show _ = means (grad _) _; rw [← result4]; rfl
  · rw [Cert.Reference30Ideal.Read.val_main_v12_eq, a0, a3]; show _ = squares (grad _) _; rw [← result4]; rfl

end Cert.Update.FfnIn

end
-- ==== Proof.UpdateIn.lean ====
/-
  THE OPTIMISER'S STEP FOR w_in: the devices' gradients added, and the step of every entry, block by block.
-/
module

public import proofs.«01_k».proof.Proof.Names
public import proofs.«01_k».proof.Defs
public import proofs.«01_k».proof.Proof.Adam
public import proofs.«01_k».proof.Proof.Gen.Kernel31Ideal
public import proofs.«01_k».proof.Proof.Gen.Kernel31Ideal.Frame
public import proofs.«01_k».proof.Proof.Gen.Reference31Ideal.Run
public import proofs.«01_k».proof.Proof.Gen.Reference31Ideal.Read
public import Idealize.ShloMosaic.Lib.Pointwise
public import Idealize.ShloMosaic.Lib.Pipeline.ValueKit

@[expose] public section

noncomputable section

namespace Cert.Update.In

open Idealize.ShloMosaic Idealize.ShloMosaic.TcCoe Idealize.SL.Sem
open Cert.Adam
open scoped BigOperators

section Kernel
open Cert.Kernel31Ideal Cert.Kernel31Ideal.Gen

variable (m : (ℓ : Loc nD τ sig) → Buf (Elt Ideal) ℓ)

/-- Column `k` of the blocks of point `t`. -/
def col (t : Fin cfg0.N) (k : Fin 256) : Fin 1024 :=
  ⟨t.val * 256 + k.val, by have := lt_of_lt_of_eq t.isLt (show cfg0.N = 4 from N_0); omega⟩

/-- Where the blocks lie at a point. -/
theorem places : ∀ t : Fin cfg0.N, (win0_0.index t (0 : Fin 3) = 0 ∧ win0_0.index t (1 : Fin 3) = 0 ∧ win0_0.index t (2 : Fin 3) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val) :=
  (by decide +kernel : ∀ t : Fin grid0.N, _)

variable (c : Dev nD) (t : Fin cfg0.N) (j : Fin 1410) (k : Fin 256)

theorem block0 (p : Fin 8) : (iblk m c 0 t : Slabs 1410 256) (ix3 p j k) = V m c main_arg0 (ix3 p j (col t k)) := by
  obtain ⟨⟨e0, e1, e2⟩, -⟩ := places t
  blk_ext [iblk, V, e0, e1, e2, col]

theorem block1 : (iblk m c 1 t : Arr S1410x256) (ix2 j k) = V m c main_arg1 (ix2 j (col t k)) := by
  obtain ⟨-, ⟨e0, e1⟩, -⟩ := places t
  blk_ext [iblk, V, e0, e1, col]

theorem block2 : (iblk m c 2 t : Arr S1410x256) (ix2 j k) = V m c main_arg2 (ix2 j (col t k)) := by
  obtain ⟨-, -, ⟨e0, e1⟩, -⟩ := places t
  blk_ext [iblk, V, e0, e1, col]

theorem block3 : (iblk m c 3 t : Arr S1410x256) (ix2 j k) = V m c main_arg3 (ix2 j (col t k)) := by
  obtain ⟨-, -, -, ⟨e0, e1⟩, -⟩ := places t
  blk_ext [iblk, V, e0, e1, col]

theorem total (x0 : Slabs 1410 256) (x1 x2 x3 : Arr S1410x256) : k0_pay5 x0 x1 x2 x3 (ix2 j k) = ∑ p : Fin 8, x0 (ix3 p j k) := by
  rw [← eight]
  pointwise [k0_pay5, k0_pay4]

/-- A block's sum is the sum's block. -/
theorem total_block :
    k0_pay5 (iblk m c 0 t) (iblk m c 1 t) (iblk m c 2 t) (iblk m c 3 t) (ix2 j k) = grad (V m c main_arg0) (ix2 j (col t k)) :=
  (total j k _ _ _ _).trans (Finset.sum_congr rfl fun p _ => block0 m c t j k p)

theorem array4 : (dats m 0 c).arrAt 4 cfg0.N = grad (V m c main_arg0) := by
  refine (dats m 0 c).arrAt_eq_of_covers 4 _ (by decide +kernel) fun t hf y => ?_
  obtain ⟨-, -, -, -, ⟨e0, e1⟩, -⟩ := places t
  have key : ((cfg0.win 4).blk t).view.emb y = ix2 (y 0) (col t (y 1)) := by
    unfold col
    blk_ext [e0, e1]
  rw [key]
  blk_simp
  rw [after0_4]
  refine (congrArg _ (ix2_eta y).symm).trans ?_
  unfold out0_4
  frame_out
  exact total_block m c t (y 0) (y 1)

theorem array5 : (dats m 0 c).arrAt 5 cfg0.N = change (V m c main_arg0) (V m c main_arg1) (V m c main_arg2) (V m c main_arg3) := by
  refine (dats m 0 c).arrAt_eq_of_covers 5 _ (by decide +kernel) fun t hf y => ?_
  obtain ⟨-, -, -, -, -, ⟨e0, e1⟩, -⟩ := places t
  have key : ((cfg0.win 5).blk t).view.emb y = ix2 (y 0) (col t (y 1)) := by
    unfold col
    blk_ext [e0, e1]
  rw [key]
  blk_simp
  rw [after0_5]
  refine (congrArg _ (ix2_eta y).symm).trans ?_
  unfold out0_5
  frame_out
  exact congr (congr (congr (congrArg step (total_block m c t (y 0) (y 1))) (block1 m c t (y 0) (y 1))) (block2 m c t (y 0) (y 1))) (block3 m c t (y 0) (y 1))

theorem array6 : (dats m 0 c).arrAt 6 cfg0.N = first (V m c main_arg0) (V m c main_arg2) := by
  refine (dats m 0 c).arrAt_eq_of_covers 6 _ (by decide +kernel) fun t hf y => ?_
  obtain ⟨-, -, -, -, -, -, ⟨e0, e1⟩, -⟩ := places t
  have key : ((cfg0.win 6).blk t).view.emb y = ix2 (y 0) (col t (y 1)) := by
    unfold col
    blk_ext [e0, e1]
  rw [key]
  blk_simp
  rw [after0_6]
  refine (congrArg _ (ix2_eta y).symm).trans ?_
  unfold out0_6
  frame_out
  exact congrArg₂ mean (total_block m c t (y 0) (y 1)) (block2 m c t (y 0) (y 1))

theorem array7 : (dats m 0 c).arrAt 7 cfg0.N = second (V m c main_arg0) (V m c main_arg3) := by
  refine (dats m 0 c).arrAt_eq_of_covers 7 _ (by decide +kernel) fun t hf y => ?_
  obtain ⟨-, -, -, -, -, -, -, ⟨e0, e1⟩⟩ := places t
  have key : ((cfg0.win 7).blk t).view.emb y = ix2 (y 0) (col t (y 1)) := by
    unfold col
    blk_ext [e0, e1]
  rw [key]
  blk_simp
  rw [after0_7]
  refine (congrArg _ (ix2_eta y).symm).trans ?_
  unfold out0_7
  frame_out
  exact congrArg₂ square (total_block m c t (y 0) (y 1)) (block3 m c t (y 0) (y 1))

/-- The kernel runs, leaves its results, and its arguments end unchanged. -/
theorem kernel_runs (ρ : Dev nD → PrngReg) :
    θ_run defs (onTc (τ := τ) (main (F := Ideal))) ⟨m, fun _ => 0, ρ⟩ fun r => ∀ c : Dev nD,
      r.2.mem ((c : Thread nD τ).loc main_v0_0) = grad (V m c main_arg0)
      ∧ r.2.mem ((c : Thread nD τ).loc main_v0_1) = change (V m c main_arg0) (V m c main_arg1) (V m c main_arg2) (V m c main_arg3)
      ∧ r.2.mem ((c : Thread nD τ).loc main_v0_2) = first (V m c main_arg0) (V m c main_arg2)
      ∧ r.2.mem ((c : Thread nD τ).loc main_v0_3) = second (V m c main_arg0) (V m c main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (array4 m c), ((h c).1 5).trans (array5 m c), ((h c).1 6).trans (array6 m c), ((h c).1 7).trans (array7 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Kernel

section Reference
open Cert.Reference31Ideal

theorem result4 (x0 : Slabs 1410 1024) : Read.val_main_v1 (F := Ideal) x0 = grad x0 := by
  funext i
  refine (Read.val_main_v1_apply x0 i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x0 (funext fun a => match a with | ⟨0, _⟩ => rfl | ⟨1, _⟩ => rfl | ⟨2, _⟩ => rfl)

theorem frame_reference : Cert.quiescent_Reference31Ideal := fun m ρ _ =>
  (θ_run defs _ _).mono (fun r h => ⟨fun c => (h c).2.2.2.2, sem_eq_zero_of_no_sems (by decide) r.2⟩) (Value.run m ρ)

end Reference

/-- The kernel's results are the reference's. -/
theorem values : Cert.algebraic_Kernel31Ideal_Reference31Ideal := by
  intro m ρ m' ρ' _ hagree
  refine ⟨fun c => grad _, fun c => change _ _ _ _, fun c => first _ _, fun c => second _ _, kernel_runs m ρ, ?_⟩
  refine (θ_run _ _ _).mono (fun r h c => ?_) (Cert.Reference31Ideal.Value.run m' ρ')
  obtain ⟨a0, a1, a2, a3⟩ := hagree c
  refine ⟨(h c).1.trans ?_, (h c).2.1.trans ?_, (h c).2.2.1.trans ?_, (h c).2.2.2.1.trans ?_, (h c).2.2.2.2⟩
  · rw [Cert.Reference31Ideal.Read.val_main_v1_eq, a0]; exact result4 _
  · rw [Cert.Reference31Ideal.Read.val_main_v25_eq, a0, a1, a2, a3]; show _ = steps (grad _) _ _ _; rw [← result4]; rfl
  · rw [Cert.Reference31Ideal.Read.val_main_v6_eq, a0, a2]; show _ = means (grad _) _; rw [← result4]; rfl
  · rw [Cert.Reference31Ideal.Read.val_main_v12_eq, a0, a3]; show _ = squares (grad _) _; rw [← result4]; rfl

end Cert.Update.In

end
-- ==== Proof.SumGrads.lean ====
/-
  THE SUM OVER THE DEVICES of the packed small gradients and parts of the loss, in one block.
-/
module

public import proofs.«01_k».proof.Proof.Names
public import proofs.«01_k».proof.Defs
public import proofs.«01_k».proof.Proof.Adam
public import proofs.«01_k».proof.Proof.Gen.Kernel32Ideal
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Pipeline.ValueKit

@[expose] public section

noncomputable section

namespace Cert.SumGrads

open Idealize.ShloMosaic Idealize.ShloMosaic.TcCoe Idealize.SL.Sem
open Cert.Adam
open scoped BigOperators

section Kernel
open Cert.Kernel32Ideal Cert.Kernel32Ideal.Gen

/-- The sum of the eight packs. -/
def sum (x : Arr S8x280x128) : Arr S280x128 := fun i => ∑ p : Fin 8, x (ix3 p (i 0) (i 1))

theorem total (x : Arr S8x280x128) : Value.G1 x = sum x := by
  funext i
  refine (congrArg _ (ix2_eta i).symm).trans ?_
  unfold sum
  rw [← eight]
  pointwise [Value.G1, k0_pay1]

end Kernel

section Reference
open Cert.Reference32Ideal

theorem result (x : Arr S8x280x128) : Read.val_main_v0 (F := Ideal) x = sum x := by
  funext i
  refine (Read.val_main_v0_apply x i).trans ?_
  rw [Read.val_main_cst_apply, show FloatOps.ofBits (F := Ideal) .f32 0x00000000#32 = (0 : EReal) from Idealize.ShloMosaic.Ideal.ofBits_zero _]
  refine (zero_add _).trans (Finset.sum_congr rfl fun p _ => ?_)
  exact congrArg x (funext fun a => match a with | ⟨0, _⟩ => rfl | ⟨1, _⟩ => rfl | ⟨2, _⟩ => rfl)

theorem frame_reference : Cert.quiescent_Reference32Ideal := fun m ρ _ =>
  (θ_run defs _ _).mono (fun r h => ⟨fun c => (h c).2, sem_eq_zero_of_no_sems (by decide) r.2⟩) (Value.run m ρ)

end Reference

/-- The kernel's sum is the reference's. -/
theorem values : Cert.algebraic_Kernel32Ideal_Reference32Ideal := by
  intro m ρ m' ρ' _ hagree
  refine ⟨fun c => sum _, (θ_run _ _ _).mono (fun r h c => ⟨(h c).1.trans (total _), (h c).2⟩) (Cert.Kernel32Ideal.Value.run m ρ),
    (θ_run _ _ _).mono (fun r h c => ⟨(h c).1.trans ?_, (h c).2⟩) (Cert.Reference32Ideal.Value.run m' ρ')⟩
  rw [Cert.Reference32Ideal.Read.val_main_v0_eq, hagree c]
  exact result _

end Cert.SumGrads

end
-- ==== Proof.lean ====
/-
  THE CLAIMS. The backward pass of the chunked scan: the frames of the kernel and of the reference, and the kernel's six results
  equal to the reference's over the extended reals, for finite arguments. The other calls: theirs, for any
  arguments or, where so stated, for finite ones, each from a module of its own.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Arrays
public import proofs.«01_k».proof.Proof.RefRun
public import proofs.«01_k».proof.Proof.RefTrip
public import proofs.«01_k».proof.Proof.Finite
public import proofs.«01_k».proof.Proof.Gen.Kernel2
public import proofs.«01_k».proof.Proof.Gen.Kernel2.Frame
public import proofs.«01_k».proof.Proof.DwFfnOut
public import proofs.«01_k».proof.Proof.Gen.Kernel3
public import proofs.«01_k».proof.Proof.Gen.Kernel3.Frame
public import proofs.«01_k».proof.Proof.DwFfnIn
public import proofs.«01_k».proof.Proof.Gen.Kernel4
public import proofs.«01_k».proof.Proof.Gen.Kernel4.Frame
public import proofs.«01_k».proof.Proof.DwInDn
public import proofs.«01_k».proof.Proof.Gen.Kernel5
public import proofs.«01_k».proof.Proof.Gen.Kernel5.Frame
public import proofs.«01_k».proof.Proof.DwInSb
public import proofs.«01_k».proof.Proof.Gen.Kernel6
public import proofs.«01_k».proof.Proof.Gen.Kernel6.Frame
public import proofs.«01_k».proof.Proof.DwBranchDn
public import proofs.«01_k».proof.Proof.Gen.Kernel7
public import proofs.«01_k».proof.Proof.Gen.Kernel7.Frame
public import proofs.«01_k».proof.Proof.DwOut
public import proofs.«01_k».proof.Proof.Gen.Kernel8
public import proofs.«01_k».proof.Proof.Gen.Kernel8.Frame
public import proofs.«01_k».proof.Proof.DwInAb
public import proofs.«01_k».proof.Proof.Gen.Kernel9
public import proofs.«01_k».proof.Proof.Gen.Kernel9.Frame
public import proofs.«01_k».proof.Proof.FfnOutBwd
public import proofs.«01_k».proof.Proof.Gen.Kernel10
public import proofs.«01_k».proof.Proof.Gen.Kernel10.Frame
public import proofs.«01_k».proof.Proof.BranchDnBwd
public import proofs.«01_k».proof.Proof.Gen.Kernel11
public import proofs.«01_k».proof.Proof.Gen.Kernel11.Frame
public import proofs.«01_k».proof.Proof.BranchSbBwd
public import proofs.«01_k».proof.Proof.Gen.Kernel12
public import proofs.«01_k».proof.Proof.Gen.Kernel12.Frame
public import proofs.«01_k».proof.Proof.MixOutBwd
public import proofs.«01_k».proof.Proof.Gen.Kernel13
public import proofs.«01_k».proof.Proof.Gen.Kernel13.Frame
public import proofs.«01_k».proof.Proof.MixOut
public import proofs.«01_k».proof.Proof.Gen.Kernel14
public import proofs.«01_k».proof.Proof.Gen.Kernel14.Frame
public import proofs.«01_k».proof.Proof.Merge
public import proofs.«01_k».proof.Proof.Gen.Kernel16
public import proofs.«01_k».proof.Proof.ProjFrame
public import proofs.«01_k».proof.Proof.ProjFwd
public import proofs.«01_k».proof.Proof.Gen.Kernel17
public import proofs.«01_k».proof.Proof.Gen.Kernel17.Frame
public import proofs.«01_k».proof.Proof.Loss
public import proofs.«01_k».proof.Proof.Gen.Kernel18
public import proofs.«01_k».proof.Proof.Gen.Kernel18.Frame
public import proofs.«01_k».proof.Proof.FfnInBwd
public import proofs.«01_k».proof.Proof.Gen.Kernel19
public import proofs.«01_k».proof.Proof.Gen.Kernel19.Frame
public import proofs.«01_k».proof.Proof.ProjBwd
public import proofs.«01_k».proof.Proof.Gen.Kernel20
public import proofs.«01_k».proof.Proof.Gen.Kernel20.Frame
public import proofs.«01_k».proof.Proof.Small
public import proofs.«01_k».proof.Proof.Gen.Kernel21
public import proofs.«01_k».proof.Proof.Gen.Kernel21.Frame
public import proofs.«01_k».proof.Proof.Gen.Kernel22
public import proofs.«01_k».proof.Proof.Gen.Kernel22.Frame
public import proofs.«01_k».proof.Proof.Gen.Kernel23
public import proofs.«01_k».proof.Proof.Gen.Kernel23.Frame
public import proofs.«01_k».proof.Proof.Gen.Kernel24
public import proofs.«01_k».proof.Proof.Gen.Kernel24.Frame
public import proofs.«01_k».proof.Proof.Gen.Kernel25
public import proofs.«01_k».proof.Proof.Gen.Kernel25.Frame
public import proofs.«01_k».proof.Proof.Gen.Kernel26
public import proofs.«01_k».proof.Proof.Gen.Kernel26.Frame
public import proofs.«01_k».proof.Proof.Gen.Kernel27
public import proofs.«01_k».proof.Proof.Gen.Kernel27.Frame
public import proofs.«01_k».proof.Proof.UpdateOut
public import proofs.«01_k».proof.Proof.Gen.Kernel28
public import proofs.«01_k».proof.Proof.Gen.Kernel28.Frame
public import proofs.«01_k».proof.Proof.UpdateBranchDn
public import proofs.«01_k».proof.Proof.Gen.Kernel29
public import proofs.«01_k».proof.Proof.Gen.Kernel29.Frame
public import proofs.«01_k».proof.Proof.UpdateFfnOut
public import proofs.«01_k».proof.Proof.Gen.Kernel30
public import proofs.«01_k».proof.Proof.Gen.Kernel30.Frame
public import proofs.«01_k».proof.Proof.UpdateFfnIn
public import proofs.«01_k».proof.Proof.Gen.Kernel31
public import proofs.«01_k».proof.Proof.Gen.Kernel31.Frame
public import proofs.«01_k».proof.Proof.UpdateIn
public import proofs.«01_k».proof.Proof.Gen.Kernel32
public import proofs.«01_k».proof.Proof.Gen.Kernel32.Frame
public import proofs.«01_k».proof.Proof.SumGrads
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-! ## The reference's run -/

section Reference
open Cert.ReferenceIdeal Cert.Scan

variable (m : (ℓ : Loc nD τ sig) → Buf (Elt Idealize.ShloMosaic.Ideal) ℓ)

/-- The carried state after `n` trips, on each core. -/
def carried (c : Dev nD) : ℕ → Step.State Idealize.ShloMosaic.Ideal :=
  Ref.state (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The arguments a core of the reference holds. -/
def refArgs (c : Dev nD) : Args :=
  Args.of (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- After the last trip the carried state holds every chunk's results. -/
theorem carried_last (c : Dev nD) : Ref.After (refArgs m c) 66 (carried m c 66) := Ref.after_state _ _ _ _ _ _ _ _ 66 le_rfl

/-- The reference runs, and its arguments end unchanged. -/
theorem frame_reference : Cert.quiescent_ReferenceIdeal := fun m ρ _ =>
  (θ_run defs _ _).mono (fun r h => ⟨fun c => (h c).2.2.2.2.2.2, sem_eq_zero_of_no_sems (by decide) r.2⟩)
    (Trip.run m ρ (carried m) (fun _ => rfl) fun _ _ => rfl)

end Reference

/-! ## The values -/

/-- The kernel's six results are the reference's. -/
theorem values : Cert.algebraic_KernelIdeal_ReferenceIdeal_pre_finite := by
  intro m ρ m' ρ' hpre hagree
  have hargs : ∀ c, refArgs m' c = Cert.Scan.Kern.argsOf m c := fun c => by
    obtain ⟨h0, h1, h2, h3, h4, h5, h6, h7⟩ := hagree c
    unfold refArgs Cert.Scan.Kern.argsOf
    rw [h0, h1, h2, h3, h4, h5, h6, h7]
  have hfin : ∀ c, (Cert.Scan.Kern.argsOf m c).Finite := fun c => by
    obtain ⟨h1, h2, h3, h4, h5, h6, h7⟩ := hpre c
    exact Cert.Scan.finite_of_pre _ _ _ _ _ _ _ _ h1 h2 h3 h4 h5 h6 h7
  refine ⟨fun c => Cert.Scan.duOut (Cert.Scan.Kern.argsOf m c), fun c => Cert.Scan.dwOut (Cert.Scan.Kern.argsOf m c),
    fun c => Cert.Scan.dpOut (Cert.Scan.Kern.argsOf m c), fun c => Cert.Scan.dqOut (Cert.Scan.Kern.argsOf m c),
    fun c => Cert.Scan.dkOut (Cert.Scan.Kern.argsOf m c), fun c => Cert.Scan.dgOut (Cert.Scan.Kern.argsOf m c), ?_, ?_⟩
  · refine (θ_run _ _ _).mono (fun r h c => ?_) (Cert.KernelIdeal.Value.run_blocks m ρ)
    obtain ⟨e0, e1, e2, e3, e4, e5, ha⟩ := h c
    exact ⟨e0.trans (Cert.Scan.Kern.array8 m c), (e1.trans (Cert.Scan.Kern.array9 m c)).trans (hfin c).dw,
      e2.trans (Cert.Scan.Kern.array10 m c), e3.trans (Cert.Scan.Kern.array11 m c),
      e4.trans (Cert.Scan.Kern.array12 m c), e5.trans (Cert.Scan.Kern.array13 m c), ha⟩
  · refine (θ_run _ _ _).mono (fun r h c => ?_)
      (Cert.Scan.Trip.run m' ρ' (carried m') (fun _ => rfl) fun _ _ => rfl)
    have H : Cert.Scan.Ref.After (Cert.Scan.Kern.argsOf m c) 66 (carried m' c 66) := hargs c ▸ carried_last m' c
    obtain ⟨e0, e1, e2, e3, e4, e5, ha⟩ := h c
    exact ⟨e0.trans (Cert.Scan.Ref.res_du H), e1.trans (Cert.Scan.Ref.res_dw H), e2.trans (Cert.Scan.Ref.res_dp H),
      e3.trans (Cert.Scan.Ref.res_dq H), e4.trans (Cert.Scan.Ref.res_dk H), e5.trans (Cert.Scan.Ref.res_dg H), ha⟩

/-- Everything claimed. -/
theorem claim : Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Pre_finite.Gen.facts, Pre_finite9.Gen.facts, Pre_finite18.Gen.facts,
    Pre_finite19.Gen.facts,
    fun m ρ _ => Kernel.Gen.frame m ρ, fun m ρ _ => KernelIdeal.Gen.frame m ρ,
    fun m ρ _ => KernelIdeal.Gen.frame m ρ, frame_reference, fun m ρ _ => frame_reference m ρ trivial,
    fun m ρ _ => Kernel2.Gen.frame m ρ, fun m ρ _ => Kernel2Ideal.Gen.frame m ρ, Grad.FfnOut.frame_reference,
    fun m ρ _ => Kernel3.Gen.frame m ρ, fun m ρ _ => Kernel3Ideal.Gen.frame m ρ, Grad.FfnIn.frame_reference,
    fun m ρ _ => Kernel4.Gen.frame m ρ, fun m ρ _ => Kernel4Ideal.Gen.frame m ρ, Grad.InDn.frame_reference,
    fun m ρ _ => Kernel5.Gen.frame m ρ, fun m ρ _ => Kernel5Ideal.Gen.frame m ρ, Grad.InSb.frame_reference,
    fun m ρ _ => Kernel6.Gen.frame m ρ, fun m ρ _ => Kernel6Ideal.Gen.frame m ρ, Grad.BranchDn.frame_reference,
    fun m ρ _ => Kernel7.Gen.frame m ρ, fun m ρ _ => Kernel7Ideal.Gen.frame m ρ, Grad.Out.frame_reference,
    fun m ρ _ => Kernel8.Gen.frame m ρ, fun m ρ _ => Kernel8Ideal.Gen.frame m ρ, Grad.InAb.frame_reference,
    fun m ρ _ => Kernel9.Gen.frame m ρ, fun m ρ _ => Kernel9Ideal.Gen.frame m ρ, fun m ρ _ => Kernel9Ideal.Gen.frame m ρ,
    Bwd.FfnOut.frame_reference, fun m ρ _ => Bwd.FfnOut.frame_reference m ρ trivial,
    fun m ρ _ => Kernel10.Gen.frame m ρ, fun m ρ _ => Kernel10Ideal.Gen.frame m ρ, Bwd.BranchDn.frame_reference,
    fun m ρ _ => Kernel11.Gen.frame m ρ, fun m ρ _ => Kernel11Ideal.Gen.frame m ρ, Bwd.BranchSb.frame_reference,
    fun m ρ _ => Kernel12.Gen.frame m ρ, fun m ρ _ => Kernel12Ideal.Gen.frame m ρ, Bwd.MixOut.frame_reference,
    fun m ρ _ => Kernel13.Gen.frame m ρ, fun m ρ _ => Kernel13Ideal.Gen.frame m ρ, Fwd.MixOut.frame_reference,
    fun m ρ _ => Kernel14.Gen.frame m ρ, fun m ρ _ => Kernel14Ideal.Gen.frame m ρ, Fwd.Merge.frame_reference,
    Kernel16.Run.frame, fun m ρ _ => Kernel16Ideal.Run.frame m ρ, Fwd.Proj.frame_reference,
    fun m ρ _ => Kernel17.Gen.frame m ρ, fun m ρ _ => Kernel17Ideal.Gen.frame m ρ, Fwd.Loss.frame_reference,
    fun m ρ _ => Kernel18.Gen.frame m ρ, fun m ρ _ => Kernel18Ideal.Gen.frame m ρ, fun m ρ _ => Kernel18Ideal.Gen.frame m ρ,
    Bwd.FfnIn.frame_reference, fun m ρ _ => Bwd.FfnIn.frame_reference m ρ trivial,
    fun m ρ _ => Kernel19.Gen.frame m ρ, fun m ρ _ => Kernel19Ideal.Gen.frame m ρ, fun m ρ _ => Kernel19Ideal.Gen.frame m ρ,
    Bwd.Proj.frame_reference, fun m ρ _ => Bwd.Proj.frame_reference m ρ trivial,
    fun m ρ _ => Kernel20.Gen.frame m ρ, fun m ρ _ => Kernel20Ideal.Gen.frame m ρ, Small.frame_reference20,
    fun m ρ _ => Kernel21.Gen.frame m ρ, fun m ρ _ => Kernel21Ideal.Gen.frame m ρ, Small.frame_reference21,
    fun m ρ _ => Kernel22.Gen.frame m ρ, fun m ρ _ => Kernel22Ideal.Gen.frame m ρ, Small.frame_reference22,
    fun m ρ _ => Kernel23.Gen.frame m ρ, fun m ρ _ => Kernel23Ideal.Gen.frame m ρ, Small.frame_reference23,
    fun m ρ _ => Kernel24.Gen.frame m ρ, fun m ρ _ => Kernel24Ideal.Gen.frame m ρ, Small.frame_reference24,
    fun m ρ _ => Kernel25.Gen.frame m ρ, fun m ρ _ => Kernel25Ideal.Gen.frame m ρ, Small.frame_reference25,
    fun m ρ _ => Kernel26.Gen.frame m ρ, fun m ρ _ => Kernel26Ideal.Gen.frame m ρ, Small.frame_reference26,
    fun m ρ _ => Kernel27.Gen.frame m ρ, fun m ρ _ => Kernel27Ideal.Gen.frame m ρ, Update.Out.frame_reference,
    fun m ρ _ => Kernel28.Gen.frame m ρ, fun m ρ _ => Kernel28Ideal.Gen.frame m ρ, Update.BranchDn.frame_reference,
    fun m ρ _ => Kernel29.Gen.frame m ρ, fun m ρ _ => Kernel29Ideal.Gen.frame m ρ, Update.FfnOut.frame_reference,
    fun m ρ _ => Kernel30.Gen.frame m ρ, fun m ρ _ => Kernel30Ideal.Gen.frame m ρ, Update.FfnIn.frame_reference,
    fun m ρ _ => Kernel31.Gen.frame m ρ, fun m ρ _ => Kernel31Ideal.Gen.frame m ρ, Update.In.frame_reference,
    fun m ρ _ => Kernel32.Gen.frame m ρ, fun m ρ _ => Kernel32Ideal.Gen.frame m ρ, SumGrads.frame_reference,
    trivial, values,
    trivial, Grad.FfnOut.values,
    trivial, Grad.FfnIn.values,
    trivial, Grad.InDn.values,
    trivial, Grad.InSb.values,
    trivial, Grad.BranchDn.values,
    trivial, Grad.Out.values,
    trivial, Grad.InAb.values,
    trivial, Bwd.FfnOut.values,
    trivial, Bwd.BranchDn.values,
    trivial, Bwd.BranchSb.values,
    trivial, Bwd.MixOut.values,
    trivial, Fwd.MixOut.values,
    trivial, Fwd.Merge.values,
    trivial, Fwd.Proj.values,
    trivial, Fwd.Loss.values,
    trivial, Bwd.FfnIn.values,
    trivial, Bwd.Proj.values,
    trivial, Small.values20,
    trivial, Small.values21,
    trivial, Small.values22,
    trivial, Small.values23,
    trivial, Small.values24,
    trivial, Small.values25,
    trivial, Small.values26,
    trivial, Update.Out.values,
    trivial, Update.BranchDn.values,
    trivial, Update.FfnOut.values,
    trivial, Update.FfnIn.values,
    trivial, Update.In.values,
    trivial, SumGrads.values⟩

end Cert.Proof

end
